-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "l2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v96) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v107) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  IdealRules.named_const.Statement Cert.Kernel6Ideal.κ "l2e" .f32 0x3FB8AA3B#32 (((Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v65)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v65) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v95) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16384x1024 : Shape := ⟨2, ![16384, 1024]⟩
abbrev S16384x256 : Shape := ⟨2, ![16384, 256]⟩
abbrev S256x256 : Shape := ⟨2, ![256, 256]⟩
abbrev S16 : Shape := ⟨1, ![16]⟩
abbrev S_ : Shape := ⟨0, ![]⟩

class Facts : Prop where
  bcast_S_S16384x1024 : S_.BroadcastsInDim S16384x1024 (![] : Fin 0 → Fin S16384x1024.rank)
  bcast_S_S16384x256 : S_.BroadcastsInDim S16384x256 (![] : Fin 0 → Fin S16384x256.rank)
  bcast_S_S256x256 : S_.BroadcastsInDim S256x256 (![] : Fin 0 → Fin S256x256.rank)
  bcast_S_S16 : S_.BroadcastsInDim S16 (![] : Fin 0 → Fin S16.rank)

variable [Facts]

def fn {F : FTy → Type} [FloatOps F] (main_arg0 : FVec F S16384x1024 .f32) (main_arg1 : FVec F S16384x256 .f32) (main_arg2 : FVec F S16384x256 .f32) (main_arg3 : FVec F S256x256 .f32) (main_arg4 : FVec F S256x256 .f32) (main_arg5 : FVec F S16 .f32) : IVec S16384x1024 1 × IVec S16384x256 1 × IVec S256x256 1 × IVec S16 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x256 .f32 := Host.absf main_arg1
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v3 main_v4
  let main_v6 : FVec F S256x256 .f32 := Host.absf main_arg3
  let main_cst_1 : FVec F S_ .f32 := constant S_ .f32 0x7F800000#32
  let main_v7 : FVec F S256x256 .f32 := broadcastInDim S256x256 ![] bcast_S_S256x256 main_cst_1
  let main_v8 : IVec S256x256 1 := cmpf .olt main_v6 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Kernel.lean ====
abbrev S16384x1024 : Shape := ⟨2, ![16384, 1024]⟩
abbrev S16384x256 : Shape := ⟨2, ![16384, 256]⟩
abbrev S256x256 : Shape := ⟨2, ![256, 256]⟩
abbrev S16 : Shape := ⟨1, ![16]⟩
abbrev S_ : Shape := ⟨0, ![]⟩
abbrev S16384x1536 : Shape := ⟨2, ![16384, 1536]⟩
abbrev S256x1024 : Shape := ⟨2, ![256, 1024]⟩
abbrev S256x1536 : Shape := ⟨2, ![256, 1536]⟩
abbrev S16640x1536 : Shape := ⟨2, ![16640, 1536]⟩
abbrev S512 : Shape := ⟨1, ![512]⟩
abbrev S1x512 : Shape := ⟨2, ![1, 512]⟩
abbrev S256 : Shape := ⟨1, ![256]⟩
abbrev S256x1 : Shape := ⟨2, ![256, 1]⟩
abbrev S256x512 : Shape := ⟨2, ![256, 512]⟩
abbrev S128x512 : Shape := ⟨2, ![128, 512]⟩
abbrev S768x512 : Shape := ⟨2, ![768, 512]⟩
abbrev S1024x512 : Shape := ⟨2, ![1024, 512]⟩
abbrev S1024x1 : Shape := ⟨2, ![1024, 1]⟩
abbrev S768x64 : Shape := ⟨2, ![768, 64]⟩
abbrev S256x64 : Shape := ⟨2, ![256, 64]⟩
abbrev S1024x64 : Shape := ⟨2, ![1024, 64]⟩
abbrev S1024x768 : Shape := ⟨2, ![1024, 768]⟩
abbrev S1024x256 : Shape := ⟨2, ![1024, 256]⟩
abbrev S1 : Shape := ⟨1, ![1]⟩
abbrev S1024 : Shape := ⟨1, ![1024]⟩
abbrev S256x128 : Shape := ⟨2, ![256, 128]⟩

abbrev nBuf : Space → Nat
  | .hbm => 42
  | .vmem => 12
  | .smem => 1
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S256x256, .f32⟩
  | .hbm, ⟨4, _⟩ => ⟨S256x256, .f32⟩
  | .hbm, ⟨5, _⟩ => ⟨S16, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1536, .f32⟩
  | .hbm, ⟨16, _⟩ => ⟨S_, .f32⟩
  | .hbm, ⟨17, _⟩ => ⟨S256x1024, .f32⟩
  | .hbm, ⟨18, _⟩ => ⟨S256x1536, .f32⟩
  | .hbm, ⟨19, _⟩ => ⟨S16640x1536, .f32⟩
  | .hbm, ⟨20, _⟩ => ⟨S16640x1536, .bf16⟩
  | .hbm, ⟨21, _⟩ => ⟨S512, .i32⟩
  | .hbm, ⟨22, _⟩ => ⟨S1x512, .i32⟩
  | .hbm, ⟨23, _⟩ => ⟨S256, .i32⟩
  | .hbm, ⟨24, _⟩ => ⟨S256x1, .i32⟩
  | .hbm, ⟨25, _⟩ => ⟨S256x512, .i32⟩
  | .hbm, ⟨26, _⟩ => ⟨S256x512, .i32⟩
  | .hbm, ⟨27, _⟩ => ⟨S256x512, .i32⟩
  | .hbm, ⟨28, _⟩ => ⟨S_, .i32⟩
  | .hbm, ⟨29, _⟩ => ⟨S256x512, .i32⟩
  | .hbm, ⟨30, _⟩ => ⟨S256x512, .i1⟩
  | .hbm, ⟨31, _⟩ => ⟨S_, .i32⟩
  | .hbm, ⟨32, _⟩ => ⟨S256x512, .i32⟩
  | .hbm, ⟨33, _⟩ => ⟨S256x512, .i1⟩
  | .hbm, ⟨34, _⟩ => ⟨S256x512, .i1⟩
  | .hbm, ⟨35, _⟩ => ⟨S_, .f32⟩
  | .hbm, ⟨36, _⟩ => ⟨S_, .f32⟩
  | .hbm, ⟨37, _⟩ => ⟨S256x512, .f32⟩
  | .hbm, ⟨38, _⟩ => ⟨S256x512, .f32⟩
  | .hbm, ⟨39, _⟩ => ⟨S256x512, .f32⟩
  | .hbm, ⟨40, _⟩ => ⟨S256x512, .f32⟩
  | .hbm, ⟨41, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S256x512, .f32⟩
  | .local _ .vmem, ⟨10, _⟩ => ⟨S256x1024, .bf16⟩
  | .local _ .vmem, ⟨11, _⟩ => ⟨S256x1024, .bf16⟩
  | .local _ .smem, ⟨0, _⟩ => ⟨S16, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![v2.toNat, c2_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c127_i32 : BitVec 32 := 127#32
  let v2 : BitVec 32 := Scalar.minsi v1 c127_i32
  let c2_i32_0 : BitVec 32 := 2#32
  let c0_i32 : BitVec 32 := 0#32
  ![v2.toNat, c2_i32_0.toNat]

def cc0_transform_4 (i : grid0.Coords) : Fin 2 → Nat :=
  let arg0 : BitVec 32 := BitVec.ofNat 32 (i 0).val
  let c64_i32 : BitVec 32 := 64#32
  let c2_i32 : BitVec 32 := 2#32
  let c0_i32 : BitVec 32 := 0#32
  ![c64_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "l2e" => some (((Real.log 2)⁻¹ : ℝ) : EReal)
  | "mask" => some ⊥
  | _ => none
-- ==== ReferenceIdeal.lean ====
abbrev S16384x1024 : Shape := ⟨2, ![16384, 1024]⟩
abbrev S16384x256 : Shape := ⟨2, ![16384, 256]⟩
abbrev S256x256 : Shape := ⟨2, ![256, 256]⟩
abbrev S16 : Shape := ⟨1, ![16]⟩
abbrev S16384x4x4x64 : Shape := ⟨4, ![16384, 4, 4, 64]⟩
abbrev S16384x4x64 : Shape := ⟨3, ![16384, 4, 64]⟩
abbrev S256x4x64 : Shape := ⟨3, ![256, 4, 64]⟩
abbrev S16384x16384 : Shape := ⟨2, ![16384, 16384]⟩
abbrev S_ : Shape := ⟨0, ![]⟩
abbrev S4x16384x16384x4 : Shape := ⟨4, ![4, 16384, 16384, 4]⟩
abbrev S4x4x16384x16384 : Shape := ⟨4, ![4, 4, 16384, 16384]⟩
abbrev S4x256x16384x4 : Shape := ⟨4, ![4, 256, 16384, 4]⟩
abbrev S4x4x16384x256 : Shape := ⟨4, ![4, 4, 16384, 256]⟩
abbrev S4x4x1x1 : Shape := ⟨4, ![4, 4, 1, 1]⟩
abbrev S4x4x16384x1 : Shape := ⟨4, ![4, 4, 16384, 1]⟩
abbrev S4x4x16384x16641 : Shape := ⟨4, ![4, 4, 16384, 16641]⟩
abbrev S4x4x16384 : Shape := ⟨3, ![4, 4, 16384]⟩
abbrev S4x64x4x16384 : Shape := ⟨4, ![4, 64, 4, 16384]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S256x256, .f32⟩
  | .hbm, ⟨4, _⟩ => ⟨S256x256, .f32⟩
  | .hbm, ⟨5, _⟩ => ⟨S16, .f32⟩
  | .hbm, ⟨6, _⟩ => ⟨S16384x4x4x64, .f32⟩
  | .hbm, ⟨7, _⟩ => ⟨S16384x4x64, .f32⟩
  | .hbm, ⟨8, _⟩ => ⟨S16384x4x64, .f32⟩
  | .hbm, ⟨9, _⟩ => ⟨S256x4x64, .f32⟩
  | .hbm, ⟨10, _⟩ => ⟨S256x4x64, .f32⟩
  | .hbm, ⟨11, _⟩ => ⟨S16384x16384, .i32⟩
  | .hbm, ⟨12, _⟩ => ⟨S16384x16384, .i32⟩
  | .hbm, ⟨13, _⟩ => ⟨S16384x16384, .i32⟩
  | .hbm, ⟨14, _⟩ => ⟨S16384x16384, .i32⟩
  | .hbm, ⟨15, _⟩ => ⟨S_, .i32⟩
  | .hbm, ⟨16, _⟩ => ⟨S16384x16384, .i32⟩
  | .hbm, ⟨17, _⟩ => ⟨S16384x16384, .i1⟩
  | .hbm, ⟨18, _⟩ => ⟨S4x16384x16384x4, .f32⟩
  | .hbm, ⟨19, _⟩ => ⟨S4x4x16384x16384, .f32⟩
  | .hbm, ⟨20, _⟩ => ⟨S_, .f32⟩
  | .hbm, ⟨21, _⟩ => ⟨S4x4x16384x16384, .f32⟩
  | .hbm, ⟨22, _⟩ => ⟨S4x4x16384x16384, .f32⟩
  | .hbm, ⟨23, _⟩ => ⟨S_, .f32⟩
  | .hbm, ⟨24, _⟩ => ⟨S_, .f32⟩
  | .hbm, ⟨25, _⟩ => ⟨S4x4x16384x16384, .i1⟩
  | .hbm, ⟨26, _⟩ => ⟨S4x4x16384x16384, .f32⟩
  | .hbm, ⟨27, _⟩ => ⟨S4x4x16384x16384, .f32⟩
  | .hbm, ⟨28, _⟩ => ⟨S4x256x16384x4, .f32⟩
  | .hbm, ⟨29, _⟩ => ⟨S4x4x16384x256, .f32⟩
  | .hbm, ⟨30, _⟩ => ⟨S_, .f32⟩
  | .hbm, ⟨31, _⟩ => ⟨S4x4x16384x256, .f32⟩
  | .hbm, ⟨32, _⟩ => ⟨S4x4x16384x256, .f32⟩
  | .hbm, ⟨33, _⟩ => ⟨S4x4x1x1, .f32⟩
  | .hbm, ⟨34, _⟩ => ⟨S4x4x16384x1, .f32⟩
  | .hbm, ⟨35, _⟩ => ⟨S4x4x16384x16641, .f32⟩
  | .hbm, ⟨36, _⟩ => ⟨S_, .f32⟩
  | .hbm, ⟨37, _⟩ => ⟨S4x4x16384, .f32⟩
  | .hbm, ⟨38, _⟩ => ⟨S_, .f32⟩
  | .hbm, ⟨39, _⟩ => ⟨S4x4x16384, .f32⟩
  | .hbm, ⟨40, _⟩ => ⟨S4x4x16384, .f32⟩
  | .hbm, ⟨41, _⟩ => ⟨S4x4x16384x1, .f32⟩
  | .hbm, ⟨42, _⟩ => ⟨S4x4x16384x16641, .f32⟩
  | .hbm, ⟨43, _⟩ => ⟨S4x4x16384x16641, .f32⟩
  | .hbm, ⟨44, _⟩ => ⟨S4x4x16384x16641, .f32⟩
  | .hbm, ⟨45, _⟩ => ⟨S_, .f32⟩
  | .hbm, ⟨46, _⟩ => ⟨S4x4x16384, .f32⟩
  | .hbm, ⟨47, _⟩ => ⟨S4x4x16384x1, .f32⟩
  | .hbm, ⟨48, _⟩ => ⟨S4x4x16384x16641, .f32⟩
  | .hbm, ⟨49, _⟩ => ⟨S4x4x16384x16641, .f32⟩
  | .hbm, ⟨50, _⟩ => ⟨S4x4x16384x16384, .f32⟩
  | .hbm, ⟨51, _⟩ => ⟨S4x64x4x16384, .f32⟩
  | .hbm, ⟨52, _⟩ => ⟨S16384x4x4x64, .f32⟩
  | .hbm, ⟨53, _⟩ => ⟨S4x4x16384x256, .f32⟩
  | .hbm, ⟨54, _⟩ => ⟨S4x64x4x16384, .f32⟩
  | .hbm, ⟨55, _⟩ => ⟨S16384x4x4x64, .f32⟩
  | .hbm, ⟨56, _⟩ => ⟨S16384x4x4x64, .f32⟩
  | .hbm, ⟨57, _⟩ => ⟨S16384x1024, .f32⟩
  | .hbm, ⟨58, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel2.lean ====
abbrev S16640x1024 : Shape := ⟨2, ![16640, 1024]⟩
abbrev S16384x1024 : Shape := ⟨2, ![16384, 1024]⟩
abbrev S1024x1024 : Shape := ⟨2, ![1024, 1024]⟩
abbrev S4x6144 : Shape := ⟨2, ![4, 6144]⟩
abbrev S1024 : Shape := ⟨1, ![1024]⟩
abbrev S4x1024x5632 : Shape := ⟨3, ![4, 1024, 5632]⟩
abbrev S4x2816x1024 : Shape := ⟨3, ![4, 2816, 1024]⟩
abbrev S4x1x6144 : Shape := ⟨3, ![4, 1, 6144]⟩
abbrev S_ : Shape := ⟨0, ![]⟩
abbrev S4x6x6144 : Shape := ⟨3, ![4, 6, 6144]⟩
abbrev S4x8x6144 : Shape := ⟨3, ![4, 8, 6144]⟩
abbrev S1x1024 : Shape := ⟨2, ![1, 1024]⟩
abbrev S512x1024 : Shape := ⟨2, ![512, 1024]⟩
abbrev S1x8x6144 : Shape := ⟨3, ![1, 8, 6144]⟩
abbrev S1x1024x5632 : Shape := ⟨3, ![1, 1024, 5632]⟩
abbrev S1x2816x1024 : Shape := ⟨3, ![1, 2816, 1024]⟩
abbrev S1x1x1024 : Shape := ⟨3, ![1, 1, 1024]⟩
abbrev S512 : Shape := ⟨1, ![512]⟩
abbrev S512x1 : Shape := ⟨2, ![512, 1]⟩
abbrev S1x1024x1024 : Shape := ⟨3, ![1, 1024, 1024]⟩
abbrev S1x1024x768 : Shape := ⟨3, ![1, 1024, 768]⟩
abbrev S1024x768 : Shape := ⟨2, ![1024, 768]⟩
abbrev S512x768 : Shape := ⟨2, ![512, 768]⟩
abbrev S1x768x1024 : Shape := ⟨3, ![1, 768, 1024]⟩
abbrev S768x1024 : Shape := ⟨2, ![768, 1024]⟩

abbrev nBuf : Space → Nat
  | .hbm => 20
  | .vmem => 12
  | .smem => 0
  | _ => 0

abbrev bufTy : (tb : Table) → Fin (tcTables nBuf tb) → BufTy
  | .hbm, ⟨0, _⟩ => ⟨S16640x1024, .f32⟩
  | .hbm, ⟨1, _⟩ => ⟨S16384x1024, .bf16⟩
  | .hbm, ⟨2, _⟩ => ⟨S1024x1024, .f32⟩
  | .hbm, ⟨3, _⟩ => ⟨S4x6144, .f32⟩
  | .hbm, ⟨4, _⟩ => ⟨S4x6144, .f32⟩
  | .hbm, ⟨5, _⟩ => ⟨S1024, .f32⟩
  | .hbm, ⟨6, _⟩ => ⟨S4x1024x5632, .f32⟩
  | .hbm, ⟨7, _⟩ => ⟨S4x2816x1024, .f32⟩
  | .hbm, ⟨8, _⟩ => ⟨S1024, .f32⟩
  | .hbm, ⟨9, _⟩ => ⟨S1024x1024, .bf16⟩
  | .hbm, ⟨10, _⟩ => ⟨S4x1x6144, .f32⟩
  | .hbm, ⟨11, _⟩ => ⟨S4x1x6144, .f32⟩
  | .hbm, ⟨12, _⟩ => ⟨S_, .f32⟩
  | .hbm, ⟨13, _⟩ => ⟨S4x6x6144, .f32⟩
  | .hbm, ⟨14, _⟩ => ⟨S4x8x6144, .f32⟩
  | .hbm, ⟨15, _⟩ => ⟨S1x1024, .f32⟩
  | .hbm, ⟨16, _⟩ => ⟨S4x1024x5632, .bf16⟩
  | .hbm, ⟨17, _⟩ => ⟨S4x2816x1024, .bf16⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x8x6144, .f32⟩
  | .local _ .vmem, ⟨6, _⟩ => ⟨S1x1024, .f32⟩
  | .local _ .vmem, ⟨7, _⟩ => ⟨S1x1024x5632, .bf16⟩
  | .local _ .vmem, ⟨8, _⟩ => ⟨S1x2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16640x1024 : Shape := ⟨2, ![16640, 1024]⟩
abbrev S16384x1024 : Shape := ⟨2, ![16384, 1024]⟩
abbrev S1024x1024 : Shape := ⟨2, ![1024, 1024]⟩
abbrev S4x6144 : Shape := ⟨2, ![4, 6144]⟩
abbrev S1024 : Shape := ⟨1, ![1024]⟩
abbrev S4x1024x5632 : Shape := ⟨3, ![4, 1024, 5632]⟩
abbrev S4x2816x1024 : Shape := ⟨3, ![4, 2816, 1024]⟩
abbrev S1x6144 : Shape := ⟨2, ![1, 6144]⟩
abbrev S6144 : Shape := ⟨1, ![6144]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 84
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16384x1024, .bf16⟩
  | .hbm, ⟨2, _⟩ => ⟨S1024x1024, .f32⟩
  | .hbm, ⟨3, _⟩ => ⟨S4x6144, .f32⟩
  | .hbm, ⟨4, _⟩ => ⟨S4x6144, .f32⟩
  | .hbm, ⟨5, _⟩ => ⟨S1024, .f32⟩
  | .hbm, ⟨6, _⟩ => ⟨S4x1024x5632, .f32⟩
  | .hbm, ⟨7, _⟩ => ⟨S4x2816x1024, .f32⟩
  | .hbm, ⟨8, _⟩ => ⟨S1024, .f32⟩
  | .hbm, ⟨9, _⟩ => ⟨S16384x1024, .f32⟩
  | .hbm, ⟨10, _⟩ => ⟨S1x6144, .f32⟩
  | .hbm, ⟨11, _⟩ => ⟨S6144, .f32⟩
  | .hbm, ⟨12, _⟩ => ⟨S1x6144, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S1x1024x5632, .f32⟩
  | .hbm, ⟨48, _⟩ => ⟨S1024x5632, .f32⟩
  | .hbm, ⟨49, _⟩ => ⟨S1x2816x1024, .f32⟩
  | .hbm, ⟨50, _⟩ => ⟨S2816x1024, .f32⟩
  | .hbm, ⟨51, _⟩ => ⟨S16384x5632, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S_, .f32⟩
  | .hbm, ⟨57, _⟩ => ⟨S16384x2816, .f32⟩
  | .hbm, ⟨58, _⟩ => ⟨S16384x2816, .f32⟩
  | .hbm, ⟨59, _⟩ => ⟨S_, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_cst_5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel3.lean ====
abbrev S16640x1024 : Shape := ⟨2, ![16640, 1024]⟩
abbrev S16640x2048 : Shape := ⟨2, ![16640, 2048]⟩
abbrev S2048x1024 : Shape := ⟨2, ![2048, 1024]⟩
abbrev S4x6144 : Shape := ⟨2, ![4, 6144]⟩
abbrev S1024 : Shape := ⟨1, ![1024]⟩
abbrev S4x1024x5632 : Shape := ⟨3, ![4, 1024, 5632]⟩
abbrev S4x2816x1024 : Shape := ⟨3, ![4, 2816, 1024]⟩
abbrev S4x1x6144 : Shape := ⟨3, ![4, 1, 6144]⟩
abbrev S_ : Shape := ⟨0, ![]⟩
abbrev S4x6x6144 : Shape := ⟨3, ![4, 6, 6144]⟩
abbrev S4x8x6144 : Shape := ⟨3, ![4, 8, 6144]⟩
abbrev S1x1024 : Shape := ⟨2, ![1, 1024]⟩
abbrev S640x1024 : Shape := ⟨2, ![640, 1024]⟩
abbrev S640x2048 : Shape := ⟨2, ![640, 2048]⟩
abbrev S1x8x6144 : Shape := ⟨3, ![1, 8, 6144]⟩
abbrev S1x1024x5632 : Shape := ⟨3, ![1, 1024, 5632]⟩
abbrev S1x2816x1024 : Shape := ⟨3, ![1, 2816, 1024]⟩
abbrev S384x1024 : Shape := ⟨2, ![384, 1024]⟩
abbrev S1x1x1024 : Shape := ⟨3, ![1, 1, 1024]⟩
abbrev S256x1024 : Shape := ⟨2, ![256, 1024]⟩
abbrev S384 : Shape := ⟨1, ![384]⟩
abbrev S384x1 : Shape := ⟨2, ![384, 1]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S640x768 : Shape := ⟨2, ![640, 768]⟩
abbrev S1x768x1024 : Shape := ⟨3, ![1, 768, 1024]⟩
abbrev S768x1024 : Shape := ⟨2, ![768, 1024]⟩

abbrev nBuf : Space → Nat
  | .hbm => 18
  | .vmem => 11
  | .smem => 0
  | _ => 0

abbrev bufTy : (tb : Table) → Fin (tcTables nBuf tb) → BufTy
  | .hbm, ⟨0, _⟩ => ⟨S16640x1024, .f32⟩
  | .hbm, ⟨1, _⟩ => ⟨S16640x2048, .bf16⟩
  | .hbm, ⟨2, _⟩ => ⟨S2048x1024, .f32⟩
  | .hbm, ⟨3, _⟩ => ⟨S4x6144, .f32⟩
  | .hbm, ⟨4, _⟩ => ⟨S4x6144, .f32⟩
  | .hbm, ⟨5, _⟩ => ⟨S1024, .f32⟩
  | .hbm, ⟨6, _⟩ => ⟨S4x1024x5632, .f32⟩
  | .hbm, ⟨7, _⟩ => ⟨S4x2816x1024, .f32⟩
  | .hbm, ⟨8, _⟩ => ⟨S2048x1024, .bf16⟩
  | .hbm, ⟨9, _⟩ => ⟨S4x1x6144, .f32⟩
  | .hbm, ⟨10, _⟩ => ⟨S4x1x6144, .f32⟩
  | .hbm, ⟨11, _⟩ => ⟨S_, .f32⟩
  | .hbm, ⟨12, _⟩ => ⟨S4x6x6144, .f32⟩
  | .hbm, ⟨13, _⟩ => ⟨S4x8x6144, .f32⟩
  | .hbm, ⟨14, _⟩ => ⟨S1x1024, .f32⟩
  | .hbm, ⟨15, _⟩ => ⟨S4x1024x5632, .bf16⟩
  | .hbm, ⟨16, _⟩ => ⟨S4x2816x1024, .bf16⟩
  | .hbm, ⟨17, _⟩ => ⟨S16640x1024, .f32⟩
  | .local _ .vmem, ⟨0, _⟩ => ⟨S640x1024, .f32⟩
  | .local _ .vmem, ⟨1, _⟩ => ⟨S640x1024, .f32⟩
  | .local _ .vmem, ⟨2, _⟩ => ⟨S640x2048, .bf16⟩
  | .local _ .vmem, ⟨3, _⟩ => ⟨S640x2048, .bf16⟩
  | .local _ .vmem, ⟨4, _⟩ => ⟨S2048x1024, .bf16⟩
  | .local _ .vmem, ⟨5, _⟩ => ⟨S1x8x6144, .f32⟩
  | .local _ .vmem, ⟨6, _⟩ => ⟨S1x1024, .f32⟩
  | .local _ .vmem, ⟨7, _⟩ => ⟨S1x1024x5632, .bf16⟩
  | .local _ .vmem, ⟨8, _⟩ => ⟨S1x2816x1024, .bf16⟩
  | .local _ .vmem, ⟨9, _⟩ => ⟨S640x1024, .f32⟩
  | .local _ .vmem, ⟨10, _⟩ => ⟨S640x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16640x1024 : Shape := ⟨2, ![16640, 1024]⟩
abbrev S16640x2048 : Shape := ⟨2, ![16640, 2048]⟩
abbrev S2048x1024 : Shape := ⟨2, ![2048, 1024]⟩
abbrev S4x6144 : Shape := ⟨2, ![4, 6144]⟩
abbrev S1024 : Shape := ⟨1, ![1024]⟩
abbrev S4x1024x5632 : Shape := ⟨3, ![4, 1024, 5632]⟩
abbrev S4x2816x1024 : Shape := ⟨3, ![4, 2816, 1024]⟩
abbrev S16384x2048 : Shape := ⟨2, ![16384, 2048]⟩
abbrev S16384x1024 : Shape := ⟨2, ![16384, 1024]⟩
abbrev S256x2048 : Shape := ⟨2, ![256, 2048]⟩
abbrev S256x1024 : Shape := ⟨2, ![256, 1024]⟩
abbrev S1x6144 : Shape := ⟨2, ![1, 6144]⟩
abbrev S6144 : Shape := ⟨1, ![6144]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 128
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x2048, .bf16⟩
  | .hbm, ⟨2, _⟩ => ⟨S2048x1024, .f32⟩
  | .hbm, ⟨3, _⟩ => ⟨S4x6144, .f32⟩
  | .hbm, ⟨4, _⟩ => ⟨S4x6144, .f32⟩
  | .hbm, ⟨5, _⟩ => ⟨S1024, .f32⟩
  | .hbm, ⟨6, _⟩ => ⟨S4x1024x5632, .f32⟩
  | .hbm, ⟨7, _⟩ => ⟨S4x2816x1024, .f32⟩
  | .hbm, ⟨8, _⟩ => ⟨S16640x2048, .f32⟩
  | .hbm, ⟨9, _⟩ => ⟨S16384x2048, .f32⟩
  | .hbm, ⟨10, _⟩ => ⟨S16384x1024, .f32⟩
  | .hbm, ⟨11, _⟩ => ⟨S256x2048, .f32⟩
  | .hbm, ⟨12, _⟩ => ⟨S256x1024, .f32⟩
  | .hbm, ⟨13, _⟩ => ⟨S16384x1024, .f32⟩
  | .hbm, ⟨14, _⟩ => ⟨S1x6144, .f32⟩
  | .hbm, ⟨15, _⟩ => ⟨S6144, .f32⟩
  | .hbm, ⟨16, _⟩ => ⟨S1x1024x5632, .f32⟩
  | .hbm, ⟨17, _⟩ => ⟨S1024x5632, .f32⟩
  | .hbm, ⟨18, _⟩ => ⟨S1x2816x1024, .f32⟩
  | .hbm, ⟨19, _⟩ => ⟨S2816x1024, .f32⟩
  | .hbm, ⟨20, _⟩ => ⟨S1x6144, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x5632, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x2816, .f32⟩
  | .hbm, ⟨60, _⟩ => ⟨S16384x2816, .f32⟩
  | .hbm, ⟨61, _⟩ => ⟨S_, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S256x1024, .f32⟩
  | .hbm, ⟨71, _⟩ => ⟨S1x6144, .f32⟩
  | .hbm, ⟨72, _⟩ => ⟨S6144, .f32⟩
  | .hbm, ⟨73, _⟩ => ⟨S1x1024x5632, .f32⟩
  | .hbm, ⟨74, _⟩ => ⟨S1024x5632, .f32⟩
  | .hbm, ⟨75, _⟩ => ⟨S1x2816x1024, .f32⟩
  | .hbm, ⟨76, _⟩ => ⟨S2816x1024, .f32⟩
  | .hbm, ⟨77, _⟩ => ⟨S1x6144, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S256x1024, .f32⟩
  | .hbm, ⟨85, _⟩ => ⟨S256x1024, .f32⟩
  | .hbm, ⟨86, _⟩ => ⟨S256x1024, .f32⟩
  | .hbm, ⟨87, _⟩ => ⟨S256x1024, .f32⟩
  | .hbm, ⟨88, _⟩ => ⟨S_, .f32⟩
  | .hbm, ⟨89, _⟩ => ⟨S256, .f32⟩
  | .hbm, ⟨90, _⟩ => ⟨S256x1, .f32⟩
  | .hbm, ⟨91, _⟩ => ⟨S_, .f32⟩
  | .hbm, ⟨92, _⟩ => ⟨S256x1, .f32⟩
  | .hbm, ⟨93, _⟩ => ⟨S256x1, .f32⟩
  | .hbm, ⟨94, _⟩ => ⟨S_, .f32⟩
  | .hbm, ⟨95, _⟩ => ⟨S256x1, .f32⟩
  | .hbm, ⟨96, _⟩ => ⟨S256x1, .f32⟩
  | .hbm, ⟨97, _⟩ => ⟨S256x1, .f32⟩
  | .hbm, ⟨98, _⟩ => ⟨S256x1024, .f32⟩
  | .hbm, ⟨99, _⟩ => ⟨S256x1024, .f32⟩
  | .hbm, ⟨100, _⟩ => ⟨S1x1024, .f32⟩
  | .hbm, ⟨101, _⟩ => ⟨S256x1024, .f32⟩
  | .hbm, ⟨102, _⟩ => ⟨S256x1024, .f32⟩
  | .hbm, ⟨103, _⟩ => ⟨S_, .f32⟩
  | .hbm, ⟨104, _⟩ => ⟨S1x1024, .f32⟩
  | .hbm, ⟨105, _⟩ => ⟨S1x1024, .f32⟩
  | .hbm, ⟨106, _⟩ => ⟨S256x1024, .f32⟩
  | .hbm, ⟨107, _⟩ => ⟨S256x1024, .f32⟩
  | .hbm, ⟨108, _⟩ => ⟨S256x1024, .f32⟩
  | .hbm, ⟨109, _⟩ => ⟨S256x1024, .f32⟩
  | .hbm, ⟨110, _⟩ => ⟨S256x5632, .f32⟩
  | .hbm, ⟨111, _⟩ => ⟨S256x2816, .f32⟩
  | .hbm, ⟨112, _⟩ => ⟨S256x2816, .f32⟩
  | .hbm, ⟨113, _⟩ => ⟨S256x2816, .f32⟩
  | .hbm, ⟨114, _⟩ => ⟨S256x2816, .f32⟩
  | .hbm, ⟨115, _⟩ => ⟨S_, .f32⟩
  | .hbm, ⟨116, _⟩ => ⟨S256x2816, .f32⟩
  | .hbm, ⟨117, _⟩ => ⟨S256x2816, .f32⟩
  | .hbm, ⟨118, _⟩ => ⟨S_, .f32⟩
  | .hbm, ⟨119, _⟩ => ⟨S256x2816, .f32⟩
  | .hbm, ⟨120, _⟩ => ⟨S256x2816, .f32⟩
  | .hbm, ⟨121, _⟩ => ⟨S256x2816, .f32⟩
  | .hbm, ⟨122, _⟩ => ⟨S256x2816, .f32⟩
  | .hbm, ⟨123, _⟩ => ⟨S256x1024, .f32⟩
  | .hbm, ⟨124, _⟩ => ⟨S256x1024, .f32⟩
  | .hbm, ⟨125, _⟩ => ⟨S256x1024, .f32⟩
  | .hbm, ⟨126, _⟩ => ⟨S256x1024, .f32⟩
  | .hbm, ⟨127, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_3 : Ref sig .tc := ⟨.hbm, 88, rfl⟩
abbrev main_v68 : Ref sig .tc := ⟨.hbm, 89, rfl⟩
abbrev main_v69 : Ref sig .tc := ⟨.hbm, 90, rfl⟩
abbrev main_cst_4 : Ref sig .tc := ⟨.hbm, 91, rfl⟩
abbrev main_v70 : Ref sig .tc := ⟨.hbm, 92, rfl⟩
abbrev main_v71 : Ref sig .tc := ⟨.hbm, 93, rfl⟩
abbrev main_cst_5 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_6 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩

abbrev nD : Nat := 1
abbrev τ : Topo := Topo.v7x

variable {F : FTy → Type} [FloatOps F]
-- ==== Kernel4.lean ====
abbrev S16640x1024 : Shape := ⟨2, ![16640, 1024]⟩
abbrev S4x256x256 : Shape := ⟨3, ![4, 256, 256]⟩
abbrev S4x6144 : Shape := ⟨2, ![4, 6144]⟩
abbrev S1024 : Shape := ⟨1, ![1024]⟩
abbrev S4x1024x5632 : Shape := ⟨3, ![4, 1024, 5632]⟩
abbrev S4x2816x1024 : Shape := ⟨3, ![4, 2816, 1024]⟩
abbrev S4x1x6144 : Shape := ⟨3, ![4, 1, 6144]⟩
abbrev S_ : Shape := ⟨0, ![]⟩
abbrev S4x6x6144 : Shape := ⟨3, ![4, 6, 6144]⟩
abbrev S4x8x6144 : Shape := ⟨3, ![4, 8, 6144]⟩
abbrev S1x1024 : Shape := ⟨2, ![1, 1024]⟩
abbrev S640x1024 : Shape := ⟨2, ![640, 1024]⟩
abbrev S1x8x6144 : Shape := ⟨3, ![1, 8, 6144]⟩
abbrev S1x1024x5632 : Shape := ⟨3, ![1, 1024, 5632]⟩
abbrev S1x2816x1024 : Shape := ⟨3, ![1, 2816, 1024]⟩
abbrev S640x256 : Shape := ⟨2, ![640, 256]⟩
abbrev S1x256x256 : Shape := ⟨3, ![1, 256, 256]⟩
abbrev S256x256 : Shape := ⟨2, ![256, 256]⟩
abbrev S384x1024 : Shape := ⟨2, ![384, 1024]⟩
abbrev S1x1x1024 : Shape := ⟨3, ![1, 1, 1024]⟩
abbrev S256x1024 : Shape := ⟨2, ![256, 1024]⟩
abbrev S384 : Shape := ⟨1, ![384]⟩
abbrev S384x1 : Shape := ⟨2, ![384, 1]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S640x768 : Shape := ⟨2, ![640, 768]⟩
abbrev S1x768x1024 : Shape := ⟨3, ![1, 768, 1024]⟩
abbrev S768x1024 : Shape := ⟨2, ![768, 1024]⟩

abbrev nBuf : Space → Nat
  | .hbm => 20
  | .vmem => 12
  | .smem => 0
  | _ => 0

abbrev bufTy : (tb : Table) → Fin (tcTables nBuf tb) → BufTy
  | .hbm, ⟨0, _⟩ => ⟨S16640x1024, .f32⟩
  | .hbm, ⟨1, _⟩ => ⟨S16640x1024, .bf16⟩
  | .hbm, ⟨2, _⟩ => ⟨S4x256x256, .f32⟩
  | .hbm, ⟨3, _⟩ => ⟨S4x6144, .f32⟩
  | .hbm, ⟨4, _⟩ => ⟨S4x6144, .f32⟩
  | .hbm, ⟨5, _⟩ => ⟨S1024, .f32⟩
  | .hbm, ⟨6, _⟩ => ⟨S4x1024x5632, .f32⟩
  | .hbm, ⟨7, _⟩ => ⟨S4x2816x1024, .f32⟩
  | .hbm, ⟨8, _⟩ => ⟨S1024, .f32⟩
  | .hbm, ⟨9, _⟩ => ⟨S4x256x256, .bf16⟩
  | .hbm, ⟨10, _⟩ => ⟨S4x1x6144, .f32⟩
  | .hbm, ⟨11, _⟩ => ⟨S4x1x6144, .f32⟩
  | .hbm, ⟨12, _⟩ => ⟨S_, .f32⟩
  | .hbm, ⟨13, _⟩ => ⟨S4x6x6144, .f32⟩
  | .hbm, ⟨14, _⟩ => ⟨S4x8x6144, .f32⟩
  | .hbm, ⟨15, _⟩ => ⟨S1x1024, .f32⟩
  | .hbm, ⟨16, _⟩ => ⟨S4x1024x5632, .bf16⟩
  | .hbm, ⟨17, _⟩ => ⟨S4x2816x1024, .bf16⟩
  | .hbm, ⟨18, _⟩ => ⟨S1x1024, .f32⟩
  | .hbm, ⟨19, _⟩ => ⟨S16640x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .bf16⟩
  | .local _ .vmem, ⟨3, _⟩ => ⟨S640x1024, .bf16⟩
  | .local _ .vmem, ⟨4, _⟩ => ⟨S4x256x256, .bf16⟩
  | .local _ .vmem, ⟨5, _⟩ => ⟨S1x1024, .f32⟩
  | .local _ .vmem, ⟨6, _⟩ => ⟨S1x8x6144, .f32⟩
  | .local _ .vmem, ⟨7, _⟩ => ⟨S1x1024, .f32⟩
  | .local _ .vmem, ⟨8, _⟩ => ⟨S1x1024x5632, .bf16⟩
  | .local _ .vmem, ⟨9, _⟩ => ⟨S1x2816x1024, .bf16⟩
  | .local _ .vmem, ⟨10, _⟩ => ⟨S640x1024, .f32⟩
  | .local _ .vmem, ⟨11, _⟩ => ⟨S640x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S640x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16640x1024 : Shape := ⟨2, ![16640, 1024]⟩
abbrev S4x256x256 : Shape := ⟨3, ![4, 256, 256]⟩
abbrev S4x6144 : Shape := ⟨2, ![4, 6144]⟩
abbrev S1024 : Shape := ⟨1, ![1024]⟩
abbrev S4x1024x5632 : Shape := ⟨3, ![4, 1024, 5632]⟩
abbrev S4x2816x1024 : Shape := ⟨3, ![4, 2816, 1024]⟩
abbrev S16640x4x256 : Shape := ⟨3, ![16640, 4, 256]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x256x16640 : Shape := ⟨3, ![4, 256, 16640]⟩
abbrev S1x1024 : Shape := ⟨2, ![1, 1024]⟩
abbrev S16384x1024 : Shape := ⟨2, ![16384, 1024]⟩
abbrev S1x6144 : Shape := ⟨2, ![1, 6144]⟩
abbrev S6144 : Shape := ⟨1, ![6144]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 130
  | .vmem => 0
  | .smem => 0
  | _ => 0

abbrev hbmTy0_0 (i : Nat) : BufTy := match i % 128 with
  | 0 => ⟨S16640x1024, .f32⟩
  | 1 => ⟨S16640x1024, .bf16⟩
  | 2 => ⟨S4x256x256, .f32⟩
  | 3 => ⟨S4x6144, .f32⟩
  | 4 => ⟨S4x6144, .f32⟩
  | 5 => ⟨S1024, .f32⟩
  | 6 => ⟨S4x1024x5632, .f32⟩
  | 7 => ⟨S4x2816x1024, .f32⟩
  | 8 => ⟨S1024, .f32⟩
  | 9 => ⟨S16640x1024, .f32⟩
  | 10 => ⟨S16640x4x256, .f32⟩
  | 11 => ⟨S1x1024x5632, .f32⟩
  | 12 => ⟨S1024x5632, .f32⟩
  | 13 => ⟨S1x2816x1024, .f32⟩
  | 14 => ⟨S2816x1024, .f32⟩
  | 15 => ⟨S4x256x16640, .f32⟩
  | 16 => ⟨S16640x4x256, .f32⟩
  | 17 => ⟨S16640x1024, .f32⟩
  | 18 => ⟨S1x1024, .f32⟩
  | 19 => ⟨S16640x1024, .f32⟩
  | 20 => ⟨S16640x1024, .f32⟩
  | 21 => ⟨S16384x1024, .f32⟩
  | 22 => ⟨S16384x1024, .f32⟩
  | 23 => ⟨S1x6144, .f32⟩
  | 24 => ⟨S6144, .f32⟩
  | 25 => ⟨S1x6144, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S16384x1024, .f32⟩
  | 33 => ⟨S16384x1024, .f32⟩
  | 34 => ⟨S16384x1024, .f32⟩
  | 35 => ⟨S16384x1024, .f32⟩
  | 36 => ⟨S_, .f32⟩
  | 37 => ⟨S16384, .f32⟩
  | 38 => ⟨S16384x1, .f32⟩
  | 39 => ⟨S_, .f32⟩
  | 40 => ⟨S16384x1, .f32⟩
  | 41 => ⟨S16384x1, .f32⟩
  | 42 => ⟨S_, .f32⟩
  | 43 => ⟨S16384x1, .f32⟩
  | 44 => ⟨S16384x1, .f32⟩
  | 45 => ⟨S16384x1, .f32⟩
  | 46 => ⟨S16384x1024, .f32⟩
  | 47 => ⟨S16384x1024, .f32⟩
  | 48 => ⟨S1x1024, .f32⟩
  | 49 => ⟨S16384x1024, .f32⟩
  | 50 => ⟨S16384x1024, .f32⟩
  | 51 => ⟨S_, .f32⟩
  | 52 => ⟨S1x1024, .f32⟩
  | 53 => ⟨S1x1024, .f32⟩
  | 54 => ⟨S16384x1024, .f32⟩
  | 55 => ⟨S16384x1024, .f32⟩
  | 56 => ⟨S16384x1024, .f32⟩
  | 57 => ⟨S16384x1024, .f32⟩
  | 58 => ⟨S16384x5632, .f32⟩
  | 59 => ⟨S16384x2816, .f32⟩
  | 60 => ⟨S16384x2816, .f32⟩
  | 61 => ⟨S16384x2816, .f32⟩
  | 62 => ⟨S16384x2816, .f32⟩
  | 63 => ⟨S_, .f32⟩
  | 64 => ⟨S16384x2816, .f32⟩
  | 65 => ⟨S16384x2816, .f32⟩
  | 66 => ⟨S_, .f32⟩
  | 67 => ⟨S16384x2816, .f32⟩
  | 68 => ⟨S16384x2816, .f32⟩
  | 69 => ⟨S16384x2816, .f32⟩
  | 70 => ⟨S16384x2816, .f32⟩
  | 71 => ⟨S16384x1024, .f32⟩
  | 72 => ⟨S16384x1024, .f32⟩
  | 73 => ⟨S16384x1024, .f32⟩
  | 74 => ⟨S16384x1024, .f32⟩
  | 75 => ⟨S256x1024, .f32⟩
  | 76 => ⟨S256x1024, .f32⟩
  | 77 => ⟨S1x6144, .f32⟩
  | 78 => ⟨S6144, .f32⟩
  | 79 => ⟨S1x6144, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S256x1024, .f32⟩
  | 87 => ⟨S256x1024, .f32⟩
  | 88 => ⟨S256x1024, .f32⟩
  | 89 => ⟨S256x1024, .f32⟩
  | 90 => ⟨S_, .f32⟩
  | 91 => ⟨S256, .f32⟩
  | 92 => ⟨S256x1, .f32⟩
  | 93 => ⟨S_, .f32⟩
  | 94 => ⟨S256x1, .f32⟩
  | 95 => ⟨S256x1, .f32⟩
  | 96 => ⟨S_, .f32⟩
  | 97 => ⟨S256x1, .f32⟩
  | 98 => ⟨S256x1, .f32⟩
  | 99 => ⟨S256x1, .f32⟩
  | 100 => ⟨S256x1024, .f32⟩
  | 101 => ⟨S256x1024, .f32⟩
  | 102 => ⟨S1x1024, .f32⟩
  | 103 => ⟨S256x1024, .f32⟩
  | 104 => ⟨S256x1024, .f32⟩
  | 105 => ⟨S_, .f32⟩
  | 106 => ⟨S1x1024, .f32⟩
  | 107 => ⟨S1x1024, .f32⟩
  | 108 => ⟨S256x1024, .f32⟩
  | 109 => ⟨S256x1024, .f32⟩
  | 110 => ⟨S256x1024, .f32⟩
  | 111 => ⟨S256x1024, .f32⟩
  | 112 => ⟨S256x5632, .f32⟩
  | 113 => ⟨S256x2816, .f32⟩
  | 114 => ⟨S256x2816, .f32⟩
  | 115 => ⟨S256x2816, .f32⟩
  | 116 => ⟨S256x2816, .f32⟩
  | 117 => ⟨S_, .f32⟩
  | 118 => ⟨S256x2816, .f32⟩
  | 119 => ⟨S256x2816, .f32⟩
  | 120 => ⟨S_, .f32⟩
  | 121 => ⟨S256x2816, .f32⟩
  | 122 => ⟨S256x2816, .f32⟩
  | 123 => ⟨S256x2816, .f32⟩
  | 124 => ⟨S256x2816, .f32⟩
  | 125 => ⟨S256x1024, .f32⟩
  | 126 => ⟨S256x1024, .f32⟩
  | 127 => ⟨S256x1024, .f32⟩
  | _ => ⟨S16640x1024, .f32⟩

abbrev hbmTy0_1 (i : Nat) : BufTy := match i % 128 with
  | 0 => ⟨S256x1024, .f32⟩
  | 1 => ⟨S16640x1024, .f32⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_3 : Ref sig .tc := ⟨.hbm, 90, rfl⟩
abbrev main_v69 : Ref sig .tc := ⟨.hbm, 91, rfl⟩
abbrev main_v70 : Ref sig .tc := ⟨.hbm, 92, rfl⟩
abbrev main_cst_4 : Ref sig .tc := ⟨.hbm, 93, rfl⟩
abbrev main_v71 : Ref sig .tc := ⟨.hbm, 94, rfl⟩
abbrev main_v72 : Ref sig .tc := ⟨.hbm, 95, rfl⟩
abbrev main_cst_5 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_6 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_call1_v0 : Ref sig .tc := ⟨.hbm, 115, rfl⟩
abbrev main_call1_v1 : Ref sig .tc := ⟨.hbm, 116, rfl⟩
abbrev main_call1_cst : Ref sig .tc := ⟨.hbm, 117, rfl⟩
abbrev main_call1_v2 : Ref sig .tc := ⟨.hbm, 118, rfl⟩
abbrev main_call1_v3 : Ref sig .tc := ⟨.hbm, 119, rfl⟩
abbrev main_call1_cst_0 : Ref sig .tc := ⟨.hbm, 120, rfl⟩
abbrev main_call1_v4 : Ref sig .tc := ⟨.hbm, 121, rfl⟩
abbrev main_call1_v5 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩

abbrev nD : Nat := 1
abbrev τ : Topo := Topo.v7x

variable {F : FTy → Type} [FloatOps F]
-- ==== Kernel5.lean ====
abbrev S16384x1024 : Shape := ⟨2, ![16384, 1024]⟩
abbrev S16640x1024 : Shape := ⟨2, ![16640, 1024]⟩
abbrev S1024x1024 : Shape := ⟨2, ![1024, 1024]⟩
abbrev S4x6144 : Shape := ⟨2, ![4, 6144]⟩
abbrev S1024 : Shape := ⟨1, ![1024]⟩
abbrev S4x1024x5632 : Shape := ⟨3, ![4, 1024, 5632]⟩
abbrev S4x2816x1024 : Shape := ⟨3, ![4, 2816, 1024]⟩
abbrev S256x1024 : Shape := ⟨2, ![256, 1024]⟩
abbrev S128 : Shape := ⟨1, ![128]⟩
abbrev S4x1x6144 : Shape := ⟨3, ![4, 1, 6144]⟩
abbrev S_ : Shape := ⟨0, ![]⟩
abbrev S4x6x6144 : Shape := ⟨3, ![4, 6, 6144]⟩
abbrev S4x8x6144 : Shape := ⟨3, ![4, 8, 6144]⟩
abbrev S1x1024 : Shape := ⟨2, ![1, 1024]⟩
abbrev S1x128 : Shape := ⟨2, ![1, 128]⟩
abbrev S640x1024 : Shape := ⟨2, ![640, 1024]⟩
abbrev S1x8x6144 : Shape := ⟨3, ![1, 8, 6144]⟩
abbrev S1x1024x5632 : Shape := ⟨3, ![1, 1024, 5632]⟩
abbrev S1x2816x1024 : Shape := ⟨3, ![1, 2816, 1024]⟩
abbrev S640x128 : Shape := ⟨2, ![640, 128]⟩
abbrev S640 : Shape := ⟨1, ![640]⟩
abbrev S640x1 : Shape := ⟨2, ![640, 1]⟩
abbrev S384x1024 : Shape := ⟨2, ![384, 1024]⟩
abbrev S1x1x1024 : Shape := ⟨3, ![1, 1, 1024]⟩
abbrev S384 : Shape := ⟨1, ![384]⟩
abbrev S384x1 : Shape := ⟨2, ![384, 1]⟩
abbrev S256 : Shape := ⟨1, ![256]⟩
abbrev S256x1 : Shape := ⟨2, ![256, 1]⟩
abbrev S1x1024x1024 : Shape := ⟨3, ![1, 1024, 1024]⟩
abbrev S1x1024x768 : Shape := ⟨3, ![1, 1024, 768]⟩
abbrev S1024x768 : Shape := ⟨2, ![1024, 768]⟩
abbrev S640x768 : Shape := ⟨2, ![640, 768]⟩
abbrev S1x768x1024 : Shape := ⟨3, ![1, 768, 1024]⟩
abbrev S768x1024 : Shape := ⟨2, ![768, 1024]⟩

abbrev nBuf : Space → Nat
  | .hbm => 23
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16640x1024, .bf16⟩
  | .hbm, ⟨2, _⟩ => ⟨S1024x1024, .f32⟩
  | .hbm, ⟨3, _⟩ => ⟨S4x6144, .f32⟩
  | .hbm, ⟨4, _⟩ => ⟨S4x6144, .f32⟩
  | .hbm, ⟨5, _⟩ => ⟨S1024, .f32⟩
  | .hbm, ⟨6, _⟩ => ⟨S4x1024x5632, .f32⟩
  | .hbm, ⟨7, _⟩ => ⟨S4x2816x1024, .f32⟩
  | .hbm, ⟨8, _⟩ => ⟨S256x1024, .f32⟩
  | .hbm, ⟨9, _⟩ => ⟨S16640x1024, .bf16⟩
  | .hbm, ⟨10, _⟩ => ⟨S16640x1024, .bf16⟩
  | .hbm, ⟨11, _⟩ => ⟨S128, .f32⟩
  | .hbm, ⟨12, _⟩ => ⟨S1024x1024, .bf16⟩
  | .hbm, ⟨13, _⟩ => ⟨S4x1x6144, .f32⟩
  | .hbm, ⟨14, _⟩ => ⟨S4x1x6144, .f32⟩
  | .hbm, ⟨15, _⟩ => ⟨S_, .f32⟩
  | .hbm, ⟨16, _⟩ => ⟨S4x6x6144, .f32⟩
  | .hbm, ⟨17, _⟩ => ⟨S4x8x6144, .f32⟩
  | .hbm, ⟨18, _⟩ => ⟨S1x1024, .f32⟩
  | .hbm, ⟨19, _⟩ => ⟨S4x1024x5632, .bf16⟩
  | .hbm, ⟨20, _⟩ => ⟨S4x2816x1024, .bf16⟩
  | .hbm, ⟨21, _⟩ => ⟨S1x128, .f32⟩
  | .hbm, ⟨22, _⟩ => ⟨S16640x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .bf16⟩
  | .local _ .vmem, ⟨3, _⟩ => ⟨S640x1024, .bf16⟩
  | .local _ .vmem, ⟨4, _⟩ => ⟨S1024x1024, .bf16⟩
  | .local _ .vmem, ⟨5, _⟩ => ⟨S256x1024, .f32⟩
  | .local _ .vmem, ⟨6, _⟩ => ⟨S640x1024, .bf16⟩
  | .local _ .vmem, ⟨7, _⟩ => ⟨S640x1024, .bf16⟩
  | .local _ .vmem, ⟨8, _⟩ => ⟨S640x1024, .bf16⟩
  | .local _ .vmem, ⟨9, _⟩ => ⟨S640x1024, .bf16⟩
  | .local _ .vmem, ⟨10, _⟩ => ⟨S1x128, .f32⟩
  | .local _ .vmem, ⟨11, _⟩ => ⟨S1x8x6144, .f32⟩
  | .local _ .vmem, ⟨12, _⟩ => ⟨S1x1024, .f32⟩
  | .local _ .vmem, ⟨13, _⟩ => ⟨S1x1024x5632, .bf16⟩
  | .local _ .vmem, ⟨14, _⟩ => ⟨S1x2816x1024, .bf16⟩
  | .local _ .vmem, ⟨15, _⟩ => ⟨S640x1024, .f32⟩
  | .local _ .vmem, ⟨16, _⟩ => ⟨S640x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S640x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S16384x1024 : Shape := ⟨2, ![16384, 1024]⟩
abbrev S16640x1024 : Shape := ⟨2, ![16640, 1024]⟩
abbrev S1024x1024 : Shape := ⟨2, ![1024, 1024]⟩
abbrev S4x6144 : Shape := ⟨2, ![4, 6144]⟩
abbrev S1024 : Shape := ⟨1, ![1024]⟩
abbrev S4x1024x5632 : Shape := ⟨3, ![4, 1024, 5632]⟩
abbrev S4x2816x1024 : Shape := ⟨3, ![4, 2816, 1024]⟩
abbrev S256x1024 : Shape := ⟨2, ![256, 1024]⟩
abbrev S128 : Shape := ⟨1, ![128]⟩
abbrev S16640x8x128 : Shape := ⟨3, ![16640, 8, 128]⟩
abbrev S_ : Shape := ⟨0, ![]⟩
abbrev S16640x8 : Shape := ⟨2, ![16640, 8]⟩
abbrev S16640x8x1 : Shape := ⟨3, ![16640, 8, 1]⟩
abbrev S1x1x128 : Shape := ⟨3, ![1, 1, 128]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x6144 : Shape := ⟨2, ![1, 6144]⟩
abbrev S6144 : Shape := ⟨1, ![6144]⟩
abbrev S1x1024 : Shape := ⟨2, ![1, 1024]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 147
  | .vmem => 0
  | .smem => 0
  | _ => 0

abbrev hbmTy0_0 (i : Nat) : BufTy := match i % 128 with
  | 0 => ⟨S16384x1024, .f32⟩
  | 1 => ⟨S16640x1024, .bf16⟩
  | 2 => ⟨S1024x1024, .f32⟩
  | 3 => ⟨S4x6144, .f32⟩
  | 4 => ⟨S4x6144, .f32⟩
  | 5 => ⟨S1024, .f32⟩
  | 6 => ⟨S4x1024x5632, .f32⟩
  | 7 => ⟨S4x2816x1024, .f32⟩
  | 8 => ⟨S256x1024, .f32⟩
  | 9 => ⟨S16640x1024, .bf16⟩
  | 10 => ⟨S16640x1024, .bf16⟩
  | 11 => ⟨S128, .f32⟩
  | 12 => ⟨S16640x1024, .f32⟩
  | 13 => ⟨S16640x1024, .f32⟩
  | 14 => ⟨S16640x1024, .f32⟩
  | 15 => ⟨S16640x1024, .f32⟩
  | 16 => ⟨S16640x8x128, .f32⟩
  | 17 => ⟨S16640x8x128, .f32⟩
  | 18 => ⟨S_, .f32⟩
  | 19 => ⟨S16640x8, .f32⟩
  | 20 => ⟨S16640x8x1, .f32⟩
  | 21 => ⟨S_, .f32⟩
  | 22 => ⟨S16640x8x1, .f32⟩
  | 23 => ⟨S16640x8x1, .f32⟩
  | 24 => ⟨S_, .f32⟩
  | 25 => ⟨S16640x8x1, .f32⟩
  | 26 => ⟨S16640x8x1, .f32⟩
  | 27 => ⟨S16640x8x1, .f32⟩
  | 28 => ⟨S16640x8x128, .f32⟩
  | 29 => ⟨S16640x8x128, .f32⟩
  | 30 => ⟨S1x1x128, .f32⟩
  | 31 => ⟨S16640x8x128, .f32⟩
  | 32 => ⟨S16640x8x128, .f32⟩
  | 33 => ⟨S16640x1024, .f32⟩
  | 34 => ⟨S16640x1024, .f32⟩
  | 35 => ⟨S16640x1024, .f32⟩
  | 36 => ⟨S1x1024x5632, .f32⟩
  | 37 => ⟨S1024x5632, .f32⟩
  | 38 => ⟨S1x2816x1024, .f32⟩
  | 39 => ⟨S2816x1024, .f32⟩
  | 40 => ⟨S16384x1024, .f32⟩
  | 41 => ⟨S1x6144, .f32⟩
  | 42 => ⟨S6144, .f32⟩
  | 43 => ⟨S1x6144, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S16384x1024, .f32⟩
  | 51 => ⟨S16384x1024, .f32⟩
  | 52 => ⟨S16384x1024, .f32⟩
  | 53 => ⟨S16384x1024, .f32⟩
  | 54 => ⟨S_, .f32⟩
  | 55 => ⟨S16384, .f32⟩
  | 56 => ⟨S16384x1, .f32⟩
  | 57 => ⟨S_, .f32⟩
  | 58 => ⟨S16384x1, .f32⟩
  | 59 => ⟨S16384x1, .f32⟩
  | 60 => ⟨S_, .f32⟩
  | 61 => ⟨S16384x1, .f32⟩
  | 62 => ⟨S16384x1, .f32⟩
  | 63 => ⟨S16384x1, .f32⟩
  | 64 => ⟨S16384x1024, .f32⟩
  | 65 => ⟨S16384x1024, .f32⟩
  | 66 => ⟨S1x1024, .f32⟩
  | 67 => ⟨S16384x1024, .f32⟩
  | 68 => ⟨S16384x1024, .f32⟩
  | 69 => ⟨S_, .f32⟩
  | 70 => ⟨S1x1024, .f32⟩
  | 71 => ⟨S1x1024, .f32⟩
  | 72 => ⟨S16384x1024, .f32⟩
  | 73 => ⟨S16384x1024, .f32⟩
  | 74 => ⟨S16384x1024, .f32⟩
  | 75 => ⟨S16384x1024, .f32⟩
  | 76 => ⟨S16384x5632, .f32⟩
  | 77 => ⟨S16384x2816, .f32⟩
  | 78 => ⟨S16384x2816, .f32⟩
  | 79 => ⟨S16384x2816, .f32⟩
  | 80 => ⟨S16384x2816, .f32⟩
  | 81 => ⟨S_, .f32⟩
  | 82 => ⟨S16384x2816, .f32⟩
  | 83 => ⟨S16384x2816, .f32⟩
  | 84 => ⟨S_, .f32⟩
  | 85 => ⟨S16384x2816, .f32⟩
  | 86 => ⟨S16384x2816, .f32⟩
  | 87 => ⟨S16384x2816, .f32⟩
  | 88 => ⟨S16384x2816, .f32⟩
  | 89 => ⟨S16384x1024, .f32⟩
  | 90 => ⟨S16384x1024, .f32⟩
  | 91 => ⟨S16384x1024, .f32⟩
  | 92 => ⟨S16384x1024, .f32⟩
  | 93 => ⟨S256x1024, .f32⟩
  | 94 => ⟨S1x6144, .f32⟩
  | 95 => ⟨S6144, .f32⟩
  | 96 => ⟨S1x6144, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S256x1024, .f32⟩
  | 104 => ⟨S256x1024, .f32⟩
  | 105 => ⟨S256x1024, .f32⟩
  | 106 => ⟨S256x1024, .f32⟩
  | 107 => ⟨S_, .f32⟩
  | 108 => ⟨S256, .f32⟩
  | 109 => ⟨S256x1, .f32⟩
  | 110 => ⟨S_, .f32⟩
  | 111 => ⟨S256x1, .f32⟩
  | 112 => ⟨S256x1, .f32⟩
  | 113 => ⟨S_, .f32⟩
  | 114 => ⟨S256x1, .f32⟩
  | 115 => ⟨S256x1, .f32⟩
  | 116 => ⟨S256x1, .f32⟩
  | 117 => ⟨S256x1024, .f32⟩
  | 118 => ⟨S256x1024, .f32⟩
  | 119 => ⟨S1x1024, .f32⟩
  | 120 => ⟨S256x1024, .f32⟩
  | 121 => ⟨S256x1024, .f32⟩
  | 122 => ⟨S_, .f32⟩
  | 123 => ⟨S1x1024, .f32⟩
  | 124 => ⟨S1x1024, .f32⟩
  | 125 => ⟨S256x1024, .f32⟩
  | 126 => ⟨S256x1024, .f32⟩
  | 127 => ⟨S256x1024, .f32⟩
  | _ => ⟨S16384x1024, .f32⟩

abbrev hbmTy0_1 (i : Nat) : BufTy := match i % 128 with
  | 0 => ⟨S256x1024, .f32⟩
  | 1 => ⟨S256x5632, .f32⟩
  | 2 => ⟨S256x2816, .f32⟩
  | 3 => ⟨S256x2816, .f32⟩
  | 4 => ⟨S256x2816, .f32⟩
  | 5 => ⟨S256x2816, .f32⟩
  | 6 => ⟨S_, .f32⟩
  | 7 => ⟨S256x2816, .f32⟩
  | 8 => ⟨S256x2816, .f32⟩
  | 9 => ⟨S_, .f32⟩
  | 10 => ⟨S256x2816, .f32⟩
  | 11 => ⟨S256x2816, .f32⟩
  | 12 => ⟨S256x2816, .f32⟩
  | 13 => ⟨S256x2816, .f32⟩
  | 14 => ⟨S256x1024, .f32⟩
  | 15 => ⟨S256x1024, .f32⟩
  | 16 => ⟨S256x1024, .f32⟩
  | 17 => ⟨S256x1024, .f32⟩
  | 18 => ⟨S16640x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_5 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_6 : Ref sig .tc := ⟨.hbm, 107, rfl⟩
abbrev main_v80 : Ref sig .tc := ⟨.hbm, 108, rfl⟩
abbrev main_v81 : Ref sig .tc := ⟨.hbm, 109, rfl⟩
abbrev main_cst_7 : Ref sig .tc := ⟨.hbm, 110, rfl⟩
abbrev main_v82 : Ref sig .tc := ⟨.hbm, 111, rfl⟩
abbrev main_v83 : Ref sig .tc := ⟨.hbm, 112, rfl⟩
abbrev main_cst_8 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_9 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_call1_v0 : Ref sig .tc := ⟨.hbm, 132, rfl⟩
abbrev main_call1_v1 : Ref sig .tc := ⟨.hbm, 133, rfl⟩
abbrev main_call1_cst : Ref sig .tc := ⟨.hbm, 134, rfl⟩
abbrev main_call1_v2 : Ref sig .tc := ⟨.hbm, 135, rfl⟩
abbrev main_call1_v3 : Ref sig .tc := ⟨.hbm, 136, rfl⟩
abbrev main_call1_cst_0 : Ref sig .tc := ⟨.hbm, 137, rfl⟩
abbrev main_call1_v4 : Ref sig .tc := ⟨.hbm, 138, rfl⟩
abbrev main_call1_v5 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩

abbrev nD : Nat := 1
abbrev τ : Topo := Topo.v7x

variable {F : FTy → Type} [FloatOps F]
-- ==== Kernel6.lean ====
abbrev S16640x1024 : Shape := ⟨2, ![16640, 1024]⟩
abbrev S1024 : Shape := ⟨1, ![1024]⟩
abbrev S4x6144 : Shape := ⟨2, ![4, 6144]⟩
abbrev S1024x1536 : Shape := ⟨2, ![1024, 1536]⟩
abbrev S256x16 : Shape := ⟨2, ![256, 16]⟩
abbrev S64x16 : Shape := ⟨2, ![64, 16]⟩
abbrev S32 : Shape := ⟨1, ![32]⟩
abbrev S_ : Shape := ⟨0, ![]⟩
abbrev S4x128 : Shape := ⟨2, ![4, 128]⟩
abbrev S256x32 : Shape := ⟨2, ![256, 32]⟩
abbrev S256x64 : Shape := ⟨2, ![256, 64]⟩
abbrev S1x256x1x64 : Shape := ⟨4, ![1, 256, 1, 64]⟩
abbrev S1x256x2x64 : Shape := ⟨4, ![1, 256, 2, 64]⟩
abbrev S256x128 : Shape := ⟨2, ![256, 128]⟩
abbrev S260x128 : Shape := ⟨2, ![260, 128]⟩
abbrev S1x260x128 : Shape := ⟨3, ![1, 260, 128]⟩
abbrev S3x260x128 : Shape := ⟨3, ![3, 260, 128]⟩
abbrev S64x32 : Shape := ⟨2, ![64, 32]⟩
abbrev S64x64 : Shape := ⟨2, ![64, 64]⟩
abbrev S1x64x1x64 : Shape := ⟨4, ![1, 64, 1, 64]⟩
abbrev S1x64x2x64 : Shape := ⟨4, ![1, 64, 2, 64]⟩
abbrev S64x128 : Shape := ⟨2, ![64, 128]⟩
abbrev S1x64x128 : Shape := ⟨3, ![1, 64, 128]⟩
abbrev S3x64x128 : Shape := ⟨3, ![3, 64, 128]⟩
abbrev S1024x1024 : Shape := ⟨2, ![1024, 1024]⟩
abbrev S1024x512 : Shape := ⟨2, ![1024, 512]⟩
abbrev S1x1024 : Shape := ⟨2, ![1, 1024]⟩
abbrev S4x1x6144 : Shape := ⟨3, ![4, 1, 6144]⟩
abbrev S4x6x6144 : Shape := ⟨3, ![4, 6, 6144]⟩
abbrev S4x8x6144 : Shape := ⟨3, ![4, 8, 6144]⟩
abbrev S16640x1536 : Shape := ⟨2, ![16640, 1536]⟩
abbrev S640x1024 : Shape := ⟨2, ![640, 1024]⟩
abbrev S1x8x6144 : Shape := ⟨3, ![1, 8, 6144]⟩
abbrev S640x1536 : Shape := ⟨2, ![640, 1536]⟩
abbrev S384x1024 : Shape := ⟨2, ![384, 1024]⟩
abbrev S1x1x1024 : Shape := ⟨3, ![1, 1, 1024]⟩
abbrev S384 : Shape := ⟨1, ![384]⟩
abbrev S384x1 : Shape := ⟨2, ![384, 1]⟩
abbrev S256x1024 : Shape := ⟨2, ![256, 1024]⟩
abbrev S256 : Shape := ⟨1, ![256]⟩
abbrev S256x1 : Shape := ⟨2, ![256, 1]⟩
abbrev S1x1x128 : Shape := ⟨3, ![1, 1, 128]⟩
abbrev S1x128 : Shape := ⟨2, ![1, 128]⟩
abbrev S640x128 : Shape := ⟨2, ![640, 128]⟩
abbrev S1024x256 : Shape := ⟨2, ![1024, 256]⟩
abbrev S640x256 : Shape := ⟨2, ![640, 256]⟩

abbrev nBuf : Space → Nat
  | .hbm => 98
  | .vmem => 9
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S4x6144, .f32⟩
  | .hbm, ⟨3, _⟩ => ⟨S4x6144, .f32⟩
  | .hbm, ⟨4, _⟩ => ⟨S1024x1536, .f32⟩
  | .hbm, ⟨5, _⟩ => ⟨S256x16, .f32⟩
  | .hbm, ⟨6, _⟩ => ⟨S256x16, .f32⟩
  | .hbm, ⟨7, _⟩ => ⟨S64x16, .f32⟩
  | .hbm, ⟨8, _⟩ => ⟨S64x16, .f32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i1⟩
  | .hbm, ⟨13, _⟩ => ⟨S_, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S256x32, .f32⟩
  | .hbm, ⟨18, _⟩ => ⟨S_, .f32⟩
  | .hbm, ⟨19, _⟩ => ⟨S256x32, .f32⟩
  | .hbm, ⟨20, _⟩ => ⟨S256x32, .f32⟩
  | .hbm, ⟨21, _⟩ => ⟨S256x32, .f32⟩
  | .hbm, ⟨22, _⟩ => ⟨S256x32, .f32⟩
  | .hbm, ⟨23, _⟩ => ⟨S_, .f32⟩
  | .hbm, ⟨24, _⟩ => ⟨S_, .f32⟩
  | .hbm, ⟨25, _⟩ => ⟨S256x32, .i1⟩
  | .hbm, ⟨26, _⟩ => ⟨S256x32, .f32⟩
  | .hbm, ⟨27, _⟩ => ⟨S256x32, .f32⟩
  | .hbm, ⟨28, _⟩ => ⟨S_, .f32⟩
  | .hbm, ⟨29, _⟩ => ⟨S_, .f32⟩
  | .hbm, ⟨30, _⟩ => ⟨S256x32, .i1⟩
  | .hbm, ⟨31, _⟩ => ⟨S256x32, .f32⟩
  | .hbm, ⟨32, _⟩ => ⟨S256x32, .f32⟩
  | .hbm, ⟨33, _⟩ => ⟨S256x64, .f32⟩
  | .hbm, ⟨34, _⟩ => ⟨S1x256x1x64, .f32⟩
  | .hbm, ⟨35, _⟩ => ⟨S1x256x2x64, .f32⟩
  | .hbm, ⟨36, _⟩ => ⟨S256x128, .f32⟩
  | .hbm, ⟨37, _⟩ => ⟨S256x64, .f32⟩
  | .hbm, ⟨38, _⟩ => ⟨S1x256x1x64, .f32⟩
  | .hbm, ⟨39, _⟩ => ⟨S1x256x2x64, .f32⟩
  | .hbm, ⟨40, _⟩ => ⟨S256x128, .f32⟩
  | .hbm, ⟨41, _⟩ => ⟨S256x64, .f32⟩
  | .hbm, ⟨42, _⟩ => ⟨S1x256x1x64, .f32⟩
  | .hbm, ⟨43, _⟩ => ⟨S1x256x2x64, .f32⟩
  | .hbm, ⟨44, _⟩ => ⟨S256x128, .f32⟩
  | .hbm, ⟨45, _⟩ => ⟨S260x128, .f32⟩
  | .hbm, ⟨46, _⟩ => ⟨S260x128, .f32⟩
  | .hbm, ⟨47, _⟩ => ⟨S260x128, .f32⟩
  | .hbm, ⟨48, _⟩ => ⟨S1x260x128, .f32⟩
  | .hbm, ⟨49, _⟩ => ⟨S1x260x128, .f32⟩
  | .hbm, ⟨50, _⟩ => ⟨S1x260x128, .f32⟩
  | .hbm, ⟨51, _⟩ => ⟨S3x260x128, .f32⟩
  | .hbm, ⟨52, _⟩ => ⟨S64x32, .f32⟩
  | .hbm, ⟨53, _⟩ => ⟨S_, .f32⟩
  | .hbm, ⟨54, _⟩ => ⟨S64x32, .f32⟩
  | .hbm, ⟨55, _⟩ => ⟨S64x32, .f32⟩
  | .hbm, ⟨56, _⟩ => ⟨S64x32, .f32⟩
  | .hbm, ⟨57, _⟩ => ⟨S64x32, .f32⟩
  | .hbm, ⟨58, _⟩ => ⟨S_, .f32⟩
  | .hbm, ⟨59, _⟩ => ⟨S_, .f32⟩
  | .hbm, ⟨60, _⟩ => ⟨S64x32, .i1⟩
  | .hbm, ⟨61, _⟩ => ⟨S64x32, .f32⟩
  | .hbm, ⟨62, _⟩ => ⟨S64x32, .f32⟩
  | .hbm, ⟨63, _⟩ => ⟨S_, .f32⟩
  | .hbm, ⟨64, _⟩ => ⟨S_, .f32⟩
  | .hbm, ⟨65, _⟩ => ⟨S64x32, .i1⟩
  | .hbm, ⟨66, _⟩ => ⟨S64x32, .f32⟩
  | .hbm, ⟨67, _⟩ => ⟨S64x32, .f32⟩
  | .hbm, ⟨68, _⟩ => ⟨S64x64, .f32⟩
  | .hbm, ⟨69, _⟩ => ⟨S1x64x1x64, .f32⟩
  | .hbm, ⟨70, _⟩ => ⟨S1x64x2x64, .f32⟩
  | .hbm, ⟨71, _⟩ => ⟨S64x128, .f32⟩
  | .hbm, ⟨72, _⟩ => ⟨S64x64, .f32⟩
  | .hbm, ⟨73, _⟩ => ⟨S1x64x1x64, .f32⟩
  | .hbm, ⟨74, _⟩ => ⟨S1x64x2x64, .f32⟩
  | .hbm, ⟨75, _⟩ => ⟨S64x128, .f32⟩
  | .hbm, ⟨76, _⟩ => ⟨S64x64, .f32⟩
  | .hbm, ⟨77, _⟩ => ⟨S1x64x1x64, .f32⟩
  | .hbm, ⟨78, _⟩ => ⟨S1x64x2x64, .f32⟩
  | .hbm, ⟨79, _⟩ => ⟨S64x128, .f32⟩
  | .hbm, ⟨80, _⟩ => ⟨S1x64x128, .f32⟩
  | .hbm, ⟨81, _⟩ => ⟨S1x64x128, .f32⟩
  | .hbm, ⟨82, _⟩ => ⟨S1x64x128, .f32⟩
  | .hbm, ⟨83, _⟩ => ⟨S3x64x128, .f32⟩
  | .hbm, ⟨84, _⟩ => ⟨S1024x1024, .f32⟩
  | .hbm, ⟨85, _⟩ => ⟨S_, .f32⟩
  | .hbm, ⟨86, _⟩ => ⟨S1024x1024, .f32⟩
  | .hbm, ⟨87, _⟩ => ⟨S1024x1024, .f32⟩
  | .hbm, ⟨88, _⟩ => ⟨S1024x512, .f32⟩
  | .hbm, ⟨89, _⟩ => ⟨S1024x1536, .f32⟩
  | .hbm, ⟨90, _⟩ => ⟨S1024x1536, .bf16⟩
  | .hbm, ⟨91, _⟩ => ⟨S1x1024, .f32⟩
  | .hbm, ⟨92, _⟩ => ⟨S4x1x6144, .f32⟩
  | .hbm, ⟨93, _⟩ => ⟨S4x1x6144, .f32⟩
  | .hbm, ⟨94, _⟩ => ⟨S_, .f32⟩
  | .hbm, ⟨95, _⟩ => ⟨S4x6x6144, .f32⟩
  | .hbm, ⟨96, _⟩ => ⟨S4x8x6144, .f32⟩
  | .hbm, ⟨97, _⟩ => ⟨S16640x1536, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1x8x6144, .f32⟩
  | .local _ .vmem, ⟨4, _⟩ => ⟨S1024x1536, .bf16⟩
  | .local _ .vmem, ⟨5, _⟩ => ⟨S3x260x128, .f32⟩
  | .local _ .vmem, ⟨6, _⟩ => ⟨S3x64x128, .f32⟩
  | .local _ .vmem, ⟨7, _⟩ => ⟨S640x1536, .bf16⟩
  | .local _ .vmem, ⟨8, _⟩ => ⟨S640x1536, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v10 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v36 : Ref sig .tc := ⟨.hbm, 62, rfl⟩
abbrev main_cst_6 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_7 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![26], ![false]⟩

def k0_off1 (i : grid0.Coords) (c0_i32 : BitVec 32) : Fin 3 → Nat :=
  let c0_33 : Index := 0#32
  let arg0 : BitVec 32 := BitVec.ofNat 32 (i 0).val
  let c10_i32 : BitVec 32 := 10#32
  let v63 : BitVec 32 := Scalar.muli arg0 c10_i32
  let v64 : BitVec 32 := Scalar.addi v63 c0_i32
  let v65 : Index := Scalar.indexCast v64
  let c0_34 : Index := 0#32
  ![0, v65.toNat, 0]
def k0_off2 (i : grid0.Coords) (c0_i32_112 : BitVec 32) : Fin 3 → Nat :=
  let c1_113 : Index := 1#32
  let arg0 : BitVec 32 := BitVec.ofNat 32 (i 0).val
  let c10_i32 : BitVec 32 := 10#32
  let v63 : BitVec 32 := Scalar.muli arg0 c10_i32
  let v185 : BitVec 32 := Scalar.addi v63 c0_i32_112
  let v186 : Index := Scalar.indexCast v185
  let c0_114 : Index := 0#32
  ![1, v186.toNat, 0]
def k0_off3 (i : grid0.Coords) (c0_i32_202 : BitVec 32) : Fin 3 → Nat :=
  let c2 : Index := 2#32
  let arg0 : BitVec 32 := BitVec.ofNat 32 (i 0).val
  let c10_i32 : BitVec 32 := 10#32
  let v63 : BitVec 32 := Scalar.muli arg0 c10_i32
  let v306 : BitVec 32 := Scalar.addi v63 c0_i32_202
  let v307 : Index := Scalar.indexCast v306
  let c0_203 : Index := 0#32
  ![2, v307.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x260x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel6Ideal.lean ====
variable {F : FTy → Type} [FloatOps F] [Named F]
def κ : String → Option EReal := fun
  | "l2e" => some (((Real.log 2)⁻¹ : ℝ) : EReal)
  | _ => none
-- ==== Reference6Ideal.lean ====
abbrev S16640x1024 : Shape := ⟨2, ![16640, 1024]⟩
abbrev S1024 : Shape := ⟨1, ![1024]⟩
abbrev S4x6144 : Shape := ⟨2, ![4, 6144]⟩
abbrev S1024x1536 : Shape := ⟨2, ![1024, 1536]⟩
abbrev S256x16 : Shape := ⟨2, ![256, 16]⟩
abbrev S64x16 : Shape := ⟨2, ![64, 16]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16384x1024 : Shape := ⟨2, ![16384, 1024]⟩
abbrev S256x1024 : Shape := ⟨2, ![256, 1024]⟩
abbrev S16640x1536 : Shape := ⟨2, ![16640, 1536]⟩
abbrev S16640x1280 : Shape := ⟨2, ![16640, 1280]⟩
abbrev S16640x256 : Shape := ⟨2, ![16640, 256]⟩
abbrev S16640x20x64 : Shape := ⟨3, ![16640, 20, 64]⟩
abbrev S16384x20x64 : Shape := ⟨3, ![16384, 20, 64]⟩
abbrev S256x32 : Shape := ⟨2, ![256, 32]⟩
abbrev S64x32 : Shape := ⟨2, ![64, 32]⟩
abbrev S256x1x32 : Shape := ⟨3, ![256, 1, 32]⟩
abbrev S256x64x32 : Shape := ⟨3, ![256, 64, 32]⟩
abbrev S16384x32 : Shape := ⟨2, ![16384, 32]⟩
abbrev S1x64x32 : Shape := ⟨3, ![1, 64, 32]⟩
abbrev S16384x64 : Shape := ⟨2, ![16384, 64]⟩
abbrev S16384x1x64 : Shape := ⟨3, ![16384, 1, 64]⟩
abbrev S16384x20x32 : Shape := ⟨3, ![16384, 20, 32]⟩
abbrev S16384x20x16 : Shape := ⟨3, ![16384, 20, 16]⟩
abbrev S256x20x64 : Shape := ⟨3, ![256, 20, 64]⟩
abbrev S16640x16x64 : Shape := ⟨3, ![16640, 16, 64]⟩
abbrev S16640x4x64 : Shape := ⟨3, ![16640, 4, 64]⟩

abbrev nBuf : Space → Nat
  | .hbm => 113
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S4x6144, .f32⟩
  | .hbm, ⟨3, _⟩ => ⟨S4x6144, .f32⟩
  | .hbm, ⟨4, _⟩ => ⟨S1024x1536, .f32⟩
  | .hbm, ⟨5, _⟩ => ⟨S256x16, .f32⟩
  | .hbm, ⟨6, _⟩ => ⟨S256x16, .f32⟩
  | .hbm, ⟨7, _⟩ => ⟨S64x16, .f32⟩
  | .hbm, ⟨8, _⟩ => ⟨S64x16, .f32⟩
  | .hbm, ⟨9, _⟩ => ⟨S16640x1024, .f32⟩
  | .hbm, ⟨10, _⟩ => ⟨S_, .f32⟩
  | .hbm, ⟨11, _⟩ => ⟨S16640, .f32⟩
  | .hbm, ⟨12, _⟩ => ⟨S16640x1, .f32⟩
  | .hbm, ⟨13, _⟩ => ⟨S_, .f32⟩
  | .hbm, ⟨14, _⟩ => ⟨S16640x1, .f32⟩
  | .hbm, ⟨15, _⟩ => ⟨S16640x1, .f32⟩
  | .hbm, ⟨16, _⟩ => ⟨S_, .f32⟩
  | .hbm, ⟨17, _⟩ => ⟨S16640x1, .f32⟩
  | .hbm, ⟨18, _⟩ => ⟨S16640x1, .f32⟩
  | .hbm, ⟨19, _⟩ => ⟨S16640x1, .f32⟩
  | .hbm, ⟨20, _⟩ => ⟨S16640x1024, .f32⟩
  | .hbm, ⟨21, _⟩ => ⟨S16640x1024, .f32⟩
  | .hbm, ⟨22, _⟩ => ⟨S1x1024, .f32⟩
  | .hbm, ⟨23, _⟩ => ⟨S16640x1024, .f32⟩
  | .hbm, ⟨24, _⟩ => ⟨S16640x1024, .f32⟩
  | .hbm, ⟨25, _⟩ => ⟨S16384x1024, .f32⟩
  | .hbm, ⟨26, _⟩ => ⟨S1x1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S256x1024, .f32⟩
  | .hbm, ⟨40, _⟩ => ⟨S1x1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S256x1024, .f32⟩
  | .hbm, ⟨47, _⟩ => ⟨S256x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S256x1024, .f32⟩
  | .hbm, ⟨52, _⟩ => ⟨S256x1024, .f32⟩
  | .hbm, ⟨53, _⟩ => ⟨S16640x1024, .f32⟩
  | .hbm, ⟨54, _⟩ => ⟨S16640x1536, .f32⟩
  | .hbm, ⟨55, _⟩ => ⟨S16640x1280, .f32⟩
  | .hbm, ⟨56, _⟩ => ⟨S16640x256, .f32⟩
  | .hbm, ⟨57, _⟩ => ⟨S16640x20x64, .f32⟩
  | .hbm, ⟨58, _⟩ => ⟨S16384x20x64, .f32⟩
  | .hbm, ⟨59, _⟩ => ⟨S256x32, .f32⟩
  | .hbm, ⟨60, _⟩ => ⟨S64x32, .f32⟩
  | .hbm, ⟨61, _⟩ => ⟨S256x1x32, .f32⟩
  | .hbm, ⟨62, _⟩ => ⟨S256x64x32, .f32⟩
  | .hbm, ⟨63, _⟩ => ⟨S16384x32, .f32⟩
  | .hbm, ⟨64, _⟩ => ⟨S1x64x32, .f32⟩
  | .hbm, ⟨65, _⟩ => ⟨S256x64x32, .f32⟩
  | .hbm, ⟨66, _⟩ => ⟨S16384x32, .f32⟩
  | .hbm, ⟨67, _⟩ => ⟨S16384x64, .f32⟩
  | .hbm, ⟨68, _⟩ => ⟨S16384x1x64, .f32⟩
  | .hbm, ⟨69, _⟩ => ⟨S256x32, .f32⟩
  | .hbm, ⟨70, _⟩ => ⟨S64x32, .f32⟩
  | .hbm, ⟨71, _⟩ => ⟨S256x1x32, .f32⟩
  | .hbm, ⟨72, _⟩ => ⟨S256x64x32, .f32⟩
  | .hbm, ⟨73, _⟩ => ⟨S16384x32, .f32⟩
  | .hbm, ⟨74, _⟩ => ⟨S1x64x32, .f32⟩
  | .hbm, ⟨75, _⟩ => ⟨S256x64x32, .f32⟩
  | .hbm, ⟨76, _⟩ => ⟨S16384x32, .f32⟩
  | .hbm, ⟨77, _⟩ => ⟨S16384x64, .f32⟩
  | .hbm, ⟨78, _⟩ => ⟨S16384x1x64, .f32⟩
  | .hbm, ⟨79, _⟩ => ⟨S16384x20x32, .f32⟩
  | .hbm, ⟨80, _⟩ => ⟨S16384x20x32, .f32⟩
  | .hbm, ⟨81, _⟩ => ⟨S16384x20x16, .f32⟩
  | .hbm, ⟨82, _⟩ => ⟨S16384x20x16, .f32⟩
  | .hbm, ⟨83, _⟩ => ⟨S16384x20x16, .f32⟩
  | .hbm, ⟨84, _⟩ => ⟨S16384x20x32, .f32⟩
  | .hbm, ⟨85, _⟩ => ⟨S16384x20x16, .f32⟩
  | .hbm, ⟨86, _⟩ => ⟨S16384x20x16, .f32⟩
  | .hbm, ⟨87, _⟩ => ⟨S16384x20x16, .f32⟩
  | .hbm, ⟨88, _⟩ => ⟨S16384x20x32, .f32⟩
  | .hbm, ⟨89, _⟩ => ⟨S16384x20x64, .f32⟩
  | .hbm, ⟨90, _⟩ => ⟨S16384x20x64, .f32⟩
  | .hbm, ⟨91, _⟩ => ⟨S16384x20x64, .f32⟩
  | .hbm, ⟨92, _⟩ => ⟨S16384x20x64, .f32⟩
  | .hbm, ⟨93, _⟩ => ⟨S16384x20x64, .f32⟩
  | .hbm, ⟨94, _⟩ => ⟨S16384x20x64, .f32⟩
  | .hbm, ⟨95, _⟩ => ⟨S256x20x64, .f32⟩
  | .hbm, ⟨96, _⟩ => ⟨S16640x20x64, .f32⟩
  | .hbm, ⟨97, _⟩ => ⟨S16640x16x64, .f32⟩
  | .hbm, ⟨98, _⟩ => ⟨S16640x4x64, .f32⟩
  | .hbm, ⟨99, _⟩ => ⟨S_, .f32⟩
  | .hbm, ⟨100, _⟩ => ⟨S16640x16x64, .f32⟩
  | .hbm, ⟨101, _⟩ => ⟨S16640x16x64, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S16640x16x64, .f32⟩
  | .hbm, ⟨108, _⟩ => ⟨S16640x16x64, .f32⟩
  | .hbm, ⟨109, _⟩ => ⟨S16640x1024, .f32⟩
  | .hbm, ⟨110, _⟩ => ⟨S16640x256, .f32⟩
  | .hbm, ⟨111, _⟩ => ⟨S16640x1536, .f32⟩
  | .hbm, ⟨112, _⟩ => ⟨S16640x1536, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_4 : Ref sig .tc := ⟨.hbm, 99, rfl⟩
abbrev main_v85 : Ref sig .tc := ⟨.hbm, 100, rfl⟩
abbrev main_v86 : Ref sig .tc := ⟨.hbm, 101, rfl⟩
abbrev main_cst_5 : Ref sig .tc := ⟨.hbm, 102, rfl⟩
abbrev main_v87 : Ref sig .tc := ⟨.hbm, 103, rfl⟩
abbrev main_cst_6 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩

abbrev nD : Nat := 1
abbrev τ : Topo := Topo.v7x

variable {F : FTy → Type} [FloatOps F]
-- ==== Proof.Soft.lean ====
module

public import Idealize.ShloMosaic.PureOps.Ideal
public import Mathlib.Data.EReal.Inv

@[expose] public section

/-! A softmax row with a sink, over the keys of a window and in powers of two, against the same row over all
keys and in powers of e: the keys left out have the score `⊥`. -/

noncomputable section
namespace Cert.Soft

open Idealize.ShloMosaic

/-- The factor between the natural and the binary logarithm. -/
abbrev l2e : EReal := (((Real.log 2)⁻¹ : ℝ) : EReal)

theorem log_two_pos : (0 : ℝ) < (Real.log 2)⁻¹ := inv_pos.2 (Real.log_pos one_lt_two)

theorem l2e_nonneg : (0 : EReal) ≤ l2e := EReal.coe_nonneg.2 log_two_pos.le

theorem exp2_scaled (x : EReal) : Ideal.exp2 (x * l2e) = Ideal.exp x := by
  induction x with
  | bot => rw [EReal.bot_mul_coe_of_pos log_two_pos]; rfl
  | top => rw [EReal.top_mul_coe_of_pos log_two_pos]; rfl
  | coe r =>
    rw [← EReal.coe_mul, Ideal.exp2_coe, Ideal.exp_coe]
    congr 1
    show (2 : ℝ) ^ (r * (Real.log 2)⁻¹) = Real.exp r
    rw [Real.rpow_def_of_pos two_pos, mul_comm, mul_assoc, inv_mul_cancel₀ (Real.log_pos one_lt_two).ne', mul_one]

theorem sub_scaled (x y : EReal) : x * l2e - y * l2e = (x - y) * l2e := by
  rw [sub_eq_add_neg, sub_eq_add_neg, EReal.right_distrib_of_nonneg_of_ne_top l2e_nonneg (EReal.coe_ne_top _),
    EReal.neg_mul]

theorem exp2_sub (x y : EReal) : Ideal.exp2 (x * l2e - y * l2e) = Ideal.exp (x - y) := by
  rw [sub_scaled, exp2_scaled]

theorem exp_nonneg (x : EReal) : 0 ≤ Ideal.exp x := by
  induction x with
  | bot => exact le_refl _
  | top => exact le_top
  | coe r => rw [Ideal.exp_coe]; exact_mod_cast (Real.exp_pos r).le

theorem sum_mul {ι : Type} (s : Finset ι) (f : ι → EReal) (y : EReal) (h0 : 0 ≤ y) (ht : y ≠ ⊤) :
    (∑ k ∈ s, f k) * y = ∑ k ∈ s, f k * y := by
  classical
  induction s using Finset.induction_on with
  | empty => simp
  | insert a s ha ih => rw [Finset.sum_insert ha, Finset.sum_insert ha, EReal.right_distrib_of_nonneg_of_ne_top h0 ht, ih]

variable {N : ℕ} {J : Type} [Fintype J]

/-- The greatest score of a row. -/
def top (S : Fin (N + 1) → EReal) : EReal := Finset.univ.fold max ⊥ S

/-- The row's normalised weights, applied to the values. -/
def att (S : Fin (N + 1) → EReal) (v : Fin N → EReal) : EReal :=
  ∑ k, v k * Ideal.div (Ideal.exp (S k.castSucc - top S)) (∑ k, Ideal.exp (S k - top S))

/-- The greatest score of a window row and its sink. -/
def wtop (T : J → EReal) (z : EReal) : EReal := max (Finset.univ.fold max ⊥ T) z

/-- The window row: the weights in powers of two applied to the values, then normalised. -/
def win (T : J → EReal) (z : EReal) (w : J → EReal) : EReal :=
  Ideal.div (∑ j, Ideal.exp2 (T j - wtop T z) * w j)
    (∑ j, Ideal.exp2 (T j - wtop T z) + Ideal.exp2 (z - wtop T z))

section
variable (P : J → Prop) [DecidablePred P] (g : J → Fin N) (S : Fin (N + 1) → EReal) (T : J → EReal)
  (off : ∀ k, (∀ j, P j → g j ≠ k) → S k.castSucc = ⊥)
  (hT : ∀ j, T j = if P j then S (g j).castSucc * l2e else ⊥)

include off hT in
theorem wtop_eq : wtop T (S (Fin.last N) * l2e) = top S * l2e := by
  have hle : ∀ k, S k ≤ top S := fun k => (Finset.fold_max_le (top S)).1 le_rfl |>.2 k (Finset.mem_univ k)
  have up : ∀ k, S k * l2e ≤ top S * l2e := fun k => mul_le_mul_of_nonneg_right (hle k) l2e_nonneg
  refine le_antisymm (max_le ((Finset.fold_max_le _).2 ⟨bot_le, fun j _ => ?_⟩) (up _)) ?_
  · rw [hT j]; split
    · exact up _
    · exact bot_le
  rcases (Finset.le_fold_max (top S)).1 (le_refl (top S)) with h | ⟨k, _, h⟩
  · rw [le_bot_iff.1 h, EReal.bot_mul_coe_of_pos log_two_pos]; exact bot_le
  refine (mul_le_mul_of_nonneg_right h l2e_nonneg).trans ?_
  induction k using Fin.lastCases with
  | last => exact le_max_right _ _
  | cast k =>
    by_cases hk : ∃ j, P j ∧ g j = k
    · obtain ⟨j, hj, rfl⟩ := hk
      refine le_trans ?_ (le_max_left _ _)
      exact (Finset.le_fold_max _).2 (Or.inr ⟨j, Finset.mem_univ j, by rw [hT j, if_pos hj]⟩)
    · rw [off k fun j hj e => hk ⟨j, hj, e⟩, EReal.bot_mul_coe_of_pos log_two_pos]; exact bot_le

variable (inj : ∀ a b, P a → P b → g a = g b → a = b)

include off hT inj in
theorem weigh (M : EReal) (v : Fin N → EReal) (w : J → EReal) (hw : ∀ j, P j → w j = v (g j)) :
    ∑ j, Ideal.exp2 (T j - M * l2e) * w j = ∑ k, Ideal.exp (S k.castSucc - M) * v k := by
  classical
  rw [← Finset.sum_filter_add_sum_filter_not Finset.univ P,
    Finset.sum_eq_zero (s := Finset.univ.filter fun j => ¬P j), add_zero]
  · refine Finset.sum_of_injOn g ?_ (fun _ _ => by simp) ?_ ?_
    · intro a ha b hb e; exact inj a b (by simpa using ha) (by simpa using hb) e
    · intro k _ hk
      rw [off k fun j hj e => hk ⟨j, by simpa using hj, e⟩, EReal.bot_sub, Ideal.exp_bot, zero_mul]
    · intro j hj
      have hj : P j := by simpa using hj
      rw [hT j, if_pos hj, exp2_sub, hw j hj]
  · intro j hj
    have hj : ¬P j := by simpa using hj
    rw [hT j, if_neg hj, EReal.bot_sub, Ideal.exp2_bot, zero_mul]

include off hT inj in
theorem win_eq (fin : ∀ k, S k ≠ ⊤) (sink : S (Fin.last N) ≠ ⊥) (z : EReal) (hz : z = S (Fin.last N) * l2e)
    (v : Fin N → EReal) (w : J → EReal) (hw : ∀ j, P j → w j = v (g j)) : win T z w = att S v := by
  subst hz
  have one := weigh P g S T off hT inj (top S) (fun _ => 1) (fun _ => 1) fun _ _ => rfl
  simp only [mul_one] at one
  rw [win, att, wtop_eq P g S T off hT, weigh P g S T off hT inj _ v w hw, one, exp2_sub, ← Fin.sum_univ_castSucc
    (fun k => Ideal.exp (S k - top S))]
  generalize hD : ∑ k, Ideal.exp (S k - top S) = D
  have hle : ∀ k, S k ≤ top S := fun k => (Finset.fold_max_le (top S)).1 le_rfl |>.2 k (Finset.mem_univ k)
  have hb : top S ≠ ⊥ := fun h => sink (le_bot_iff.1 (h ▸ hle _))
  have hp : 0 < D := by
    rcases (Finset.le_fold_max (top S)).1 (le_refl (top S)) with h | ⟨k, _, h⟩
    · exact absurd (le_bot_iff.1 h) hb
    have e : S k = top S := le_antisymm (hle k) h
    have ht : top S ≠ ⊤ := e ▸ fin k
    rw [← hD]
    refine lt_of_lt_of_le ?_ (Finset.single_le_sum (f := fun k => Ideal.exp (S k - top S)) (fun k _ => exp_nonneg _)
      (Finset.mem_univ k))
    rw [e]
    lift top S to ℝ using ⟨ht, hb⟩ with a
    rw [← EReal.coe_sub, Ideal.exp_coe]
    exact_mod_cast Real.exp_pos _
  have h0 : (0 : EReal) ≤ D⁻¹ := EReal.inv_nonneg_of_nonneg hp.le
  have ht : D⁻¹ ≠ ⊤ := by
    induction D with
    | bot => simp
    | top => simp
    | coe r => rw [← EReal.coe_inv]; exact EReal.coe_ne_top _
  have hd : ∀ x, Ideal.div x D = x * D⁻¹ := fun x => by rw [Ideal.div, if_neg hp.ne']
  simp only [hd]
  rw [sum_mul _ _ _ h0 ht]
  exact Finset.sum_congr rfl fun k _ => by rw [mul_right_comm, mul_comm]
end

end Cert.Soft
end
-- ==== Proof.AttnBits.lean ====
module

public import proofs.«01_k».proof.Proof.Soft
public import proofs.«01_k».proof.Proof.Gen.KernelIdeal.Frame
public import Idealize.ShloMosaic.Lib.Pipeline.ValueKit
public import Idealize.ShloMosaic.Lib.Pointwise

@[expose] public section

set_option maxRecDepth 16384
noncomputable section
namespace Cert.Attn
open Cert.KernelIdeal Cert.KernelIdeal.Gen Idealize.ShloMosaic Idealize.ShloMosaic.TcCoe Idealize.SL.Sem

/-- One of four, by the group a stacked row belongs to. -/
def pick {α : Type} (n : Fin 1024) (a b c d : α) : α :=
  if (n : ℕ) < 256 then a else if (n : ℕ) < 512 then b else if (n : ℕ) < 768 then c else d

/-! What the named constants and the reduction's start are over the extended reals. -/

theorem l2e_named : (Named.named (F := Ideal) (φ := .f32) κ "l2e" 1069066811#32) = Soft.l2e := rfl
theorem mask_named : (Named.named (F := Ideal) (φ := .f32) κ "mask" 4048155338#32) = (⊥ : EReal) := rfl
theorem neg_inf : Ideal.ofBits FTy.f32 4286578688#32 = (⊥ : EReal) := by
  simp [Ideal.ofBits, Ideal.ieee, -Ideal.ofBits.eq_1]
theorem exp2_eq (x : EReal) : FloatOps.exp2 (F := Ideal) (φ := FTy.f32) x = Ideal.exp2 x := rfl

/-- Which rows of the stack lie within the sequence. -/
theorem inside : ∀ (i : Fin 64) (j : Fin 512),
    IntOp.andi
        (IntOp.cmpi CmpIPredicate.sge
          (IntOp.addi (Scalar.subi (Scalar.muli (BitVec.ofNat 32 ↑i) 256#32) 128#32) (BitVec.ofNat 32 ↑j)) 0#32)
        (IntOp.cmpi CmpIPredicate.slt
          (IntOp.addi (Scalar.subi (Scalar.muli (BitVec.ofNat 32 ↑i) 256#32) 128#32) (BitVec.ofNat 32 ↑j)) 16384#32)
      = if 128 ≤ 256 * (i : ℕ) + j ∧ 256 * (i : ℕ) + j < 16512 then 1#1 else 0#1 := by
  decide +kernel

/-- A stacked row's group is its number divided by 256. -/
theorem group_at (n : Fin 1024) :
    k0_pay8 (iota Kind.tc S1024x1 32 [0] iota_S1024x1_d0_w32) (256#32) k0_pay6 k0_pay7 1#32 (ix2 n 0)
      = BitVec.ofNat 32 (n / 256) := by
  pointwise [k0_pay8, k0_pay6, k0_pay7]
  revert n
  decide +kernel

/-- The sink the selects pick is the group's own. -/
theorem pick_sel (n : Fin 1024) (v : BitVec 32) (hv : v = BitVec.ofNat 32 (n / 256)) (a b c d z : EReal) :
    Scalar.select (IntOp.cmpi CmpIPredicate.eq v 3#32) (d * Soft.l2e)
      (Scalar.select (IntOp.cmpi CmpIPredicate.eq v 2#32) (c * Soft.l2e)
        (Scalar.select (IntOp.cmpi CmpIPredicate.eq v 1#32) (b * Soft.l2e)
          (Scalar.select (IntOp.cmpi CmpIPredicate.eq v 0#32) (a * Soft.l2e) z)))
      = pick n a b c d * Soft.l2e := by
  have h : (n : ℕ) / 256 = 0 ∨ (n : ℕ) / 256 = 1 ∨ (n : ℕ) / 256 = 2 ∨ (n : ℕ) / 256 = 3 := by omega
  unfold pick
  subst hv
  rcases h with h | h | h | h <;> rw [h]
  · rw [if_pos (by omega)]; rfl
  · rw [if_neg (by omega), if_pos (by omega)]; rfl
  · rw [if_neg (by omega), if_neg (by omega), if_pos (by omega)]; rfl
  · rw [if_neg (by omega), if_neg (by omega), if_neg (by omega)]; rfl

end Cert.Attn
end
-- ==== Proof.AttnHead.lean ====
module

public import proofs.«01_k».proof.Proof.AttnBits
public import proofs.«01_k».proof.Proof.Gen.KernelIdeal.Frame
public import Idealize.ShloMosaic.Lib.Pipeline.ValueKit
public import Idealize.ShloMosaic.Lib.Pointwise

@[expose] public section

set_option maxRecDepth 16384
noncomputable section
namespace Cert.Attn
open Cert.KernelIdeal Cert.KernelIdeal.Gen Idealize.ShloMosaic Idealize.ShloMosaic.TcCoe Idealize.SL.Sem

/-- A row of the key and value stack: previous 128 rows, current 256, next 128, context 256. -/
def kv (x1 : Vec Ideal S256x512 .bf16) (x2 x3 : Vec Ideal S128x512 .bf16) (x4 : Vec Ideal S256x512 .bf16)
    (j : Fin 768) (n : Fin 512) : EReal :=
  if h : (j : ℕ) < 128 then x2 (ix2 ⟨j, h⟩ n) else if h1 : (j : ℕ) - 128 < 256 then x1 (ix2 ⟨j - 128, h1⟩ n)
  else if h2 : (j : ℕ) - 128 - 256 < 128 then x3 (ix2 ⟨j - 128 - 256, h2⟩ n)
  else x4 (ix2 ⟨j - 128 - 256 - 128, by omega⟩ n)

theorem pay4_at (x1 : Vec Ideal S256x512 .bf16) (x2 x3 : Vec Ideal S128x512 .bf16) (x4 : Vec Ideal S256x512 .bf16)
    (j : Fin 768) (n : Fin 512) : k0_pay4 x2 x1 x3 x4 (ix2 j n) = kv x1 x2 x3 x4 j n := by
  pointwise [k0_pay4, kv]

/-- A row of four stacked blocks. -/
def stk (q0 q1 q2 q3 : Vec Ideal S256x64 .bf16) (n : Fin 1024) (d : Fin 64) : EReal :=
  if h : (n : ℕ) < 256 then q0 (ix2 ⟨n, h⟩ d) else if h1 : (n : ℕ) - 256 < 256 then q1 (ix2 ⟨n - 256, h1⟩ d)
  else if h2 : (n : ℕ) - 256 - 256 < 256 then q2 (ix2 ⟨n - 256 - 256, h2⟩ d)
  else q3 (ix2 ⟨n - 256 - 256 - 256, by omega⟩ d)

theorem dot0_at (v8 : FVec Ideal S768x512 .bf16) (q0 q1 q2 q3 : Vec Ideal S256x64 .bf16) (n : Fin 1024) (j : Fin 768) :
    k0_pay9 v8 q0 q1 q2 q3 (ix2 n j)
      = ∑ d : Fin 64, stk q0 q1 q2 q3 n d * v8 (ix2 j ⟨0 + d, by omega⟩) := by
  pointwise [k0_pay9, stk]

theorem dot1_at (v8 : FVec Ideal S768x512 .bf16) (q0 q1 q2 q3 : Vec Ideal S256x64 .bf16) (n : Fin 1024) (j : Fin 768) :
    k0_pay10 v8 q0 q1 q2 q3 (ix2 n j)
      = ∑ d : Fin 64, stk q0 q1 q2 q3 n d * v8 (ix2 j ⟨64 + d, by omega⟩) := by
  pointwise [k0_pay10, stk]

theorem dot2_at (v8 : FVec Ideal S768x512 .bf16) (q0 q1 q2 q3 : Vec Ideal S256x64 .bf16) (n : Fin 1024) (j : Fin 768) :
    k0_pay18 v8 q0 q1 q2 q3 (ix2 n j)
      = ∑ d : Fin 64, stk q0 q1 q2 q3 n d * v8 (ix2 j ⟨128 + d, by omega⟩) := by
  pointwise [k0_pay18, stk]

theorem dot3_at (v8 : FVec Ideal S768x512 .bf16) (q0 q1 q2 q3 : Vec Ideal S256x64 .bf16) (n : Fin 1024) (j : Fin 768) :
    k0_pay29 (k0_pay26 v8) (k0_pay27 q0) (k0_pay28 q1) q2 q3 (ix2 n j)
      = ∑ d : Fin 64, stk q0 q1 q2 q3 n d * v8 (ix2 j ⟨192 + d, by omega⟩) := by
  pointwise [k0_pay29, k0_pay26, k0_pay27, k0_pay28, stk]

/-- The band and the sequence's ends, added to the scores. -/
def msk (i : grid0.Coords) (x5 : Vec Ideal S256x512 .f32) (r : Fin 256) (j : Fin 512) : EReal :=
  x5 (ix2 r j) + if 128 ≤ 256 * (i 0 : ℕ) + j ∧ 256 * (i 0 : ℕ) + j < 16512 then (0 : EReal) else ⊥

theorem pay5_at (i : grid0.Coords) (x5 : Vec Ideal S256x512 .f32) (n : Fin 1024) (j : Fin 512) :
    k0_pay5 i x5 (ix2 n j) = msk i x5 ⟨n % 256, by omega⟩ j := by
  have e := inside (i 0) j
  have f (b : Prop) [Decidable b] : Scalar.select (if b then 1#1 else 0#1) (0 : EReal) (⊥ : EReal) = if b then (0 : EReal) else ⊥ := by
    split <;> rfl
  pointwise [k0_pay5, msk]
  rw [mask_named, e, f]
  have g (a : ℕ) (ha : a < 256) (h : a = n % 256) : x5 (ix2 ⟨a, ha⟩ j) = x5 (ix2 ⟨n % 256, by omega⟩ j) := by
    subst h
    rfl
  split
  · rw [g _ _ (by omega)]
  split
  · rw [g _ _ (by omega)]
  split
  · rw [g _ _ (by omega)]
  · rw [g _ _ (by omega)]

/-- The biased scores of a row. -/
def bia (b : Fin 512 → EReal) (s : Fin 768 → EReal) (j : Fin 768) : EReal :=
  if h : (j : ℕ) < 512 then s j + b ⟨j, h⟩ else s ⟨512 + (j - 512), by omega⟩

theorem bia0_at (v8 : FVec Ideal S768x512 .bf16) (v26 : FVec Ideal S1024x512 .f32) (q0 q1 q2 q3 : Vec Ideal S256x64 .bf16)
    (n : Fin 1024) (j : Fin 512) :
    k0_pay12 v8 v26 q0 q1 q2 q3 (ix2 n j) = k0_pay9 v8 q0 q1 q2 q3 (ix2 n ⟨j, by omega⟩) + v26 (ix2 n j) := by
  unfold k0_pay12
  generalize k0_pay9 v8 q0 q1 q2 q3 = w
  pointwise []

theorem bia0'_at (v8 : FVec Ideal S768x512 .bf16) (q0 q1 q2 q3 : Vec Ideal S256x64 .bf16)
    (n : Fin 1024) (j : Fin 256) :
    k0_pay13 v8 q0 q1 q2 q3 (ix2 n j) = k0_pay9 v8 q0 q1 q2 q3 (ix2 n ⟨512 + j, by omega⟩) := by
  unfold k0_pay13
  generalize k0_pay9 v8 q0 q1 q2 q3 = w
  pointwise []

theorem bia1_at (v26 : FVec Ideal S1024x512 .f32) (w : FVec Ideal S1024x768 .f32) (n : Fin 1024) (j : Fin 768) :
    k0_pay20 v26 w (ix2 n j) = bia (fun j => v26 (ix2 n j)) (fun j => w (ix2 n j)) j := by
  pointwise [k0_pay20, bia]

theorem bia2_at (v26 : FVec Ideal S1024x512 .f32) (w : FVec Ideal S1024x768 .f32) (n : Fin 1024) (j : Fin 768) :
    k0_pay31 v26 w (ix2 n j) = bia (fun j => v26 (ix2 n j)) (fun j => w (ix2 n j)) j := by
  pointwise [k0_pay31, bia]

theorem bia3_at (v26 : FVec Ideal S1024x512 .f32) (w : FVec Ideal S1024x768 .f32) (n : Fin 1024) (j : Fin 768) :
    k0_pay39 v26 w (ix2 n j) = bia (fun j => v26 (ix2 n j)) (fun j => w (ix2 n j)) j := by
  pointwise [k0_pay39, bia]

theorem pay35_at (V : FVec Ideal S768x64 .bf16) (z M : FVec Ideal S1024x1 .f32) (E : FVec Ideal S1024x768 .f32)
    (n : Fin 1024) (e : Fin 64) :
    k0_pay35 V z M E (ix2 n e) = Ideal.div (∑ j, E (ix2 n j) * V (ix2 j e))
      (∑ j, E (ix2 n j) + Ideal.exp2 (z (ix2 n 0) - M (ix2 n 0))) := by
  pointwise [k0_pay35]
  simp only [exp2_eq]

theorem fold_at (T : FVec Ideal S1024x768 .f32) (n : Fin 1024) :
    multiReduction .maximumf [1] S1024 T 0xFF800000#32 reduces_S1024x768_S1024 (.inl rfl) rfl (ix1 n)
      = Finset.univ.fold max (⊥ : EReal) fun j => T (ix2 n j) := by
  pointwise []
  rw [neg_inf]

theorem max2_at (r : FVec Ideal S1024 .f32) (z : FVec Ideal S1024x1 .f32) (n : Fin 1024) :
    maximumf (shapeCast S1024x1 r shapeCasts_S1024_S1024x1) z (ix2 n 0) = max (r (ix1 n) : EReal) (z (ix2 n 0)) := by
  pointwise []

theorem max_at (T : FVec Ideal S1024x768 .f32) (z : FVec Ideal S1024x1 .f32) (n : Fin 1024) :
    maximumf (shapeCast S1024x1 (multiReduction .maximumf [1] S1024 T 0xFF800000#32 reduces_S1024x768_S1024 (.inl rfl) rfl)
      shapeCasts_S1024_S1024x1) z (ix2 n 0) = Soft.wtop (fun j => T (ix2 n j)) (z (ix2 n 0)) := by
  rw [max2_at, fold_at]
  rfl

theorem exp_at (T : FVec Ideal S1024x768 .f32) (M : FVec Ideal S1024x1 .f32) (n : Fin 1024) (j : Fin 768) :
    exp2 (subf T (broadcastTo S1024x768 M broadcasts_S1024x1_S1024x768)) (ix2 n j)
      = Ideal.exp2 (T (ix2 n j) - M (ix2 n 0)) := by
  pointwise []
  rfl

/-- The weighing of a row's values, for any scores, sink and values. -/
theorem soft_at (V : FVec Ideal S768x64 .bf16) (z M : FVec Ideal S1024x1 .f32) (T E : FVec Ideal S1024x768 .f32)
    (hM : M = maximumf (shapeCast S1024x1 (multiReduction .maximumf [1] S1024 T 0xFF800000#32 reduces_S1024x768_S1024 (.inl rfl) rfl)
      shapeCasts_S1024_S1024x1) z)
    (hE : E = exp2 (subf T (broadcastTo S1024x768 M broadcasts_S1024x1_S1024x768)))
    (n : Fin 1024) (e : Fin 64) :
    k0_pay35 V z M E (ix2 n e) = Soft.win (fun j => T (ix2 n j)) (z (ix2 n 0)) (fun j => V (ix2 j e)) := by
  have h0 : M (ix2 n 0) = Soft.wtop (fun j => T (ix2 n j)) (z (ix2 n 0)) := by rw [hM, max_at]
  have h1 (j : Fin 768) : E (ix2 n j) = Ideal.exp2 (T (ix2 n j) - M (ix2 n 0)) := by rw [hE, exp_at]
  rw [pay35_at]
  simp only [h1, h0]
  rfl

theorem win1_at (v51 : IVec S1024x1 32) (v140 : FVec Ideal S768x64 .bf16) (v144 : FVec Ideal S1024x768 .f32)
    (a b c d : Elt Ideal .f32) (n : Fin 1024) (e : Fin 64) (hv : v51 (ix2 n 0) = BitVec.ofNat 32 (n / 256)) :
    k0_pay23 v51 v140 v144 (k0_pay21 v51 a b) k0_pay22 c d (ix2 n e)
      = Soft.win (fun j => v144 (ix2 n j)) (pick n a b c d * Soft.l2e) (fun j => v140 (ix2 j e)) := by
  rw [← pick_sel n _ hv a b c d 0]
  refine (soft_at v140 _ _ v144 _ rfl rfl n e).trans ?_
  congr 1
  pointwise [k0_pay21, k0_pay22]
  simp only [l2e_named]

theorem win0_at (v51 : IVec S1024x1 32) (v74 : FVec Ideal S768x64 .bf16) (v76 : FVec Ideal S1024x512 .f32) (v77 : FVec Ideal S1024x256 .f32)
    (a b c d : Elt Ideal .f32) (n : Fin 1024) (e : Fin 64) (hv : v51 (ix2 n 0) = BitVec.ofNat 32 (n / 256)) :
    k0_pay14 v51 v74 v76 v77 a b c d (ix2 n e)
      = Soft.win (fun j : Fin 768 => if h : (j : ℕ) < 512 then v76 (ix2 n ⟨j, h⟩) else v77 (ix2 n ⟨j - 512, by omega⟩)) (pick n a b c d * Soft.l2e) (fun j => v74 (ix2 j e)) := by
  rw [← pick_sel n _ hv a b c d 0]
  refine (soft_at v74 _ _ _ _ rfl rfl n e).trans ?_
  congr 1
  · funext j
    pointwise []
  pointwise []
  simp only [l2e_named]

theorem win3_at (v51 : IVec S1024x1 32) (v261 : FVec Ideal S768x64 .bf16) (v265 : FVec Ideal S1024x768 .f32)
    (a b c d : Elt Ideal .f32) (n : Fin 1024) (e : Fin 64) (hv : v51 (ix2 n 0) = BitVec.ofNat 32 (n / 256)) :
    k0_pay1 v51 v261 v265 (k0_pay40 v51 a b) (k0_pay41 v51) (k0_pay42 c) d (ix2 n e)
      = Soft.win (fun j => v265 (ix2 n j)) (pick n a b c d * Soft.l2e) (fun j => v261 (ix2 j e)) := by
  rw [← pick_sel n _ hv a b c d 0]
  refine (soft_at v261 _ _ v265 _ rfl rfl n e).trans ?_
  congr 1
  pointwise [k0_pay40, k0_pay41, k0_pay42]
  simp only [l2e_named]

theorem win2_at (v51 : IVec S1024x1 32) (v206 : FVec Ideal S768x64 .bf16) (v26 : FVec Ideal S1024x512 .f32) (v139 : FVec Ideal S1024x768 .f32)
    (a b c d : Elt Ideal .f32) (n : Fin 1024) (e : Fin 64) (hv : v51 (ix2 n 0) = BitVec.ofNat 32 (n / 256)) :
    k0_pay35 v206 (k0_pay32 v51 a b c d) (k0_pay33 v26 v51 v139 a b c d) (k0_pay34 v26 v51 v139 a b c d) (ix2 n e)
      = Soft.win (fun j => k0_pay31 v26 v139 (ix2 n j)) (pick n a b c d * Soft.l2e) (fun j => v206 (ix2 j e)) := by
  rw [← pick_sel n _ hv a b c d 0]
  refine (soft_at v206 _ _ (k0_pay31 v26 v139) _ rfl rfl n e).trans ?_
  congr 1
  pointwise [k0_pay32]
  simp only [l2e_named]

theorem stk0_at (x0 : Vec Ideal S256x1024 .bf16) (n : Fin 1024) (d : Fin 64) :
    stk (View.ld x0 (Rect.unit ![0, 0] ![256, 64] inb_S256x1024_S256x64_0_0)) (View.ld x0 (Rect.unit ![0, 64] ![256, 64] inb_S256x1024_S256x64_0_64)) (View.ld x0 (Rect.unit ![0, 128] ![256, 64] inb_S256x1024_S256x64_0_128)) (View.ld x0 (Rect.unit ![0, 192] ![256, 64] inb_S256x1024_S256x64_0_192)) n d
      = x0 (ix2 ⟨n % 256, by omega⟩ ⟨0 + 64 * (n / 256) + d, by omega⟩) := by
  unfold stk
  split
  · pointwise []
    blk_ext
  split
  · pointwise []
    blk_ext
  split
  · pointwise []
    blk_ext
  · pointwise []
    blk_ext

theorem stk1_at (x0 : Vec Ideal S256x1024 .bf16) (n : Fin 1024) (d : Fin 64) :
    stk (View.ld x0 (Rect.unit ![0, 256] ![256, 64] inb_S256x1024_S256x64_0_256)) (View.ld x0 (Rect.unit ![0, 320] ![256, 64] inb_S256x1024_S256x64_0_320)) (View.ld x0 (Rect.unit ![0, 384] ![256, 64] inb_S256x1024_S256x64_0_384)) (View.ld x0 (Rect.unit ![0, 448] ![256, 64] inb_S256x1024_S256x64_0_448)) n d
      = x0 (ix2 ⟨n % 256, by omega⟩ ⟨256 + 64 * (n / 256) + d, by omega⟩) := by
  unfold stk
  split
  · pointwise []
    blk_ext
  split
  · pointwise []
    blk_ext
  split
  · pointwise []
    blk_ext
  · pointwise []
    blk_ext

theorem stk2_at (x0 : Vec Ideal S256x1024 .bf16) (n : Fin 1024) (d : Fin 64) :
    stk (View.ld x0 (Rect.unit ![0, 512] ![256, 64] inb_S256x1024_S256x64_0_512)) (View.ld x0 (Rect.unit ![0, 576] ![256, 64] inb_S256x1024_S256x64_0_576)) (View.ld x0 (Rect.unit ![0, 640] ![256, 64] inb_S256x1024_S256x64_0_640)) (View.ld x0 (Rect.unit ![0, 704] ![256, 64] inb_S256x1024_S256x64_0_704)) n d
      = x0 (ix2 ⟨n % 256, by omega⟩ ⟨512 + 64 * (n / 256) + d, by omega⟩) := by
  unfold stk
  split
  · pointwise []
    blk_ext
  split
  · pointwise []
    blk_ext
  split
  · pointwise []
    blk_ext
  · pointwise []
    blk_ext

theorem stk3_at (x0 : Vec Ideal S256x1024 .bf16) (n : Fin 1024) (d : Fin 64) :
    stk (View.ld x0 (Rect.unit ![0, 768] ![256, 64] inb_S256x1024_S256x64_0_768)) (View.ld x0 (Rect.unit ![0, 832] ![256, 64] inb_S256x1024_S256x64_0_832)) (View.ld x0 (Rect.unit ![0, 896] ![256, 64] inb_S256x1024_S256x64_0_896)) (View.ld x0 (Rect.unit ![0, 960] ![256, 64] inb_S256x1024_S256x64_0_960)) n d
      = x0 (ix2 ⟨n % 256, by omega⟩ ⟨768 + 64 * (n / 256) + d, by omega⟩) := by
  unfold stk
  split
  · pointwise []
    blk_ext
  split
  · pointwise []
    blk_ext
  split
  · pointwise []
    blk_ext
  · pointwise []
    blk_ext

theorem sk0_at (x6 : Vec Ideal S16 .f32) : (View.ld x6 (Rect.unit ![0] ![1] inb_S16_S1_0) (Shape.Idx.first (by decide))) = x6 (ix1 0) := by
  pointwise []

theorem sk1_at (x6 : Vec Ideal S16 .f32) : (View.ld x6 (Rect.unit ![1] ![1] inb_S16_S1_1) (Shape.Idx.first (by decide))) = x6 (ix1 1) := by
  pointwise []

theorem sk2_at (x6 : Vec Ideal S16 .f32) : (View.ld x6 (Rect.unit ![2] ![1] inb_S16_S1_2) (Shape.Idx.first (by decide))) = x6 (ix1 2) := by
  pointwise []

theorem sk3_at (x6 : Vec Ideal S16 .f32) : (View.ld x6 (Rect.unit ![3] ![1] inb_S16_S1_3) (Shape.Idx.first (by decide))) = x6 (ix1 3) := by
  pointwise []

theorem sk4_at (x6 : Vec Ideal S16 .f32) : (View.ld x6 (Rect.unit ![4] ![1] inb_S16_S1_4) (Shape.Idx.first (by decide))) = x6 (ix1 4) := by
  pointwise []

theorem sk5_at (x6 : Vec Ideal S16 .f32) : (View.ld x6 (Rect.unit ![5] ![1] inb_S16_S1_5) (Shape.Idx.first (by decide))) = x6 (ix1 5) := by
  pointwise []

theorem sk6_at (x6 : Vec Ideal S16 .f32) : (View.ld x6 (Rect.unit ![6] ![1] inb_S16_S1_6) (Shape.Idx.first (by decide))) = x6 (ix1 6) := by
  pointwise []

theorem sk7_at (x6 : Vec Ideal S16 .f32) : (View.ld x6 (Rect.unit ![7] ![1] inb_S16_S1_7) (Shape.Idx.first (by decide))) = x6 (ix1 7) := by
  pointwise []

theorem sk8_at (x6 : Vec Ideal S16 .f32) : (View.ld x6 (Rect.unit ![8] ![1] inb_S16_S1_8) (Shape.Idx.first (by decide))) = x6 (ix1 8) := by
  pointwise []

theorem sk9_at (x6 : Vec Ideal S16 .f32) : (View.ld x6 (Rect.unit ![9] ![1] inb_S16_S1_9) (Shape.Idx.first (by decide))) = x6 (ix1 9) := by
  pointwise []

theorem sk10_at (x6 : Vec Ideal S16 .f32) : (View.ld x6 (Rect.unit ![10] ![1] inb_S16_S1_10) (Shape.Idx.first (by decide))) = x6 (ix1 10) := by
  pointwise []

theorem sk11_at (x6 : Vec Ideal S16 .f32) : (View.ld x6 (Rect.unit ![11] ![1] inb_S16_S1_11) (Shape.Idx.first (by decide))) = x6 (ix1 11) := by
  pointwise []

theorem sk12_at (x6 : Vec Ideal S16 .f32) : (View.ld x6 (Rect.unit ![12] ![1] inb_S16_S1_12) (Shape.Idx.first (by decide))) = x6 (ix1 12) := by
  pointwise []

theorem sk13_at (x6 : Vec Ideal S16 .f32) : (View.ld x6 (Rect.unit ![13] ![1] inb_S16_S1_13) (Shape.Idx.first (by decide))) = x6 (ix1 13) := by
  pointwise []

theorem sk14_at (x6 : Vec Ideal S16 .f32) : (View.ld x6 (Rect.unit ![14] ![1] inb_S16_S1_14) (Shape.Idx.first (by decide))) = x6 (ix1 14) := by
  pointwise []

theorem sk15_at (x6 : Vec Ideal S16 .f32) : (View.ld x6 (Rect.unit ![15] ![1] inb_S16_S1_15) (Shape.Idx.first (by decide))) = x6 (ix1 15) := by
  pointwise []

/-- The scores of a row of a head: the products with the stacked keys, the first 512 with the mask added. -/
def sc (i : grid0.Coords) (x0 : Vec Ideal S256x1024 .bf16) (x1 : Vec Ideal S256x512 .bf16) (x2 x3 : Vec Ideal S128x512 .bf16)
    (x4 : Vec Ideal S256x512 .bf16) (x5 : Vec Ideal S256x512 .f32) (h : Fin 4) (n : Fin 1024) : Fin 768 → EReal :=
  bia (msk i x5 ⟨n % 256, by omega⟩) fun j => ∑ d : Fin 64,
    x0 (ix2 ⟨n % 256, by omega⟩ ⟨256 * h + 64 * (n / 256) + d, by omega⟩) * kv x1 x2 x3 x4 j ⟨64 * h + d, by omega⟩

/-- What the kernel computes for row `n` (four queries of 256 rows, stacked) of key head `h`. -/
def blk (i : grid0.Coords) (x0 : Vec Ideal S256x1024 .bf16) (x1 : Vec Ideal S256x512 .bf16) (x2 x3 : Vec Ideal S128x512 .bf16)
    (x4 : Vec Ideal S256x512 .bf16) (x5 : Vec Ideal S256x512 .f32) (x6 : Vec Ideal S16 .f32)
    (h : Fin 4) (n : Fin 1024) (e : Fin 64) : EReal :=
  Soft.win (sc i x0 x1 x2 x3 x4 x5 h n) (x6 (ix1 ⟨4 * h + n / 256, by omega⟩) * Soft.l2e)
    fun j => kv x1 x2 x3 x4 j ⟨256 + 64 * h + e, by omega⟩

theorem pick_sink (x6 : Vec Ideal S16 .f32) (h : Fin 4) (n : Fin 1024) :
    pick n (x6 (ix1 ⟨4 * h, by omega⟩)) (x6 (ix1 ⟨4 * h + 1, by omega⟩)) (x6 (ix1 ⟨4 * h + 2, by omega⟩)) (x6 (ix1 ⟨4 * h + 3, by omega⟩))
      = x6 (ix1 ⟨4 * h + n / 256, by omega⟩) := by
  have g (a : ℕ) (ha : a < 16) (e : a = 4 * h + n / 256) : x6 (ix1 ⟨a, ha⟩) = x6 (ix1 ⟨4 * h + n / 256, by omega⟩) := by
    subst e
    rfl
  unfold pick
  split
  · exact g _ _ (by omega)
  split
  · exact g _ _ (by omega)
  split
  · exact g _ _ (by omega)
  · exact g _ _ (by omega)

theorem pick0_at (x6 : Vec Ideal S16 .f32) (n : Fin 1024) :
    pick n (View.ld x6 (Rect.unit ![0] ![1] inb_S16_S1_0) (Shape.Idx.first (by decide))) (View.ld x6 (Rect.unit ![1] ![1] inb_S16_S1_1) (Shape.Idx.first (by decide)))
      (View.ld x6 (Rect.unit ![2] ![1] inb_S16_S1_2) (Shape.Idx.first (by decide))) (View.ld x6 (Rect.unit ![3] ![1] inb_S16_S1_3) (Shape.Idx.first (by decide)))
      = x6 (ix1 ⟨4 * ((0 : Fin 4) : ℕ) + n / 256, by omega⟩) := by
  rw [← pick_sink x6 0 n]
  exact congr (congr (congr (congrArg (pick n) (sk0_at x6)) (sk1_at x6)) (sk2_at x6)) (sk3_at x6)

theorem pick1_at (x6 : Vec Ideal S16 .f32) (n : Fin 1024) :
    pick n (View.ld x6 (Rect.unit ![4] ![1] inb_S16_S1_4) (Shape.Idx.first (by decide))) (View.ld x6 (Rect.unit ![5] ![1] inb_S16_S1_5) (Shape.Idx.first (by decide)))
      (View.ld x6 (Rect.unit ![6] ![1] inb_S16_S1_6) (Shape.Idx.first (by decide))) (View.ld x6 (Rect.unit ![7] ![1] inb_S16_S1_7) (Shape.Idx.first (by decide)))
      = x6 (ix1 ⟨4 * ((1 : Fin 4) : ℕ) + n / 256, by omega⟩) := by
  rw [← pick_sink x6 1 n]
  exact congr (congr (congr (congrArg (pick n) (sk4_at x6)) (sk5_at x6)) (sk6_at x6)) (sk7_at x6)

theorem pick2_at (x6 : Vec Ideal S16 .f32) (n : Fin 1024) :
    pick n (View.ld x6 (Rect.unit ![8] ![1] inb_S16_S1_8) (Shape.Idx.first (by decide))) (View.ld x6 (Rect.unit ![9] ![1] inb_S16_S1_9) (Shape.Idx.first (by decide)))
      (View.ld x6 (Rect.unit ![10] ![1] inb_S16_S1_10) (Shape.Idx.first (by decide))) (View.ld x6 (Rect.unit ![11] ![1] inb_S16_S1_11) (Shape.Idx.first (by decide)))
      = x6 (ix1 ⟨4 * ((2 : Fin 4) : ℕ) + n / 256, by omega⟩) := by
  rw [← pick_sink x6 2 n]
  exact congr (congr (congr (congrArg (pick n) (sk8_at x6)) (sk9_at x6)) (sk10_at x6)) (sk11_at x6)

theorem pick3_at (x6 : Vec Ideal S16 .f32) (n : Fin 1024) :
    pick n (View.ld x6 (Rect.unit ![12] ![1] inb_S16_S1_12) (Shape.Idx.first (by decide))) (View.ld x6 (Rect.unit ![13] ![1] inb_S16_S1_13) (Shape.Idx.first (by decide)))
      (View.ld x6 (Rect.unit ![14] ![1] inb_S16_S1_14) (Shape.Idx.first (by decide))) (View.ld x6 (Rect.unit ![15] ![1] inb_S16_S1_15) (Shape.Idx.first (by decide)))
      = x6 (ix1 ⟨4 * ((3 : Fin 4) : ℕ) + n / 256, by omega⟩) := by
  rw [← pick_sink x6 3 n]
  exact congr (congr (congr (congrArg (pick n) (sk12_at x6)) (sk13_at x6)) (sk14_at x6)) (sk15_at x6)

theorem val0_at (v8 : FVec Ideal S768x512 .bf16) (j : Fin 768) (e : Fin 64) :
    k0_pay11 v8 (ix2 j e) = v8 (ix2 j ⟨256 + e, by omega⟩) := by
  pointwise [k0_pay11]

theorem val1_at (v8 : FVec Ideal S768x512 .bf16) (j : Fin 768) (e : Fin 64) :
    k0_pay19 v8 (ix2 j e) = v8 (ix2 j ⟨320 + e, by omega⟩) := by
  pointwise [k0_pay19]

theorem val2_at (v8 : FVec Ideal S768x512 .bf16) (j : Fin 768) (e : Fin 64) :
    k0_pay30 v8 (ix2 j e) = v8 (ix2 j ⟨384 + e, by omega⟩) := by
  pointwise [k0_pay30]

theorem val3_at (v8 : FVec Ideal S768x512 .bf16) (j : Fin 768) (e : Fin 64) :
    k0_pay38 v8 (ix2 j e) = v8 (ix2 j ⟨448 + e, by omega⟩) := by
  pointwise [k0_pay38]

theorem head1_at (i : grid0.Coords) (x0 : Vec Ideal S256x1024 .bf16) (x1 : Vec Ideal S256x512 .bf16) (x2 x3 : Vec Ideal S128x512 .bf16)
    (x4 : Vec Ideal S256x512 .bf16) (x5 : Vec Ideal S256x512 .f32) (x6 : Vec Ideal S16 .f32)
    (n : Fin 1024) (e : Fin 64) :
    k0_pay23 (k0_pay8 (iota Kind.tc S1024x1 32 [0] iota_S1024x1_d0_w32) (256#32) k0_pay6 k0_pay7 1#32) (k0_pay19 (k0_pay4 x2 x1 x3 x4)) (k0_pay20 (k0_pay5 i x5) (k0_pay10 (k0_pay4 x2 x1 x3 x4) (View.ld x0 (Rect.unit ![0, 256] ![256, 64] inb_S256x1024_S256x64_0_256)) (View.ld x0 (Rect.unit ![0, 320] ![256, 64] inb_S256x1024_S256x64_0_320)) (View.ld x0 (Rect.unit ![0, 384] ![256, 64] inb_S256x1024_S256x64_0_384)) (View.ld x0 (Rect.unit ![0, 448] ![256, 64] inb_S256x1024_S256x64_0_448)))) (k0_pay21 (k0_pay8 (iota Kind.tc S1024x1 32 [0] iota_S1024x1_d0_w32) (256#32) k0_pay6 k0_pay7 1#32) (View.ld x6 (Rect.unit ![4] ![1] inb_S16_S1_4) (Shape.Idx.first (by decide))) (View.ld x6 (Rect.unit ![5] ![1] inb_S16_S1_5) (Shape.Idx.first (by decide)))) k0_pay22 (View.ld x6 (Rect.unit ![6] ![1] inb_S16_S1_6) (Shape.Idx.first (by decide))) (View.ld x6 (Rect.unit ![7] ![1] inb_S16_S1_7) (Shape.Idx.first (by decide))) (ix2 n e) = blk i x0 x1 x2 x3 x4 x5 x6 1 n e := by
  have g := group_at n
  generalize (k0_pay8 (iota Kind.tc S1024x1 32 [0] iota_S1024x1_d0_w32) (256#32) k0_pay6 k0_pay7 1#32) = v at g ⊢
  rw [win1_at v _ _ _ _ _ _ n e g]
  simp only [bia1_at, dot1_at, stk1_at, val1_at, pay4_at, pay5_at]
  unfold blk sc
  refine congr (congr (congrArg Soft.win rfl) (congrArg (· * Soft.l2e) ?_)) rfl
  exact pick1_at x6 n

theorem head2_at (i : grid0.Coords) (x0 : Vec Ideal S256x1024 .bf16) (x1 : Vec Ideal S256x512 .bf16) (x2 x3 : Vec Ideal S128x512 .bf16)
    (x4 : Vec Ideal S256x512 .bf16) (x5 : Vec Ideal S256x512 .f32) (x6 : Vec Ideal S16 .f32)
    (n : Fin 1024) (e : Fin 64) :
    k0_pay35 (k0_pay30 (k0_pay4 x2 x1 x3 x4)) (k0_pay32 (k0_pay8 (iota Kind.tc S1024x1 32 [0] iota_S1024x1_d0_w32) (256#32) k0_pay6 k0_pay7 1#32) (View.ld x6 (Rect.unit ![8] ![1] inb_S16_S1_8) (Shape.Idx.first (by decide))) (View.ld x6 (Rect.unit ![9] ![1] inb_S16_S1_9) (Shape.Idx.first (by decide))) (View.ld x6 (Rect.unit ![10] ![1] inb_S16_S1_10) (Shape.Idx.first (by decide))) (View.ld x6 (Rect.unit ![11] ![1] inb_S16_S1_11) (Shape.Idx.first (by decide)))) (k0_pay33 (k0_pay5 i x5) (k0_pay8 (iota Kind.tc S1024x1 32 [0] iota_S1024x1_d0_w32) (256#32) k0_pay6 k0_pay7 1#32) (k0_pay18 (k0_pay4 x2 x1 x3 x4) (View.ld x0 (Rect.unit ![0, 512] ![256, 64] inb_S256x1024_S256x64_0_512)) (View.ld x0 (Rect.unit ![0, 576] ![256, 64] inb_S256x1024_S256x64_0_576)) (View.ld x0 (Rect.unit ![0, 640] ![256, 64] inb_S256x1024_S256x64_0_640)) (View.ld x0 (Rect.unit ![0, 704] ![256, 64] inb_S256x1024_S256x64_0_704))) (View.ld x6 (Rect.unit ![8] ![1] inb_S16_S1_8) (Shape.Idx.first (by decide))) (View.ld x6 (Rect.unit ![9] ![1] inb_S16_S1_9) (Shape.Idx.first (by decide))) (View.ld x6 (Rect.unit ![10] ![1] inb_S16_S1_10) (Shape.Idx.first (by decide))) (View.ld x6 (Rect.unit ![11] ![1] inb_S16_S1_11) (Shape.Idx.first (by decide)))) (k0_pay34 (k0_pay5 i x5) (k0_pay8 (iota Kind.tc S1024x1 32 [0] iota_S1024x1_d0_w32) (256#32) k0_pay6 k0_pay7 1#32) (k0_pay18 (k0_pay4 x2 x1 x3 x4) (View.ld x0 (Rect.unit ![0, 512] ![256, 64] inb_S256x1024_S256x64_0_512)) (View.ld x0 (Rect.unit ![0, 576] ![256, 64] inb_S256x1024_S256x64_0_576)) (View.ld x0 (Rect.unit ![0, 640] ![256, 64] inb_S256x1024_S256x64_0_640)) (View.ld x0 (Rect.unit ![0, 704] ![256, 64] inb_S256x1024_S256x64_0_704))) (View.ld x6 (Rect.unit ![8] ![1] inb_S16_S1_8) (Shape.Idx.first (by decide))) (View.ld x6 (Rect.unit ![9] ![1] inb_S16_S1_9) (Shape.Idx.first (by decide))) (View.ld x6 (Rect.unit ![10] ![1] inb_S16_S1_10) (Shape.Idx.first (by decide))) (View.ld x6 (Rect.unit ![11] ![1] inb_S16_S1_11) (Shape.Idx.first (by decide)))) (ix2 n e) = blk i x0 x1 x2 x3 x4 x5 x6 2 n e := by
  have g := group_at n
  generalize (k0_pay8 (iota Kind.tc S1024x1 32 [0] iota_S1024x1_d0_w32) (256#32) k0_pay6 k0_pay7 1#32) = v at g ⊢
  rw [win2_at v _ _ _ _ _ _ _ n e g]
  simp only [bia2_at, dot2_at, stk2_at, val2_at, pay4_at, pay5_at]
  unfold blk sc
  refine congr (congr (congrArg Soft.win rfl) (congrArg (· * Soft.l2e) ?_)) rfl
  exact pick2_at x6 n

theorem head3_at (i : grid0.Coords) (x0 : Vec Ideal S256x1024 .bf16) (x1 : Vec Ideal S256x512 .bf16) (x2 x3 : Vec Ideal S128x512 .bf16)
    (x4 : Vec Ideal S256x512 .bf16) (x5 : Vec Ideal S256x512 .f32) (x6 : Vec Ideal S16 .f32)
    (n : Fin 1024) (e : Fin 64) :
    k0_pay1 (k0_pay8 (iota Kind.tc S1024x1 32 [0] iota_S1024x1_d0_w32) (256#32) k0_pay6 k0_pay7 1#32) (k0_pay38 (k0_pay4 x2 x1 x3 x4)) (k0_pay39 (k0_pay5 i x5) (k0_pay29 (k0_pay26 (k0_pay4 x2 x1 x3 x4)) (k0_pay27 (View.ld x0 (Rect.unit ![0, 768] ![256, 64] inb_S256x1024_S256x64_0_768))) (k0_pay28 (View.ld x0 (Rect.unit ![0, 832] ![256, 64] inb_S256x1024_S256x64_0_832))) (View.ld x0 (Rect.unit ![0, 896] ![256, 64] inb_S256x1024_S256x64_0_896)) (View.ld x0 (Rect.unit ![0, 960] ![256, 64] inb_S256x1024_S256x64_0_960)))) (k0_pay40 (k0_pay8 (iota Kind.tc S1024x1 32 [0] iota_S1024x1_d0_w32) (256#32) k0_pay6 k0_pay7 1#32) (View.ld x6 (Rect.unit ![12] ![1] inb_S16_S1_12) (Shape.Idx.first (by decide))) (View.ld x6 (Rect.unit ![13] ![1] inb_S16_S1_13) (Shape.Idx.first (by decide)))) (k0_pay41 (k0_pay8 (iota Kind.tc S1024x1 32 [0] iota_S1024x1_d0_w32) (256#32) k0_pay6 k0_pay7 1#32)) (k0_pay42 (View.ld x6 (Rect.unit ![14] ![1] inb_S16_S1_14) (Shape.Idx.first (by decide)))) (View.ld x6 (Rect.unit ![15] ![1] inb_S16_S1_15) (Shape.Idx.first (by decide))) (ix2 n e) = blk i x0 x1 x2 x3 x4 x5 x6 3 n e := by
  have g := group_at n
  generalize (k0_pay8 (iota Kind.tc S1024x1 32 [0] iota_S1024x1_d0_w32) (256#32) k0_pay6 k0_pay7 1#32) = v at g ⊢
  rw [win3_at v _ _ _ _ _ _ n e g]
  simp only [bia3_at, dot3_at, stk3_at, val3_at, pay4_at, pay5_at]
  unfold blk sc
  refine congr (congr (congrArg Soft.win rfl) (congrArg (· * Soft.l2e) ?_)) rfl
  exact pick3_at x6 n

theorem head0_at (i : grid0.Coords) (x0 : Vec Ideal S256x1024 .bf16) (x1 : Vec Ideal S256x512 .bf16) (x2 x3 : Vec Ideal S128x512 .bf16)
    (x4 : Vec Ideal S256x512 .bf16) (x5 : Vec Ideal S256x512 .f32) (x6 : Vec Ideal S16 .f32)
    (n : Fin 1024) (e : Fin 64) :
    k0_pay14 (k0_pay8 (iota Kind.tc S1024x1 32 [0] iota_S1024x1_d0_w32) (256#32) k0_pay6 k0_pay7 1#32) (k0_pay11 (k0_pay4 x2 x1 x3 x4)) (k0_pay12 (k0_pay4 x2 x1 x3 x4) (k0_pay5 i x5) (View.ld x0 (Rect.unit ![0, 0] ![256, 64] inb_S256x1024_S256x64_0_0)) (View.ld x0 (Rect.unit ![0, 64] ![256, 64] inb_S256x1024_S256x64_0_64)) (View.ld x0 (Rect.unit ![0, 128] ![256, 64] inb_S256x1024_S256x64_0_128)) (View.ld x0 (Rect.unit ![0, 192] ![256, 64] inb_S256x1024_S256x64_0_192))) (k0_pay13 (k0_pay4 x2 x1 x3 x4) (View.ld x0 (Rect.unit ![0, 0] ![256, 64] inb_S256x1024_S256x64_0_0)) (View.ld x0 (Rect.unit ![0, 64] ![256, 64] inb_S256x1024_S256x64_0_64)) (View.ld x0 (Rect.unit ![0, 128] ![256, 64] inb_S256x1024_S256x64_0_128)) (View.ld x0 (Rect.unit ![0, 192] ![256, 64] inb_S256x1024_S256x64_0_192))) (View.ld x6 (Rect.unit ![0] ![1] inb_S16_S1_0) (Shape.Idx.first (by decide))) (View.ld x6 (Rect.unit ![1] ![1] inb_S16_S1_1) (Shape.Idx.first (by decide))) (View.ld x6 (Rect.unit ![2] ![1] inb_S16_S1_2) (Shape.Idx.first (by decide))) (View.ld x6 (Rect.unit ![3] ![1] inb_S16_S1_3) (Shape.Idx.first (by decide))) (ix2 n e) = blk i x0 x1 x2 x3 x4 x5 x6 0 n e := by
  have g := group_at n
  generalize (k0_pay8 (iota Kind.tc S1024x1 32 [0] iota_S1024x1_d0_w32) (256#32) k0_pay6 k0_pay7 1#32) = v at g ⊢
  rw [win0_at v _ _ _ _ _ _ _ n e g]
  simp only [bia0_at, bia0'_at, dot0_at, stk0_at, val0_at, pay4_at, pay5_at]
  unfold blk sc
  refine congr (congr (congrArg Soft.win rfl) (congrArg (· * Soft.l2e) ?_)) rfl
  exact pick0_at x6 n

end Cert.Attn
end
-- ==== Proof.Attn.lean ====
module

public import proofs.«01_k».proof.Proof.AttnHead
public import proofs.«01_k».proof.Proof.Gen.KernelIdeal.Value

@[expose] public section

set_option maxRecDepth 16384
noncomputable section
namespace Cert.Attn
open Cert.KernelIdeal Cert.KernelIdeal.Gen Idealize.ShloMosaic Idealize.ShloMosaic.TcCoe Idealize.SL.Sem

variable (m : (ℓ : Loc nD τ sig) → Buf (Elt Ideal) ℓ) (c : Dev nD)

/-- The block each window shows at grid point `t`. -/
theorem idx : ∀ t : Fin cfg0.N, win0_0.index t = ![t.val, 0] ∧ win0_1.index t = ![t.val, 2]
    ∧ win0_2.index t = ![2 * t.val - 1, 2] ∧ win0_3.index t = ![min (2 * t.val + 2) 127, 2]
    ∧ win0_4.index t = ![64, 2] ∧ win0_5.index t = ![0, 0] ∧ win0_6.index t = ![0]
    ∧ win0_7.index t = ![t.val, 0] ∧ (grid0.coords t 0).val = t.val :=
  (by decide +kernel : ∀ t : Fin grid0.N, _)

/-! Each block the grid point reads, from the stacked array. -/

theorem rd1 (t : Fin cfg0.N) (A : Vec Ideal S16640x1536 .bf16) (r : Fin 256) (n : Fin 512) (s : Fin 16640)
    (hs : (s : ℕ) = 256 * t.val + r) :
    View.read (Elt Ideal) ((cfg0.win 1).blk t).view A (ix2 r n) = A (ix2 s ⟨1024 + n, by omega⟩) := by
  blk_point [idx t]

theorem rd2 (t : Fin cfg0.N) (A : Vec Ideal S16640x1536 .bf16) (r : Fin 128) (n : Fin 512) (s : Fin 16640)
    (ht : 0 < t.val) (hs : (s : ℕ) + 128 = 256 * t.val + r) :
    View.read (Elt Ideal) ((cfg0.win 2).blk t).view A (ix2 r n) = A (ix2 s ⟨1024 + n, by omega⟩) := by
  blk_point [idx t]

theorem rd3 (t : Fin cfg0.N) (A : Vec Ideal S16640x1536 .bf16) (r : Fin 128) (n : Fin 512) (s : Fin 16640)
    (ht : t.val < 63) (hs : (s : ℕ) = 256 * t.val + 256 + r) :
    View.read (Elt Ideal) ((cfg0.win 3).blk t).view A (ix2 r n) = A (ix2 s ⟨1024 + n, by omega⟩) := by
  blk_point [idx t]

theorem rd4 (t : Fin cfg0.N) (A : Vec Ideal S16640x1536 .bf16) (r : Fin 256) (n : Fin 512) (s : Fin 16640)
    (hs : (s : ℕ) = 16384 + r) :
    View.read (Elt Ideal) ((cfg0.win 4).blk t).view A (ix2 r n) = A (ix2 s ⟨1024 + n, by omega⟩) := by
  blk_point [idx t]

theorem rd5 (t : Fin cfg0.N) (A : Vec Ideal S256x512 .f32) (r : Fin 256) (n : Fin 512) :
    View.read (Elt Ideal) ((cfg0.win 5).blk t).view A (ix2 r n) = A (ix2 r n) := by
  blk_point [idx t]

theorem blk6 (t : Fin cfg0.N) (n : Fin 16) :
    iblk m c 6 t (ix1 n) = (m ((c : Thread nD τ).loc main_arg5) : FVec Ideal S16 .f32) (ix1 n) := by
  blk_point [iblk, V, idx t]

theorem blk0 (t : Fin cfg0.N) (r : Fin 256) (q : Fin 1024) (s : Fin 16640) (hs : (s : ℕ) = 256 * t.val + r) :
    X0_0 m c t (ix2 r q) = (V m c main_v10 : Vec Ideal S16640x1536 .bf16) (ix2 s ⟨q, by omega⟩) := by
  unfold X0_0 Pipeline.Window.fill
  rw [dif_pos (moved0_0 t _)]
  blk_point [iblk, idx t]

/-- The queries, scaled, with the keys and values beside them and the context's below. -/
def cat (ql : FVec Ideal S16384x1024 .f32) (kl vl : FVec Ideal S16384x256 .f32) (kc vc : FVec Ideal S256x256 .f32) :
    FVec Ideal S16640x1536 .bf16 :=
  truncf .bf16 (concatenate S16640x1536 0
    [⟨S16384x1536, concatenate S16384x1536 1
      [⟨S16384x1024, mulf (mulf ql (broadcastInDim S16384x1024 ![] bcast_S_S16384x1024 (constant S_ .f32 0x3E000000#32)))
        (broadcastInDim S16384x1024 ![] bcast_S_S16384x1024
          (Host.divf (constant S_ .f32 0x3F800000#32) (Host.log (constant S_ .f32 0x40000000#32))))⟩,
       ⟨S16384x256, kl⟩, ⟨S16384x256, vl⟩] concatenates_S16384x1024_S16384x256_S16384x256_S16384x1536_d1⟩,
     ⟨S256x1536, concatenate S256x1536 1
      [⟨S256x1024, broadcastInDim S256x1024 ![] bcast_S_S256x1024 (constant S_ .f32 0x00000000#32)⟩,
       ⟨S256x256, kc⟩, ⟨S256x256, vc⟩] concatenates_S256x1024_S256x256_S256x256_S256x1536_d1⟩]
    concatenates_S16384x1536_S256x1536_S16640x1536_d0) bitsLt_bf16_f32

theorem V_cat : (V m c main_v10 : Vec Ideal S16640x1536 .bf16)
    = cat (m ((c : Thread nD τ).loc main_arg0)) (m ((c : Thread nD τ).loc main_arg1)) (m ((c : Thread nD τ).loc main_arg2))
      (m ((c : Thread nD τ).loc main_arg3)) (m ((c : Thread nD τ).loc main_arg4)) := rfl

theorem unit_l2e : Ideal.div 1 (Ideal.log (Ideal.ofBits FTy.f32 1073741824#32)) = Soft.l2e := by
  have h2 : Ideal.ofBits FTy.f32 1073741824#32 = ((2 : ℝ) : EReal) := by
    simp [Ideal.ofBits, Ideal.ieee, -Ideal.ofBits.eq_1]
    rw [← EReal.coe_mul]
    norm_num
  have hl : Ideal.log ((2 : ℝ) : EReal) = ((Real.log 2 : ℝ) : EReal) := by
    change (if (2 : ℝ) ≤ 0 then (⊥ : EReal) else ((Real.log 2 : ℝ) : EReal)) = _
    rw [if_neg (by norm_num)]
  rw [h2, hl, Ideal.div, if_neg (by exact_mod_cast (Real.log_pos one_lt_two).ne'), one_mul, ← EReal.coe_inv]
  first | done | rfl

/-- An eighth of one over the logarithm of two, as the host writes it. -/
theorem cat_q (ql kl vl kc vc) (s : Fin 16384) (q : Fin 1024) :
    cat ql kl vl kc vc (ix2 ⟨s, by omega⟩ ⟨q, by omega⟩) = ql (ix2 s q) * Ideal.ofBits .f32 0x3E000000#32 * Soft.l2e := by
  pointwise [cat]
  rw [unit_l2e]

/-- Row `p` of a latent array with a context array below it. -/
def rows (a : FVec Ideal S16384x256 .f32) (b : FVec Ideal S256x256 .f32) (p : Fin 16640) (n : Fin 256) : EReal :=
  if h : (p : ℕ) < 16384 then a (ix2 ⟨p, h⟩ n) else b (ix2 ⟨p - 16384, by omega⟩ n)

theorem cat_k (ql kl vl kc vc) (p : Fin 16640) (n : Fin 256) :
    cat ql kl vl kc vc (ix2 p ⟨1024 + n, by omega⟩) = rows kl kc p n := by
  pointwise [cat, rows]

theorem cat_v (ql kl vl kc vc) (p : Fin 16640) (n : Fin 256) :
    cat ql kl vl kc vc (ix2 p ⟨1280 + n, by omega⟩) = rows vl vc p n := by
  have e1 : ¬ (1280 + (n : ℕ) < 1024) := by omega
  have e2 : ¬ (1280 + (n : ℕ) - 1024 < 256) := by omega
  have e3 : 1280 + (n : ℕ) - 1024 - 256 = n := by omega
  pointwise [cat, rows]
  simp only [dif_neg e1, dif_neg e2, e3]

/-- The band the host prepares. -/
def band : FVec Ideal S256x512 .f32 :=
  select (andi (cmpi .sge (subi (broadcastInDim S256x512 ![0, 1] bcast_S1x512_S256x512_0_1 (broadcastInDim S1x512 ![1] bcast_S512_S1x512_1 (iotaInDim S512 32 0)))
        (broadcastInDim S256x512 ![0, 1] bcast_S256x1_S256x512_0_1 (broadcastInDim S256x1 ![0] bcast_S256_S256x1_0 (iotaInDim S256 32 0))))
      (broadcastInDim S256x512 ![] bcast_S_S256x512 (constantI S_ 32 0#32)))
    (cmpi .sle (subi (broadcastInDim S256x512 ![0, 1] bcast_S1x512_S256x512_0_1 (broadcastInDim S1x512 ![1] bcast_S512_S1x512_1 (iotaInDim S512 32 0)))
        (broadcastInDim S256x512 ![0, 1] bcast_S256x1_S256x512_0_1 (broadcastInDim S256x1 ![0] bcast_S256_S256x1_0 (iotaInDim S256 32 0))))
      (broadcastInDim S256x512 ![] bcast_S_S256x512 (constantI S_ 32 256#32))))
    (broadcastInDim S256x512 ![] bcast_S_S256x512 (constant S_ .f32 0x00000000#32))
    (broadcastInDim S256x512 ![] bcast_S_S256x512 (constant S_ .f32 0xFF800000#32))

theorem V_band : (V m c main_v24 : Vec Ideal S256x512 .f32) = band := rfl

theorem off_eq (r : Fin 256) (j : Fin 512) :
    IntOp.subi (BitVec.ofNat 32 ↑j) (BitVec.ofNat 32 ↑r) = IntOp.subi (BitVec.ofNat 32 (j + 256 - r)) 256#32 := by
  apply BitVec.eq_of_toNat_eq
  simp only [IntOp.subi, BitVec.toNat_sub, BitVec.toNat_ofNat]
  omega

theorem in_band : ∀ d : Fin 768,
    IntOp.andi (IntOp.cmpi CmpIPredicate.sge (IntOp.subi (BitVec.ofNat 32 ↑d) 256#32) 0#32)
        (IntOp.cmpi CmpIPredicate.sle (IntOp.subi (BitVec.ofNat 32 ↑d) 256#32) 256#32)
      = if 256 ≤ (d : ℕ) ∧ (d : ℕ) ≤ 512 then 1#1 else 0#1 := by
  decide +kernel

theorem band_at (r : Fin 256) (j : Fin 512) :
    band (ix2 r j) = if (r : ℕ) ≤ j ∧ (j : ℕ) ≤ r + 256 then (0 : EReal) else ⊥ := by
  pointwise [band]
  rw [neg_inf, off_eq r j]
  have k := in_band ⟨j + 256 - r, by omega⟩
  simp only at k
  rw [k]
  by_cases hp : (r : ℕ) ≤ j ∧ (j : ℕ) ≤ r + 256
  · rw [if_pos hp, if_pos (by omega)]
    rfl
  · rw [if_neg hp, if_neg (by omega)]
    rfl

/-! Each pair of heads laid side by side. -/

theorem half0_at (f : Fin 1024 → Fin 64 → EReal) (r : Fin 256) (q : Fin 128) :
    (if h : (q : ℕ) < 64 then f ⟨r, by omega⟩ ⟨q, h⟩ else f ⟨256 + r, by omega⟩ ⟨q - 64, by omega⟩)
      = f ⟨256 * (q / 64) + r, by omega⟩ ⟨q % 64, by omega⟩ := by
  split
  · exact congrArg₂ f (Fin.ext (by simp only; omega)) (Fin.ext (by simp only; omega))
  · exact congrArg₂ f (Fin.ext (by simp only; omega)) (Fin.ext (by simp only; omega))

theorem half2_at (f : Fin 1024 → Fin 64 → EReal) (r : Fin 256) (q : Fin 128) :
    (if h : (q : ℕ) < 64 then f ⟨512 + r, by omega⟩ ⟨q, h⟩ else f ⟨768 + r, by omega⟩ ⟨q - 64, by omega⟩)
      = f ⟨256 * (2 + q / 64) + r, by omega⟩ ⟨q % 64, by omega⟩ := by
  split
  · exact congrArg₂ f (Fin.ext (by simp only; omega)) (Fin.ext (by simp only; omega))
  · exact congrArg₂ f (Fin.ext (by simp only; omega)) (Fin.ext (by simp only; omega))

theorem pay16_at (a b d e g h i j) (r : Fin 256) (q : Fin 128) :
    k0_pay16 (F := Ideal) (k0_pay15 (F := Ideal) a b d e g h i j) (ix2 r q)
      = k0_pay14 (F := Ideal) a b d e g h i j (ix2 ⟨256 * (q / 64) + r, by omega⟩ ⟨q % 64, by omega⟩) := by
  pointwise [k0_pay16, k0_pay15]
  exact half0_at (fun n w => k0_pay14 a b d e g h i j (ix2 n w)) r q

theorem pay17_at (v : FVec Ideal S1024x64 .f32) (r : Fin 256) (q : Fin 128) :
    k0_pay17 (F := Ideal) v (ix2 r q)
      = v (ix2 ⟨256 * (2 + q / 64) + r, by omega⟩ ⟨q % 64, by omega⟩) := by
  pointwise [k0_pay17]
  exact half2_at (fun n w => v (ix2 n w)) r q

theorem pay24_at (a b d e g h i) (r : Fin 256) (q : Fin 128) :
    k0_pay24 (F := Ideal) a b d e g h i (ix2 r q)
      = k0_pay23 (F := Ideal) a b d e g h i (ix2 ⟨256 * (q / 64) + r, by omega⟩ ⟨q % 64, by omega⟩) := by
  pointwise [k0_pay24]
  exact half0_at (fun n w => k0_pay23 a b d e g h i (ix2 n w)) r q

theorem pay25_at (a b d e g h i) (r : Fin 256) (q : Fin 128) :
    k0_pay25 (F := Ideal) a b d e g h i (ix2 r q)
      = k0_pay23 (F := Ideal) a b d e g h i (ix2 ⟨256 * (2 + q / 64) + r, by omega⟩ ⟨q % 64, by omega⟩) := by
  pointwise [k0_pay25]
  exact half2_at (fun n w => k0_pay23 a b d e g h i (ix2 n w)) r q

theorem pay36_at (a b d e) (r : Fin 256) (q : Fin 128) :
    k0_pay36 (F := Ideal) a b d e (ix2 r q)
      = k0_pay35 (F := Ideal) a b d e (ix2 ⟨256 * (q / 64) + r, by omega⟩ ⟨q % 64, by omega⟩) := by
  pointwise [k0_pay36]
  exact half0_at (fun n w => k0_pay35 a b d e (ix2 n w)) r q

theorem pay37_at (a b d e) (r : Fin 256) (q : Fin 128) :
    k0_pay37 (F := Ideal) a b d e (ix2 r q)
      = k0_pay35 (F := Ideal) a b d e (ix2 ⟨256 * (2 + q / 64) + r, by omega⟩ ⟨q % 64, by omega⟩) := by
  pointwise [k0_pay37]
  exact half2_at (fun n w => k0_pay35 a b d e (ix2 n w)) r q

theorem pay2_at (a b d e g h i) (r : Fin 256) (q : Fin 128) :
    k0_pay2 (F := Ideal) a b d e g h i (ix2 r q)
      = k0_pay1 (F := Ideal) a b d e g h i (ix2 ⟨256 * (q / 64) + r, by omega⟩ ⟨q % 64, by omega⟩) := by
  pointwise [k0_pay2]
  exact half0_at (fun n w => k0_pay1 a b d e g h i (ix2 n w)) r q

theorem pay3_at (a b d e g h i) (r : Fin 256) (q : Fin 128) :
    k0_pay3 (F := Ideal) a b d e g h i (ix2 r q)
      = k0_pay1 (F := Ideal) a b d e g h i (ix2 ⟨256 * (2 + q / 64) + r, by omega⟩ ⟨q % 64, by omega⟩) := by
  pointwise [k0_pay3]
  exact half2_at (fun n w => k0_pay1 a b d e g h i (ix2 n w)) r q

/-- The grid point that writes row `s`. -/
def gp (s : Fin 16384) : Fin cfg0.N := ⟨s / 256, by have := s.isLt; change _ < 64; omega⟩

theorem gp_eq (t : Fin cfg0.N) (s : Fin 16384) (r : Fin 256) (hs : (s : ℕ) = 256 * t.val + r) : gp s = t :=
  Fin.ext (by change (s : ℕ) / 256 = t.val; omega)

/-- What row `s` and column `q` of the result hold. -/
def outv (s : Fin 16384) (q : Fin 1024) : EReal :=
  blk (grid0.coords (gp s)) (X0_0 m c (gp s)) (iblk m c 1 (gp s)) (iblk m c 2 (gp s)) (iblk m c 3 (gp s)) (iblk m c 4 (gp s))
    (iblk m c 5 (gp s)) (iblk m c 6 (gp s))
    ⟨q / 256, by omega⟩ ⟨256 * (q / 64 % 4) + s % 256, by omega⟩ ⟨q % 64, by omega⟩

theorem outv_at (t : Fin cfg0.N) (s : Fin 16384) (q : Fin 1024) (r : Fin 256) (hs : (s : ℕ) = 256 * t.val + r)
    (h : Fin 4) (n : Fin 1024) (e : Fin 64) (hh : (q : ℕ) / 256 = h) (hn : 256 * ((q : ℕ) / 64 % 4) + r = n) (he : (q : ℕ) % 64 = e) :
    blk (grid0.coords t) (X0_0 m c t) (iblk m c 1 t) (iblk m c 2 t) (iblk m c 3 t) (iblk m c 4 t) (iblk m c 5 t) (iblk m c 6 t)
      h n e = outv m c s q := by
  unfold outv
  rw [gp_eq t s r hs]
  exact congr (congrArg₂ _ (Fin.ext hh.symm) (Fin.ext (by simp only; omega))) (Fin.ext he.symm)

theorem final : (dats m 0 c).arrAt 7 (cfgs 0).N = fun y : S16384x1024.Idx => outv m c (y 0) (y 1) := by
  refine (dats m 0 c).arrAt_eq_of_covers 7 _ (by decide +kernel) fun t _ y => ?_
  blk_simp
  rw [after0_7]
  unfold outsAt0
  frame_out
  have hj : ((((View.whole main_v25).slice (win0_7.rect t)).emb y 1 : Fin 1024) : ℕ) = (y 1 : Fin 1024) := by
    blk_simp [idx t]
    try omega
  have hs : ((((View.whole main_v25).slice (win0_7.rect t)).emb y 0 : Fin 16384) : ℕ) = 256 * t.val + (y 0 : Fin 256) := by
    blk_simp [idx t]
    try omega
  generalize ((View.whole main_v25).slice (win0_7.rect t)).emb y 1 = q at hj ⊢
  generalize ((View.whole main_v25).slice (win0_7.rect t)).emb y 0 = s at hs ⊢
  refine Eq.trans (b := outv m c s q) ?_ rfl
  canon_tiles x h
  all_goals
    have hx : x = ix2 (x 0) (x 1) := by funext a; fin_cases a <;> rfl
    rw [hx]
  · refine (pay3_at _ _ _ _ _ _ _ _ _).trans (((head3_at _ _ _ _ _ _ _ _ _ _)).trans ?_)
    exact outv_at m c t s q (x 0) (by omega) _ _ _ (by omega)
      (by change _ = 256 * (2 + (x 1).val / 64) + (x 0).val; omega) (by change _ = (x 1).val % 64; omega)
  · refine (pay2_at _ _ _ _ _ _ _ _ _).trans (((head3_at _ _ _ _ _ _ _ _ _ _)).trans ?_)
    exact outv_at m c t s q (x 0) (by omega) _ _ _ (by omega)
      (by change _ = 256 * ((x 1).val / 64) + (x 0).val; omega) (by change _ = (x 1).val % 64; omega)
  · refine (pay37_at _ _ _ _ _ _).trans (((head2_at _ _ _ _ _ _ _ _ _ _)).trans ?_)
    exact outv_at m c t s q (x 0) (by omega) _ _ _ (by omega)
      (by change _ = 256 * (2 + (x 1).val / 64) + (x 0).val; omega) (by change _ = (x 1).val % 64; omega)
  · refine (pay36_at _ _ _ _ _ _).trans (((head2_at _ _ _ _ _ _ _ _ _ _)).trans ?_)
    exact outv_at m c t s q (x 0) (by omega) _ _ _ (by omega)
      (by change _ = 256 * ((x 1).val / 64) + (x 0).val; omega) (by change _ = (x 1).val % 64; omega)
  · refine (pay25_at _ _ _ _ _ _ _ _ _).trans (((head1_at _ _ _ _ _ _ _ _ _ _)).trans ?_)
    exact outv_at m c t s q (x 0) (by omega) _ _ _ (by omega)
      (by change _ = 256 * (2 + (x 1).val / 64) + (x 0).val; omega) (by change _ = (x 1).val % 64; omega)
  · refine (pay24_at _ _ _ _ _ _ _ _ _).trans (((head1_at _ _ _ _ _ _ _ _ _ _)).trans ?_)
    exact outv_at m c t s q (x 0) (by omega) _ _ _ (by omega)
      (by change _ = 256 * ((x 1).val / 64) + (x 0).val; omega) (by change _ = (x 1).val % 64; omega)
  · refine (pay17_at _ _ _).trans (((head0_at _ _ _ _ _ _ _ _ _ _)).trans ?_)
    exact outv_at m c t s q (x 0) (by omega) _ _ _ (by omega)
      (by change _ = 256 * (2 + (x 1).val / 64) + (x 0).val; omega) (by change _ = (x 1).val % 64; omega)
  · refine (pay16_at _ _ _ _ _ _ _ _ _ _).trans (((head0_at _ _ _ _ _ _ _ _ _ _)).trans ?_)
    exact outv_at m c t s q (x 0) (by omega) _ _ _ (by omega)
      (by change _ = 256 * ((x 1).val / 64) + (x 0).val; omega) (by change _ = (x 1).val % 64; omega)

end Cert.Attn
end
-- ==== Proof.AttnRow.lean ====
module

public import proofs.«01_k».proof.Proof.Attn

@[expose] public section

set_option maxRecDepth 16384

/-! A row of the attention kernel, from its arguments. -/

noncomputable section
namespace Cert.Attn
open Cert.KernelIdeal Cert.KernelIdeal.Gen Idealize.ShloMosaic Idealize.ShloMosaic.TcCoe Idealize.SL.Sem

variable (m : (ℓ : Loc nD τ sig) → Buf (Elt Ideal) ℓ) (c : Dev nD)

/-- Whether place `j` of row `s`'s window holds a key the row attends to. -/
def P (s : Fin 16384) (j : Fin 768) : Prop :=
  (j : ℕ) < 512 → ((s : ℕ) % 256 ≤ j ∧ (j : ℕ) ≤ s % 256 + 256) ∧ 128 ≤ 256 * ((s : ℕ) / 256) + j ∧ 256 * ((s : ℕ) / 256) + j < 16512

instance (s : Fin 16384) : DecidablePred (P s) := fun j => by unfold P; infer_instance

/-- The key at place `j` of row `s`'s window. -/
def at' (s : Fin 16384) (j : Fin 768) : Fin 16640 :=
  ⟨if (j : ℕ) < 512 then (256 * ((s : ℕ) / 256) + j - 128) % 16384 else 16384 + (j - 512), by split <;> omega⟩

theorem at_seq (s : Fin 16384) (j : Fin 768) (hj : (j : ℕ) < 512) (hP : P s j) :
    (at' s j : ℕ) + 128 = 256 * ((s : ℕ) / 256) + j := by
  have := hP hj
  change (if (j : ℕ) < 512 then (256 * ((s : ℕ) / 256) + j - 128) % 16384 else 16384 + (j - 512)) + 128 = _
  rw [if_pos hj]
  omega

theorem at_ctx (s : Fin 16384) (j : Fin 768) (hj : ¬ (j : ℕ) < 512) : (at' s j : ℕ) = 16384 + (j - 512) :=
  if_neg hj

/-- The window's rows are rows of the stacked array. -/
theorem kv_row (s : Fin 16384) (j : Fin 768) (n : Fin 512) (hP : P s j) :
    kv (iblk m c 1 (gp s)) (iblk m c 2 (gp s)) (iblk m c 3 (gp s)) (iblk m c 4 (gp s)) j n
      = (V m c main_v10 : Vec Ideal S16640x1536 .bf16) (ix2 (at' s j) ⟨1024 + n, by omega⟩) := by
  have hg : (gp s).val = (s : ℕ) / 256 := rfl
  unfold kv
  by_cases hj : (j : ℕ) < 512
  · have e := at_seq s j hj hP
    have := hP hj
    split
    · exact rd2 (gp s) _ _ n _ (by omega) (by simp only; omega)
    split
    · exact rd1 (gp s) _ _ n _ (by simp only; omega)
    split
    · exact rd3 (gp s) _ _ n _ (by omega) (by simp only; omega)
    · omega
  · have e := at_ctx s j hj
    rw [dif_neg (by omega), dif_neg (by omega), dif_neg (by omega)]
    exact rd4 (gp s) _ _ n _ (by simp only; omega)

theorem kv_key (s : Fin 16384) (j : Fin 768) (n : Fin 256) (hP : P s j) :
    kv (iblk m c 1 (gp s)) (iblk m c 2 (gp s)) (iblk m c 3 (gp s)) (iblk m c 4 (gp s)) j ⟨n, by omega⟩
      = rows (m ((c : Thread nD τ).loc main_arg1)) (m ((c : Thread nD τ).loc main_arg3)) (at' s j) n := by
  rw [kv_row m c s j _ hP, V_cat]
  exact cat_k _ _ _ _ _ _ n

theorem kv_val (s : Fin 16384) (j : Fin 768) (n : Fin 256) (hP : P s j) :
    kv (iblk m c 1 (gp s)) (iblk m c 2 (gp s)) (iblk m c 3 (gp s)) (iblk m c 4 (gp s)) j ⟨256 + n, by omega⟩
      = rows (m ((c : Thread nD τ).loc main_arg2)) (m ((c : Thread nD τ).loc main_arg4)) (at' s j) n := by
  rw [kv_row m c s j _ hP, V_cat]
  refine Eq.trans (congrArg _ ?_) (cat_v _ _ _ _ _ (at' s j) n)
  exact congrArg (ix2 (at' s j)) (Fin.ext (by simp only; omega))

/-- The two masks together. -/
theorem mask_row (s : Fin 16384) (j : Fin 768) (hj : (j : ℕ) < 512) :
    msk (grid0.coords (gp s)) (iblk m c 5 (gp s)) ⟨s % 256, by omega⟩ ⟨j, hj⟩ = if P s j then (0 : EReal) else ⊥ := by
  have hg : (gp s).val = (s : ℕ) / 256 := rfl
  have hi : (grid0.coords (gp s) 0).val = (s : ℕ) / 256 := by
    obtain ⟨-, -, -, -, -, -, -, -, h⟩ := idx (gp s)
    exact h.trans hg
  unfold msk
  have h5 : (iblk m c 5 (gp s) : Vec Ideal S256x512 .f32) (ix2 ⟨s % 256, by omega⟩ ⟨j, hj⟩)
      = if (s : ℕ) % 256 ≤ j ∧ (j : ℕ) ≤ s % 256 + 256 then (0 : EReal) else ⊥ := by
    refine (rd5 (gp s) _ _ _).trans ?_
    rw [V_band]
    exact band_at _ _
  rw [h5, hi]
  by_cases hP : P s j
  · rw [if_pos hP, if_pos (hP hj).1, if_pos (hP hj).2, add_zero]
  · rw [if_neg hP]
    by_cases h1 : (s : ℕ) % 256 ≤ j ∧ (j : ℕ) ≤ s % 256 + 256
    · rw [if_neg (c := 128 ≤ _ ∧ _) (fun h2 => hP fun _ => ⟨h1, h2⟩), EReal.add_bot]
    · rw [if_neg h1, EReal.bot_add]

/-- A query's entry, scaled. -/
def qs (ql : FVec Ideal S16384x1024 .f32) (s : Fin 16384) (n : Fin 1024) : EReal :=
  ql (ix2 s n) * Ideal.ofBits .f32 0x3E000000#32 * Soft.l2e

/-- The scores of a window row. -/
theorem sc_row (s : Fin 16384) (h g : Fin 4) (n : Fin 1024) (hn : (n : ℕ) = 256 * g + s % 256) (j : Fin 768) :
    sc (grid0.coords (gp s)) (X0_0 m c (gp s)) (iblk m c 1 (gp s)) (iblk m c 2 (gp s)) (iblk m c 3 (gp s)) (iblk m c 4 (gp s))
        (iblk m c 5 (gp s)) h n j
      = if P s j then ∑ d : Fin 64, qs (m ((c : Thread nD τ).loc main_arg0)) s ⟨h * 256 + g * 64 + d, by omega⟩
          * rows (m ((c : Thread nD τ).loc main_arg1)) (m ((c : Thread nD τ).loc main_arg3)) (at' s j) ⟨h * 64 + d, by omega⟩ else ⊥ := by
  have hg : (gp s).val = (s : ℕ) / 256 := rfl
  have hr : (⟨n % 256, by omega⟩ : Fin 256) = ⟨s % 256, by omega⟩ := Fin.ext (by simp only; omega)
  have hq (d : Fin 64) : (X0_0 m c (gp s) : Vec Ideal S256x1024 .bf16) (ix2 ⟨n % 256, by omega⟩ ⟨256 * h + 64 * (n / 256) + d, by omega⟩)
      = qs (m ((c : Thread nD τ).loc main_arg0)) s ⟨h * 256 + g * 64 + d, by omega⟩ := by
    rw [blk0 m c (gp s) ⟨n % 256, by omega⟩ _ ⟨s, by omega⟩ (by simp only; omega), V_cat]
    refine Eq.trans (congrArg _ ?_) (cat_q _ _ _ _ _ s ⟨h * 256 + g * 64 + d, by omega⟩)
    exact congrArg (ix2 _) (Fin.ext (by simp only; omega))
  have hk (hP : P s j) (d : Fin 64) :
      kv (iblk m c 1 (gp s)) (iblk m c 2 (gp s)) (iblk m c 3 (gp s)) (iblk m c 4 (gp s)) j ⟨64 * h + d, by omega⟩
        = rows (m ((c : Thread nD τ).loc main_arg1)) (m ((c : Thread nD τ).loc main_arg3)) (at' s j) ⟨h * 64 + d, by omega⟩ := by
    refine Eq.trans (congrArg _ ?_) (kv_key m c s j ⟨h * 64 + d, by omega⟩ hP)
    exact Fin.ext (by simp only; omega)
  unfold sc bia
  by_cases hj : (j : ℕ) < 512
  · rw [dif_pos hj, hr, mask_row m c s j hj]
    by_cases hP : P s j
    · rw [if_pos hP, if_pos hP, add_zero]
      refine Finset.sum_congr rfl fun d _ => congrArg₂ (· * ·) ?_ (hk hP d)
      rw [← hr]
      exact hq d
    · rw [if_neg hP, if_neg hP, EReal.add_bot]
  · have hP : P s j := fun h => absurd h hj
    have he : (⟨512 + ((j : ℕ) - 512), by omega⟩ : Fin 768) = j := Fin.ext (by simp only; omega)
    rw [dif_neg hj, if_pos hP, he]
    exact Finset.sum_congr rfl fun d _ => congrArg₂ (· * ·) (hq d) (hk hP d)

end Cert.Attn
end
-- ==== Proof.AttnRef.lean ====
module

public import proofs.«01_k».proof.Proof.Soft
public import proofs.«01_k».proof.Proof.AttnBits
public import proofs.«01_k».proof.Proof.Gen.ReferenceIdeal.Read

@[expose] public section

set_option maxRecDepth 16384

/-! The reference attention, one query at a time. -/

noncomputable section
namespace Cert.AttnRef

open Cert.ReferenceIdeal Cert.ReferenceIdeal.Gen Cert.ReferenceIdeal.Read Idealize.ShloMosaic Idealize.ShloMosaic.TcCoe

variable (x0 : FVec Ideal S16384x1024 .f32) (x1 x2 : FVec Ideal S16384x256 .f32) (x3 x4 : FVec Ideal S256x256 .f32)
  (x5 : FVec Ideal S16 .f32)

theorem v12_at (h g : Fin 4) (s k : Fin 16384) : val_main_v12 (F := Ideal) x0 x1 (ix4 h g s k)
    = ∑ d : Fin 64, x1 (ix2 k ⟨h * 64 + d, by omega⟩) * x0 (ix2 s ⟨h * 256 + g * 64 + d, by omega⟩) := by
  pointwise [val_main_v12, val_main_v11, val_main_v1, val_main_v0]

theorem v17_at (h g : Fin 4) (s : Fin 16384) (k : Fin 256) : val_main_v17 (F := Ideal) x0 x3 (ix4 h g s k)
    = ∑ d : Fin 64, x3 (ix2 k ⟨h * 64 + d, by omega⟩) * x0 (ix2 s ⟨h * 256 + g * 64 + d, by omega⟩) := by
  pointwise [val_main_v17, val_main_v16, val_main_v3, val_main_v0]

theorem near (k s : Fin 16384) :
    IntOp.cmpi CmpIPredicate.sle (IntOp.absi (IntOp.subi (BitVec.ofNat 32 ↑k) (BitVec.ofNat 32 ↑s))) 128#32
      = if (s : ℕ) ≤ k + 128 ∧ (k : ℕ) ≤ s + 128 then 1#1 else 0#1 := by
  have hd : (BitVec.ofNat 32 (k : ℕ) - BitVec.ofNat 32 (s : ℕ)).toInt = (k : ℤ) - s := by
    rw [BitVec.toInt_sub, BitVec.toInt_ofNat', BitVec.toInt_ofNat']
    simp only [Int.bmod]
    omega
  have ha : (IntOp.absi (IntOp.subi (BitVec.ofNat 32 (k : ℕ)) (BitVec.ofNat 32 (s : ℕ)))).toInt = |(k : ℤ) - s| := by
    unfold IntOp.absi IntOp.subi
    rw [BitVec.msb_eq_toInt]
    split
    · rename_i hn
      rw [decide_eq_true_eq, hd] at hn
      rw [BitVec.toInt_neg, hd, abs_of_neg hn]
      simp only [Int.bmod]
      omega
    · rename_i hn
      rw [decide_eq_true_eq, hd] at hn
      rw [hd, abs_of_nonneg (by omega)]
  change BitVec.ofBool (decide ((IntOp.absi (IntOp.subi (BitVec.ofNat 32 (k : ℕ)) (BitVec.ofNat 32 (s : ℕ)))).toInt ≤ (128#32).toInt)) = _
  rw [ha]
  have h128 : (128#32).toInt = 128 := by decide
  rw [h128]
  by_cases hp : (s : ℕ) ≤ k + 128 ∧ (k : ℕ) ≤ s + 128
  · rw [if_pos hp, decide_eq_true (by rw [abs_le]; omega)]
    rfl
  · rw [if_neg hp, decide_eq_false (by rw [abs_le]; omega)]
    rfl

theorem v10_at (s k : Fin 16384) : val_main_v10 (F := Ideal) (ix2 s k)
    = if (s : ℕ) ≤ k + 128 ∧ (k : ℕ) ≤ s + 128 then 1#1 else 0#1 := by
  pointwise [val_main_v10, val_main_v8, val_main_v9, val_main_c, val_main_v7, val_main_v6, val_main_v5]
  exact near k s

theorem v15_at (h g : Fin 4) (s k : Fin 16384) : val_main_v15 (F := Ideal) x0 x1 (ix4 h g s k)
    = if (s : ℕ) ≤ k + 128 ∧ (k : ℕ) ≤ s + 128 then val_main_v12 (F := Ideal) x0 x1 (ix4 h g s k) * Ideal.ofBits .f32 0x3E000000#32 else ⊥ := by
  pointwise [val_main_v15, val_main_call0_v1, val_main_v14, val_main_v13, val_main_cst, val_main_call0_v2, val_main_call0_v0, val_main_cst_0]
  rw [v10_at]
  split
  · rfl
  · exact Attn.neg_inf

theorem v19_at (h g : Fin 4) (s : Fin 16384) (k : Fin 256) : val_main_v19 (F := Ideal) x0 x3 (ix4 h g s k)
    = val_main_v17 (F := Ideal) x0 x3 (ix4 h g s k) * Ideal.ofBits .f32 0x3E000000#32 := by
  pointwise [val_main_v19, val_main_v18, val_main_cst_1]

theorem v22_at (h g : Fin 4) (s : Fin 16384) (k : Fin 16641) : val_main_v22 (F := Ideal) x0 x1 x3 x5 (ix4 h g s k)
    = if h1 : (k : ℕ) < 16384 then val_main_v15 (F := Ideal) x0 x1 (ix4 h g s ⟨k, h1⟩)
      else if h2 : (k : ℕ) - 16384 < 256 then val_main_v19 (F := Ideal) x0 x3 (ix4 h g s ⟨k - 16384, h2⟩)
      else x5 (ix1 ⟨h * 4 + g, by omega⟩) := by
  pointwise [val_main_v22, val_main_v21, val_main_v20]

theorem fold_cast {n k : ℕ} (e : k = n) (f : Fin n → EReal) :
    Finset.univ.fold max ⊥ f = Finset.univ.fold max ⊥ fun j : Fin k => f (Fin.cast e j) := by
  subst e
  rfl

theorem v23_at (h g : Fin 4) (s : Fin 16384) : val_main_v23 (F := Ideal) x0 x1 x3 x5 (ix3 h g s)
    = Soft.top (N := 16640) fun k => val_main_v22 (F := Ideal) x0 x1 x3 x5 (ix4 h g s k) := by
  unfold val_main_v23
  generalize val_main_v22 (F := Ideal) x0 x1 x3 x5 = v
  have e : (S4x4x16384x16641.size 3) = 16640 + 1 := rfl
  have hi : val_main_cst_2 (F := Ideal) (Shape.Idx.first h_S_) = (⊥ : EReal) := Attn.neg_inf
  rw [Ideal.maximumf_eq_max, Host.reduce_eq_fold_single max v _ reducesTo_S4x4x16384x16641_S4x4x16384_d3 (by decide), hi,
    fold_cast e.symm]
  unfold Soft.top
  refine congrArg (fun f => Finset.univ.fold max ⊥ f) (funext fun k => ?_)
  exact congrArg v (funext fun a => Fin.ext (by match a with | ⟨0, _⟩ => rfl | ⟨1, _⟩ => rfl | ⟨2, _⟩ => rfl | ⟨3, _⟩ => rfl))

theorem max_bot_left (a : EReal) : max ⊥ a = a := max_eq_right bot_le

theorem v25_at (h g : Fin 4) (s : Fin 16384) : val_main_v25 (F := Ideal) x0 x1 x3 x5 (ix3 h g s)
    = val_main_v23 (F := Ideal) x0 x1 x3 x5 (ix3 h g s) := by
  rw [val_main_v25_apply]
  generalize val_main_v23 (F := Ideal) x0 x1 x3 x5 (ix3 h g s) = w
  have hi : val_main_v24 (F := Ideal) (ix3 h g s) = (⊥ : EReal) := Attn.neg_inf
  rw [hi]
  exact max_bot_left w

theorem v29_at (h g : Fin 4) (s : Fin 16384) (k : Fin 16641) : val_main_v29 (F := Ideal) x0 x1 x3 x5 (ix4 h g s k)
    = Ideal.exp (val_main_v22 (F := Ideal) x0 x1 x3 x5 (ix4 h g s k) - val_main_v25 (F := Ideal) x0 x1 x3 x5 (ix3 h g s)) := by
  pointwise [val_main_v29, val_main_v28, val_main_v27, val_main_v26]

theorem v30_at (h g : Fin 4) (s : Fin 16384) : val_main_v30 (F := Ideal) x0 x1 x3 x5 (ix3 h g s)
    = ∑ k : Fin 16641, val_main_v29 (F := Ideal) x0 x1 x3 x5 (ix4 h g s k) := by
  rw [val_main_v30_apply]
  have hi : val_main_cst_4 (F := Ideal) (Shape.Idx.first h_S_) = (0 : EReal) := by pointwise [val_main_cst_4]
  rw [hi, zero_add]
  refine Finset.sum_congr rfl fun k _ => ?_
  exact congrArg (val_main_v29 (F := Ideal) x0 x1 x3 x5)
    (funext fun a => Fin.ext (by match a with | ⟨0, _⟩ => rfl | ⟨1, _⟩ => rfl | ⟨2, _⟩ => rfl | ⟨3, _⟩ => rfl))

theorem v33_at (h g : Fin 4) (s : Fin 16384) (k : Fin 16641) : val_main_v33 (F := Ideal) x0 x1 x3 x5 (ix4 h g s k)
    = Ideal.div (val_main_v29 (F := Ideal) x0 x1 x3 x5 (ix4 h g s k)) (val_main_v30 (F := Ideal) x0 x1 x3 x5 (ix3 h g s)) := by
  pointwise [val_main_v33, val_main_v32, val_main_v31]

theorem v42_at (s : Fin 16384) (q : Fin 1024) : val_main_v42 (F := Ideal) x0 x1 x2 x3 x4 x5 (ix2 s q)
    = (∑ k : Fin 16384, x2 (ix2 k ⟨q / 256 * 64 + q % 64, by omega⟩)
        * val_main_v33 (F := Ideal) x0 x1 x3 x5 (ix4 ⟨q / 256, by omega⟩ ⟨q / 64 % 4, by omega⟩ s ⟨k, by omega⟩))
      + ∑ k : Fin 256, x4 (ix2 k ⟨q / 256 * 64 + q % 64, by omega⟩)
        * val_main_v33 (F := Ideal) x0 x1 x3 x5 (ix4 ⟨q / 256, by omega⟩ ⟨q / 64 % 4, by omega⟩ s ⟨16384 + k, by omega⟩) := by
  pointwise [val_main_v42, val_main_v41, val_main_v40, val_main_v39, val_main_v38, val_main_v37, val_main_v36, val_main_v35, val_main_v34, val_main_v2, val_main_v4]

/-- Every score of query head `(h, g)`'s row `s`, the sink's last. -/
def scores (h g : Fin 4) (s : Fin 16384) : Fin (16640 + 1) → EReal :=
  fun k => val_main_v22 (F := Ideal) x0 x1 x3 x5 (ix4 h g s k)

theorem weight_at (h g : Fin 4) (s : Fin 16384) (k : Fin 16641) : val_main_v33 (F := Ideal) x0 x1 x3 x5 (ix4 h g s k)
    = Ideal.div (Ideal.exp (scores x0 x1 x3 x5 h g s k - Soft.top (scores x0 x1 x3 x5 h g s)))
      (∑ k, Ideal.exp (scores x0 x1 x3 x5 h g s k - Soft.top (scores x0 x1 x3 x5 h g s))) := by
  rw [v33_at, v30_at]
  simp only [v29_at, v25_at, v23_at]
  rfl

theorem sum_split {a b n : ℕ} (e : a + b = n) (f : Fin n → EReal) :
    ∑ k, f k = (∑ k : Fin a, f ⟨k, by omega⟩) + ∑ k : Fin b, f ⟨a + k, by omega⟩ := by
  subst e
  exact Fin.sum_univ_add f

/-- The value rows: the sequence's, then the context's. -/
def vals (a : FVec Ideal S16384x256 .f32) (b : FVec Ideal S256x256 .f32) (n : Fin 256) (p : Fin 16640) : EReal :=
  if h : (p : ℕ) < 16384 then a (ix2 ⟨p, h⟩ n) else b (ix2 ⟨p - 16384, by omega⟩ n)

theorem row (s : Fin 16384) (q : Fin 1024) : val_main_v42 (F := Ideal) x0 x1 x2 x3 x4 x5 (ix2 s q)
    = Soft.att (scores x0 x1 x3 x5 ⟨q / 256, by omega⟩ ⟨q / 64 % 4, by omega⟩ s) (vals x2 x4 ⟨q / 256 * 64 + q % 64, by omega⟩) := by
  rw [v42_at]
  unfold Soft.att
  rw [sum_split (a := 16384) (b := 256) (n := 16640) rfl]
  simp only [weight_at]
  refine congrArg₂ (· + ·) (Finset.sum_congr rfl fun k _ => ?_) (Finset.sum_congr rfl fun k _ => ?_)
  · refine congrArg₂ (· * ·) ?_ rfl
    unfold vals
    rw [dif_pos k.isLt]
  · refine congrArg₂ (· * ·) ?_ rfl
    have hk : ¬ (16384 + (k : ℕ) < 16384) := by omega
    have he : 16384 + (k : ℕ) - 16384 = k := by omega
    unfold vals
    simp only [dif_neg hk, he]

/-- A row's scores, by key. -/
theorem scores_near (h g : Fin 4) (s : Fin 16384) (p : Fin (16640 + 1)) (k : Fin 16384) (hp : (p : ℕ) = k)
    (hs : (s : ℕ) ≤ k + 128 ∧ (k : ℕ) ≤ s + 128) : scores x0 x1 x3 x5 h g s p
      = (∑ d : Fin 64, x1 (ix2 k ⟨h * 64 + d, by omega⟩) * x0 (ix2 s ⟨h * 256 + g * 64 + d, by omega⟩)) * Ideal.ofBits .f32 0x3E000000#32 := by
  have e : p = ⟨k, by omega⟩ := Fin.ext hp
  rw [e]
  unfold scores
  rw [v22_at, dif_pos k.isLt, v15_at, if_pos hs, v12_at]

theorem scores_far (h g : Fin 4) (s : Fin 16384) (p : Fin (16640 + 1)) (k : Fin 16384) (hp : (p : ℕ) = k)
    (hs : ¬ ((s : ℕ) ≤ k + 128 ∧ (k : ℕ) ≤ s + 128)) : scores x0 x1 x3 x5 h g s p = ⊥ := by
  have e : p = ⟨k, by omega⟩ := Fin.ext hp
  rw [e]
  unfold scores
  rw [v22_at, dif_pos k.isLt, v15_at, if_neg hs]

theorem scores_ctx (h g : Fin 4) (s : Fin 16384) (p : Fin (16640 + 1)) (k : Fin 256) (hp : (p : ℕ) = 16384 + k) :
    scores x0 x1 x3 x5 h g s p
      = (∑ d : Fin 64, x3 (ix2 k ⟨h * 64 + d, by omega⟩) * x0 (ix2 s ⟨h * 256 + g * 64 + d, by omega⟩)) * Ideal.ofBits .f32 0x3E000000#32 := by
  have e : p = ⟨16384 + k, by omega⟩ := Fin.ext hp
  rw [e]
  have h1 : ¬ (16384 + (k : ℕ) < 16384) := by omega
  have h2 : 16384 + (k : ℕ) - 16384 < 256 := by omega
  have h3 : (⟨16384 + (k : ℕ) - 16384, h2⟩ : Fin 256) = k := Fin.ext (by simp only; omega)
  unfold scores
  rw [v22_at, dif_neg h1, dif_pos h2, h3, v19_at, v17_at]

theorem scores_sink (h g : Fin 4) (s : Fin 16384) (p : Fin (16640 + 1)) (hp : (p : ℕ) = 16640) :
    scores x0 x1 x3 x5 h g s p = x5 (ix1 ⟨h * 4 + g, by omega⟩) := by
  have e : p = ⟨16640, by omega⟩ := Fin.ext hp
  rw [e]
  unfold scores
  rw [v22_at, dif_neg (by norm_num), dif_neg (by norm_num)]

end Cert.AttnRef
end
-- ==== Proof.Equal.lean ====
module

public import proofs.«01_k».proof.Defs
public import proofs.«01_k».proof.Proof.AttnRow
public import proofs.«01_k».proof.Proof.AttnRef
public import proofs.«01_k».proof.Proof.Gen.KernelIdeal.Value

@[expose] public section

set_option maxRecDepth 16384

/-! The attention kernel and its reference agree on real scores. -/

noncomputable section
namespace Cert.Equal

open Idealize.ShloMosaic Idealize.SL.Sem Cert.Attn

theorem preFacts : Cert.Pre_finite.Facts where
  bcast_S_S16384x1024 := by decide
  bcast_S_S16384x256 := by decide
  bcast_S_S256x256 := by decide
  bcast_S_S16 := by decide

/-- A real entry. -/
def IsReal (x : EReal) : Prop := x ≠ ⊤ ∧ x ≠ ⊥

theorem IsReal.lift {x : EReal} (h : IsReal x) : ∃ r : ℝ, x = r :=
  ⟨x.toReal, (EReal.coe_toReal h.1 h.2).symm⟩

theorem real_coe (r : ℝ) : IsReal r := ⟨EReal.coe_ne_top r, EReal.coe_ne_bot r⟩

theorem IsReal.mul {x y : EReal} (hx : IsReal x) (hy : IsReal y) : IsReal (x * y) := by
  obtain ⟨a, rfl⟩ := hx.lift
  obtain ⟨b, rfl⟩ := hy.lift
  rw [← EReal.coe_mul]
  exact real_coe _

theorem IsReal.add {x y : EReal} (hx : IsReal x) (hy : IsReal y) : IsReal (x + y) := by
  obtain ⟨a, rfl⟩ := hx.lift
  obtain ⟨b, rfl⟩ := hy.lift
  rw [← EReal.coe_add]
  exact real_coe _

theorem real_sum {ι : Type} (s : Finset ι) (f : ι → EReal) (h : ∀ k, IsReal (f k)) : IsReal (∑ k ∈ s, f k) :=
  Finset.sum_induction f IsReal (fun _ _ => IsReal.add) (real_coe 0) fun k _ => h k

theorem inf_top : Ideal.ofBits .f32 2139095040#32 = ⊤ := by
  simp [Ideal.ofBits, Ideal.ieee, -Ideal.ofBits.eq_1]

/-- The scores' factor, an eighth. -/
theorem eighth : Ideal.ofBits .f32 0x3E000000#32 = ((1 / 8 : ℝ) : EReal) := by
  simp [Ideal.ofBits, Ideal.ieee, -Ideal.ofBits.eq_1]
  exact (EReal.coe_mul _ _).symm.trans (congrArg _ (by norm_num))

theorem real_of (x : EReal)
    (h : BitVec.ofBool (decide (FloatOps.absf (F := Ideal) (φ := .f32) x < Ideal.ofBits .f32 2139095040#32)) = 1#1) : IsReal x := by
  rw [inf_top] at h
  constructor
  · rintro rfl
    revert h
    simp [FloatOps.absf]
  · rintro rfl
    revert h
    simp [FloatOps.absf]

section
variable [Cert.Pre_finite.Facts] (a0 : FVec Ideal Pre_finite.S16384x1024 .f32) (a1 a2 : FVec Ideal Pre_finite.S16384x256 .f32)
  (a3 a4 : FVec Ideal Pre_finite.S256x256 .f32) (a5 : FVec Ideal Pre_finite.S16 .f32)

theorem pre0 (h : (Cert.Pre_finite.fn (F := Ideal) a0 a1 a2 a3 a4 a5).1 = fun _ => 1#1) (s : Fin 16384) (n : Fin 1024) :
    IsReal (a0 (ix2 s n)) := by
  have h := congrFun h (ix2 s n)
  unfold Cert.Pre_finite.fn at h
  pointwise [] at h
  exact real_of _ h

theorem pre1 (h : (Cert.Pre_finite.fn (F := Ideal) a0 a1 a2 a3 a4 a5).2.1 = fun _ => 1#1) (s : Fin 16384) (n : Fin 256) :
    IsReal (a1 (ix2 s n)) := by
  have h := congrFun h (ix2 s n)
  unfold Cert.Pre_finite.fn at h
  pointwise [] at h
  exact real_of _ h

theorem pre3 (h : (Cert.Pre_finite.fn (F := Ideal) a0 a1 a2 a3 a4 a5).2.2.1 = fun _ => 1#1) (s : Fin 256) (n : Fin 256) :
    IsReal (a3 (ix2 s n)) := by
  have h := congrFun h (ix2 s n)
  unfold Cert.Pre_finite.fn at h
  pointwise [] at h
  exact real_of _ h

theorem pre5 (h : (Cert.Pre_finite.fn (F := Ideal) a0 a1 a2 a3 a4 a5).2.2.2 = fun _ => 1#1) (n : Fin 16) :
    IsReal (a5 (ix1 n)) := by
  have h := congrFun h (ix1 n)
  unfold Cert.Pre_finite.fn at h
  pointwise [] at h
  exact real_of _ h
end

section
variable (ql : FVec Ideal KernelIdeal.S16384x1024 .f32) (kl : FVec Ideal KernelIdeal.S16384x256 .f32) (kc : FVec Ideal KernelIdeal.S256x256 .f32)
  (sk : FVec Ideal KernelIdeal.S16 .f32) (h g : Fin 4) (s : Fin 16384)

/-- A key's score. -/
def dot (k : Fin 16640) : EReal :=
  (∑ d : Fin 64, rows kl kc k ⟨h * 64 + d, by omega⟩ * ql (ix2 s ⟨h * 256 + g * 64 + d, by omega⟩)) * Ideal.ofBits .f32 0x3E000000#32

theorem near (k : Fin 16640) (hk : (k : ℕ) < 16384 → (s : ℕ) ≤ k + 128 ∧ (k : ℕ) ≤ s + 128) :
    AttnRef.scores ql kl kc sk h g s k.castSucc = dot ql kl kc h g s k := by
  unfold dot rows
  by_cases h1 : (k : ℕ) < 16384
  · simp only [dif_pos h1]
    exact AttnRef.scores_near ql kl kc sk h g s k.castSucc ⟨k, h1⟩ rfl (hk h1)
  · simp only [dif_neg h1]
    exact AttnRef.scores_ctx ql kl kc sk h g s k.castSucc ⟨(k : ℕ) - 16384, by omega⟩
      (by change (k : ℕ) = 16384 + (k - 16384); omega)

theorem dot_scaled (k : Fin 16640) :
    (∑ d : Fin 64, qs ql s ⟨h * 256 + g * 64 + d, by omega⟩ * rows kl kc k ⟨h * 64 + d, by omega⟩) = dot ql kl kc h g s k * Soft.l2e := by
  unfold dot qs
  rw [Soft.sum_mul _ _ _ (by rw [eighth]; exact EReal.coe_nonneg.2 (by norm_num)) (by rw [eighth]; exact EReal.coe_ne_top _),
    Soft.sum_mul _ _ _ Soft.l2e_nonneg (EReal.coe_ne_top _)]
  refine Finset.sum_congr rfl fun d _ => ?_
  generalize rows kl kc k _ = a
  generalize ql _ = b
  rw [mul_comm a b, mul_right_comm _ Soft.l2e a, mul_right_comm b _ a]

theorem dot_real (h0 : ∀ s n, IsReal (ql (ix2 s n))) (h1 : ∀ s n, IsReal (kl (ix2 s n))) (h3 : ∀ s n, IsReal (kc (ix2 s n)))
    (k : Fin 16640) : IsReal (dot ql kl kc h g s k) := by
  unfold dot
  refine (real_sum _ _ fun d => IsReal.mul ?_ (h0 _ _)).mul (by rw [eighth]; exact real_coe _)
  unfold rows
  split
  · exact h1 _ _
  · exact h3 _ _

/-- A key the row attends to is near. -/
theorem at_near (j : Fin 768) (hP : P s j) (hk : (at' s j : ℕ) < 16384) :
    (s : ℕ) ≤ (at' s j : ℕ) + 128 ∧ (at' s j : ℕ) ≤ s + 128 := by
  by_cases hj : (j : ℕ) < 512
  · have := at_seq s j hj hP
    have := hP hj
    omega
  · have := at_ctx s j hj
    omega

theorem at_inj (a b : Fin 768) (ha : P s a) (hb : P s b) (e : at' s a = at' s b) : a = b := by
  have e : (at' s a : ℕ) = at' s b := congrArg Fin.val e
  refine Fin.ext ?_
  by_cases h1 : (a : ℕ) < 512 <;> by_cases h2 : (b : ℕ) < 512
  · have := at_seq s a h1 ha
    have := at_seq s b h2 hb
    omega
  · have := at_seq s a h1 ha
    have := at_ctx s b h2
    have := ha h1
    omega
  · have := at_ctx s a h1
    have := at_seq s b h2 hb
    have := hb h2
    omega
  · have := at_ctx s a h1
    have := at_ctx s b h2
    omega

theorem at_off (k : Fin 16640) (hk : ∀ j, P s j → at' s j ≠ k) :
    (k : ℕ) < 16384 ∧ ¬ ((s : ℕ) ≤ k + 128 ∧ (k : ℕ) ≤ s + 128) := by
  have h1 : (k : ℕ) < 16384 := by
    by_contra h1
    refine hk ⟨512 + ((k : ℕ) - 16384), by omega⟩ (fun h => absurd h (by simp only; omega)) (Fin.ext ?_)
    rw [at_ctx s _ (by simp only; omega)]
    simp only; omega
  refine ⟨h1, fun h2 => ?_⟩
  have hP : P s ⟨(k : ℕ) + 128 - 256 * ((s : ℕ) / 256), by omega⟩ := fun _ => by simp only; omega
  refine hk _ hP (Fin.ext ?_)
  have := at_seq s _ (by simp only; omega) hP
  simp only at this
  omega
end

variable (m : (ℓ : Loc KernelIdeal.nD KernelIdeal.τ KernelIdeal.sig) → Buf (Elt Ideal) ℓ) (c : Dev KernelIdeal.nD)

theorem out_row (h0 : ∀ s n, IsReal ((m ((c.tc : Thread KernelIdeal.nD KernelIdeal.τ).loc KernelIdeal.main_arg0) : FVec Ideal KernelIdeal.S16384x1024 .f32) (ix2 s n)))
    (h1 : ∀ s n, IsReal ((m ((c.tc : Thread KernelIdeal.nD KernelIdeal.τ).loc KernelIdeal.main_arg1) : FVec Ideal KernelIdeal.S16384x256 .f32) (ix2 s n)))
    (h3 : ∀ s n, IsReal ((m ((c.tc : Thread KernelIdeal.nD KernelIdeal.τ).loc KernelIdeal.main_arg3) : FVec Ideal KernelIdeal.S256x256 .f32) (ix2 s n)))
    (h5 : ∀ n, IsReal ((m ((c.tc : Thread KernelIdeal.nD KernelIdeal.τ).loc KernelIdeal.main_arg5) : FVec Ideal KernelIdeal.S16 .f32) (ix1 n)))
    (s : Fin 16384) (q : Fin 1024) :
    outv m c s q = Soft.att (AttnRef.scores (m ((c.tc : Thread KernelIdeal.nD KernelIdeal.τ).loc KernelIdeal.main_arg0))
        (m ((c.tc : Thread KernelIdeal.nD KernelIdeal.τ).loc KernelIdeal.main_arg1)) (m ((c.tc : Thread KernelIdeal.nD KernelIdeal.τ).loc KernelIdeal.main_arg3))
        (m ((c.tc : Thread KernelIdeal.nD KernelIdeal.τ).loc KernelIdeal.main_arg5)) ⟨q / 256, by omega⟩ ⟨q / 64 % 4, by omega⟩ s)
      (AttnRef.vals (m ((c.tc : Thread KernelIdeal.nD KernelIdeal.τ).loc KernelIdeal.main_arg2))
        (m ((c.tc : Thread KernelIdeal.nD KernelIdeal.τ).loc KernelIdeal.main_arg4)) ⟨q / 256 * 64 + q % 64, by omega⟩) := by
  unfold outv blk
  have hz := AttnRef.scores_sink (m ((c.tc : Thread KernelIdeal.nD KernelIdeal.τ).loc KernelIdeal.main_arg0))
        (m ((c.tc : Thread KernelIdeal.nD KernelIdeal.τ).loc KernelIdeal.main_arg1)) (m ((c.tc : Thread KernelIdeal.nD KernelIdeal.τ).loc KernelIdeal.main_arg3))
        (m ((c.tc : Thread KernelIdeal.nD KernelIdeal.τ).loc KernelIdeal.main_arg5)) ⟨q / 256, by omega⟩ ⟨q / 64 % 4, by omega⟩ s (Fin.last 16640) rfl
  refine Soft.win_eq (P s) (at' s) _ _ (fun k hk => ?_) (fun j => ?_) (at_inj s) (fun k => ?_) ?_ _ ?_ _ _ fun j hP => ?_
  · obtain ⟨a, b⟩ := at_off s k hk
    exact AttnRef.scores_far _ _ _ _ _ _ _ _ ⟨k, a⟩ rfl b
  · rw [sc_row m c s ⟨q / 256, by omega⟩ ⟨q / 64 % 4, by omega⟩ _ rfl j]
    refine if_ctx_congr Iff.rfl (fun hP => ?_) fun _ => rfl
    rw [near _ _ _ _ _ _ _ _ (at_near s j hP)]
    exact dot_scaled _ _ _ _ _ _ _
  · induction k using Fin.lastCases with
    | last => rw [hz]; exact (h5 _).1
    | cast k =>
      by_cases hk : (k : ℕ) < 16384 → (s : ℕ) ≤ k + 128 ∧ (k : ℕ) ≤ s + 128
      · rw [near _ _ _ _ _ _ _ _ hk]
        exact (dot_real _ _ _ _ _ _ h0 h1 h3 k).1
      · obtain ⟨a, b⟩ := Classical.not_imp.1 hk
        rw [AttnRef.scores_far _ _ _ _ _ _ _ _ ⟨k, a⟩ rfl b]
        exact bot_ne_top
  · rw [hz]; exact (h5 _).2
  · rw [hz, blk6]
    refine congrArg (· * Soft.l2e) (congrArg _ (congrArg ix1 (Fin.ext ?_)))
    simp only; omega
  · have e : (⟨256 + 64 * (q / 256) + q % 64, by omega⟩ : Fin 512) = ⟨256 + (q / 256 * 64 + q % 64), by omega⟩ :=
      Fin.ext (by simp only; omega)
    exact (congrArg (kv _ _ _ _ j) e).trans (kv_val m c s j ⟨q / 256 * 64 + q % 64, by omega⟩ hP)

/-- The attention kernel and its reference end with equal results. -/
theorem algebraic : @Cert.algebraic_KernelIdeal_ReferenceIdeal_pre_finite _ _ preFacts := by
  pair_intro
  · run_from Cert.KernelIdeal.Value.run_blocks m g
  · refine θ_run_mono (Cert.ReferenceIdeal.Value.run m' g') ?_
    intro r hr c
    refine ⟨(hr c).1.trans ?_, (hr c).2⟩
    rw [Cert.ReferenceIdeal.Read.val_main_v42_eq]
    refine Eq.trans ?_ (Cert.Attn.final m c).symm
    obtain ⟨h0, h1, h2, h3, h4, h5⟩ := hagree c
    obtain ⟨p0, p1, p3, p5⟩ := hpre c
    rw [h0, h1, h2, h3, h4, h5]
    funext y
    have hy : y = ix2 (y 0) (y 1) := by funext a; fin_cases a <;> rfl
    refine (congrArg _ hy).trans ((AttnRef.row _ _ _ _ _ _ (y 0) (y 1)).trans (out_row m c ?_ ?_ ?_ ?_ (y 0) (y 1)).symm)
    · exact @pre0 preFacts _ _ _ _ _ _ p0
    · exact @pre1 preFacts _ _ _ _ _ _ p1
    · exact @pre3 preFacts _ _ _ _ _ _ p3
    · exact @pre5 preFacts _ _ _ _ _ _ p5

end Cert.Equal
end
-- ==== Proof.Row.lean ====
module

public import Idealize.ShloMosaic.Lib.Pipeline.ValueKit
public import Idealize.ShloMosaic.Lib.Pointwise

@[expose] public section

set_option maxRecDepth 16384

/-! The residual-and-FFN tail of one layer, for one token: a row of 1024 extended reals. -/

noncomputable section
namespace Cert.Row

open Idealize.ShloMosaic

/-- The reciprocal root mean square of a row (the mean over 1024 entries, plus epsilon). -/
def rs (x : Fin 1024 → EReal) : EReal :=
  Ideal.rsqrt (Ideal.div (∑ k, x k * x k) (Ideal.ofBits FTy.f32 1149239296#32) + Ideal.ofBits FTy.f32 897988541#32)

/-- The residual step: the row plus the gated projection of the mixer's output. -/
def res {n : ℕ} (x : Fin 1024 → EReal) (g : Fin 1024 → EReal) (o : Fin n → EReal) (w : Fin n → Fin 1024 → EReal) :
    Fin 1024 → EReal := fun j => x j + g j * ∑ k, o k * w k j

/-- The normalized and modulated row. -/
def hid (x nw sc sh : Fin 1024 → EReal) : Fin 1024 → EReal :=
  fun j => x j * rs x * (nw j * (1 + sc j)) + sh j

/-- One SwiGLU unit. -/
def unit (h : Fin 1024 → EReal) (win : Fin 1024 → Fin 5632 → EReal) (k : Fin 2816) : EReal :=
  (∑ i, h i * win i ⟨k, by omega⟩) * Ideal.logistic (∑ i, h i * win i ⟨k, by omega⟩)
    * ∑ i, h i * win i ⟨2816 + k, by omega⟩

/-- The SwiGLU network. -/
def ffn (h : Fin 1024 → EReal) (win : Fin 1024 → Fin 5632 → EReal) (wout : Fin 2816 → Fin 1024 → EReal) :
    Fin 1024 → EReal := fun j => ∑ k, unit h win k * wout k j

/-- The layer's tail after the residual step. -/
def tail (x nw sc sh gf : Fin 1024 → EReal) (win : Fin 1024 → Fin 5632 → EReal)
    (wout : Fin 2816 → Fin 1024 → EReal) : Fin 1024 → EReal :=
  fun j => x j + gf j * ffn (hid x nw sc sh) win wout j

/-- The `n`-th sixth of a modulation row. -/
def sec (n : Fin 6) (md : Fin 6144 → EReal) : Fin 1024 → EReal := fun j => md ⟨1024 * n + j, by omega⟩

/-- Residual step and tail with the modulation row as one. -/
def mix {n : ℕ} (x : Fin 1024 → EReal) (md : Fin 6144 → EReal) (o : Fin n → EReal) (w : Fin n → Fin 1024 → EReal)
    (nw : Fin 1024 → EReal) (win : Fin 1024 → Fin 5632 → EReal) (wout : Fin 2816 → Fin 1024 → EReal) :
    Fin 1024 → EReal :=
  tail (res x (sec 2 md) o w) nw (sec 4 md) (sec 3 md) (sec 5 md) win wout

/-- The grouped projection: each run of 256 entries has weights of its own. -/
def grp (o : Fin 1024 → EReal) (w : Fin 4 → Fin 256 → Fin 256 → EReal) (g : Fin 4) (j : Fin 256) : EReal :=
  ∑ k : Fin 256, o ⟨256 * g + k, by omega⟩ * w g k j

/-- The residual step with the grouped projection, scaled. -/
def res4 (x g o : Fin 1024 → EReal) (w : Fin 4 → Fin 256 → Fin 256 → EReal) (ps : Fin 1024 → EReal) : Fin 1024 → EReal :=
  fun j => x j + g j * (grp o w ⟨j / 256, by omega⟩ ⟨j % 256, by omega⟩ * ps j)

/-- The final norm. -/
def fin (x fw : Fin 1024 → EReal) : Fin 1024 → EReal := fun j => x j * rs x * fw j

/-- A sum over 2816 units in three runs. -/
theorem sum_runs (f : Fin 2816 → EReal) :
    ∑ k, f k = (∑ k : Fin 1024, f ⟨k, by omega⟩ + ∑ k : Fin 1024, f ⟨1024 + k, by omega⟩)
      + ∑ k : Fin 768, f ⟨2048 + k, by omega⟩ := by
  have h1 := Fin.sum_univ_add (a := 2048) (b := 768) f
  have h2 := Fin.sum_univ_add (a := 1024) (b := 1024) fun k => f (Fin.castAdd 768 k)
  rw [h1, h2]
  rfl

/-- The network's sum in the kernel's three runs of units. -/
theorem ffn_runs (h : Fin 1024 → EReal) (win : Fin 1024 → Fin 5632 → EReal) (wout : Fin 2816 → Fin 1024 → EReal)
    (j : Fin 1024) : ffn h win wout j
      = (∑ k : Fin 1024, ((∑ i, h i * win i ⟨k, by omega⟩) * Ideal.logistic (∑ i, h i * win i ⟨k, by omega⟩)
        * ∑ i, h i * win i ⟨2816 + k, by omega⟩) * wout ⟨k, by omega⟩ j
        + ∑ k : Fin 1024, ((∑ i, h i * win i ⟨1024 + k, by omega⟩) * Ideal.logistic (∑ i, h i * win i ⟨1024 + k, by omega⟩)
        * ∑ i, h i * win i ⟨3840 + k, by omega⟩) * wout ⟨1024 + k, by omega⟩ j)
        + ∑ k : Fin 768, ((∑ i, h i * win i ⟨2048 + k, by omega⟩) * Ideal.logistic (∑ i, h i * win i ⟨2048 + k, by omega⟩)
        * ∑ i, h i * win i ⟨4864 + k, by omega⟩) * wout ⟨2048 + k, by omega⟩ j := by
  have e1 : ∀ k : Fin 1024, (⟨2816 + (1024 + k), by omega⟩ : Fin 5632) = ⟨3840 + k, by omega⟩ :=
    fun k => Fin.ext (by show 2816 + (1024 + (k : ℕ)) = 3840 + k; omega)
  have e2 : ∀ k : Fin 768, (⟨2816 + (2048 + k), by omega⟩ : Fin 5632) = ⟨4864 + k, by omega⟩ :=
    fun k => Fin.ext (by show 2816 + (2048 + (k : ℕ)) = 4864 + k; omega)
  unfold ffn
  rw [sum_runs]
  simp only [unit, e1, e2]

end Cert.Row
-- ==== Proof.Tail2.lean ====
module

public import proofs.«01_k».proof.Proof.Row
public import proofs.«01_k».proof.Proof.Gen.Kernel2Ideal.Frame

@[expose] public section

set_option maxRecDepth 16384

/-! The second kernel: what it writes at each grid point, row by row, and its whole result. -/

noncomputable section
namespace Cert.Tail2

open Cert.Kernel2Ideal Cert.Kernel2Ideal.Gen Idealize.ShloMosaic Idealize.ShloMosaic.TcCoe Idealize.SL.Sem
open Cert.Row

variable (i : grid0.Coords) (x0 : Vec Ideal S512x1024 .f32) (x1 : Vec Ideal S512x1024 .bf16)
  (x2 : Vec Ideal S1024x1024 .bf16) (x3 : Vec Ideal S1x8x6144 .f32) (x4 : Vec Ideal S1x1024 .f32)
  (x5 : Vec Ideal S1x1024x5632 .bf16) (x6 : Vec Ideal S1x2816x1024 .bf16) (x7 : Vec Ideal S1x1024 .f32)

/-- Whether the grid point is past the latent rows. -/
abbrev past : BitVec 1 := Scalar.cmpi CmpIPredicate.sge (BitVec.ofNat 32 ↑(i 0)) 32#32

/-- The modulation row the grid point takes. -/
def md (n : Fin 6144) : EReal := Scalar.select (past i) (x3 (ix3 0 1 n)) (x3 (ix3 0 0 n))

/-- The residual step as the kernel computes it on a block. -/
abbrev b2 : FVec Ideal S512x1024 .f32 :=
  k0_pay2 i x1 x2 x0
    (View.ld x3 (Rect.unit ![0, 1, 2048] ![1, 1, 1024] inb_S1x8x6144_S1x1x1024_0_1_2048))
    (View.ld x3 (Rect.unit ![0, 0, 2048] ![1, 1, 1024] inb_S1x8x6144_S1x1x1024_0_0_2048))

/-- A row after the residual step. -/
abbrev r2 (r : Fin 512) : Fin 1024 → EReal :=
  res (fun j => x0 (ix2 r j)) (sec 2 (md i x3)) (fun k => x1 (ix2 r k)) (fun k j => x2 (ix2 k j))

theorem b2_at (r : Fin 512) (j : Fin 1024) : b2 i x0 x1 x2 x3 (ix2 r j) = r2 i x0 x1 x2 x3 r j := by
  pointwise [k0_pay2, res, sec, md]

/-- The norm's scale as the kernel computes it. -/
abbrev b3 : FVec Ideal S1x1024 .f32 :=
  k0_pay3 i x4
    (View.ld x3 (Rect.unit ![0, 1, 4096] ![1, 1, 1024] inb_S1x8x6144_S1x1x1024_0_1_4096))
    (View.ld x3 (Rect.unit ![0, 0, 4096] ![1, 1, 1024] inb_S1x8x6144_S1x1x1024_0_0_4096))

theorem b3_at (r : Fin 1) (j : Fin 1024) : b3 i x3 x4 (ix2 r j) = x4 (ix2 0 j) * (1 + sec 4 (md i x3) j) := by
  obtain rfl : r = 0 := Subsingleton.elim _ _
  pointwise [k0_pay3, sec, md]

/-- The mean square plus epsilon as the kernel computes it. -/
abbrev b4 : FVec Ideal S512x1 .f32 :=
  k0_pay4 i x1 x2 x0
    (View.ld x3 (Rect.unit ![0, 1, 2048] ![1, 1, 1024] inb_S1x8x6144_S1x1x1024_0_1_2048))
    (View.ld x3 (Rect.unit ![0, 0, 2048] ![1, 1, 1024] inb_S1x8x6144_S1x1x1024_0_0_2048))

theorem b4_at (r : Fin 512) (j : Fin 1) :
    Ideal.rsqrt (b4 i x0 x1 x2 x3 (ix2 r j)) = rs (r2 i x0 x1 x2 x3 r) := by
  have e := b2_at i x0 x1 x2 x3
  unfold b2 at e
  pointwise [k0_pay4]
  simp only [e]
  rfl

/-- The normalized and modulated block as the kernel computes it. -/
abbrev b5 : FVec Ideal S512x1024 .bf16 :=
  k0_pay5 (b2 i x0 x1 x2 x3) (past i) (b3 i x3 x4) (b4 i x0 x1 x2 x3)
    (View.ld x3 (Rect.unit ![0, 1, 3072] ![1, 1, 1024] inb_S1x8x6144_S1x1x1024_0_1_3072))
    (View.ld x3 (Rect.unit ![0, 0, 3072] ![1, 1, 1024] inb_S1x8x6144_S1x1x1024_0_0_3072))

/-- A row after norm and modulation. -/
abbrev r5 (r : Fin 512) : Fin 1024 → EReal :=
  hid (r2 i x0 x1 x2 x3 r) (fun j => x4 (ix2 0 j)) (sec 4 (md i x3)) (sec 3 (md i x3))

theorem b5_at (r : Fin 512) (j : Fin 1024) : b5 i x0 x1 x2 x3 x4 (ix2 r j) = r5 i x0 x1 x2 x3 x4 r j := by
  have e2 := b2_at i x0 x1 x2 x3
  have e3 := b3_at i x3 x4
  have e4 := b4_at i x0 x1 x2 x3
  unfold b5
  generalize b2 i x0 x1 x2 x3 = B2 at *
  generalize b3 i x3 x4 = B3 at *
  generalize b4 i x0 x1 x2 x3 = B4 at *
  pointwise [k0_pay5]
  rw [e2, e3, e4]
  rfl

/-- The input weights and the output weights. -/
abbrev win (i' : Fin 1024) (k : Fin 5632) : EReal := x5 (ix3 0 i' k)
abbrev wout (k : Fin 2816) (j : Fin 1024) : EReal := x6 (ix3 0 k j)

/-- The row after the network. -/
abbrev r9 (r : Fin 512) : Fin 1024 → EReal :=
  mix (fun j => x0 (ix2 r j)) (md i x3) (fun k => x1 (ix2 r k)) (fun k j => x2 (ix2 k j))
    (fun j => x4 (ix2 0 j)) (win x5) (wout x6)

abbrev b9 : FVec Ideal S512x1024 .f32 :=
  k0_pay9 (BitVec.ofNat 32 ↑(i 0)) (b2 i x0 x1 x2 x3) (b5 i x0 x1 x2 x3 x4)
    (k0_pay6 (b2 i x0 x1 x2 x3) (past i) (b3 i x3 x4) (b4 i x0 x1 x2 x3)
      (View.ld x3 (Rect.unit ![0, 1, 3072] ![1, 1, 1024] inb_S1x8x6144_S1x1x1024_0_1_3072))
      (View.ld x3 (Rect.unit ![0, 0, 3072] ![1, 1, 1024] inb_S1x8x6144_S1x1x1024_0_0_3072))
      (View.ld x5 (Rect.unit ![0, 0, 0] ![1, 1024, 1024] inb_S1x1024x5632_S1x1024x1024_0_0_0))
      (View.ld x5 (Rect.unit ![0, 0, 2816] ![1, 1024, 1024] inb_S1x1024x5632_S1x1024x1024_0_0_2816))
      (View.ld x6 (Rect.unit ![0, 0, 0] ![1, 1024, 1024] inb_S1x2816x1024_S1x1024x1024_0_0_0)))
    (k0_pay7 (b2 i x0 x1 x2 x3) (past i) (b3 i x3 x4) (b4 i x0 x1 x2 x3)
      (View.ld x3 (Rect.unit ![0, 1, 3072] ![1, 1, 1024] inb_S1x8x6144_S1x1x1024_0_1_3072))
      (View.ld x3 (Rect.unit ![0, 0, 3072] ![1, 1, 1024] inb_S1x8x6144_S1x1x1024_0_0_3072))
      (View.ld x5 (Rect.unit ![0, 0, 3840] ![1, 1024, 1024] inb_S1x1024x5632_S1x1024x1024_0_0_3840)))
    (k0_pay8 (b2 i x0 x1 x2 x3) (past i) (b3 i x3 x4) (b4 i x0 x1 x2 x3)
      (View.ld x3 (Rect.unit ![0, 1, 3072] ![1, 1, 1024] inb_S1x8x6144_S1x1x1024_0_1_3072))
      (View.ld x3 (Rect.unit ![0, 0, 3072] ![1, 1, 1024] inb_S1x8x6144_S1x1x1024_0_0_3072))
      (View.ld x5 (Rect.unit ![0, 0, 1024] ![1, 1024, 1024] inb_S1x1024x5632_S1x1024x1024_0_0_1024)))
    (View.ld x6 (Rect.unit ![0, 1024, 0] ![1, 1024, 1024] inb_S1x2816x1024_S1x1024x1024_0_1024_0))
    (View.ld x5 (Rect.unit ![0, 0, 2048] ![1, 1024, 768] inb_S1x1024x5632_S1x1024x768_0_0_2048))
    (View.ld x5 (Rect.unit ![0, 0, 4864] ![1, 1024, 768] inb_S1x1024x5632_S1x1024x768_0_0_4864))
    (View.ld x6 (Rect.unit ![0, 2048, 0] ![1, 768, 1024] inb_S1x2816x1024_S1x768x1024_0_2048_0))
    (View.ld x3 (Rect.unit ![0, 1, 5120] ![1, 1, 1024] inb_S1x8x6144_S1x1x1024_0_1_5120))
    (View.ld x3 (Rect.unit ![0, 0, 5120] ![1, 1, 1024] inb_S1x8x6144_S1x1x1024_0_0_5120))

theorem b9_at (r : Fin 512) (j : Fin 1024) :
    b9 i x0 x1 x2 x3 x4 x5 x6 (ix2 r j) = r9 i x0 x1 x2 x3 x4 x5 x6 r j := by
  have e2 := b2_at i x0 x1 x2 x3
  have e5 := b5_at i x0 x1 x2 x3 x4
  unfold r9 mix tail
  unfold r5 at e5
  unfold r2 at e2 e5
  rw [ffn_runs, ← e2]
  simp only [← e5]
  unfold b9
  pointwise [k0_pay9, k0_pay6, k0_pay7, k0_pay8, sec, md]

/-- The whole block as the kernel computes it. -/
abbrev b1 : FVec Ideal S512x1024 .f32 :=
  k0_pay1 (b9 i x0 x1 x2 x3 x4 x5 x6)
    (k0_pay10 (BitVec.ofNat 32 ↑(i 0)) (b2 i x0 x1 x2 x3) (b5 i x0 x1 x2 x3 x4)
      (k0_pay6 (b2 i x0 x1 x2 x3) (past i) (b3 i x3 x4) (b4 i x0 x1 x2 x3)
        (View.ld x3 (Rect.unit ![0, 1, 3072] ![1, 1, 1024] inb_S1x8x6144_S1x1x1024_0_1_3072))
        (View.ld x3 (Rect.unit ![0, 0, 3072] ![1, 1, 1024] inb_S1x8x6144_S1x1x1024_0_0_3072))
        (View.ld x5 (Rect.unit ![0, 0, 0] ![1, 1024, 1024] inb_S1x1024x5632_S1x1024x1024_0_0_0))
        (View.ld x5 (Rect.unit ![0, 0, 2816] ![1, 1024, 1024] inb_S1x1024x5632_S1x1024x1024_0_0_2816))
        (View.ld x6 (Rect.unit ![0, 0, 0] ![1, 1024, 1024] inb_S1x2816x1024_S1x1024x1024_0_0_0)))
      (k0_pay7 (b2 i x0 x1 x2 x3) (past i) (b3 i x3 x4) (b4 i x0 x1 x2 x3)
        (View.ld x3 (Rect.unit ![0, 1, 3072] ![1, 1, 1024] inb_S1x8x6144_S1x1x1024_0_1_3072))
        (View.ld x3 (Rect.unit ![0, 0, 3072] ![1, 1, 1024] inb_S1x8x6144_S1x1x1024_0_0_3072))
        (View.ld x5 (Rect.unit ![0, 0, 3840] ![1, 1024, 1024] inb_S1x1024x5632_S1x1024x1024_0_0_3840)))
      (k0_pay8 (b2 i x0 x1 x2 x3) (past i) (b3 i x3 x4) (b4 i x0 x1 x2 x3)
        (View.ld x3 (Rect.unit ![0, 1, 3072] ![1, 1, 1024] inb_S1x8x6144_S1x1x1024_0_1_3072))
        (View.ld x3 (Rect.unit ![0, 0, 3072] ![1, 1, 1024] inb_S1x8x6144_S1x1x1024_0_0_3072))
        (View.ld x5 (Rect.unit ![0, 0, 1024] ![1, 1024, 1024] inb_S1x1024x5632_S1x1024x1024_0_0_1024)))
      (View.ld x6 (Rect.unit ![0, 1024, 0] ![1, 1024, 1024] inb_S1x2816x1024_S1x1024x1024_0_1024_0))
      (View.ld x5 (Rect.unit ![0, 0, 2048] ![1, 1024, 768] inb_S1x1024x5632_S1x1024x768_0_0_2048))
      (View.ld x5 (Rect.unit ![0, 0, 4864] ![1, 1024, 768] inb_S1x1024x5632_S1x1024x768_0_0_4864))
      (View.ld x6 (Rect.unit ![0, 2048, 0] ![1, 768, 1024] inb_S1x2816x1024_S1x768x1024_0_2048_0))
      (View.ld x3 (Rect.unit ![0, 1, 5120] ![1, 1, 1024] inb_S1x8x6144_S1x1x1024_0_1_5120))
      (View.ld x3 (Rect.unit ![0, 0, 5120] ![1, 1, 1024] inb_S1x8x6144_S1x1x1024_0_0_5120)))
    (FloatOps.ofBits FTy.f32 897988541#32) x7

theorem b1_at (r : Fin 512) (j : Fin 1024) :
    b1 i x0 x1 x2 x3 x4 x5 x6 x7 (ix2 r j)
      = fin (r9 i x0 x1 x2 x3 x4 x5 x6 r) (fun j => x7 (ix2 0 j)) j := by
  have e9 := b9_at i x0 x1 x2 x3 x4 x5 x6
  unfold fin rs
  rw [← e9]
  simp only [← e9]
  unfold b1
  pointwise [k0_pay1, k0_pay10]

variable (m : (ℓ : Loc nD τ sig) → Buf (Elt Ideal) ℓ) (c : Dev nD)

/-- A row of the result, from the launch's arguments. -/
def out (m : (ℓ : Loc nD τ sig) → Buf (Elt Ideal) ℓ) (c : Dev nD) (s : Fin 16384) (j : Fin 1024) : EReal :=
  fin (mix (fun j => (m ((c : Thread nD τ).loc main_arg0) : FVec Ideal S16640x1024 .f32) (ix2 ⟨s, by omega⟩ j))
      (fun n => (m ((c : Thread nD τ).loc main_arg3) : FVec Ideal S4x6144 .f32) (ix2 3 n))
      (fun k => (m ((c : Thread nD τ).loc main_arg1) : FVec Ideal S16384x1024 .bf16) (ix2 s k))
      (fun k j => (m ((c : Thread nD τ).loc main_arg2) : FVec Ideal S1024x1024 .f32) (ix2 k j))
      (fun j => (m ((c : Thread nD τ).loc main_arg5) : FVec Ideal S1024 .f32) (ix1 j))
      (fun i k => (m ((c : Thread nD τ).loc main_arg6) : FVec Ideal S4x1024x5632 .f32) (ix3 3 i k))
      (fun k j => (m ((c : Thread nD τ).loc main_arg7) : FVec Ideal S4x2816x1024 .f32) (ix3 3 k j)))
    (fun j => (m ((c : Thread nD τ).loc main_arg8) : FVec Ideal S1024 .f32) (ix1 j)) j

theorem idx : ∀ t : Fin cfg0.N, win0_0.index t = ![t.val, 0] ∧ win0_1.index t = ![t.val, 0] ∧ win0_2.index t = ![0, 0]
    ∧ win0_3.index t = ![3, 0, 0] ∧ win0_4.index t = ![0, 0] ∧ win0_5.index t = ![3, 0, 0]
    ∧ win0_6.index t = ![3, 0, 0] ∧ win0_7.index t = ![0, 0] ∧ win0_8.index t = ![t.val, 0]
    ∧ (grid0.coords t 0).val = t.val ∧ past (grid0.coords t) = 0#1 :=
  (by decide +kernel : ∀ t : Fin grid0.N, _)

/-! Each block the grid point reads, from the launch's arguments. -/

theorem blk0 (t : Fin cfg0.N) (r : Fin 512) (j : Fin 1024) (s : Fin 16384) (hs : (s : ℕ) = 512 * t.val + r) :
    X0_0 m c t (ix2 r j) = (m ((c : Thread nD τ).loc main_arg0) : FVec Ideal S16640x1024 .f32) (ix2 ⟨s, by omega⟩ j) := by
  unfold X0_0 Pipeline.Window.fill
  rw [dif_pos (moved0_0 t _)]
  blk_point [iblk, V, idx t]

theorem blk1 (t : Fin cfg0.N) (r : Fin 512) (j : Fin 1024) (s : Fin 16384) (hs : (s : ℕ) = 512 * t.val + r) :
    iblk m c 1 t (ix2 r j) = (m ((c : Thread nD τ).loc main_arg1) : FVec Ideal S16384x1024 .bf16) (ix2 s j) := by
  blk_point [iblk, V, idx t]

theorem blk2 (t : Fin cfg0.N) (k j : Fin 1024) :
    iblk m c 2 t (ix2 k j) = (m ((c : Thread nD τ).loc main_arg2) : FVec Ideal S1024x1024 .f32) (ix2 k j) := by
  unfold iblk
  entry_read
  blk_point [iblk, V, idx t]

theorem rd3 (t : Fin cfg0.N) (A : Vec Ideal S4x8x6144 .f32) (p : Fin 8) (j : Fin 6144) :
    View.read (Elt Ideal) ((cfg0.win 3).blk t).view A (ix3 0 p j) = A (ix3 3 p j) := by
  blk_point [idx t]

theorem rd4 (t : Fin cfg0.N) (A : Vec Ideal S1x1024 .f32) (j : Fin 1024) :
    View.read (Elt Ideal) ((cfg0.win 4).blk t).view A (ix2 0 j) = A (ix2 0 j) := by
  blk_point [idx t]

theorem rd7 (t : Fin cfg0.N) (A : Vec Ideal S1x1024 .f32) (j : Fin 1024) :
    View.read (Elt Ideal) ((cfg0.win 7).blk t).view A (ix2 0 j) = A (ix2 0 j) := by
  blk_point [idx t]

/-- The stacked modulation table the host prepares. -/
def tbl (a b : FVec Ideal S4x6144 .f32) : FVec Ideal S4x8x6144 .f32 :=
  concatenate S4x8x6144 1
    [⟨S4x1x6144, broadcastInDim S4x1x6144 ![0, 2] bcast_S4x6144_S4x1x6144_0_2 a⟩,
     ⟨S4x1x6144, broadcastInDim S4x1x6144 ![0, 2] bcast_S4x6144_S4x1x6144_0_2 b⟩,
     ⟨S4x6x6144, broadcastInDim S4x6x6144 ![] bcast_S_S4x6x6144 (constant S_ .f32 0x00000000#32)⟩]
    concatenates_S4x1x6144_S4x1x6144_S4x6x6144_S4x8x6144_d1

theorem tbl_lat (a b : FVec Ideal S4x6144 .f32) (l : Fin 4) (n : Fin 6144) : tbl a b (ix3 l 0 n) = a (ix2 l n) := by
  pointwise [tbl]

theorem tbl_ctx (a b : FVec Ideal S4x6144 .f32) (l : Fin 4) (n : Fin 6144) : tbl a b (ix3 l 1 n) = b (ix2 l n) := by
  pointwise [tbl]

theorem V_tbl : (V m c main_v4 : Vec Ideal S4x8x6144 .f32)
    = tbl (m ((c : Thread nD τ).loc main_arg3)) (m ((c : Thread nD τ).loc main_arg4)) := rfl

theorem blk3 (t : Fin cfg0.N) (n : Fin 6144) :
    md (grid0.coords t) (iblk m c 3 t) n = (m ((c : Thread nD τ).loc main_arg3) : FVec Ideal S4x6144 .f32) (ix2 3 n) := by
  unfold md
  rw [(idx t).2.2.2.2.2.2.2.2.2.2]
  refine Eq.trans (b := iblk m c 3 t (ix3 0 0 n)) (if_neg (by decide)) ?_
  unfold iblk
  rw [rd3]
  refine Eq.trans (congrFun (V_tbl m c) _) (tbl_lat _ _ _ _)

theorem blk4 (t : Fin cfg0.N) (j : Fin 1024) :
    iblk m c 4 t (ix2 0 j) = (m ((c : Thread nD τ).loc main_arg5) : FVec Ideal S1024 .f32) (ix1 j) := by
  unfold iblk
  rw [rd4]
  entry_read
  pointwise []

theorem blk5 (t : Fin cfg0.N) (i : Fin 1024) (k : Fin 5632) :
    iblk m c 5 t (ix3 0 i k) = (m ((c : Thread nD τ).loc main_arg6) : FVec Ideal S4x1024x5632 .f32) (ix3 3 i k) := by
  unfold iblk
  entry_read
  blk_point [iblk, V, idx t]

theorem blk6 (t : Fin cfg0.N) (k : Fin 2816) (j : Fin 1024) :
    iblk m c 6 t (ix3 0 k j) = (m ((c : Thread nD τ).loc main_arg7) : FVec Ideal S4x2816x1024 .f32) (ix3 3 k j) := by
  unfold iblk
  entry_read
  blk_point [iblk, V, idx t]

theorem blk7 (t : Fin cfg0.N) (j : Fin 1024) :
    iblk m c 7 t (ix2 0 j) = (m ((c : Thread nD τ).loc main_arg8) : FVec Ideal S1024 .f32) (ix1 j) := by
  unfold iblk
  rw [rd7]
  entry_read
  pointwise []

/-- What grid point `t` writes, row by row. -/
theorem row (t : Fin cfg0.N) (r : Fin 512) (j : Fin 1024) (s : Fin 16384) (hs : (s : ℕ) = 512 * t.val + r) :
    b1 (grid0.coords t) (X0_0 m c t) (iblk m c 1 t) (iblk m c 2 t) (iblk m c 3 t) (iblk m c 4 t)
      (iblk m c 5 t) (iblk m c 6 t) (iblk m c 7 t) (ix2 r j) = out m c s j := by
  have e5 : win (iblk m c 5 t) = fun i k => (m ((c : Thread nD τ).loc main_arg6) : FVec Ideal S4x1024x5632 .f32) (ix3 3 i k) := by
    funext i k
    exact blk5 m c t i k
  have e6 : wout (iblk m c 6 t) = fun k j => (m ((c : Thread nD τ).loc main_arg7) : FVec Ideal S4x2816x1024 .f32) (ix3 3 k j) := by
    funext k j
    exact blk6 m c t k j
  rw [b1_at]
  unfold out r9
  rw [e5, e6]
  simp only [blk0 m c t r _ s hs, blk1 m c t r _ s hs, blk2 m c t, blk4 m c t,
    blk7 m c t, funext (blk3 m c t)]

/-- The result array after the run. -/
theorem final : (dats m 0 c).arrAt 8 (cfgs 0).N = fun y : S16384x1024.Idx => out m c (y 0) (y 1) := by
  refine (dats m 0 c).arrAt_eq_of_covers 8 _ (by decide +kernel) fun t _ y => ?_
  blk_simp
  rw [after0_8]
  unfold outsAt0
  frame_out
  have hy : y = ix2 (y 0) (y 1) := by funext a; fin_cases a <;> rfl
  have hj : (((View.whole main_v9).slice (win0_8.rect t)).emb y 1) = y 1 := by
    apply Fin.ext
    blk_simp [idx t]
    try omega
  have hs : ((((View.whole main_v9).slice (win0_8.rect t)).emb y 0 : Fin 16384) : ℕ) = 512 * t.val + (y 0 : Fin 512) := by
    blk_simp [idx t]
    try omega
  rw [hj]
  refine Eq.trans ?_ (row m c t (y 0) (y 1) _ hs)
  exact congrArg (b1 (grid0.coords t) (X0_0 m c t) (iblk m c 1 t) (iblk m c 2 t) (iblk m c 3 t) (iblk m c 4 t)
      (iblk m c 5 t) (iblk m c 6 t) (iblk m c 7 t)) hy

end Cert.Tail2
-- ==== Proof.Ref2.lean ====
module

public import proofs.«01_k».proof.Proof.Row
public import proofs.«01_k».proof.Proof.Gen.Reference2Ideal.Read

@[expose] public section

set_option maxRecDepth 16384

/-! The second reference, row by row. -/

noncomputable section
namespace Cert.Ref2

open Cert.Reference2Ideal Cert.Reference2Ideal.Gen Cert.Reference2Ideal.Read Idealize.ShloMosaic Idealize.ShloMosaic.TcCoe
open Cert.Row

variable (x0 : FVec Ideal S16640x1024 .f32) (x1 : FVec Ideal S16384x1024 .bf16) (x2 : FVec Ideal S1024x1024 .f32)
  (x3 : FVec Ideal S4x6144 .f32) (x5 : FVec Ideal S1024 .f32) (x6 : FVec Ideal S4x1024x5632 .f32)
  (x7 : FVec Ideal S4x2816x1024 .f32) (x8 : FVec Ideal S1024 .f32)

abbrev r14 (s : Fin 16384) : Fin 1024 → EReal :=
  res (fun j => x0 (ix2 ⟨s, by omega⟩ j)) (sec 2 fun n => x3 (ix2 3 n)) (fun k => x1 (ix2 s k)) (fun k j => x2 (ix2 k j))

theorem v14 (s : Fin 16384) (j : Fin 1024) :
    val_main_v14 (F := Ideal) x0 x1 x2 x3 (ix2 s j) = r14 x0 x1 x2 x3 s j := by
  pointwise [val_main_v14, val_main_v13, val_main_v12, val_main_v11, val_main_v10, val_main_v6, val_main_v3, val_main_v2, val_main_v1, val_main_v0, res, sec]

theorem v22 (s : Fin 16384) (j : Fin 1) :
    val_main_v22 (F := Ideal) x0 x1 x2 x3 (ix2 s j) = rs (r14 x0 x1 x2 x3 s) := by
  have e := v14 x0 x1 x2 x3
  unfold rs
  simp only [← e]
  pointwise [val_main_v22, val_main_v21, val_main_v20, val_main_v19, val_main_v18, val_main_v17, val_main_v16, val_main_v15, val_main_cst, val_main_cst_0, val_main_cst_1]

theorem v33 (s : Fin 16384) (j : Fin 1024) :
    val_main_v33 (F := Ideal) x0 x1 x2 x3 x5 (ix2 s j)
      = hid (r14 x0 x1 x2 x3 s) (fun j => x5 (ix1 j)) (sec 4 fun n => x3 (ix2 3 n)) (sec 3 fun n => x3 (ix2 3 n)) j := by
  have e := v14 x0 x1 x2 x3
  have e2 := v22 x0 x1 x2 x3
  unfold hid
  rw [← e2 s 0]
  simp only [← e]
  pointwise [val_main_v33, val_main_v32, val_main_v31, val_main_v30, val_main_v29, val_main_v28, val_main_v27, val_main_v26, val_main_v25, val_main_v24, val_main_v23, val_main_cst_2, val_main_v7, val_main_v8, val_main_v3, val_main_v2, val_main_v1, sec]
  simp only [mul_assoc]

/-- A row after residual step and network. -/
abbrev r46 (s : Fin 16384) : Fin 1024 → EReal :=
  mix (fun j => x0 (ix2 ⟨s, by omega⟩ j)) (fun n => x3 (ix2 3 n)) (fun k => x1 (ix2 s k)) (fun k j => x2 (ix2 k j))
    (fun j => x5 (ix1 j)) (fun i k => x6 (ix3 3 i k)) (fun k j => x7 (ix3 3 k j))

theorem v46 (s : Fin 16384) (j : Fin 1024) :
    val_main_v46 (F := Ideal) x0 x1 x2 x3 x5 x6 x7 (ix2 s j) = r46 x0 x1 x2 x3 x5 x6 x7 s j := by
  have e := v14 x0 x1 x2 x3
  have e2 := v33 x0 x1 x2 x3 x5
  unfold r46 mix tail ffn unit
  unfold r14 at e e2
  simp only [← e2]
  rw [← e]
  pointwise [val_main_v46, val_main_v45, val_main_v44, val_main_v43, val_main_v42, val_main_v41, val_main_call0_v5, val_main_call0_v4, val_main_call0_cst_0, val_main_call0_v3, val_main_call0_v2, val_main_call0_cst, val_main_call0_v1, val_main_call0_v0, val_main_v40, val_main_v39, val_main_v38, val_main_v37, val_main_v36, val_main_v35, val_main_v34, val_main_v9, val_main_v3, val_main_v2, val_main_v1, sec]
  rfl

theorem v59 (s : Fin 16384) (j : Fin 1024) :
    val_main_v59 (F := Ideal) x0 x1 x2 x3 x5 x6 x7 x8 (ix2 s j)
      = fin (r46 x0 x1 x2 x3 x5 x6 x7 s) (fun j => x8 (ix1 j)) j := by
  have e := v46 x0 x1 x2 x3 x5 x6 x7
  unfold fin rs
  simp only [← e]
  pointwise [val_main_v59, val_main_v58, val_main_v57, val_main_v56, val_main_v55, val_main_v54, val_main_v53, val_main_v52, val_main_v51, val_main_v50, val_main_v49, val_main_v48, val_main_v47, val_main_cst_3, val_main_cst_4, val_main_cst_5]

end Cert.Ref2
-- ==== Proof.Equal2.lean ====
module

public import proofs.«01_k».proof.Defs
public import proofs.«01_k».proof.Proof.Tail2
public import proofs.«01_k».proof.Proof.Ref2
public import proofs.«01_k».proof.Proof.Gen.Kernel2Ideal.Value

@[expose] public section

set_option maxRecDepth 16384

noncomputable section
namespace Cert.Equal2

open Idealize.ShloMosaic Idealize.SL.Sem

/-- The second kernel and the second reference end with equal results. -/
theorem algebraic : Cert.algebraic_Kernel2Ideal_Reference2Ideal := by
  pair_intro
  · run_from Cert.Kernel2Ideal.Value.run_blocks m g
  · run_from Cert.Reference2Ideal.Value.run m' g'
    rw [Cert.Tail2.final m c, Cert.Reference2Ideal.Read.val_main_v59_eq]
    obtain ⟨h0, h1, h2, h3, -, h5, h6, h7, h8⟩ := hagree c
    rw [h0, h1, h2, h3, h5, h6, h7, h8]
    funext y
    have hy : y = ix2 (y 0) (y 1) := by funext a; fin_cases a <;> rfl
    refine Eq.trans (congrArg _ hy) ?_
    exact Cert.Ref2.v59 _ _ _ _ _ _ _ _ (y 0) (y 1)

end Cert.Equal2
-- ==== Proof.Tail3.lean ====
module

public import proofs.«01_k».proof.Proof.Row
public import proofs.«01_k».proof.Proof.Gen.Kernel3Ideal.Frame

@[expose] public section

set_option maxRecDepth 16384

/-! The third kernel: what it writes at each grid point, row by row, and its whole result. -/

noncomputable section
namespace Cert.Tail3

open Cert.Kernel3Ideal Cert.Kernel3Ideal.Gen Idealize.ShloMosaic Idealize.ShloMosaic.TcCoe Idealize.SL.Sem
open Cert.Row

variable (i : grid0.Coords) (x0 : Vec Ideal S640x1024 .f32) (x1 : Vec Ideal S640x2048 .bf16)
  (x2 : Vec Ideal S2048x1024 .bf16) (x3 : Vec Ideal S1x8x6144 .f32) (x4 : Vec Ideal S1x1024 .f32)
  (x5 : Vec Ideal S1x1024x5632 .bf16) (x6 : Vec Ideal S1x2816x1024 .bf16)

/-- Whether row `r` of the grid point is past the latent rows. -/
def past (r : Fin 640) : BitVec 1 :=
  if (r : ℕ) < 384 then Scalar.cmpi CmpIPredicate.sgt (BitVec.ofNat 32 ↑(i 0)) 25#32
  else Scalar.cmpi CmpIPredicate.sge (BitVec.ofNat 32 ↑(i 0)) 25#32

/-- The modulation row that row `r` takes. -/
def md (r : Fin 640) (n : Fin 6144) : EReal := Scalar.select (past i r) (x3 (ix3 0 1 n)) (x3 (ix3 0 0 n))

theorem low (r : Fin 640) (hr : ¬ (r : ℕ) < 384) : (⟨384 + ((r : ℕ) - 384), by omega⟩ : Fin 640) = r :=
  Fin.ext (by simp only; omega)

/-- A row after the residual step. -/
abbrev r17 (r : Fin 640) : Fin 1024 → EReal :=
  res (fun j => x0 (ix2 r j)) (sec 2 (md i x3 r)) (fun k => x1 (ix2 r k)) (fun k j => x2 (ix2 k j))

theorem b17_at (r : Fin 640) (j : Fin 1024) :
    k0_pay17 (F := Ideal) i x0 x1 x2 x3 x4 x5 x6 (ix2 r j) = r17 i x0 x1 x2 x3 r j := by
  by_cases hr : (r : ℕ) < 384
  · pointwise [k0_pay17, k0_pay3, res, sec, md, past, hr]
  · pointwise [k0_pay17, k0_pay3, res, sec, md, past, hr]
    simp only [low r hr]

theorem b16_at (j : Fin 1024) : k0_pay16 (F := Ideal) i x0 x1 x2 x3 x4 x5 x6 (ix2 0 j) = x4 (ix2 0 j) := by
  pointwise [k0_pay16, k0_pay2]

theorem p5_at (v6 v30 v31 v32 v34 v52 v54) (r : Fin 384) (j : Fin 1024) :
    k0_pay5 (F := Ideal) v6 v30 v31 v32 v34 v52 v54 (ix2 r j)
      = v31 (ix2 r j) * rs (fun k => v31 (ix2 r k))
          * (v6 (ix2 0 j) * (1 + Scalar.select v30 (v32 (ix3 0 0 j)) (v34 (ix3 0 0 j))))
        + Scalar.select v30 (v52 (ix3 0 0 j)) (v54 (ix3 0 0 j)) := by
  pointwise [k0_pay5, rs]

theorem p7_at (a v6 v61 v63) (j : Fin 1024) :
    k0_pay7 (F := Ideal) a v6 v61 v63 (ix2 0 j)
      = v6 (ix2 0 j) * (1 + Scalar.select (Scalar.cmpi .sge a 25#32) (v61 (ix3 0 0 j)) (v63 (ix3 0 0 j))) := by
  pointwise [k0_pay7]

theorem p9_at (v58 v59 v60 v68 v69 v81 v83) (r : Fin 640) (j : Fin 1024) :
    k0_pay9 (F := Ideal) v58 v59 v60 v68 v69 v81 v83 (ix2 r j)
      = if h : (r : ℕ) < 384 then v58 (ix2 ⟨r, h⟩ j)
        else v60 (ix2 ⟨r - 384, by omega⟩ j)
            * Ideal.rsqrt (Ideal.div (∑ k, v69 (ix2 ⟨r - 384, by omega⟩ k)) (Ideal.ofBits FTy.f32 1149239296#32) + Ideal.ofBits FTy.f32 897988541#32)
            * v68 (ix2 0 j)
          + Scalar.select v59 (v81 (ix3 0 0 j)) (v83 (ix3 0 0 j)) := by
  by_cases hr : (r : ℕ) < 384
  · rw [dif_pos hr]
    pointwise [k0_pay9, hr]
  · rw [dif_neg hr]
    pointwise [k0_pay9, hr]

theorem b18_at (r : Fin 640) (hr : (r : ℕ) < 384) (j : Fin 1024) :
    k0_pay18 (F := Ideal) i x0 x1 x2 x3 x4 x5 x6 (ix2 ⟨r, hr⟩ j)
      = hid (r17 i x0 x1 x2 x3 r) (fun j => x4 (ix2 0 j)) (sec 4 (md i x3 r)) (sec 3 (md i x3 r)) j := by
  have e17 (j : Fin 1024) : k0_pay4 (F := Ideal) i (View.ld x1 r0_0) (View.ld x2 r0_1) (View.ld x0 r0_2) (View.ld x3 r0_4) (View.ld x3 r0_5)
      (View.ld x3 r0_4) (View.ld x3 r0_5) (ix2 ⟨r, hr⟩ j) = r17 i x0 x1 x2 x3 r j := by
    rw [← b17_at i x0 x1 x2 x3 x4 x5 x6]
    unfold k0_pay17
    pointwise [k0_pay4]
  unfold k0_pay18
  rw [p5_at, b16_at]
  simp only [e17]
  unfold hid sec md past
  rw [if_pos hr]
  pointwise []

/-- A row after norm and modulation. -/
abbrev r22 (r : Fin 640) : Fin 1024 → EReal :=
  hid (r17 i x0 x1 x2 x3 r) (fun j => x4 (ix2 0 j)) (sec 4 (md i x3 r)) (sec 3 (md i x3 r))

theorem b22_at (r : Fin 640) (j : Fin 1024) :
    k0_pay22 (F := Ideal) i x0 x1 x2 x3 x4 x5 x6 (ix2 r j) = r22 i x0 x1 x2 x3 x4 r j := by
  unfold k0_pay22
  rw [p9_at]
  by_cases hr : (r : ℕ) < 384
  · rw [dif_pos hr, b18_at]
  · rw [dif_neg hr]
    have e17 (j : Fin 1024) : k0_pay19 (F := Ideal) i x0 x1 x2 x3 x4 x5 x6 (ix2 ⟨r - 384, by omega⟩ j) = r17 i x0 x1 x2 x3 r j := by
      rw [← b17_at i x0 x1 x2 x3 x4 x5 x6]
      unfold k0_pay19
      generalize k0_pay17 (F := Ideal) i x0 x1 x2 x3 x4 x5 x6 = B
      pointwise [k0_pay6]
      simp only [low r hr]
    have e21 (k : Fin 1024) : k0_pay21 (F := Ideal) i x0 x1 x2 x3 x4 x5 x6 (ix2 ⟨r - 384, by omega⟩ k)
        = r17 i x0 x1 x2 x3 r k * r17 i x0 x1 x2 x3 r k := by
      rw [← e17]
      unfold k0_pay21 k0_pay19
      generalize k0_pay17 (F := Ideal) i x0 x1 x2 x3 x4 x5 x6 = B
      pointwise [k0_pay8]
    simp only [e17, e21]
    unfold k0_pay20
    rw [p7_at, b16_at]
    unfold r22 hid sec md past rs
    rw [if_neg hr]
    pointwise []

theorem p10_at (v58 v59 v60 v68 v69 v81 v83 v90 v93 v100) (r : Fin 640) (j : Fin 1024) :
    k0_pay10 (F := Ideal) v58 v59 v60 v68 v69 v81 v83 v90 v93 v100 (ix2 r j)
      = ∑ k : Fin 1024, ((∑ i, k0_pay9 (F := Ideal) v58 v59 v60 v68 v69 v81 v83 (ix2 r i) * v90 (ix3 0 i k))
          * Ideal.logistic (∑ i, k0_pay9 (F := Ideal) v58 v59 v60 v68 v69 v81 v83 (ix2 r i) * v90 (ix3 0 i k))
          * ∑ i, k0_pay9 (F := Ideal) v58 v59 v60 v68 v69 v81 v83 (ix2 r i) * v93 (ix3 0 i k)) * v100 (ix3 0 k j) := by
  pointwise [k0_pay10]

theorem p11_at (v58 v59 v60 v68 v69 v81 v83 v103) (r : Fin 640) (k : Fin 1024) :
    k0_pay11 (F := Ideal) v58 v59 v60 v68 v69 v81 v83 v103 (ix2 r k)
      = ∑ i, k0_pay9 (F := Ideal) v58 v59 v60 v68 v69 v81 v83 (ix2 r i) * v103 (ix3 0 i k) := by
  pointwise [k0_pay11]

theorem p12_at (v89 v102 v105 v106 v113 v117 v120 v127) (r : Fin 640) (j : Fin 1024) :
    k0_pay12 (F := Ideal) v89 v102 v105 v106 v113 v117 v120 v127 (ix2 r j)
      = (v102 (ix2 r j)
          + ∑ k : Fin 1024, (v105 (ix2 r k) * Ideal.logistic (v105 (ix2 r k)) * ∑ i, v89 (ix2 r i) * v106 (ix3 0 i k)) * v113 (ix3 0 k j))
        + ∑ k : Fin 768, ((∑ i, v89 (ix2 r i) * v117 (ix3 0 i k)) * Ideal.logistic (∑ i, v89 (ix2 r i) * v117 (ix3 0 i k))
          * ∑ i, v89 (ix2 r i) * v120 (ix3 0 i k)) * v127 (ix3 0 k j) := by
  pointwise [k0_pay12]

/-- The input weights and the output weights. -/
abbrev win (i' : Fin 1024) (k : Fin 5632) : EReal := x5 (ix3 0 i' k)
abbrev wout (k : Fin 2816) (j : Fin 1024) : EReal := x6 (ix3 0 k j)

/-- The network's sums as the kernel computes them. -/
abbrev b12 : FVec Ideal S640x1024 .f32 :=
  k0_pay12 (k0_pay22 i x0 x1 x2 x3 x4 x5 x6) (k0_pay23 i x0 x1 x2 x3 x4 x5 x6) (k0_pay24 i x0 x1 x2 x3 x4 x5 x6)
    (View.ld x5 r0_14) (View.ld x6 r0_15) (View.ld x5 r0_16) (View.ld x5 r0_17) (View.ld x6 r0_18)

theorem b12_at (r : Fin 640) (j : Fin 1024) :
    b12 i x0 x1 x2 x3 x4 x5 x6 (ix2 r j) = ffn (r22 i x0 x1 x2 x3 x4 r) (win x5) (wout x6) j := by
  have e (k : Fin 1024) := b22_at i x0 x1 x2 x3 x4 x5 x6 r k
  unfold k0_pay22 at e
  unfold b12
  rw [p12_at, ffn_runs]
  unfold k0_pay22 k0_pay23 k0_pay24
  rw [p10_at]
  simp only [p11_at, e]
  pointwise []

/-- The row after the network. -/
abbrev r9 (r : Fin 640) : Fin 1024 → EReal :=
  mix (fun j => x0 (ix2 r j)) (md i x3 r) (fun k => x1 (ix2 r k)) (fun k j => x2 (ix2 k j))
    (fun j => x4 (ix2 0 j)) (win x5) (wout x6)

/-- The whole block as the kernel computes it. -/
abbrev b1 : FVec Ideal S640x1024 .f32 :=
  k0_pay1 (BitVec.ofNat 32 ↑(i 0)) (k0_pay17 i x0 x1 x2 x3 x4 x5 x6) (b12 i x0 x1 x2 x3 x4 x5 x6)
    (k0_pay13 (k0_pay17 i x0 x1 x2 x3 x4 x5 x6)) (k0_pay14 (BitVec.ofNat 32 ↑(i 0)) (View.ld x3 r0_19) (View.ld x3 r0_20))
    (k0_pay15 (k0_pay22 i x0 x1 x2 x3 x4 x5 x6) (k0_pay23 i x0 x1 x2 x3 x4 x5 x6) (k0_pay24 i x0 x1 x2 x3 x4 x5 x6)
      (View.ld x5 r0_14) (View.ld x6 r0_15) (View.ld x5 r0_16) (View.ld x5 r0_17) (View.ld x6 r0_18))
    (View.ld x3 r0_19) (View.ld x3 r0_20)

theorem b1_at (r : Fin 640) (j : Fin 1024) :
    b1 i x0 x1 x2 x3 x4 x5 x6 (ix2 r j) = r9 i x0 x1 x2 x3 x4 x5 x6 r j := by
  have e17 := b17_at i x0 x1 x2 x3 x4 x5 x6 r j
  have e12 := b12_at i x0 x1 x2 x3 x4 x5 x6 r j
  unfold r9 mix tail
  unfold r17 at e17
  rw [← e12, ← e17]
  unfold b1 k0_pay15 b12
  generalize k0_pay17 (F := Ideal) i x0 x1 x2 x3 x4 x5 x6 = B
  generalize k0_pay12 (F := Ideal) (k0_pay22 i x0 x1 x2 x3 x4 x5 x6) _ _ _ _ _ _ _ = C
  unfold sec md past
  by_cases hr : (r : ℕ) < 384
  · rw [if_pos hr]
    pointwise [k0_pay1, k0_pay13, k0_pay14, hr]
  · rw [if_neg hr]
    pointwise [k0_pay1, k0_pay13, k0_pay14, hr]
    simp only [low r hr]

variable (m : (ℓ : Loc nD τ sig) → Buf (Elt Ideal) ℓ) (c : Dev nD)

/-- The modulation row of token `s`. -/
def mdr (a b : FVec Ideal S4x6144 .f32) (s : Fin 16640) (n : Fin 6144) : EReal :=
  if (s : ℕ) < 16384 then a (ix2 1 n) else b (ix2 1 n)

/-- A row of the result, from the launch's arguments. -/
def out (m : (ℓ : Loc nD τ sig) → Buf (Elt Ideal) ℓ) (c : Dev nD) (s : Fin 16640) (j : Fin 1024) : EReal :=
  mix (fun j => (m ((c : Thread nD τ).loc main_arg0) : FVec Ideal S16640x1024 .f32) (ix2 s j))
      (mdr (m ((c : Thread nD τ).loc main_arg3)) (m ((c : Thread nD τ).loc main_arg4)) s)
      (fun k => (m ((c : Thread nD τ).loc main_arg1) : FVec Ideal S16640x2048 .bf16) (ix2 s k))
      (fun k j => (m ((c : Thread nD τ).loc main_arg2) : FVec Ideal S2048x1024 .f32) (ix2 k j))
      (fun j => (m ((c : Thread nD τ).loc main_arg5) : FVec Ideal S1024 .f32) (ix1 j))
      (fun i k => (m ((c : Thread nD τ).loc main_arg6) : FVec Ideal S4x1024x5632 .f32) (ix3 1 i k))
      (fun k j => (m ((c : Thread nD τ).loc main_arg7) : FVec Ideal S4x2816x1024 .f32) (ix3 1 k j)) j

theorem idx : ∀ t : Fin cfg0.N, win0_0.index t = ![t.val, 0] ∧ win0_1.index t = ![t.val, 0] ∧ win0_2.index t = ![0, 0]
    ∧ win0_3.index t = ![1, 0, 0] ∧ win0_4.index t = ![0, 0] ∧ win0_5.index t = ![1, 0, 0]
    ∧ win0_6.index t = ![1, 0, 0] ∧ win0_7.index t = ![t.val, 0] ∧ (grid0.coords t 0).val = t.val :=
  (by decide +kernel : ∀ t : Fin grid0.N, _)

theorem past_idx : ∀ t : Fin cfg0.N, Scalar.cmpi CmpIPredicate.sgt (BitVec.ofNat 32 t.val) 25#32 = 0#1
    ∧ Scalar.cmpi CmpIPredicate.sge (BitVec.ofNat 32 t.val) 25#32 = BitVec.ofBool (decide (25 ≤ t.val)) :=
  (by decide +kernel : ∀ t : Fin grid0.N, _)

/-! Each block the grid point reads, from the launch's arguments. -/

theorem blk0 (t : Fin cfg0.N) (r : Fin 640) (j : Fin 1024) (s : Fin 16640) (hs : (s : ℕ) = 640 * t.val + r) :
    iblk m c 0 t (ix2 r j) = (m ((c : Thread nD τ).loc main_arg0) : FVec Ideal S16640x1024 .f32) (ix2 s j) := by
  blk_point [iblk, V, idx t]

theorem blk1 (t : Fin cfg0.N) (r : Fin 640) (j : Fin 2048) (s : Fin 16640) (hs : (s : ℕ) = 640 * t.val + r) :
    iblk m c 1 t (ix2 r j) = (m ((c : Thread nD τ).loc main_arg1) : FVec Ideal S16640x2048 .bf16) (ix2 s j) := by
  blk_point [iblk, V, idx t]

theorem blk2 (t : Fin cfg0.N) (k : Fin 2048) (j : Fin 1024) :
    iblk m c 2 t (ix2 k j) = (m ((c : Thread nD τ).loc main_arg2) : FVec Ideal S2048x1024 .f32) (ix2 k j) := by
  unfold iblk
  entry_read
  blk_point [iblk, V, idx t]

theorem rd3 (t : Fin cfg0.N) (A : Vec Ideal S4x8x6144 .f32) (p : Fin 8) (j : Fin 6144) :
    View.read (Elt Ideal) ((cfg0.win 3).blk t).view A (ix3 0 p j) = A (ix3 1 p j) := by
  blk_point [idx t]

theorem rd4 (t : Fin cfg0.N) (A : Vec Ideal S1x1024 .f32) (j : Fin 1024) :
    View.read (Elt Ideal) ((cfg0.win 4).blk t).view A (ix2 0 j) = A (ix2 0 j) := by
  blk_point [idx t]

/-- The stacked modulation table the host prepares. -/
def tbl (a b : FVec Ideal S4x6144 .f32) : FVec Ideal S4x8x6144 .f32 :=
  concatenate S4x8x6144 1
    [⟨S4x1x6144, broadcastInDim S4x1x6144 ![0, 2] bcast_S4x6144_S4x1x6144_0_2 a⟩,
     ⟨S4x1x6144, broadcastInDim S4x1x6144 ![0, 2] bcast_S4x6144_S4x1x6144_0_2 b⟩,
     ⟨S4x6x6144, broadcastInDim S4x6x6144 ![] bcast_S_S4x6x6144 (constant S_ .f32 0x00000000#32)⟩]
    concatenates_S4x1x6144_S4x1x6144_S4x6x6144_S4x8x6144_d1

theorem tbl_lat (a b : FVec Ideal S4x6144 .f32) (l : Fin 4) (n : Fin 6144) : tbl a b (ix3 l 0 n) = a (ix2 l n) := by
  pointwise [tbl]

theorem tbl_ctx (a b : FVec Ideal S4x6144 .f32) (l : Fin 4) (n : Fin 6144) : tbl a b (ix3 l 1 n) = b (ix2 l n) := by
  pointwise [tbl]

theorem V_tbl : (V m c main_v4 : Vec Ideal S4x8x6144 .f32)
    = tbl (m ((c : Thread nD τ).loc main_arg3)) (m ((c : Thread nD τ).loc main_arg4)) := rfl

theorem blk3 (t : Fin cfg0.N) (r : Fin 640) (n : Fin 6144) (s : Fin 16640) (hs : (s : ℕ) = 640 * t.val + r) :
    md (grid0.coords t) (iblk m c 3 t) r n = mdr (m ((c : Thread nD τ).loc main_arg3)) (m ((c : Thread nD τ).loc main_arg4)) s n := by
  have ht : t.val < 26 := t.isLt
  have hg : (grid0.coords t 0).val = t.val := (idx t).2.2.2.2.2.2.2.2
  have h0 : iblk m c 3 t (ix3 0 0 n) = (m ((c : Thread nD τ).loc main_arg3) : FVec Ideal S4x6144 .f32) (ix2 1 n) := by
    unfold iblk
    rw [rd3]
    exact (congrFun (V_tbl m c) _).trans (tbl_lat _ _ _ _)
  have h1 : iblk m c 3 t (ix3 0 1 n) = (m ((c : Thread nD τ).loc main_arg4) : FVec Ideal S4x6144 .f32) (ix2 1 n) := by
    unfold iblk
    rw [rd3]
    exact (congrFun (V_tbl m c) _).trans (tbl_ctx _ _ _ _)
  unfold md past mdr
  rw [hg, (past_idx t).1, (past_idx t).2, h0, h1]
  by_cases hr : (r : ℕ) < 384
  · rw [if_pos hr, if_pos (by omega)]
    exact if_neg (by decide)
  · rw [if_neg hr]
    by_cases h : 25 ≤ t.val
    · rw [if_neg (c := (s : ℕ) < 16384) (by omega), decide_eq_true h]
      exact if_pos (by decide)
    · rw [if_pos (c := (s : ℕ) < 16384) (by omega), decide_eq_false h]
      exact if_neg (by decide)

theorem blk4 (t : Fin cfg0.N) (j : Fin 1024) :
    iblk m c 4 t (ix2 0 j) = (m ((c : Thread nD τ).loc main_arg5) : FVec Ideal S1024 .f32) (ix1 j) := by
  unfold iblk
  rw [rd4]
  entry_read
  pointwise []

theorem blk5 (t : Fin cfg0.N) (i : Fin 1024) (k : Fin 5632) :
    iblk m c 5 t (ix3 0 i k) = (m ((c : Thread nD τ).loc main_arg6) : FVec Ideal S4x1024x5632 .f32) (ix3 1 i k) := by
  unfold iblk
  entry_read
  blk_point [iblk, V, idx t]

theorem blk6 (t : Fin cfg0.N) (k : Fin 2816) (j : Fin 1024) :
    iblk m c 6 t (ix3 0 k j) = (m ((c : Thread nD τ).loc main_arg7) : FVec Ideal S4x2816x1024 .f32) (ix3 1 k j) := by
  unfold iblk
  entry_read
  blk_point [iblk, V, idx t]

/-- What grid point `t` writes, row by row. -/
theorem row (t : Fin cfg0.N) (r : Fin 640) (j : Fin 1024) (s : Fin 16640) (hs : (s : ℕ) = 640 * t.val + r) :
    b1 (grid0.coords t) (iblk m c 0 t) (iblk m c 1 t) (iblk m c 2 t) (iblk m c 3 t) (iblk m c 4 t)
      (iblk m c 5 t) (iblk m c 6 t) (ix2 r j) = out m c s j := by
  have e5 : win (iblk m c 5 t) = fun i k => (m ((c : Thread nD τ).loc main_arg6) : FVec Ideal S4x1024x5632 .f32) (ix3 1 i k) := by
    funext i k
    exact blk5 m c t i k
  have e6 : wout (iblk m c 6 t) = fun k j => (m ((c : Thread nD τ).loc main_arg7) : FVec Ideal S4x2816x1024 .f32) (ix3 1 k j) := by
    funext k j
    exact blk6 m c t k j
  have e3 : md (grid0.coords t) (iblk m c 3 t) r = mdr (m ((c : Thread nD τ).loc main_arg3)) (m ((c : Thread nD τ).loc main_arg4)) s := by
    funext n
    exact blk3 m c t r n s hs
  rw [b1_at]
  unfold out r9
  rw [e5, e6, e3]
  simp only [blk0 m c t r _ s hs, blk1 m c t r _ s hs, blk2 m c t, blk4 m c t]

/-- The result array after the run. -/
theorem final : (dats m 0 c).arrAt 7 (cfgs 0).N = fun y : S16640x1024.Idx => out m c (y 0) (y 1) := by
  refine (dats m 0 c).arrAt_eq_of_covers 7 _ (by decide +kernel) fun t _ y => ?_
  blk_simp
  rw [after0_7]
  frame_out
  have hy : y = ix2 (y 0) (y 1) := by funext a; fin_cases a <;> rfl
  have hj : (((View.whole main_v8).slice (win0_7.rect t)).emb y 1) = y 1 := by
    apply Fin.ext
    blk_simp [idx t]
    try omega
  have hs : ((((View.whole main_v8).slice (win0_7.rect t)).emb y 0 : Fin 16640) : ℕ) = 640 * t.val + (y 0 : Fin 640) := by
    blk_simp [idx t]
    try omega
  rw [hj]
  refine Eq.trans ?_ (row m c t (y 0) (y 1) _ hs)
  exact congrArg (b1 (grid0.coords t) (iblk m c 0 t) (iblk m c 1 t) (iblk m c 2 t) (iblk m c 3 t) (iblk m c 4 t)
      (iblk m c 5 t) (iblk m c 6 t)) hy

end Cert.Tail3
end
-- ==== Proof.Ref3.lean ====
module

public import proofs.«01_k».proof.Proof.Row
public import proofs.«01_k».proof.Proof.Gen.Reference3Ideal.Read

@[expose] public section

set_option maxRecDepth 16384

/-! The third reference, row by row: first the latent rows, then the context rows. -/

noncomputable section
namespace Cert.Ref3

open Cert.Reference3Ideal Cert.Reference3Ideal.Gen Cert.Reference3Ideal.Read Idealize.ShloMosaic Idealize.ShloMosaic.TcCoe
open Cert.Row

variable (x0 : FVec Ideal S16640x1024 .f32) (x1 : FVec Ideal S16640x2048 .bf16) (x2 : FVec Ideal S2048x1024 .f32)
  (x3 x4 : FVec Ideal S4x6144 .f32) (x5 : FVec Ideal S1024 .f32) (x6 : FVec Ideal S4x1024x5632 .f32)
  (x7 : FVec Ideal S4x2816x1024 .f32)

/-- A latent row after the residual step. -/
abbrev r21 (s : Fin 16384) : Fin 1024 → EReal :=
  res (fun j => x0 (ix2 ⟨s, by omega⟩ j)) (sec 2 fun n => x3 (ix2 1 n)) (fun k => x1 (ix2 ⟨s, by omega⟩ k)) (fun k j => x2 (ix2 k j))

theorem v21 (s : Fin 16384) (j : Fin 1024) :
    val_main_v21 (F := Ideal) x0 x1 x2 x3 (ix2 s j) = r21 x0 x1 x2 x3 s j := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v2, val_main_v1, val_main_v0, res, sec]

theorem v29 (s : Fin 16384) (j : Fin 1) :
    val_main_v29 (F := Ideal) x0 x1 x2 x3 (ix2 s j) = rs (r21 x0 x1 x2 x3 s) := by
  have e := v21 x0 x1 x2 x3
  unfold rs
  simp only [← e]
  pointwise [val_main_v29, val_main_v28, val_main_v27, val_main_cst_1, val_main_v26, val_main_v25, val_main_cst_0, val_main_v24, val_main_v23, val_main_cst, val_main_v22]

theorem v40 (s : Fin 16384) (j : Fin 1024) :
    val_main_v40 (F := Ideal) x0 x1 x2 x3 x5 (ix2 s j)
      = hid (r21 x0 x1 x2 x3 s) (fun j => x5 (ix1 j)) (sec 4 fun n => x3 (ix2 1 n)) (sec 3 fun n => x3 (ix2 1 n)) j := by
  have e := v21 x0 x1 x2 x3
  have e2 := v29 x0 x1 x2 x3
  unfold hid
  rw [← e2 s 0]
  simp only [← e]
  pointwise [val_main_v40, val_main_v39, val_main_v38, val_main_v37, val_main_v36, val_main_v35, val_main_cst_2, val_main_v34, val_main_v33, val_main_v32, val_main_v31, val_main_v30, val_main_v20, val_main_v19, val_main_v18, val_main_v17, val_main_v16, val_main_v15, val_main_v14, val_main_v13, val_main_v12, val_main_v11, val_main_v10, val_main_v9, val_main_v8, val_main_v7, val_main_v6, val_main_v5, val_main_v2, val_main_v1, val_main_v0, sec]
  simp only [mul_assoc]

/-- A latent row after residual step and network. -/
abbrev r49 (s : Fin 16384) : Fin 1024 → EReal :=
  tail (r21 x0 x1 x2 x3 s) (fun j => x5 (ix1 j)) (sec 4 fun n => x3 (ix2 1 n)) (sec 3 fun n => x3 (ix2 1 n)) (sec 5 fun n => x3 (ix2 1 n))
    (fun i k => x6 (ix3 1 i k)) (fun k j => x7 (ix3 1 k j))

theorem v49 (s : Fin 16384) (j : Fin 1024) :
    val_main_v49 (F := Ideal) x0 x1 x2 x3 x5 x6 x7 (ix2 s j) = r49 x0 x1 x2 x3 x5 x6 x7 s j := by
  have e := v21 x0 x1 x2 x3
  have e2 := v40 x0 x1 x2 x3 x5
  unfold r49 tail ffn unit
  simp only [← e2]
  rw [← e]
  pointwise [val_main_v49, val_main_v48, val_main_v47, val_main_v46, val_main_v45, val_main_v44, val_main_call0_v5, val_main_call0_v4, val_main_call0_cst_0, val_main_call0_v3, val_main_call0_v2, val_main_call0_cst, val_main_call0_v1, val_main_call0_v0, val_main_v43, val_main_v42, val_main_v41, val_main_v20, val_main_v19, val_main_v18, val_main_v17, val_main_v16, val_main_v15, val_main_v14, val_main_v13, val_main_v12, val_main_v11, val_main_v10, val_main_v9, val_main_v8, val_main_v7, val_main_v6, val_main_v5, val_main_v2, val_main_v1, val_main_v0, sec]
  rfl

/-- A context row after the residual step. -/
abbrev r66 (s : Fin 256) : Fin 1024 → EReal :=
  res (fun j => x0 (ix2 ⟨16384 + s, by omega⟩ j)) (sec 2 fun n => x4 (ix2 1 n)) (fun k => x1 (ix2 ⟨16384 + s, by omega⟩ k)) (fun k j => x2 (ix2 k j))

theorem v66 (s : Fin 256) (j : Fin 1024) :
    val_main_v66 (F := Ideal) x0 x1 x2 x4 (ix2 s j) = r66 x0 x1 x2 x4 s j := by
  pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v0, val_main_v3, val_main_v4, res, sec]

theorem v74 (s : Fin 256) (j : Fin 1) :
    val_main_v74 (F := Ideal) x0 x1 x2 x4 (ix2 s j) = rs (r66 x0 x1 x2 x4 s) := by
  have e := v66 x0 x1 x2 x4
  unfold rs
  simp only [← e]
  pointwise [val_main_v74, val_main_v73, val_main_v72, val_main_cst_5, val_main_v71, val_main_v70, val_main_cst_4, val_main_v69, val_main_v68, val_main_cst_3, val_main_v67]

theorem v85 (s : Fin 256) (j : Fin 1024) :
    val_main_v85 (F := Ideal) x0 x1 x2 x4 x5 (ix2 s j)
      = hid (r66 x0 x1 x2 x4 s) (fun j => x5 (ix1 j)) (sec 4 fun n => x4 (ix2 1 n)) (sec 3 fun n => x4 (ix2 1 n)) j := by
  have e := v66 x0 x1 x2 x4
  have e2 := v74 x0 x1 x2 x4
  unfold hid
  rw [← e2 s 0]
  simp only [← e]
  pointwise [val_main_v85, val_main_v84, val_main_v83, val_main_v82, val_main_v81, val_main_v80, val_main_cst_6, val_main_v79, val_main_v78, val_main_v77, val_main_v76, val_main_v75, val_main_v65, val_main_v64, val_main_v63, val_main_v62, val_main_v61, val_main_v60, val_main_v59, val_main_v58, val_main_v57, val_main_v56, val_main_v55, val_main_v54, val_main_v53, val_main_v52, val_main_v51, val_main_v50, val_main_v0, val_main_v3, val_main_v4, sec]
  simp only [mul_assoc]

/-- A context row after residual step and network. -/
abbrev r94 (s : Fin 256) : Fin 1024 → EReal :=
  tail (r66 x0 x1 x2 x4 s) (fun j => x5 (ix1 j)) (sec 4 fun n => x4 (ix2 1 n)) (sec 3 fun n => x4 (ix2 1 n)) (sec 5 fun n => x4 (ix2 1 n))
    (fun i k => x6 (ix3 1 i k)) (fun k j => x7 (ix3 1 k j))

theorem v94 (s : Fin 256) (j : Fin 1024) :
    val_main_v94 (F := Ideal) x0 x1 x2 x4 x5 x6 x7 (ix2 s j) = r94 x0 x1 x2 x4 x5 x6 x7 s j := by
  have e := v66 x0 x1 x2 x4
  have e2 := v85 x0 x1 x2 x4 x5
  unfold r94 tail ffn unit
  simp only [← e2]
  rw [← e]
  pointwise [val_main_v94, val_main_v93, val_main_v92, val_main_v91, val_main_v90, val_main_v89, val_main_call1_v5, val_main_call1_v4, val_main_call1_cst_0, val_main_call1_v3, val_main_call1_v2, val_main_call1_cst, val_main_call1_v1, val_main_call1_v0, val_main_v88, val_main_v87, val_main_v86, val_main_v65, val_main_v64, val_main_v63, val_main_v62, val_main_v61, val_main_v60, val_main_v59, val_main_v58, val_main_v57, val_main_v56, val_main_v55, val_main_v54, val_main_v53, val_main_v52, val_main_v51, val_main_v50, val_main_v0, val_main_v3, val_main_v4, sec]
  rfl

theorem lat (s : Fin 16640) (j : Fin 1024) (hs : (s : ℕ) < 16384) :
    val_main_v95 (F := Ideal) x0 x1 x2 x3 x4 x5 x6 x7 (ix2 s j) = r49 x0 x1 x2 x3 x5 x6 x7 ⟨s, hs⟩ j := by
  refine Eq.trans ?_ (v49 x0 x1 x2 x3 x5 x6 x7 ⟨s, hs⟩ j)
  pointwise [val_main_v95, hs]

theorem ctx (s : Fin 16640) (j : Fin 1024) (hs : ¬ (s : ℕ) < 16384) :
    val_main_v95 (F := Ideal) x0 x1 x2 x3 x4 x5 x6 x7 (ix2 s j) = r94 x0 x1 x2 x4 x5 x6 x7 ⟨s - 16384, by omega⟩ j := by
  refine Eq.trans ?_ (v94 x0 x1 x2 x4 x5 x6 x7 ⟨s - 16384, by omega⟩ j)
  pointwise [val_main_v95, hs]

/-- The modulation row of a token: the latent rows' or the context rows'. -/
def pick (x3 x4 : FVec Ideal S4x6144 .f32) (s : Fin 16640) (n : Fin 6144) : EReal :=
  if (s : ℕ) < 16384 then x3 (ix2 1 n) else x4 (ix2 1 n)

theorem whole (s : Fin 16640) (j : Fin 1024) :
    val_main_v95 (F := Ideal) x0 x1 x2 x3 x4 x5 x6 x7 (ix2 s j)
      = mix (fun j => x0 (ix2 s j)) (pick x3 x4 s) (fun k => x1 (ix2 s k)) (fun k j => x2 (ix2 k j))
          (fun j => x5 (ix1 j)) (fun i k => x6 (ix3 1 i k)) (fun k j => x7 (ix3 1 k j)) j := by
  by_cases hs : (s : ℕ) < 16384
  · have e : pick x3 x4 s = fun n => x3 (ix2 1 n) := by
      funext n
      exact if_pos hs
    rw [lat _ _ _ _ _ _ _ _ s j hs, e]
    rfl
  · have e : pick x3 x4 s = fun n => x4 (ix2 1 n) := by
      funext n
      exact if_neg hs
    have e2 : (⟨16384 + ((s : ℕ) - 16384), by omega⟩ : Fin 16640) = s := Fin.ext (by simp only; omega)
    rw [ctx _ _ _ _ _ _ _ _ s j hs, e]
    unfold r94 r66
    simp only [e2]
    rfl

end Cert.Ref3
-- ==== Proof.Equal3.lean ====
module

public import proofs.«01_k».proof.Defs
public import proofs.«01_k».proof.Proof.Tail3
public import proofs.«01_k».proof.Proof.Ref3
public import proofs.«01_k».proof.Proof.Gen.Kernel3Ideal.Value

@[expose] public section

set_option maxRecDepth 16384

noncomputable section
namespace Cert.Equal3

open Idealize.ShloMosaic Idealize.SL.Sem

/-- The third kernel and the third reference end with equal results. -/
theorem algebraic : Cert.algebraic_Kernel3Ideal_Reference3Ideal := by
  pair_intro
  · run_from Cert.Kernel3Ideal.Value.run_blocks m g
  · refine θ_run_mono (Cert.Reference3Ideal.Value.run m' g') ?_
    intro r hr c
    refine ⟨(hr c).1.trans ?_, (hr c).2⟩
    rw [Cert.Reference3Ideal.Read.val_main_v95_eq]
    refine Eq.trans ?_ (Cert.Tail3.final m c).symm
    obtain ⟨h0, h1, h2, h3, h4, h5, h6, h7⟩ := hagree c
    rw [h0, h1, h2, h3, h4, h5, h6, h7]
    funext y
    have hy : y = ix2 (y 0) (y 1) := by funext a; fin_cases a <;> rfl
    refine Eq.trans (congrArg _ hy) ?_
    refine (Cert.Ref3.whole _ _ _ _ _ _ _ _ (y 0) (y 1)).trans ?_
    unfold Cert.Tail3.out
    rfl

end Cert.Equal3
-- ==== Proof.Tail4.lean ====
module

public import proofs.«01_k».proof.Proof.Row
public import proofs.«01_k».proof.Proof.Gen.Kernel4Ideal.Frame

@[expose] public section

set_option maxRecDepth 16384

/-! The fourth kernel: what it writes at each grid point, row by row, and its whole result. -/

noncomputable section
namespace Cert.Tail4

open Cert.Kernel4Ideal Cert.Kernel4Ideal.Gen Idealize.ShloMosaic Idealize.ShloMosaic.TcCoe Idealize.SL.Sem
open Cert.Row

variable (i : grid0.Coords) (x0 : Vec Ideal S640x1024 .f32) (x1 : Vec Ideal S640x1024 .bf16)
  (x2 : Vec Ideal S4x256x256 .bf16) (x3 : Vec Ideal S1x1024 .f32) (x4 : Vec Ideal S1x8x6144 .f32) (x5 : Vec Ideal S1x1024 .f32)
  (x6 : Vec Ideal S1x1024x5632 .bf16) (x7 : Vec Ideal S1x2816x1024 .bf16)

/-- Whether row `r` of the grid point is past the latent rows. -/
def past (r : Fin 640) : BitVec 1 :=
  if (r : ℕ) < 384 then Scalar.cmpi CmpIPredicate.sgt (BitVec.ofNat 32 ↑(i 0)) 25#32
  else Scalar.cmpi CmpIPredicate.sge (BitVec.ofNat 32 ↑(i 0)) 25#32

/-- The modulation row that row `r` takes. -/
def md (r : Fin 640) (n : Fin 6144) : EReal := Scalar.select (past i r) (x4 (ix3 0 1 n)) (x4 (ix3 0 0 n))

theorem low (r : Fin 640) (hr : ¬ (r : ℕ) < 384) : (⟨384 + ((r : ℕ) - 384), by omega⟩ : Fin 640) = r :=
  Fin.ext (by simp only; omega)

/-- The scaled grouped projection of a row, one run of 256 entries at a time. -/
theorem b14_at (r : Fin 640) (j : Fin 1024) :
    k0_pay14 (F := Ideal) i x0 x1 x2 x3 x4 x5 x6 x7 (ix2 r j)
      = grp (fun k => x1 (ix2 r k)) (fun g k j => x2 (ix3 g k j)) ⟨j / 256, by omega⟩ ⟨j % 256, by omega⟩ * x3 (ix2 0 j) := by
  by_cases h0 : (j : ℕ) < 256
  · have e : (⟨j / 256, by omega⟩ : Fin 4) = 0 := Fin.ext (by show (j : ℕ) / 256 = 0; omega)
    have e' : (⟨j % 256, by omega⟩ : Fin 256) = ⟨j, h0⟩ := Fin.ext (by show (j : ℕ) % 256 = j; omega)
    rw [e, e']
    pointwise [k0_pay14, k0_pay1, grp, h0]
  by_cases h1 : (j : ℕ) - 256 < 256
  · have e : (⟨j / 256, by omega⟩ : Fin 4) = 1 := Fin.ext (by show (j : ℕ) / 256 = 1; omega)
    have e' : (⟨j % 256, by omega⟩ : Fin 256) = ⟨j - 256, h1⟩ := Fin.ext (by show (j : ℕ) % 256 = j - 256; omega)
    rw [e, e']
    pointwise [k0_pay14, k0_pay1, grp, h0, h1]
  by_cases h2 : (j : ℕ) - 256 - 256 < 256
  · have e : (⟨j / 256, by omega⟩ : Fin 4) = 2 := Fin.ext (by show (j : ℕ) / 256 = 2; omega)
    have e' : (⟨j % 256, by omega⟩ : Fin 256) = ⟨j - 256 - 256, h2⟩ := Fin.ext (by show (j : ℕ) % 256 = j - 256 - 256; omega)
    rw [e, e']
    pointwise [k0_pay14, k0_pay1, grp, h0, h1, h2]
  · have h3 : (j : ℕ) - 256 - 256 - 256 < 256 := by omega
    have e : (⟨j / 256, by omega⟩ : Fin 4) = 3 := Fin.ext (by show (j : ℕ) / 256 = 3; omega)
    have e' : (⟨j % 256, by omega⟩ : Fin 256) = ⟨j - 256 - 256 - 256, h3⟩ := Fin.ext (by show (j : ℕ) % 256 = j - 256 - 256 - 256; omega)
    rw [e, e']
    pointwise [k0_pay14, k0_pay1, grp, h0, h1, h2, h3]

/-- A row after the residual step. -/
abbrev r17 (r : Fin 640) : Fin 1024 → EReal :=
  res4 (fun j => x0 (ix2 r j)) (sec 2 (md i x4 r)) (fun k => x1 (ix2 r k)) (fun g k j => x2 (ix3 g k j)) (fun j => x3 (ix2 0 j))

theorem b17_at (r : Fin 640) (j : Fin 1024) :
    k0_pay17 (F := Ideal) i x0 x1 x2 x3 x4 x5 x6 x7 (ix2 r j) = r17 i x0 x1 x2 x3 x4 r j := by
  unfold r17 res4
  rw [← b14_at i x0 x1 x2 x3 x4 x5 x6 x7]
  unfold k0_pay17
  generalize k0_pay14 (F := Ideal) i x0 x1 x2 x3 x4 x5 x6 x7 = Y
  by_cases hr : (r : ℕ) < 384
  · pointwise [k0_pay4, k0_pay16, k0_pay3, sec, md, past, hr]
  · pointwise [k0_pay4, k0_pay16, k0_pay3, sec, md, past, hr]
    simp only [low r hr]

theorem b15_at (j : Fin 1024) : k0_pay15 (F := Ideal) i x0 x1 x2 x3 x4 x5 x6 x7 (ix2 0 j) = x5 (ix2 0 j) := by
  pointwise [k0_pay15, k0_pay2]

theorem p8_at (v47 v48 v56 v63 v69 v71) (r : Fin 384) (j : Fin 1024) :
    k0_pay8 (F := Ideal) v47 v48 v56 v63 v69 v71 (ix2 r j)
      = v48 (ix2 r j) * Ideal.rsqrt (v63 (ix2 r 0)) * v56 (ix2 0 j) + Scalar.select v47 (v69 (ix3 0 0 j)) (v71 (ix3 0 0 j)) := by
  pointwise [k0_pay8]

theorem p7_at (a v20 v21 v24 v25 v26 v28 v37 v39) (r : Fin 384) :
    k0_pay7 (F := Ideal) a v20 v21 v24 v25 v26 v28 v37 v39 (ix2 r 0)
      = Ideal.div (∑ k, k0_pay5 (F := Ideal) a v20 v21 v24 v25 v26 v28 v37 v39 (ix2 r k)
            * k0_pay5 (F := Ideal) a v20 v21 v24 v25 v26 v28 v37 v39 (ix2 r k)) (Ideal.ofBits FTy.f32 1149239296#32)
          + Ideal.ofBits FTy.f32 897988541#32 := by
  pointwise [k0_pay7]

theorem p6_at (a v23 v49 v51) (j : Fin 1024) :
    k0_pay6 (F := Ideal) a v23 v49 v51 (ix2 0 j)
      = v23 (ix2 0 j) * (1 + Scalar.select (Scalar.cmpi .sgt a 25#32) (v49 (ix3 0 0 j)) (v51 (ix3 0 0 j))) := by
  pointwise [k0_pay6]

theorem p9_at (a v23 v46 v78 v80) (r : Fin 256) (j : Fin 1024) :
    k0_pay9 (F := Ideal) a v23 v46 v78 v80 (ix2 r j)
      = v46 (ix2 ⟨384 + r, by omega⟩ j) * rs (fun k => v46 (ix2 ⟨384 + r, by omega⟩ k))
          * (v23 (ix2 0 j) * (1 + Scalar.select (Scalar.cmpi .sge a 25#32) (v78 (ix3 0 0 j)) (v80 (ix3 0 0 j)))) := by
  pointwise [k0_pay9, rs]

theorem p11_at (v75 v76 v97 v99 v100) (r : Fin 640) (j : Fin 1024) :
    k0_pay11 (F := Ideal) v75 v76 v97 v99 v100 (ix2 r j)
      = if h : (r : ℕ) < 384 then v75 (ix2 ⟨r, h⟩ j)
        else v97 (ix2 ⟨r - 384, by omega⟩ j) + Scalar.select v76 (v99 (ix2 0 j)) (v100 (ix3 0 0 j)) := by
  by_cases hr : (r : ℕ) < 384
  · rw [dif_pos hr]
    pointwise [k0_pay11, hr]
  · rw [dif_neg hr]
    pointwise [k0_pay11, hr]

/-- A row after norm and modulation. -/
abbrev r22 (r : Fin 640) : Fin 1024 → EReal :=
  hid (r17 i x0 x1 x2 x3 x4 r) (fun j => x5 (ix2 0 j)) (sec 4 (md i x4 r)) (sec 3 (md i x4 r))

theorem b18_at (r : Fin 640) (hr : (r : ℕ) < 384) (j : Fin 1024) :
    k0_pay18 (F := Ideal) i x0 x1 x2 x3 x4 x5 x6 x7 (ix2 ⟨r, hr⟩ j) = r22 i x0 x1 x2 x3 x4 x5 r j := by
  have e17 (j : Fin 1024) := b17_at i x0 x1 x2 x3 x4 x5 x6 x7 r j
  have e5 (j : Fin 1024) : k0_pay5 (F := Ideal) (BitVec.ofNat 32 (i 0).val) (k0_pay14 i x0 x1 x2 x3 x4 x5 x6 x7) (View.ld x0 r0_9)
      (Scalar.cmpi .sgt (BitVec.ofNat 32 (i 0).val) 25#32) (k0_pay16 i x0 x1 x2 x3 x4 x5 x6 x7) (View.ld x4 r0_10)
      (View.ld x4 r0_11) (View.ld x4 r0_10) (View.ld x4 r0_11) (ix2 ⟨r, hr⟩ j) = r17 i x0 x1 x2 x3 x4 r j := by
    rw [← e17]
    unfold k0_pay17 k0_pay5
    generalize k0_pay4 (F := Ideal) _ _ _ _ _ _ _ _ _ = B
    pointwise []
  unfold k0_pay18
  rw [p8_at, p7_at, p6_at, b15_at]
  simp only [e5]
  unfold r22 hid rs sec md past
  rw [if_pos hr]
  pointwise []

theorem b19_at (r : Fin 640) (hr : ¬ (r : ℕ) < 384) (j : Fin 1024) :
    k0_pay19 (F := Ideal) i x0 x1 x2 x3 x4 x5 x6 x7 (ix2 ⟨r - 384, by omega⟩ j)
      = r17 i x0 x1 x2 x3 x4 r j * rs (r17 i x0 x1 x2 x3 x4 r) * (x5 (ix2 0 j) * (1 + sec 4 (md i x4 r) j)) := by
  unfold k0_pay19
  rw [p9_at, b15_at]
  simp only [low r hr, b17_at]
  unfold sec md past
  rw [if_neg hr]
  pointwise []

/-- The normalized and modulated block as the kernel computes it. -/
abbrev b22 : FVec Ideal S640x1024 .bf16 :=
  k0_pay11 (k0_pay18 i x0 x1 x2 x3 x4 x5 x6 x7) (Scalar.cmpi .sge (BitVec.ofNat 32 (i 0).val) 25#32)
    (k0_pay19 i x0 x1 x2 x3 x4 x5 x6 x7) (k0_pay20 i x0 x1 x2 x3 x4 x5 x6 x7) (View.ld x4 r0_15)

theorem b22_at (r : Fin 640) (j : Fin 1024) :
    b22 i x0 x1 x2 x3 x4 x5 x6 x7 (ix2 r j) = r22 i x0 x1 x2 x3 x4 x5 r j := by
  unfold b22
  rw [p11_at]
  by_cases hr : (r : ℕ) < 384
  · rw [dif_pos hr, b18_at]
  · rw [dif_neg hr, b19_at i x0 x1 x2 x3 x4 x5 x6 x7 r hr]
    unfold r22 hid
    generalize r17 i x0 x1 x2 x3 x4 r = Y
    unfold sec md past
    rw [if_neg hr]
    pointwise [k0_pay20, k0_pay10]

theorem p12_at (v75 v76 v97 v99 v100 v107 v110 v117 v120 v123 v130) (r : Fin 640) (j : Fin 1024) :
    k0_pay12 (F := Ideal) v75 v76 v97 v99 v100 v107 v110 v117 v120 v123 v130 (ix2 r j)
      = ∑ k : Fin 1024, ((∑ i, k0_pay11 (F := Ideal) v75 v76 v97 v99 v100 (ix2 r i) * v107 (ix3 0 i k))
          * Ideal.logistic (∑ i, k0_pay11 (F := Ideal) v75 v76 v97 v99 v100 (ix2 r i) * v107 (ix3 0 i k))
          * ∑ i, k0_pay11 (F := Ideal) v75 v76 v97 v99 v100 (ix2 r i) * v110 (ix3 0 i k)) * v117 (ix3 0 k j)
        + ∑ k : Fin 1024, ((∑ i, k0_pay11 (F := Ideal) v75 v76 v97 v99 v100 (ix2 r i) * v120 (ix3 0 i k))
          * Ideal.logistic (∑ i, k0_pay11 (F := Ideal) v75 v76 v97 v99 v100 (ix2 r i) * v120 (ix3 0 i k))
          * ∑ i, k0_pay11 (F := Ideal) v75 v76 v97 v99 v100 (ix2 r i) * v123 (ix3 0 i k)) * v130 (ix3 0 k j) := by
  pointwise [k0_pay12]

/-- The network's last run of units, added to the first two. -/
abbrev last (v106 : FVec Ideal S640x1024 .bf16) (v133 : FVec Ideal S640x1024 .f32) (v134 v137 : Vec Ideal S1x1024x768 .bf16)
    (v144 : Vec Ideal S1x768x1024 .bf16) (r : Fin 640) (j : Fin 1024) : EReal :=
  v133 (ix2 r j) + ∑ k : Fin 768, ((∑ i, v106 (ix2 r i) * v134 (ix3 0 i k)) * Ideal.logistic (∑ i, v106 (ix2 r i) * v134 (ix3 0 i k))
          * ∑ i, v106 (ix2 r i) * v137 (ix3 0 i k)) * v144 (ix3 0 k j)

theorem p13_hi (a v46 v106 v133 v134 v137 v144 v150 v152 v161 v163) (r : Fin 640) (hr : (r : ℕ) < 384) (j : Fin 1024) :
    k0_pay13 (F := Ideal) a v46 v106 v133 v134 v137 v144 v150 v152 v161 v163 (ix2 r j)
      = v46 (ix2 r j) + Scalar.select (Scalar.cmpi .sgt a 25#32) (v150 (ix3 0 0 j)) (v152 (ix3 0 0 j))
          * last v106 v133 v134 v137 v144 r j := by
  pointwise [k0_pay13, last, hr]

theorem p13_lo (a v46 v106 v133 v134 v137 v144 v150 v152 v161 v163) (r : Fin 640) (hr : ¬ (r : ℕ) < 384) (j : Fin 1024) :
    k0_pay13 (F := Ideal) a v46 v106 v133 v134 v137 v144 v150 v152 v161 v163 (ix2 r j)
      = v46 (ix2 r j) + Scalar.select (Scalar.cmpi .sge a 25#32) (v161 (ix3 0 0 j)) (v163 (ix3 0 0 j))
          * last v106 v133 v134 v137 v144 r j := by
  pointwise [k0_pay13, last, hr]
  simp only [low r hr]

/-- The input weights and the output weights. -/
abbrev win (i' : Fin 1024) (k : Fin 5632) : EReal := x6 (ix3 0 i' k)
abbrev wout (k : Fin 2816) (j : Fin 1024) : EReal := x7 (ix3 0 k j)

/-- The network's first two runs as the kernel computes them. -/
abbrev b12 : FVec Ideal S640x1024 .f32 :=
  k0_pay12 (k0_pay18 i x0 x1 x2 x3 x4 x5 x6 x7) (Scalar.cmpi .sge (BitVec.ofNat 32 (i 0).val) 25#32)
    (k0_pay19 i x0 x1 x2 x3 x4 x5 x6 x7) (k0_pay20 i x0 x1 x2 x3 x4 x5 x6 x7) (View.ld x4 r0_15) (View.ld x6 r0_16)
    (View.ld x6 r0_17) (View.ld x7 r0_18) (View.ld x6 r0_19) (View.ld x6 r0_20) (View.ld x7 r0_21)

theorem last_at (r : Fin 640) (j : Fin 1024) :
    last (b22 i x0 x1 x2 x3 x4 x5 x6 x7) (b12 i x0 x1 x2 x3 x4 x5 x6 x7) (View.ld x6 r0_22) (View.ld x6 r0_23) (View.ld x7 r0_24) r j
      = ffn (r22 i x0 x1 x2 x3 x4 x5 r) (win x6) (wout x7) j := by
  have e (k : Fin 1024) := b22_at i x0 x1 x2 x3 x4 x5 x6 x7 r k
  unfold last b12
  rw [p12_at, ffn_runs]
  unfold b22
  unfold b22 at e
  simp only [e]
  pointwise []

/-- The row after the network. -/
abbrev r9 (r : Fin 640) : Fin 1024 → EReal :=
  tail (r17 i x0 x1 x2 x3 x4 r) (fun j => x5 (ix2 0 j)) (sec 4 (md i x4 r)) (sec 3 (md i x4 r)) (sec 5 (md i x4 r)) (win x6) (wout x7)

/-- The whole block as the kernel computes it. -/
abbrev b1 : FVec Ideal S640x1024 .f32 :=
  k0_pay13 (BitVec.ofNat 32 (i 0).val) (k0_pay17 i x0 x1 x2 x3 x4 x5 x6 x7) (b22 i x0 x1 x2 x3 x4 x5 x6 x7)
    (b12 i x0 x1 x2 x3 x4 x5 x6 x7) (View.ld x6 r0_22) (View.ld x6 r0_23) (View.ld x7 r0_24)
    (View.ld x4 r0_25) (View.ld x4 r0_26) (View.ld x4 r0_25) (View.ld x4 r0_26)

theorem b1_at (r : Fin 640) (j : Fin 1024) :
    b1 i x0 x1 x2 x3 x4 x5 x6 x7 (ix2 r j) = r9 i x0 x1 x2 x3 x4 x5 x6 x7 r j := by
  unfold r9 tail
  unfold b1
  by_cases hr : (r : ℕ) < 384
  · rw [p13_hi _ _ _ _ _ _ _ _ _ _ _ r hr, last_at, b17_at]
    unfold r22
    generalize ffn _ (win x6) (wout x7) = N
    generalize r17 i x0 x1 x2 x3 x4 r = Y
    unfold sec md past
    rw [if_pos hr]
    pointwise []
  · rw [p13_lo _ _ _ _ _ _ _ _ _ _ _ r hr, last_at, b17_at]
    unfold r22
    generalize ffn _ (win x6) (wout x7) = N
    generalize r17 i x0 x1 x2 x3 x4 r = Y
    unfold sec md past
    rw [if_neg hr]
    pointwise []

variable (m : (ℓ : Loc nD τ sig) → Buf (Elt Ideal) ℓ) (c : Dev nD)

/-- The modulation row of token `s`. -/
def mdr (a b : FVec Ideal S4x6144 .f32) (s : Fin 16640) (n : Fin 6144) : EReal :=
  if (s : ℕ) < 16384 then a (ix2 2 n) else b (ix2 2 n)

/-- A row of the result, from the launch's arguments. -/
def out (m : (ℓ : Loc nD τ sig) → Buf (Elt Ideal) ℓ) (c : Dev nD) (s : Fin 16640) (j : Fin 1024) : EReal :=
  tail (res4 (fun j => (m ((c : Thread nD τ).loc main_arg0) : FVec Ideal S16640x1024 .f32) (ix2 s j))
      (sec 2 (mdr (m ((c : Thread nD τ).loc main_arg3)) (m ((c : Thread nD τ).loc main_arg4)) s))
      (fun k => (m ((c : Thread nD τ).loc main_arg1) : FVec Ideal S16640x1024 .bf16) (ix2 s k))
      (fun g k j => (m ((c : Thread nD τ).loc main_arg2) : FVec Ideal S4x256x256 .f32) (ix3 g k j))
      (fun j => (m ((c : Thread nD τ).loc main_arg8) : FVec Ideal S1024 .f32) (ix1 j)))
    (fun j => (m ((c : Thread nD τ).loc main_arg5) : FVec Ideal S1024 .f32) (ix1 j))
    (sec 4 (mdr (m ((c : Thread nD τ).loc main_arg3)) (m ((c : Thread nD τ).loc main_arg4)) s))
    (sec 3 (mdr (m ((c : Thread nD τ).loc main_arg3)) (m ((c : Thread nD τ).loc main_arg4)) s))
    (sec 5 (mdr (m ((c : Thread nD τ).loc main_arg3)) (m ((c : Thread nD τ).loc main_arg4)) s))
    (fun i k => (m ((c : Thread nD τ).loc main_arg6) : FVec Ideal S4x1024x5632 .f32) (ix3 2 i k))
    (fun k j => (m ((c : Thread nD τ).loc main_arg7) : FVec Ideal S4x2816x1024 .f32) (ix3 2 k j)) j

theorem idx : ∀ t : Fin cfg0.N, win0_0.index t = ![t.val, 0] ∧ win0_1.index t = ![t.val, 0] ∧ win0_2.index t = ![0, 0, 0]
    ∧ win0_3.index t = ![0, 0] ∧ win0_4.index t = ![2, 0, 0] ∧ win0_5.index t = ![0, 0] ∧ win0_6.index t = ![2, 0, 0]
    ∧ win0_7.index t = ![2, 0, 0] ∧ win0_8.index t = ![t.val, 0] ∧ (grid0.coords t 0).val = t.val :=
  (by decide +kernel : ∀ t : Fin grid0.N, _)

theorem past_idx : ∀ t : Fin cfg0.N, Scalar.cmpi CmpIPredicate.sgt (BitVec.ofNat 32 t.val) 25#32 = 0#1
    ∧ Scalar.cmpi CmpIPredicate.sge (BitVec.ofNat 32 t.val) 25#32 = BitVec.ofBool (decide (25 ≤ t.val)) :=
  (by decide +kernel : ∀ t : Fin grid0.N, _)

/-! Each block the grid point reads, from the launch's arguments. -/

theorem blk0 (t : Fin cfg0.N) (r : Fin 640) (j : Fin 1024) (s : Fin 16640) (hs : (s : ℕ) = 640 * t.val + r) :
    iblk m c 0 t (ix2 r j) = (m ((c : Thread nD τ).loc main_arg0) : FVec Ideal S16640x1024 .f32) (ix2 s j) := by
  blk_point [iblk, V, idx t]

theorem blk1 (t : Fin cfg0.N) (r : Fin 640) (j : Fin 1024) (s : Fin 16640) (hs : (s : ℕ) = 640 * t.val + r) :
    iblk m c 1 t (ix2 r j) = (m ((c : Thread nD τ).loc main_arg1) : FVec Ideal S16640x1024 .bf16) (ix2 s j) := by
  blk_point [iblk, V, idx t]

theorem blk2 (t : Fin cfg0.N) (g : Fin 4) (k j : Fin 256) :
    iblk m c 2 t (ix3 g k j) = (m ((c : Thread nD τ).loc main_arg2) : FVec Ideal S4x256x256 .f32) (ix3 g k j) := by
  unfold iblk
  entry_read
  blk_point [iblk, V, idx t]

theorem rd3 (t : Fin cfg0.N) (A : Vec Ideal S1x1024 .f32) (j : Fin 1024) :
    View.read (Elt Ideal) ((cfg0.win 3).blk t).view A (ix2 0 j) = A (ix2 0 j) := by
  blk_point [idx t]

theorem blk3 (t : Fin cfg0.N) (j : Fin 1024) :
    iblk m c 3 t (ix2 0 j) = (m ((c : Thread nD τ).loc main_arg8) : FVec Ideal S1024 .f32) (ix1 j) := by
  unfold iblk
  rw [rd3]
  entry_read
  pointwise []

theorem rd4 (t : Fin cfg0.N) (A : Vec Ideal S4x8x6144 .f32) (p : Fin 8) (j : Fin 6144) :
    View.read (Elt Ideal) ((cfg0.win 4).blk t).view A (ix3 0 p j) = A (ix3 2 p j) := by
  blk_point [idx t]

theorem rd5 (t : Fin cfg0.N) (A : Vec Ideal S1x1024 .f32) (j : Fin 1024) :
    View.read (Elt Ideal) ((cfg0.win 5).blk t).view A (ix2 0 j) = A (ix2 0 j) := by
  blk_point [idx t]

/-- The stacked modulation table the host prepares. -/
def tbl (a b : FVec Ideal S4x6144 .f32) : FVec Ideal S4x8x6144 .f32 :=
  concatenate S4x8x6144 1
    [⟨S4x1x6144, broadcastInDim S4x1x6144 ![0, 2] bcast_S4x6144_S4x1x6144_0_2 a⟩,
     ⟨S4x1x6144, broadcastInDim S4x1x6144 ![0, 2] bcast_S4x6144_S4x1x6144_0_2 b⟩,
     ⟨S4x6x6144, broadcastInDim S4x6x6144 ![] bcast_S_S4x6x6144 (constant S_ .f32 0x00000000#32)⟩]
    concatenates_S4x1x6144_S4x1x6144_S4x6x6144_S4x8x6144_d1

theorem tbl_lat (a b : FVec Ideal S4x6144 .f32) (l : Fin 4) (n : Fin 6144) : tbl a b (ix3 l 0 n) = a (ix2 l n) := by
  pointwise [tbl]

theorem tbl_ctx (a b : FVec Ideal S4x6144 .f32) (l : Fin 4) (n : Fin 6144) : tbl a b (ix3 l 1 n) = b (ix2 l n) := by
  pointwise [tbl]

theorem V_tbl : (V m c main_v4 : Vec Ideal S4x8x6144 .f32)
    = tbl (m ((c : Thread nD τ).loc main_arg3)) (m ((c : Thread nD τ).loc main_arg4)) := rfl

theorem blk4 (t : Fin cfg0.N) (r : Fin 640) (n : Fin 6144) (s : Fin 16640) (hs : (s : ℕ) = 640 * t.val + r) :
    md (grid0.coords t) (iblk m c 4 t) r n = mdr (m ((c : Thread nD τ).loc main_arg3)) (m ((c : Thread nD τ).loc main_arg4)) s n := by
  have ht : t.val < 26 := t.isLt
  have hg : (grid0.coords t 0).val = t.val := (idx t).2.2.2.2.2.2.2.2.2
  have h0 : iblk m c 4 t (ix3 0 0 n) = (m ((c : Thread nD τ).loc main_arg3) : FVec Ideal S4x6144 .f32) (ix2 2 n) := by
    unfold iblk
    rw [rd4]
    exact (congrFun (V_tbl m c) _).trans (tbl_lat _ _ _ _)
  have h1 : iblk m c 4 t (ix3 0 1 n) = (m ((c : Thread nD τ).loc main_arg4) : FVec Ideal S4x6144 .f32) (ix2 2 n) := by
    unfold iblk
    rw [rd4]
    exact (congrFun (V_tbl m c) _).trans (tbl_ctx _ _ _ _)
  unfold md past mdr
  rw [hg, (past_idx t).1, (past_idx t).2, h0, h1]
  by_cases hr : (r : ℕ) < 384
  · rw [if_pos hr, if_pos (by omega)]
    exact if_neg (by decide)
  · rw [if_neg hr]
    by_cases h : 25 ≤ t.val
    · rw [if_neg (c := (s : ℕ) < 16384) (by omega), decide_eq_true h]
      exact if_pos (by decide)
    · rw [if_pos (c := (s : ℕ) < 16384) (by omega), decide_eq_false h]
      exact if_neg (by decide)

theorem blk5 (t : Fin cfg0.N) (j : Fin 1024) :
    iblk m c 5 t (ix2 0 j) = (m ((c : Thread nD τ).loc main_arg5) : FVec Ideal S1024 .f32) (ix1 j) := by
  unfold iblk
  rw [rd5]
  entry_read
  pointwise []

theorem blk6 (t : Fin cfg0.N) (i : Fin 1024) (k : Fin 5632) :
    iblk m c 6 t (ix3 0 i k) = (m ((c : Thread nD τ).loc main_arg6) : FVec Ideal S4x1024x5632 .f32) (ix3 2 i k) := by
  unfold iblk
  entry_read
  blk_point [iblk, V, idx t]

theorem blk7 (t : Fin cfg0.N) (k : Fin 2816) (j : Fin 1024) :
    iblk m c 7 t (ix3 0 k j) = (m ((c : Thread nD τ).loc main_arg7) : FVec Ideal S4x2816x1024 .f32) (ix3 2 k j) := by
  unfold iblk
  entry_read
  blk_point [iblk, V, idx t]

/-- What grid point `t` writes, row by row. -/
theorem row (t : Fin cfg0.N) (r : Fin 640) (j : Fin 1024) (s : Fin 16640) (hs : (s : ℕ) = 640 * t.val + r) :
    b1 (grid0.coords t) (iblk m c 0 t) (iblk m c 1 t) (iblk m c 2 t) (iblk m c 3 t) (iblk m c 4 t)
      (iblk m c 5 t) (iblk m c 6 t) (iblk m c 7 t) (ix2 r j) = out m c s j := by
  have e6 : win (iblk m c 6 t) = fun i k => (m ((c : Thread nD τ).loc main_arg6) : FVec Ideal S4x1024x5632 .f32) (ix3 2 i k) := by
    funext i k
    exact blk6 m c t i k
  have e7 : wout (iblk m c 7 t) = fun k j => (m ((c : Thread nD τ).loc main_arg7) : FVec Ideal S4x2816x1024 .f32) (ix3 2 k j) := by
    funext k j
    exact blk7 m c t k j
  have e4 : md (grid0.coords t) (iblk m c 4 t) r = mdr (m ((c : Thread nD τ).loc main_arg3)) (m ((c : Thread nD τ).loc main_arg4)) s := by
    funext n
    exact blk4 m c t r n s hs
  rw [b1_at]
  unfold out r9 r17
  rw [e6, e7, e4]
  simp only [blk0 m c t r _ s hs, blk1 m c t r _ s hs, blk2 m c t, blk3 m c t, blk5 m c t]

/-- The result array after the run. -/
theorem final : (dats m 0 c).arrAt 8 (cfgs 0).N = fun y : S16640x1024.Idx => out m c (y 0) (y 1) := by
  refine (dats m 0 c).arrAt_eq_of_covers 8 _ (by decide +kernel) fun t _ y => ?_
  blk_simp
  rw [after0_8]
  frame_out
  have hy : y = ix2 (y 0) (y 1) := by funext a; fin_cases a <;> rfl
  have hj : (((View.whole main_v9).slice (win0_8.rect t)).emb y 1) = y 1 := by
    apply Fin.ext
    blk_simp [idx t]
    try omega
  have hs : ((((View.whole main_v9).slice (win0_8.rect t)).emb y 0 : Fin 16640) : ℕ) = 640 * t.val + (y 0 : Fin 640) := by
    blk_simp [idx t]
    try omega
  rw [hj]
  refine Eq.trans ?_ (row m c t (y 0) (y 1) _ hs)
  exact congrArg (b1 (grid0.coords t) (iblk m c 0 t) (iblk m c 1 t) (iblk m c 2 t) (iblk m c 3 t) (iblk m c 4 t)
      (iblk m c 5 t) (iblk m c 6 t) (iblk m c 7 t)) hy

end Cert.Tail4
end
-- ==== Proof.Ref4.lean ====
module

public import proofs.«01_k».proof.Proof.Row
public import proofs.«01_k».proof.Proof.Gen.Reference4Ideal.Read

@[expose] public section

set_option maxRecDepth 16384

/-! The fourth reference, row by row: first the latent rows, then the context rows. -/

noncomputable section
namespace Cert.Ref4

open Cert.Reference4Ideal Cert.Reference4Ideal.Gen Cert.Reference4Ideal.Read Idealize.ShloMosaic Idealize.ShloMosaic.TcCoe
open Cert.Row

variable (x0 : FVec Ideal S16640x1024 .f32) (x1 : FVec Ideal S16640x1024 .bf16) (x2 : FVec Ideal S4x256x256 .f32)
  (x3 x4 : FVec Ideal S4x6144 .f32) (x5 : FVec Ideal S1024 .f32) (x6 : FVec Ideal S4x1024x5632 .f32)
  (x7 : FVec Ideal S4x2816x1024 .f32) (x8 : FVec Ideal S1024 .f32)

/-- The scaled grouped projection. -/
theorem v11 (s : Fin 16640) (j : Fin 1024) :
    val_main_v11 (F := Ideal) x1 x2 x8 (ix2 s j)
      = grp (fun k => x1 (ix2 s k)) (fun g k j => x2 (ix3 g k j)) ⟨j / 256, by omega⟩ ⟨j % 256, by omega⟩ * x8 (ix1 j) := by
  pointwise [val_main_v11, val_main_v10, val_main_v9, val_main_v8, val_main_v7, val_main_v6, val_main_v1, val_main_v0, grp]
  refine congrArg (· * x8 (ix1 j)) (Finset.sum_congr rfl fun k _ => ?_)
  rw [mul_comm]
  exact congrArg (fun q => x1 (ix2 s q) * x2 (ix3 ⟨j / 256, by omega⟩ k ⟨j % 256, by omega⟩))
    (Fin.ext (by simp only; omega))

/-- A latent row after the residual step. -/
abbrev r25 (s : Fin 16384) : Fin 1024 → EReal :=
  res4 (fun j => x0 (ix2 ⟨s, by omega⟩ j)) (sec 2 fun n => x3 (ix2 2 n)) (fun k => x1 (ix2 ⟨s, by omega⟩ k)) (fun g k j => x2 (ix3 g k j)) (fun j => x8 (ix1 j))

theorem v25 (s : Fin 16384) (j : Fin 1024) :
    val_main_v25 (F := Ideal) x0 x1 x2 x3 x8 (ix2 s j) = r25 x0 x1 x2 x3 x8 s j := by
  have e := v11 x1 x2 x8
  unfold r25 res4
  rw [← e]
  pointwise [val_main_v25, val_main_v24, val_main_v23, val_main_v22, val_main_v21, val_main_v20, val_main_v19, val_main_v18, val_main_v17, val_main_v16, val_main_v15, val_main_v14, val_main_v13, val_main_v12, val_main_v2, val_main_v3, val_main_v4, val_main_v5, sec]

theorem v33 (s : Fin 16384) (j : Fin 1) :
    val_main_v33 (F := Ideal) x0 x1 x2 x3 x8 (ix2 s j) = rs (r25 x0 x1 x2 x3 x8 s) := by
  have e := v25 x0 x1 x2 x3 x8
  unfold rs
  simp only [← e]
  pointwise [val_main_v33, val_main_v32, val_main_v31, val_main_cst_1, val_main_v30, val_main_v29, val_main_cst_0, val_main_v28, val_main_v27, val_main_cst, val_main_v26]

theorem v44 (s : Fin 16384) (j : Fin 1024) :
    val_main_v44 (F := Ideal) x0 x1 x2 x3 x5 x8 (ix2 s j)
      = hid (r25 x0 x1 x2 x3 x8 s) (fun j => x5 (ix1 j)) (sec 4 fun n => x3 (ix2 2 n)) (sec 3 fun n => x3 (ix2 2 n)) j := by
  have e := v25 x0 x1 x2 x3 x8
  have e2 := v33 x0 x1 x2 x3 x8
  unfold hid
  rw [← e2 s 0]
  simp only [← e]
  pointwise [val_main_v44, val_main_v43, val_main_v42, val_main_v41, val_main_v40, val_main_v39, val_main_cst_2, val_main_v38, val_main_v37, val_main_v36, val_main_v35, val_main_v34, val_main_v24, val_main_v23, val_main_v22, val_main_v21, val_main_v20, val_main_v19, val_main_v18, val_main_v17, val_main_v16, val_main_v15, val_main_v14, val_main_v13, val_main_v12, val_main_v2, val_main_v3, val_main_v4, val_main_v5, sec]
  simp only [mul_assoc]

/-- A latent row after residual step and network. -/
abbrev r53 (s : Fin 16384) : Fin 1024 → EReal :=
  tail (r25 x0 x1 x2 x3 x8 s) (fun j => x5 (ix1 j)) (sec 4 fun n => x3 (ix2 2 n)) (sec 3 fun n => x3 (ix2 2 n)) (sec 5 fun n => x3 (ix2 2 n))
    (fun i k => x6 (ix3 2 i k)) (fun k j => x7 (ix3 2 k j))

theorem v53 (s : Fin 16384) (j : Fin 1024) :
    val_main_v53 (F := Ideal) x0 x1 x2 x3 x5 x6 x7 x8 (ix2 s j) = r53 x0 x1 x2 x3 x5 x6 x7 x8 s j := by
  have e := v25 x0 x1 x2 x3 x8
  have e2 := v44 x0 x1 x2 x3 x5 x8
  unfold r53 tail ffn unit
  simp only [← e2]
  rw [← e]
  pointwise [val_main_v53, val_main_v52, val_main_v51, val_main_v50, val_main_v49, val_main_v48, val_main_call0_v5, val_main_call0_v4, val_main_call0_cst_0, val_main_call0_v3, val_main_call0_v2, val_main_call0_cst, val_main_call0_v1, val_main_call0_v0, val_main_v47, val_main_v46, val_main_v45, val_main_v24, val_main_v23, val_main_v22, val_main_v21, val_main_v20, val_main_v19, val_main_v18, val_main_v17, val_main_v16, val_main_v15, val_main_v14, val_main_v13, val_main_v12, val_main_v2, val_main_v3, val_main_v4, val_main_v5, sec]
  rfl

/-- A context row after the residual step. -/
abbrev r67 (s : Fin 256) : Fin 1024 → EReal :=
  res4 (fun j => x0 (ix2 ⟨16384 + s, by omega⟩ j)) (sec 2 fun n => x4 (ix2 2 n)) (fun k => x1 (ix2 ⟨16384 + s, by omega⟩ k)) (fun g k j => x2 (ix3 g k j)) (fun j => x8 (ix1 j))

theorem v67 (s : Fin 256) (j : Fin 1024) :
    val_main_v67 (F := Ideal) x0 x1 x2 x4 x8 (ix2 s j) = r67 x0 x1 x2 x4 x8 s j := by
  have e := v11 x1 x2 x8
  unfold r67 res4
  rw [← e]
  pointwise [val_main_v67, val_main_v66, val_main_v65, val_main_v64, val_main_v63, val_main_v62, val_main_v61, val_main_v60, val_main_v59, val_main_v58, val_main_v57, val_main_v56, val_main_v55, val_main_v54, val_main_v2, val_main_v3, val_main_v4, val_main_v5, sec]

theorem v75 (s : Fin 256) (j : Fin 1) :
    val_main_v75 (F := Ideal) x0 x1 x2 x4 x8 (ix2 s j) = rs (r67 x0 x1 x2 x4 x8 s) := by
  have e := v67 x0 x1 x2 x4 x8
  unfold rs
  simp only [← e]
  pointwise [val_main_v75, val_main_v74, val_main_v73, val_main_cst_5, val_main_v72, val_main_v71, val_main_cst_4, val_main_v70, val_main_v69, val_main_cst_3, val_main_v68]

theorem v86 (s : Fin 256) (j : Fin 1024) :
    val_main_v86 (F := Ideal) x0 x1 x2 x4 x5 x8 (ix2 s j)
      = hid (r67 x0 x1 x2 x4 x8 s) (fun j => x5 (ix1 j)) (sec 4 fun n => x4 (ix2 2 n)) (sec 3 fun n => x4 (ix2 2 n)) j := by
  have e := v67 x0 x1 x2 x4 x8
  have e2 := v75 x0 x1 x2 x4 x8
  unfold hid
  rw [← e2 s 0]
  simp only [← e]
  pointwise [val_main_v86, val_main_v85, val_main_v84, val_main_v83, val_main_v82, val_main_v81, val_main_cst_6, val_main_v80, val_main_v79, val_main_v78, val_main_v77, val_main_v76, val_main_v66, val_main_v65, val_main_v64, val_main_v63, val_main_v62, val_main_v61, val_main_v60, val_main_v59, val_main_v58, val_main_v57, val_main_v56, val_main_v55, val_main_v54, val_main_v2, val_main_v3, val_main_v4, val_main_v5, sec]
  simp only [mul_assoc]

/-- A context row after residual step and network. -/
abbrev r95 (s : Fin 256) : Fin 1024 → EReal :=
  tail (r67 x0 x1 x2 x4 x8 s) (fun j => x5 (ix1 j)) (sec 4 fun n => x4 (ix2 2 n)) (sec 3 fun n => x4 (ix2 2 n)) (sec 5 fun n => x4 (ix2 2 n))
    (fun i k => x6 (ix3 2 i k)) (fun k j => x7 (ix3 2 k j))

theorem v95 (s : Fin 256) (j : Fin 1024) :
    val_main_v95 (F := Ideal) x0 x1 x2 x4 x5 x6 x7 x8 (ix2 s j) = r95 x0 x1 x2 x4 x5 x6 x7 x8 s j := by
  have e := v67 x0 x1 x2 x4 x8
  have e2 := v86 x0 x1 x2 x4 x5 x8
  unfold r95 tail ffn unit
  simp only [← e2]
  rw [← e]
  pointwise [val_main_v95, val_main_v94, val_main_v93, val_main_v92, val_main_v91, val_main_v90, val_main_call1_v5, val_main_call1_v4, val_main_call1_cst_0, val_main_call1_v3, val_main_call1_v2, val_main_call1_cst, val_main_call1_v1, val_main_call1_v0, val_main_v89, val_main_v88, val_main_v87, val_main_v66, val_main_v65, val_main_v64, val_main_v63, val_main_v62, val_main_v61, val_main_v60, val_main_v59, val_main_v58, val_main_v57, val_main_v56, val_main_v55, val_main_v54, val_main_v2, val_main_v3, val_main_v4, val_main_v5, sec]
  rfl

theorem lat (s : Fin 16640) (j : Fin 1024) (hs : (s : ℕ) < 16384) :
    val_main_v96 (F := Ideal) x0 x1 x2 x3 x4 x5 x6 x7 x8 (ix2 s j) = r53 x0 x1 x2 x3 x5 x6 x7 x8 ⟨s, hs⟩ j := by
  refine Eq.trans ?_ (v53 x0 x1 x2 x3 x5 x6 x7 x8 ⟨s, hs⟩ j)
  pointwise [val_main_v96, hs]

theorem ctx (s : Fin 16640) (j : Fin 1024) (hs : ¬ (s : ℕ) < 16384) :
    val_main_v96 (F := Ideal) x0 x1 x2 x3 x4 x5 x6 x7 x8 (ix2 s j) = r95 x0 x1 x2 x4 x5 x6 x7 x8 ⟨s - 16384, by omega⟩ j := by
  refine Eq.trans ?_ (v95 x0 x1 x2 x4 x5 x6 x7 x8 ⟨s - 16384, by omega⟩ j)
  pointwise [val_main_v96, hs]

/-- The modulation row of a token: the latent rows' or the context rows'. -/
def pick (x3 x4 : FVec Ideal S4x6144 .f32) (s : Fin 16640) (n : Fin 6144) : EReal :=
  if (s : ℕ) < 16384 then x3 (ix2 2 n) else x4 (ix2 2 n)

theorem whole (s : Fin 16640) (j : Fin 1024) :
    val_main_v96 (F := Ideal) x0 x1 x2 x3 x4 x5 x6 x7 x8 (ix2 s j)
      = tail (res4 (fun j => x0 (ix2 s j)) (sec 2 (pick x3 x4 s)) (fun k => x1 (ix2 s k)) (fun g k j => x2 (ix3 g k j)) (fun j => x8 (ix1 j)))
          (fun j => x5 (ix1 j)) (sec 4 (pick x3 x4 s)) (sec 3 (pick x3 x4 s)) (sec 5 (pick x3 x4 s))
          (fun i k => x6 (ix3 2 i k)) (fun k j => x7 (ix3 2 k j)) j := by
  by_cases hs : (s : ℕ) < 16384
  · have e : pick x3 x4 s = fun n => x3 (ix2 2 n) := by
      funext n
      exact if_pos hs
    rw [lat _ _ _ _ _ _ _ _ _ s j hs, e]

  · have e : pick x3 x4 s = fun n => x4 (ix2 2 n) := by
      funext n
      exact if_neg hs
    have e2 : (⟨16384 + ((s : ℕ) - 16384), by omega⟩ : Fin 16640) = s := Fin.ext (by simp only; omega)
    rw [ctx _ _ _ _ _ _ _ _ _ s j hs, e]
    unfold r95 r67
    simp only [e2]

end Cert.Ref4
-- ==== Proof.Equal4.lean ====
module

public import proofs.«01_k».proof.Defs
public import proofs.«01_k».proof.Proof.Tail4
public import proofs.«01_k».proof.Proof.Ref4
public import proofs.«01_k».proof.Proof.Gen.Kernel4Ideal.Value

@[expose] public section

set_option maxRecDepth 16384

noncomputable section
namespace Cert.Equal4

open Idealize.ShloMosaic Idealize.SL.Sem

/-- The fourth kernel and the fourth reference end with equal results. -/
theorem algebraic : Cert.algebraic_Kernel4Ideal_Reference4Ideal := by
  pair_intro
  · run_from Cert.Kernel4Ideal.Value.run_blocks m g
  · refine θ_run_mono (Cert.Reference4Ideal.Value.run m' g') ?_
    intro r hr c
    refine ⟨(hr c).1.trans ?_, (hr c).2⟩
    rw [Cert.Reference4Ideal.Read.val_main_v96_eq]
    refine Eq.trans ?_ (Cert.Tail4.final m c).symm
    obtain ⟨h0, h1, h2, h3, h4, h5, h6, h7, h8⟩ := hagree c
    rw [h0, h1, h2, h3, h4, h5, h6, h7, h8]
    funext y
    have hy : y = ix2 (y 0) (y 1) := by funext a; fin_cases a <;> rfl
    refine Eq.trans (congrArg _ hy) ?_
    refine (Cert.Ref4.whole _ _ _ _ _ _ _ _ _ (y 0) (y 1)).trans ?_
    unfold Cert.Tail4.out
    rfl

end Cert.Equal4
-- ==== Proof.Row5.lean ====
module

public import proofs.«01_k».proof.Proof.Row

@[expose] public section

set_option maxRecDepth 16384

/-! The readout of the two-way linear attention, for one token. -/

noncomputable section
namespace Cert.Row

open Idealize.ShloMosaic

/-- One entry of a head of 128 after the head's norm. -/
def headn (o : Fin 1024 → EReal) (gn : Fin 128 → EReal) (h : Fin 8) (k : Fin 128) : EReal :=
  o ⟨128 * h + k, by omega⟩
    * Ideal.rsqrt (Ideal.div (∑ l : Fin 128, o ⟨128 * h + l, by omega⟩ * o ⟨128 * h + l, by omega⟩)
        (Ideal.ofBits FTy.f32 0x43000000#32) + Ideal.ofBits FTy.f32 897988541#32)
    * gn k

/-- The normed heads side by side, gated. -/
def readout (o g : Fin 1024 → EReal) (gn : Fin 128 → EReal) : Fin 1024 → EReal :=
  fun j => headn o gn ⟨j / 128, by omega⟩ ⟨j % 128, by omega⟩ * g j

end Cert.Row
-- ==== Proof.Lay5Ideal.lean ====
module

public import proofs.«01_k».proof.Proof.Gen.Kernel5Ideal.Frame
public import proofs.«01_k».proof.Proof.Gen.Kernel5Ideal.Skeleton
public import Idealize.ShloMosaic.Lib.Claim
public import Idealize.ShloMosaic.Lib.Pipeline.Value

@[expose] public section

set_option maxRecDepth 16384

/-! The fifth kernel's run. Its first window's last block reaches past the end of the array: the fetch moves the first
384 rows only, and the buffer's other rows hold words that nothing names. The body does not use those rows at that grid
point, so that what it writes back is fixed at every point. -/

noncomputable section
namespace Cert.Kernel5Ideal.Lay

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-! ## What the body computes from the buffers -/

abbrev rc_0 : Rect S640x1024 := Rect.unit (s := S640x1024) ![0, 0] S640x1024.size inb_S640x1024_S640x1024_0_0
abbrev rc_1 : Rect S1x128 := Rect.unit (s := S1x128) ![0, 0] S1x128.size inb_S1x128_S1x128_0_0
abbrev rc_2 : Rect S1024x1024 := Rect.unit (s := S1024x1024) ![0, 0] S1024x1024.size inb_S1024x1024_S1024x1024_0_0
abbrev rc_3 : Rect S256x1024 := Rect.unit (s := S256x1024) ![0, 0] S256x1024.size inb_S256x1024_S256x1024_0_0
abbrev rc_4 : Rect S640x1024 := Rect.unit (s := S640x1024) ![384, 0] S256x1024.size inb_S640x1024_S256x1024_384_0
abbrev rc_5 : Rect S640x1024 := Rect.unit (s := S640x1024) ![0, 0] S384x1024.size inb_S640x1024_S384x1024_0_0
abbrev rc_6 : Rect S1x1024 := Rect.unit (s := S1x1024) ![0, 0] S1x1024.size inb_S1x1024_S1x1024_0_0
abbrev rc_7 : Rect S1x8x6144 := Rect.unit (s := S1x8x6144) ![0, 1, 2048] S1x1x1024.size inb_S1x8x6144_S1x1x1024_0_1_2048
abbrev rc_8 : Rect S1x8x6144 := Rect.unit (s := S1x8x6144) ![0, 0, 2048] S1x1x1024.size inb_S1x8x6144_S1x1x1024_0_0_2048
abbrev rc_9 : Rect S1x8x6144 := Rect.unit (s := S1x8x6144) ![0, 1, 4096] S1x1x1024.size inb_S1x8x6144_S1x1x1024_0_1_4096
abbrev rc_10 : Rect S1x8x6144 := Rect.unit (s := S1x8x6144) ![0, 0, 4096] S1x1x1024.size inb_S1x8x6144_S1x1x1024_0_0_4096
abbrev rc_11 : Rect S1x8x6144 := Rect.unit (s := S1x8x6144) ![0, 1, 3072] S1x1x1024.size inb_S1x8x6144_S1x1x1024_0_1_3072
abbrev rc_12 : Rect S1x8x6144 := Rect.unit (s := S1x8x6144) ![0, 0, 3072] S1x1x1024.size inb_S1x8x6144_S1x1x1024_0_0_3072
abbrev rc_13 : Rect S1x1024x5632 := Rect.unit (s := S1x1024x5632) ![0, 0, 0] S1x1024x1024.size inb_S1x1024x5632_S1x1024x1024_0_0_0
abbrev rc_14 : Rect S1x1024x5632 := Rect.unit (s := S1x1024x5632) ![0, 0, 2816] S1x1024x1024.size inb_S1x1024x5632_S1x1024x1024_0_0_2816
abbrev rc_15 : Rect S1x2816x1024 := Rect.unit (s := S1x2816x1024) ![0, 0, 0] S1x1024x1024.size inb_S1x2816x1024_S1x1024x1024_0_0_0
abbrev rc_16 : Rect S1x1024x5632 := Rect.unit (s := S1x1024x5632) ![0, 0, 1024] S1x1024x1024.size inb_S1x1024x5632_S1x1024x1024_0_0_1024
abbrev rc_17 : Rect S1x1024x5632 := Rect.unit (s := S1x1024x5632) ![0, 0, 3840] S1x1024x1024.size inb_S1x1024x5632_S1x1024x1024_0_0_3840
abbrev rc_18 : Rect S1x2816x1024 := Rect.unit (s := S1x2816x1024) ![0, 1024, 0] S1x1024x1024.size inb_S1x2816x1024_S1x1024x1024_0_1024_0
abbrev rc_19 : Rect S1x1024x5632 := Rect.unit (s := S1x1024x5632) ![0, 0, 2048] S1x1024x768.size inb_S1x1024x5632_S1x1024x768_0_0_2048
abbrev rc_20 : Rect S1x1024x5632 := Rect.unit (s := S1x1024x5632) ![0, 0, 4864] S1x1024x768.size inb_S1x1024x5632_S1x1024x768_0_0_4864
abbrev rc_21 : Rect S1x2816x1024 := Rect.unit (s := S1x2816x1024) ![0, 2048, 0] S1x768x1024.size inb_S1x2816x1024_S1x768x1024_0_2048_0
abbrev rc_22 : Rect S1x8x6144 := Rect.unit (s := S1x8x6144) ![0, 1, 5120] S1x1x1024.size inb_S1x8x6144_S1x1x1024_0_1_5120
abbrev rc_23 : Rect S1x8x6144 := Rect.unit (s := S1x8x6144) ![0, 0, 5120] S1x1x1024.size inb_S1x8x6144_S1x1x1024_0_0_5120

/-- The sum of the two passes' outputs. -/
def val26 (i : grid0.Coords) (x0 : Vec F S640x1024 .f32) (x1 : Vec F S640x1024 .bf16) (x2 : Vec F S1024x1024 .bf16) (x3 : Vec F S256x1024 .f32) (x4 : Vec F S640x1024 .bf16) (x5 : Vec F S640x1024 .bf16) (x6 : Vec F S1x128 .f32) (x7 : Vec F S1x8x6144 .f32) (x8 : Vec F S1x1024 .f32) (x9 : Vec F S1x1024x5632 .bf16) (x10 : Vec F S1x2816x1024 .bf16) : FVec F S640x1024 .f32 :=
  k0_pay2 (View.ld x1 rc_0) (View.ld x4 rc_0)
/-- The normed heads, gated. -/
def val27 (i : grid0.Coords) (x0 : Vec F S640x1024 .f32) (x1 : Vec F S640x1024 .bf16) (x2 : Vec F S1024x1024 .bf16) (x3 : Vec F S256x1024 .f32) (x4 : Vec F S640x1024 .bf16) (x5 : Vec F S640x1024 .bf16) (x6 : Vec F S1x128 .f32) (x7 : Vec F S1x8x6144 .f32) (x8 : Vec F S1x1024 .f32) (x9 : Vec F S1x1024x5632 .bf16) (x10 : Vec F S1x2816x1024 .bf16) : FVec F S640x1024 .bf16 :=
  k0_pay14 (val26 i x0 x1 x2 x3 x4 x5 x6 x7 x8 x9 x10) (k0_pay3 (View.ld x1 rc_0) (View.ld x4 rc_0) (View.ld x6 rc_1)) (k0_pay4 (View.ld x1 rc_0) (View.ld x4 rc_0) (View.ld x6 rc_1)) (k0_pay8 (k0_pay5 (View.ld x1 rc_0) (View.ld x4 rc_0)) (k0_pay6 (View.ld x1 rc_0) (View.ld x4 rc_0)) (k0_pay7 (F := F)) (View.ld x6 rc_1)) (k0_pay9 (val26 i x0 x1 x2 x3 x4 x5 x6 x7 x8 x9 x10) (View.ld x6 rc_1)) (k0_pay10 (val26 i x0 x1 x2 x3 x4 x5 x6 x7 x8 x9 x10) (View.ld x6 rc_1)) (k0_pay11 (val26 i x0 x1 x2 x3 x4 x5 x6 x7 x8 x9 x10)) (k0_pay12 (val26 i x0 x1 x2 x3 x4 x5 x6 x7 x8 x9 x10)) (k0_pay13 (F := F)) (View.ld x6 rc_1) (View.ld x6 rc_1) (View.ld x6 rc_1) (View.ld x5 rc_0)
/-- The second norm's weight. -/
def val28 (i : grid0.Coords) (x0 : Vec F S640x1024 .f32) (x1 : Vec F S640x1024 .bf16) (x2 : Vec F S1024x1024 .bf16) (x3 : Vec F S256x1024 .f32) (x4 : Vec F S640x1024 .bf16) (x5 : Vec F S640x1024 .bf16) (x6 : Vec F S1x128 .f32) (x7 : Vec F S1x8x6144 .f32) (x8 : Vec F S1x1024 .f32) (x9 : Vec F S1x1024x5632 .bf16) (x10 : Vec F S1x2816x1024 .bf16) : FVec F S1x1024 .f32 :=
  k0_pay15 (View.ld x8 rc_6)
/-- The rows after the residual step. -/
def val29 (i : grid0.Coords) (x0 : Vec F S640x1024 .f32) (x1 : Vec F S640x1024 .bf16) (x2 : Vec F S1024x1024 .bf16) (x3 : Vec F S256x1024 .f32) (x4 : Vec F S640x1024 .bf16) (x5 : Vec F S640x1024 .bf16) (x6 : Vec F S1x128 .f32) (x7 : Vec F S1x8x6144 .f32) (x8 : Vec F S1x1024 .f32) (x9 : Vec F S1x1024x5632 .bf16) (x10 : Vec F S1x2816x1024 .bf16) : FVec F S640x1024 .f32 :=
  k0_pay16 (BitVec.ofNat 32 (i 0).val) (val27 i x0 x1 x2 x3 x4 x5 x6 x7 x8 x9 x10) (View.ld x2 rc_2) (View.ld x3 rc_3) (View.ld x0 rc_4) (View.ld x0 rc_5) (View.ld x7 rc_7) (View.ld x7 rc_8) (View.ld x7 rc_7) (View.ld x7 rc_8)
/-- The first 384 rows, normed and modulated. -/
def val30 (i : grid0.Coords) (x0 : Vec F S640x1024 .f32) (x1 : Vec F S640x1024 .bf16) (x2 : Vec F S1024x1024 .bf16) (x3 : Vec F S256x1024 .f32) (x4 : Vec F S640x1024 .bf16) (x5 : Vec F S640x1024 .bf16) (x6 : Vec F S1x128 .f32) (x7 : Vec F S1x8x6144 .f32) (x8 : Vec F S1x1024 .f32) (x9 : Vec F S1x1024x5632 .bf16) (x10 : Vec F S1x2816x1024 .bf16) : FVec F S384x1024 .f32 :=
  k0_pay18 (val28 i x0 x1 x2 x3 x4 x5 x6 x7 x8 x9 x10) (Scalar.cmpi .sgt (BitVec.ofNat 32 (i 0).val) 25#32) (k0_pay17 (BitVec.ofNat 32 (i 0).val) (val27 i x0 x1 x2 x3 x4 x5 x6 x7 x8 x9 x10) (View.ld x2 rc_2) (View.ld x3 rc_3) (View.ld x0 rc_4) (View.ld x0 rc_5) (View.ld x7 rc_7) (View.ld x7 rc_8) (View.ld x7 rc_7) (View.ld x7 rc_8)) (View.ld x7 rc_9) (View.ld x7 rc_10) (View.ld x7 rc_11) (View.ld x7 rc_12)
/-- The remaining rows after the residual step. -/
def val31 (i : grid0.Coords) (x0 : Vec F S640x1024 .f32) (x1 : Vec F S640x1024 .bf16) (x2 : Vec F S1024x1024 .bf16) (x3 : Vec F S256x1024 .f32) (x4 : Vec F S640x1024 .bf16) (x5 : Vec F S640x1024 .bf16) (x6 : Vec F S1x128 .f32) (x7 : Vec F S1x8x6144 .f32) (x8 : Vec F S1x1024 .f32) (x9 : Vec F S1x1024x5632 .bf16) (x10 : Vec F S1x2816x1024 .bf16) : FVec F S256x1024 .f32 :=
  k0_pay19 (val29 i x0 x1 x2 x3 x4 x5 x6 x7 x8 x9 x10)
/-- The scale of the remaining rows' modulation. -/
def val32 (i : grid0.Coords) (x0 : Vec F S640x1024 .f32) (x1 : Vec F S640x1024 .bf16) (x2 : Vec F S1024x1024 .bf16) (x3 : Vec F S256x1024 .f32) (x4 : Vec F S640x1024 .bf16) (x5 : Vec F S640x1024 .bf16) (x6 : Vec F S1x128 .f32) (x7 : Vec F S1x8x6144 .f32) (x8 : Vec F S1x1024 .f32) (x9 : Vec F S1x1024x5632 .bf16) (x10 : Vec F S1x2816x1024 .bf16) : FVec F S1x1024 .f32 :=
  k0_pay20 (BitVec.ofNat 32 (i 0).val) (View.ld x7 rc_9) (View.ld x7 rc_10)
/-- The block the body writes, from the contents of the input buffers. -/
def outBlk (i : grid0.Coords) (x0 : Vec F S640x1024 .f32) (x1 : Vec F S640x1024 .bf16) (x2 : Vec F S1024x1024 .bf16) (x3 : Vec F S256x1024 .f32) (x4 : Vec F S640x1024 .bf16) (x5 : Vec F S640x1024 .bf16) (x6 : Vec F S1x128 .f32) (x7 : Vec F S1x8x6144 .f32) (x8 : Vec F S1x1024 .f32) (x9 : Vec F S1x1024x5632 .bf16) (x10 : Vec F S1x2816x1024 .bf16) : Vec F S640x1024 .f32 :=
  View.canon [⟨rc_0, k0_pay1 (BitVec.ofNat 32 (i 0).val) (val29 i x0 x1 x2 x3 x4 x5 x6 x7 x8 x9 x10) (k0_pay23 (k0_pay21 (val28 i x0 x1 x2 x3 x4 x5 x6 x7 x8 x9 x10) (val30 i x0 x1 x2 x3 x4 x5 x6 x7 x8 x9 x10) (Scalar.cmpi .sge (BitVec.ofNat 32 (i 0).val) 25#32) (val31 i x0 x1 x2 x3 x4 x5 x6 x7 x8 x9 x10) (val32 i x0 x1 x2 x3 x4 x5 x6 x7 x8 x9 x10) (View.ld x7 rc_11) (View.ld x7 rc_12)) (k0_pay22 (val28 i x0 x1 x2 x3 x4 x5 x6 x7 x8 x9 x10) (val30 i x0 x1 x2 x3 x4 x5 x6 x7 x8 x9 x10) (Scalar.cmpi .sge (BitVec.ofNat 32 (i 0).val) 25#32) (val31 i x0 x1 x2 x3 x4 x5 x6 x7 x8 x9 x10) (val32 i x0 x1 x2 x3 x4 x5 x6 x7 x8 x9 x10) (View.ld x7 rc_11) (View.ld x7 rc_12) (View.ld x9 rc_13) (View.ld x9 rc_14) (View.ld x10 rc_15)) (View.ld x9 rc_16) (View.ld x9 rc_17) (View.ld x10 rc_18) (View.ld x9 rc_19) (View.ld x9 rc_20) (View.ld x10 rc_21)) (Scalar.cmpi .sgt (BitVec.ofNat 32 (i 0).val) 25#32) (k0_pay24 (val29 i x0 x1 x2 x3 x4 x5 x6 x7 x8 x9 x10)) (k0_pay25 (View.ld x7 rc_22)) (View.ld x7 rc_23) (View.ld x7 rc_22) (View.ld x7 rc_23)⟩]

theorem tiled (p0 : Vec F S640x1024 .f32) (y : S640x1024.Idx) :
    ∃ pc ∈ ([⟨rc_0, p0⟩] : List (View.Piece (Elt F) S640x1024 .f32)), y ∈ pc.1.set :=
  View.cover_of_tiled [⟨rc_0, p0⟩] S640x1024.size (by rfl) y

/-! ## The rows of the first buffer that count -/

/-- At the last grid point the rows from 384 on are taken from the context and not from the buffer. -/
theorem rest_unused (a : BitVec 32) (h : a = 25#32) (v129 v130 v134 v135 v135' v137 v143 v145 v154 v156) :
    k0_pay16 (F := F) a v129 v130 v134 v135 v137 v143 v145 v154 v156
      = k0_pay16 (F := F) a v129 v130 v134 v135' v137 v143 v145 v154 v156 := by
  subst h; rfl

/-- Two contents of the first buffer that agree on the rows that count give the same rows after the residual step. -/
theorem val29_congr (i : grid0.Coords) (x0 x0' : Vec F S640x1024 .f32) (x1 : Vec F S640x1024 .bf16) (x2 : Vec F S1024x1024 .bf16) (x3 : Vec F S256x1024 .f32) (x4 : Vec F S640x1024 .bf16) (x5 : Vec F S640x1024 .bf16) (x6 : Vec F S1x128 .f32) (x7 : Vec F S1x8x6144 .f32) (x8 : Vec F S1x1024 .f32) (x9 : Vec F S1x1024x5632 .bf16) (x10 : Vec F S1x2816x1024 .bf16)
    (h : ∀ y : S640x1024.Idx, ((y 0).val < 384 ∨ (i 0).val < 25) → x0 y = x0' y) :
    val29 i x0 x1 x2 x3 x4 x5 x6 x7 x8 x9 x10 = val29 i x0' x1 x2 x3 x4 x5 x6 x7 x8 x9 x10 := by
  have h5 : View.ld x0 rc_5 = View.ld x0' rc_5 := funext fun y => h _ (.inl (by
    have hb : (y 0).val < 384 := (y 0).isLt
    show 0 + 1 * (y 0).val < 384; omega))
  unfold val29
  rw [h5]
  by_cases hi : (i 0).val < 25
  · rw [show View.ld x0 rc_4 = View.ld x0' rc_4 from funext fun y => h _ (.inr hi)]
    rfl
  · exact rest_unused _ (by rw [show (i 0).val = 25 by have hb : (i 0).val < 26 := (i 0).isLt; omega]) _ _ _ _ _ _ _ _ _ _

/-- The first 384 rows after the residual step are the first rows of the whole. -/
theorem pay17_eq (a : BitVec 32) (v129 v130 v134 v135 v137 v143 v145 v154 v156) :
    k0_pay17 (F := F) a v129 v130 v134 v135 v137 v143 v145 v154 v156
      = extractStridedSlice S384x1024 ![0, 0] (k0_pay16 a v129 v130 v134 v135 v137 v143 v145 v154 v156) slices_S640x1024_o0_0_S384x1024 := rfl

theorem val30_eq (i : grid0.Coords) (x0 : Vec F S640x1024 .f32) (x1 : Vec F S640x1024 .bf16) (x2 : Vec F S1024x1024 .bf16) (x3 : Vec F S256x1024 .f32) (x4 : Vec F S640x1024 .bf16) (x5 : Vec F S640x1024 .bf16) (x6 : Vec F S1x128 .f32) (x7 : Vec F S1x8x6144 .f32) (x8 : Vec F S1x1024 .f32) (x9 : Vec F S1x1024x5632 .bf16) (x10 : Vec F S1x2816x1024 .bf16) :
    val30 i x0 x1 x2 x3 x4 x5 x6 x7 x8 x9 x10 = k0_pay18 (val28 i x0 x1 x2 x3 x4 x5 x6 x7 x8 x9 x10) (Scalar.cmpi .sgt (BitVec.ofNat 32 (i 0).val) 25#32)
      (extractStridedSlice S384x1024 ![0, 0] (val29 i x0 x1 x2 x3 x4 x5 x6 x7 x8 x9 x10) slices_S640x1024_o0_0_S384x1024) (View.ld x7 rc_9) (View.ld x7 rc_10) (View.ld x7 rc_11) (View.ld x7 rc_12) := rfl

/-- Two contents of the first buffer that agree on the rows that count give the same block. -/
theorem outBlk_congr (i : grid0.Coords) (x0 x0' : Vec F S640x1024 .f32) (x1 : Vec F S640x1024 .bf16) (x2 : Vec F S1024x1024 .bf16) (x3 : Vec F S256x1024 .f32) (x4 : Vec F S640x1024 .bf16) (x5 : Vec F S640x1024 .bf16) (x6 : Vec F S1x128 .f32) (x7 : Vec F S1x8x6144 .f32) (x8 : Vec F S1x1024 .f32) (x9 : Vec F S1x1024x5632 .bf16) (x10 : Vec F S1x2816x1024 .bf16)
    (h : ∀ y : S640x1024.Idx, ((y 0).val < 384 ∨ (i 0).val < 25) → x0 y = x0' y) :
    outBlk i x0 x1 x2 x3 x4 x5 x6 x7 x8 x9 x10 = outBlk i x0' x1 x2 x3 x4 x5 x6 x7 x8 x9 x10 := by
  have e29 := val29_congr i x0 x0' x1 x2 x3 x4 x5 x6 x7 x8 x9 x10 h
  have e28 : val28 i x0 x1 x2 x3 x4 x5 x6 x7 x8 x9 x10 = val28 i x0' x1 x2 x3 x4 x5 x6 x7 x8 x9 x10 := rfl
  have e32 : val32 i x0 x1 x2 x3 x4 x5 x6 x7 x8 x9 x10 = val32 i x0' x1 x2 x3 x4 x5 x6 x7 x8 x9 x10 := rfl
  have e31 : val31 i x0 x1 x2 x3 x4 x5 x6 x7 x8 x9 x10 = val31 i x0' x1 x2 x3 x4 x5 x6 x7 x8 x9 x10 := by
    unfold val31; rw [e29]
  have e30 : val30 i x0 x1 x2 x3 x4 x5 x6 x7 x8 x9 x10 = val30 i x0' x1 x2 x3 x4 x5 x6 x7 x8 x9 x10 := by
    rw [val30_eq, val30_eq, e29, e28]
  unfold outBlk
  rw [e28, e29, e30, e31, e32]

/-! ## The body's triple -/

set_option maxHeartbeats 1000000 in
/-- The body on whole buffers: the inputs stay, the output holds `outBlk` of them. -/
theorem sound_kernel (c : Dev nD) (E : Set ℕ) (i : grid0.Coords) (arg1 : Memref sig .tc .vmem S640x1024 .f32) (harg1 : arg1.IsWhole) (arg2 : Memref sig .tc .vmem S640x1024 .bf16) (harg2 : arg2.IsWhole) (arg3 : Memref sig .tc .vmem S1024x1024 .bf16) (harg3 : arg3.IsWhole) (arg4 : Memref sig .tc .vmem S256x1024 .f32) (harg4 : arg4.IsWhole) (arg5 : Memref sig .tc .vmem S640x1024 .bf16) (harg5 : arg5.IsWhole) (arg6 : Memref sig .tc .vmem S640x1024 .bf16) (harg6 : arg6.IsWhole) (arg7 : Memref sig .tc .vmem S1x128 .f32) (harg7 : arg7.IsWhole) (arg8 : Memref sig .tc .vmem S1x8x6144 .f32) (harg8 : arg8.IsWhole) (arg9 : Memref sig .tc .vmem S1x1024 .f32) (harg9 : arg9.IsWhole) (arg10 : Memref sig .tc .vmem S1x1024x5632 .bf16) (harg10 : arg10.IsWhole) (arg11 : Memref sig .tc .vmem S1x2816x1024 .bf16) (harg11 : arg11.IsWhole) (arg12 : Memref sig .tc .vmem S640x1024 .f32) (harg12 : arg12.IsWhole)
    (x0 : Vec F S640x1024 .f32) (x1 : Vec F S640x1024 .bf16) (x2 : Vec F S1024x1024 .bf16) (x3 : Vec F S256x1024 .f32) (x4 : Vec F S640x1024 .bf16) (x5 : Vec F S640x1024 .bf16) (x6 : Vec F S1x128 .f32) (x7 : Vec F S1x8x6144 .f32) (x8 : Vec F S1x1024 .f32) (x9 : Vec F S1x1024x5632 .bf16) (x10 : Vec F S1x2816x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlk i x0 x1 x2 x3 x4 x5 x6 x7 x8 x9 x10)) -∗ K ⟨⟩))
      ⊢ wp frame (wpE (defs₀ (F := F)) Variants.none c none) E (cc0__mix_ffn_kernel i arg1 harg1 arg2 harg2 arg3 harg3 arg4 harg4 arg5 harg5 arg6 harg6 arg7 harg7 arg8 harg8 arg9 harg9 arg10 harg10 arg11 harg11 arg12 harg12) K := by
  simp only [cc0__mix_ffn_kernel_eq_skeleton]; unfold cc0__mix_ffn_kernel_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  refine (View.read_writes_eq_canon _ _ _ (tiled _)).trans ?_
  rfl

/-! ## The run -/

variable (m : (ℓ : Loc nD τ sig) → Buf (Elt F) ℓ) (ρ : Dev nD → PrngReg)

/-- The first buffer after a fetch that found `d` in it. -/
def filled (c : Dev nD) (t : Fin cfg0.N) (d : S640x1024.Idx → Elt F .f32) : S640x1024.Idx → Elt F .f32 :=
  win0_0.fill (grid0.coords t) d (iblk m c 0 t)

/-- How many rows the fetch moves: all of them but at the last point. -/
theorem moved_rows : ∀ t : Fin grid0.N, 384 ≤ win0_0.xsize (grid0.coords t) 0
    ∧ ((grid0.coords t 0).val < 25 → win0_0.xsize (grid0.coords t) 0 = 640) ∧ win0_0.xsize (grid0.coords t) 1 = 1024 := by
  decide +kernel

/-- The rows that count come from the array. -/
theorem filled_congr (c : Dev nD) (t : Fin cfg0.N) (d d' : S640x1024.Idx → Elt F .f32) (y : S640x1024.Idx)
    (h : (y 0).val < 384 ∨ (grid0.coords t 0).val < 25) : filled m c t d y = filled m c t d' y := by
  have hm : win0_0.moved (grid0.coords t) y = true := (win0_0.moved_iff _ _).mpr (by
    obtain ⟨h1, h2, h3⟩ := moved_rows t
    have hy0 : (y 0).val < 640 := (y 0).isLt
    have hy1 : (y 1).val < 1024 := (y 1).isLt
    refine Fin.forall_fin_two.mpr ⟨?_, ?_⟩
    · rcases h with h | h
      · exact lt_of_lt_of_le h h1
      · rw [h2 h]; exact hy0
    · rw [h3]; exact hy1)
  unfold filled Window.fill
  rw [dif_pos hm, dif_pos hm]

/-- So the block written does not depend on what the fetch found. -/
theorem out_filled (c : Dev nD) (t : Fin cfg0.N) (d d' : S640x1024.Idx → Elt F .f32) :
    outBlk (grid0.coords t) (filled m c t d) (iblk m c 1 t) (iblk m c 2 t) (iblk m c 3 t) (iblk m c 4 t) (iblk m c 5 t) (iblk m c 6 t) (iblk m c 7 t) (iblk m c 8 t) (iblk m c 9 t) (iblk m c 10 t) = outBlk (grid0.coords t) (filled m c t d') (iblk m c 1 t) (iblk m c 2 t) (iblk m c 3 t) (iblk m c 4 t) (iblk m c 5 t) (iblk m c 6 t) (iblk m c 7 t) (iblk m c 8 t) (iblk m c 9 t) (iblk m c 10 t) :=
  outBlk_congr _ _ _ _ _ _ _ _ _ _ _ _ _ (filled_congr m c t d d')

/-- The first buffer with zeros where nothing was fetched. -/
abbrev first (c : Dev nD) (t : Fin cfg0.N) : S640x1024.Idx → Elt F .f32 := filled m c t fun _ => Scalar.ofBits .f32 0#32

/-- The arrays as the region finds them, and the buffers as the body leaves them. -/
def dats (_ : Fin 1) (c : Dev nD) : Dat τ (Elt F) Unit ℕ (UR sig nD τ) ℕ cfg0 c where
  A w := V m c (Pipeline.arrRef spec0 w)
  after w t := match w with
    | ⟨0, _⟩ => first m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk (grid0.coords t) (first m c t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = first m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) :
    (dats m 0 c).after 11 t = outBlk (grid0.coords t) (first m c t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- What the body finds in the first buffer. -/
theorem before0_0 (c : Dev nD) (t : Fin cfg0.N) (d) : (dats m 0 c).before 0 t d = filled m c t d := by
  unfold Dat.before; rw [if_pos (fetch0_0 t)]; unfold filled Dat.fetched Dat.blockOf iblk; rw [A_eq]; try rfl
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (filled m c t d))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (filled m c t d0) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  rw [out_filled m c t d0 (fun _ => Scalar.ofBits .f32 0#32)]
  iintro ⟨H0, H1, H2, H3, H4, H5, H6, H7, H8, H9, H10, H11⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs_row (t : Fin cfg0.N) :
    defs₀ (F := F) .tc cfg0.body (cfg0.bodyArgs t (cfg0.slots t)) = bodyAt0 t := by
  unfold defs₀; rw [Defs.onTc_tc]

/-- What the first buffer is left at, stated on the rows moved. -/
theorem filled_first (c : Dev nD) (t : Fin cfg0.N) (d : S640x1024.Idx → Elt F .f32) :
    filled m c t d = win0_0.fill (grid0.coords t) d (win0_0.cut (grid0.coords t) ((dats m 0 c).after 0 t)) := by
  rw [after0_0, show win0_0.cut (grid0.coords t) (first m c t) = iblk m c 0 t from win0_0.cut_fill _ _ _]; rfl

/-- The body does what the pipeline asks of it at every point. -/
theorem body_obligation (c : Dev nD) : BodyObligationLoose (dats (F := F) m 0 c) (defs₀ (F := F)) Variants.none () Set.univ := fun t => by
  rw [bigSep_W0, bigSep_W0, defs_row]
  refine triple_restated (sound_body m c t) rfl .rfl fun _ => ?_
  unfold bodyPost
  simp only [filled_first]
  exact .rfl

set_option backward.isDefEq.respectTransparency.types false in
set_option maxHeartbeats 800000 in
/-- The run, with every counter at zero at its end. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments end as they were launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- And every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_quiet m ρ))

/-! ## The result's blocks -/

theorem idx_inj : ∀ t t' : Fin cfg0.N, win0_11.index t = win0_11.index t' → t = t' :=
  (by decide +kernel : ∀ t t' : Fin grid0.N, win0_11.index t = win0_11.index t' → t = t')

theorem disjoint : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj t t' h)

/-- A block of the result, read back, is what its point wrote. -/
theorem blocks (c : Dev nD) (t : Fin cfg0.N) :
    ((cfg0.win 11).blk t).view.read (Elt F) ((dats m 0 c).arrAt 11 cfg0.N)
      = (cfg0.win 11).cut (grid0.coords t) (outBlk (grid0.coords t) (first m c t) (iblk m c 1 t) (iblk m c 2 t) (iblk m c 3 t) (iblk m c 4 t) (iblk m c 5 t) (iblk m c 6 t) (iblk m c 7 t) (iblk m c 8 t) (iblk m c 9 t) (iblk m c 10 t)) :=
  ((dats m 0 c).read_blk_arrAt_eq_flushed 11 disjoint cfg0.N t t.isLt (flush0_11 t)).trans (by
    show (cfg0.win 11).cut (grid0.coords t) ((dats m 0 c).after 11 t) = _
    rw [after0_11])

/-- The run with its result named. -/
theorem run_result : θ_run defs (onTc (τ := τ) (main (F := F))) ⟨m, fun _ => 0, ρ⟩ fun r => ∀ c : Dev nD,
    r.2.mem ((c : Thread nD τ).loc main_v9) = (dats m 0 c).arrAt 11 cfg0.N :=
  (θ_run defs _ _).mono (fun r h c => (h c).1 11) (run_main m ρ)

/-- And with its arguments unchanged. -/
theorem run_kept : θ_run defs (onTc (τ := τ) (main (F := F))) ⟨m, fun _ => 0, ρ⟩ fun r => ∀ c : Dev nD,
    r.2.mem ((c : Thread nD τ).loc main_v9) = (dats m 0 c).arrAt 11 cfg0.N ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) ∧
      r.2.mem ((c : Thread nD τ).loc main_arg6) = m ((c : Thread nD τ).loc main_arg6) ∧
      r.2.mem ((c : Thread nD τ).loc main_arg7) = m ((c : Thread nD τ).loc main_arg7) ∧
      r.2.mem ((c : Thread nD τ).loc main_arg8) = m ((c : Thread nD τ).loc main_arg8) ∧
      r.2.mem ((c : Thread nD τ).loc main_arg9) = m ((c : Thread nD τ).loc main_arg9) ∧
      r.2.mem ((c : Thread nD τ).loc main_arg10) = m ((c : Thread nD τ).loc main_arg10) ∧
      r.2.mem ((c : Thread nD τ).loc main_arg11) = m ((c : Thread nD τ).loc main_arg11) :=
  (θ_run defs _ _).mono (fun _ h c => ⟨h.1 c, h.2 c⟩) (θ_run_and (run_result m ρ) (unchanged m ρ))

end Cert.Kernel5Ideal.Lay

end
-- ==== Proof.Head5.lean ====
module

public import proofs.«01_k».proof.Proof.Row5
public import proofs.«01_k».proof.Proof.Lay5Ideal

@[expose] public section

set_option maxRecDepth 16384

/-! The fifth kernel's readout: each head normed, the heads side by side, gated. -/

noncomputable section
namespace Cert.Tail5

open Cert.Kernel5Ideal Cert.Kernel5Ideal.Gen Cert.Kernel5Ideal.Lay
open Idealize.ShloMosaic Idealize.ShloMosaic.TcCoe Idealize.SL.Sem
open Cert.Row

theorem h0_at (v0 v2 g) (r : Fin 640) (k : Fin 128) :
    k0_pay3 (F := Ideal) v0 v2 g (ix2 r k)
      = headn (fun k => k0_pay2 (F := Ideal) v0 v2 (ix2 r k)) (fun k => g (ix2 0 k)) 0 k := by
  unfold k0_pay3
  generalize k0_pay2 (F := Ideal) v0 v2 = B
  pointwise [headn]

theorem h1_at (v0 v2 g) (r : Fin 640) (k : Fin 128) :
    k0_pay4 (F := Ideal) v0 v2 g (ix2 r k)
      = headn (fun k => k0_pay2 (F := Ideal) v0 v2 (ix2 r k)) (fun k => g (ix2 0 k)) 1 k := by
  unfold k0_pay4
  generalize k0_pay2 (F := Ideal) v0 v2 = B
  pointwise [headn]

theorem h2_at (v0 v2 g) (r : Fin 640) (k : Fin 128) :
    k0_pay8 (F := Ideal) (k0_pay5 v0 v2) (k0_pay6 v0 v2) k0_pay7 g (ix2 r k)
      = headn (fun k => k0_pay2 (F := Ideal) v0 v2 (ix2 r k)) (fun k => g (ix2 0 k)) 2 k := by
  unfold k0_pay8 k0_pay6 k0_pay5
  generalize k0_pay2 (F := Ideal) v0 v2 = B
  pointwise [headn, k0_pay7]

theorem h3_at (v4 g) (r : Fin 640) (k : Fin 128) :
    k0_pay9 (F := Ideal) v4 g (ix2 r k)
      = headn (fun k => v4 (ix2 r k)) (fun k => g (ix2 0 k)) 3 k := by
  pointwise [k0_pay9, headn]

theorem h4_at (v4 g) (r : Fin 640) (k : Fin 128) :
    k0_pay10 (F := Ideal) v4 g (ix2 r k)
      = headn (fun k => v4 (ix2 r k)) (fun k => g (ix2 0 k)) 4 k := by
  pointwise [k0_pay10, headn]

theorem c0_at (v4 a0 a1 a2 a3 a4 g5 g6 g7 v126) (r : Fin 640) (j : Fin 1024) (hi : (j : ℕ) < 128) :
    k0_pay14 (F := Ideal) v4 a0 a1 a2 a3 a4 (k0_pay11 v4) (k0_pay12 v4) k0_pay13 g5 g6 g7 v126 (ix2 r j)
      = a0 (ix2 r ⟨j, by omega⟩) * v126 (ix2 r j) := by
  have y0 : (j : ℕ) < 128 := by omega
  pointwise [k0_pay14, y0]

theorem c1_at (v4 a0 a1 a2 a3 a4 g5 g6 g7 v126) (r : Fin 640) (j : Fin 1024) (lo : ¬ (j : ℕ) < 128) (hi : (j : ℕ) < 256) :
    k0_pay14 (F := Ideal) v4 a0 a1 a2 a3 a4 (k0_pay11 v4) (k0_pay12 v4) k0_pay13 g5 g6 g7 v126 (ix2 r j)
      = a1 (ix2 r ⟨j - 128, by omega⟩) * v126 (ix2 r j) := by
  have n0 : ¬ (j : ℕ) < 128 := by omega
  have y1 : (j : ℕ) - 128 < 128 := by omega
  pointwise [k0_pay14, n0, y1]

theorem c2_at (v4 a0 a1 a2 a3 a4 g5 g6 g7 v126) (r : Fin 640) (j : Fin 1024) (lo : ¬ (j : ℕ) < 256) (hi : (j : ℕ) < 384) :
    k0_pay14 (F := Ideal) v4 a0 a1 a2 a3 a4 (k0_pay11 v4) (k0_pay12 v4) k0_pay13 g5 g6 g7 v126 (ix2 r j)
      = a2 (ix2 r ⟨j - 128 - 128, by omega⟩) * v126 (ix2 r j) := by
  have n0 : ¬ (j : ℕ) < 128 := by omega
  have n1 : ¬ (j : ℕ) - 128 < 128 := by omega
  have y2 : (j : ℕ) - 128 - 128 < 128 := by omega
  pointwise [k0_pay14, n0, n1, y2]

theorem c3_at (v4 a0 a1 a2 a3 a4 g5 g6 g7 v126) (r : Fin 640) (j : Fin 1024) (lo : ¬ (j : ℕ) < 384) (hi : (j : ℕ) < 512) :
    k0_pay14 (F := Ideal) v4 a0 a1 a2 a3 a4 (k0_pay11 v4) (k0_pay12 v4) k0_pay13 g5 g6 g7 v126 (ix2 r j)
      = a3 (ix2 r ⟨j - 128 - 128 - 128, by omega⟩) * v126 (ix2 r j) := by
  have n0 : ¬ (j : ℕ) < 128 := by omega
  have n1 : ¬ (j : ℕ) - 128 < 128 := by omega
  have n2 : ¬ (j : ℕ) - 128 - 128 < 128 := by omega
  have y3 : (j : ℕ) - 128 - 128 - 128 < 128 := by omega
  pointwise [k0_pay14, n0, n1, n2, y3]

theorem c4_at (v4 a0 a1 a2 a3 a4 g5 g6 g7 v126) (r : Fin 640) (j : Fin 1024) (lo : ¬ (j : ℕ) < 512) (hi : (j : ℕ) < 640) :
    k0_pay14 (F := Ideal) v4 a0 a1 a2 a3 a4 (k0_pay11 v4) (k0_pay12 v4) k0_pay13 g5 g6 g7 v126 (ix2 r j)
      = a4 (ix2 r ⟨j - 128 - 128 - 128 - 128, by omega⟩) * v126 (ix2 r j) := by
  have n0 : ¬ (j : ℕ) < 128 := by omega
  have n1 : ¬ (j : ℕ) - 128 < 128 := by omega
  have n2 : ¬ (j : ℕ) - 128 - 128 < 128 := by omega
  have n3 : ¬ (j : ℕ) - 128 - 128 - 128 < 128 := by omega
  have y4 : (j : ℕ) - 128 - 128 - 128 - 128 < 128 := by omega
  pointwise [k0_pay14, n0, n1, n2, n3, y4]

theorem c5_at (v4 a0 a1 a2 a3 a4 g5 g6 g7 v126) (r : Fin 640) (j : Fin 1024) (lo : ¬ (j : ℕ) < 640) (hi : (j : ℕ) < 768) :
    k0_pay14 (F := Ideal) v4 a0 a1 a2 a3 a4 (k0_pay11 v4) (k0_pay12 v4) k0_pay13 g5 g6 g7 v126 (ix2 r j)
      = headn (fun k => v4 (ix2 r k)) (fun k => g5 (ix2 0 k)) 5 ⟨j - 128 - 128 - 128 - 128 - 128, by omega⟩ * v126 (ix2 r j) := by
  have n0 : ¬ (j : ℕ) < 128 := by omega
  have n1 : ¬ (j : ℕ) - 128 < 128 := by omega
  have n2 : ¬ (j : ℕ) - 128 - 128 < 128 := by omega
  have n3 : ¬ (j : ℕ) - 128 - 128 - 128 < 128 := by omega
  have n4 : ¬ (j : ℕ) - 128 - 128 - 128 - 128 < 128 := by omega
  have y5 : (j : ℕ) - 128 - 128 - 128 - 128 - 128 < 128 := by omega
  pointwise [k0_pay14, k0_pay11, k0_pay12, k0_pay13, headn, n0, n1, n2, n3, n4, y5]

theorem c6_at (v4 a0 a1 a2 a3 a4 g5 g6 g7 v126) (r : Fin 640) (j : Fin 1024) (lo : ¬ (j : ℕ) < 768) (hi : (j : ℕ) < 896) :
    k0_pay14 (F := Ideal) v4 a0 a1 a2 a3 a4 (k0_pay11 v4) (k0_pay12 v4) k0_pay13 g5 g6 g7 v126 (ix2 r j)
      = headn (fun k => v4 (ix2 r k)) (fun k => g6 (ix2 0 k)) 6 ⟨j - 128 - 128 - 128 - 128 - 128 - 128, by omega⟩ * v126 (ix2 r j) := by
  have n0 : ¬ (j : ℕ) < 128 := by omega
  have n1 : ¬ (j : ℕ) - 128 < 128 := by omega
  have n2 : ¬ (j : ℕ) - 128 - 128 < 128 := by omega
  have n3 : ¬ (j : ℕ) - 128 - 128 - 128 < 128 := by omega
  have n4 : ¬ (j : ℕ) - 128 - 128 - 128 - 128 < 128 := by omega
  have n5 : ¬ (j : ℕ) - 128 - 128 - 128 - 128 - 128 < 128 := by omega
  have y6 : (j : ℕ) - 128 - 128 - 128 - 128 - 128 - 128 < 128 := by omega
  pointwise [k0_pay14, k0_pay11, k0_pay12, k0_pay13, headn, n0, n1, n2, n3, n4, n5, y6]

theorem c7_at (v4 a0 a1 a2 a3 a4 g5 g6 g7 v126) (r : Fin 640) (j : Fin 1024) (lo : ¬ (j : ℕ) < 896) (hi : (j : ℕ) < 1024) :
    k0_pay14 (F := Ideal) v4 a0 a1 a2 a3 a4 (k0_pay11 v4) (k0_pay12 v4) k0_pay13 g5 g6 g7 v126 (ix2 r j)
      = headn (fun k => v4 (ix2 r k)) (fun k => g7 (ix2 0 k)) 7 ⟨j - 128 - 128 - 128 - 128 - 128 - 128 - 128, by omega⟩ * v126 (ix2 r j) := by
  have n0 : ¬ (j : ℕ) < 128 := by omega
  have n1 : ¬ (j : ℕ) - 128 < 128 := by omega
  have n2 : ¬ (j : ℕ) - 128 - 128 < 128 := by omega
  have n3 : ¬ (j : ℕ) - 128 - 128 - 128 < 128 := by omega
  have n4 : ¬ (j : ℕ) - 128 - 128 - 128 - 128 < 128 := by omega
  have n5 : ¬ (j : ℕ) - 128 - 128 - 128 - 128 - 128 < 128 := by omega
  have n6 : ¬ (j : ℕ) - 128 - 128 - 128 - 128 - 128 - 128 < 128 := by omega
  have y7 : (j : ℕ) - 128 - 128 - 128 - 128 - 128 - 128 - 128 < 128 := by omega
  pointwise [k0_pay14, k0_pay11, k0_pay12, k0_pay13, headn, n0, n1, n2, n3, n4, n5, n6, y7]

theorem p2_at (v0 v2) (r : Fin 640) (k : Fin 1024) :
    k0_pay2 (F := Ideal) v0 v2 (ix2 r k) = v0 (ix2 r k) + v2 (ix2 r k) := by
  pointwise [k0_pay2]

theorem ld0 (v : Vec Ideal S640x1024 .bf16) (r : Fin 640) (k : Fin 1024) : View.ld v rc_0 (ix2 r k) = v (ix2 r k) := by
  pointwise []

theorem ld1 (v : Vec Ideal S1x128 .f32) (k : Fin 128) : View.ld v rc_1 (ix2 0 k) = v (ix2 0 k) := by
  pointwise []

/-- The readout row `r`: the two passes added, normed by heads, gated. -/
theorem b27_at (i : grid0.Coords) (x0 x1 x2 x3 x4 x5 x6 x7 x8 x9 x10) (r : Fin 640) (j : Fin 1024) :
    val27 (F := Ideal) i x0 x1 x2 x3 x4 x5 x6 x7 x8 x9 x10 (ix2 r j)
      = readout (fun k => x1 (ix2 r k) + x4 (ix2 r k)) (fun k => x5 (ix2 r k)) (fun k => x6 (ix2 0 k)) j := by
  have hB (k : Fin 1024) : k0_pay2 (F := Ideal) (View.ld x1 rc_0) (View.ld x4 rc_0) (ix2 r k) = x1 (ix2 r k) + x4 (ix2 r k) := by
    rw [p2_at, ld0, ld0]
  unfold val27 readout
  unfold val26
  by_cases q0 : (j : ℕ) < 128
  · have e : (⟨(j : ℕ) / 128, by omega⟩ : Fin 8) = 0 := Fin.ext (by show (j : ℕ) / 128 = 0; omega)
    have e' : (⟨(j : ℕ) % 128, by omega⟩ : Fin 128) = ⟨j, by omega⟩ := Fin.ext (by show (j : ℕ) % 128 = j; omega)
    rw [e, e', c0_at _ _ _ _ _ _ _ _ _ _ r j (by omega), ld0]
    rw [h0_at]
    simp only [hB]
    exact congrArg (fun g => headn _ g _ _ * _) (funext (ld1 x6))
  by_cases q1 : (j : ℕ) < 256
  · have e : (⟨(j : ℕ) / 128, by omega⟩ : Fin 8) = 1 := Fin.ext (by show (j : ℕ) / 128 = 1; omega)
    have e' : (⟨(j : ℕ) % 128, by omega⟩ : Fin 128) = ⟨j - 128, by omega⟩ := Fin.ext (by show (j : ℕ) % 128 = j - 128; omega)
    rw [e, e', c1_at _ _ _ _ _ _ _ _ _ _ r j (by omega) (by omega), ld0]
    rw [h1_at]
    simp only [hB]
    exact congrArg (fun g => headn _ g _ _ * _) (funext (ld1 x6))
  by_cases q2 : (j : ℕ) < 384
  · have e : (⟨(j : ℕ) / 128, by omega⟩ : Fin 8) = 2 := Fin.ext (by show (j : ℕ) / 128 = 2; omega)
    have e' : (⟨(j : ℕ) % 128, by omega⟩ : Fin 128) = ⟨j - 128 - 128, by omega⟩ := Fin.ext (by show (j : ℕ) % 128 = j - 128 - 128; omega)
    rw [e, e', c2_at _ _ _ _ _ _ _ _ _ _ r j (by omega) (by omega), ld0]
    rw [h2_at]
    simp only [hB]
    exact congrArg (fun g => headn _ g _ _ * _) (funext (ld1 x6))
  by_cases q3 : (j : ℕ) < 512
  · have e : (⟨(j : ℕ) / 128, by omega⟩ : Fin 8) = 3 := Fin.ext (by show (j : ℕ) / 128 = 3; omega)
    have e' : (⟨(j : ℕ) % 128, by omega⟩ : Fin 128) = ⟨j - 128 - 128 - 128, by omega⟩ := Fin.ext (by show (j : ℕ) % 128 = j - 128 - 128 - 128; omega)
    rw [e, e', c3_at _ _ _ _ _ _ _ _ _ _ r j (by omega) (by omega), ld0]
    rw [h3_at]
    simp only [hB]
    exact congrArg (fun g => headn _ g _ _ * _) (funext (ld1 x6))
  by_cases q4 : (j : ℕ) < 640
  · have e : (⟨(j : ℕ) / 128, by omega⟩ : Fin 8) = 4 := Fin.ext (by show (j : ℕ) / 128 = 4; omega)
    have e' : (⟨(j : ℕ) % 128, by omega⟩ : Fin 128) = ⟨j - 128 - 128 - 128 - 128, by omega⟩ := Fin.ext (by show (j : ℕ) % 128 = j - 128 - 128 - 128 - 128; omega)
    rw [e, e', c4_at _ _ _ _ _ _ _ _ _ _ r j (by omega) (by omega), ld0]
    rw [h4_at]
    simp only [hB]
    exact congrArg (fun g => headn _ g _ _ * _) (funext (ld1 x6))
  by_cases q5 : (j : ℕ) < 768
  · have e : (⟨(j : ℕ) / 128, by omega⟩ : Fin 8) = 5 := Fin.ext (by show (j : ℕ) / 128 = 5; omega)
    have e' : (⟨(j : ℕ) % 128, by omega⟩ : Fin 128) = ⟨j - 128 - 128 - 128 - 128 - 128, by omega⟩ := Fin.ext (by show (j : ℕ) % 128 = j - 128 - 128 - 128 - 128 - 128; omega)
    rw [e, e', c5_at _ _ _ _ _ _ _ _ _ _ r j (by omega) (by omega), ld0]
    simp only [hB]
    exact congrArg (fun g => headn _ g _ _ * _) (funext (ld1 x6))
  by_cases q6 : (j : ℕ) < 896
  · have e : (⟨(j : ℕ) / 128, by omega⟩ : Fin 8) = 6 := Fin.ext (by show (j : ℕ) / 128 = 6; omega)
    have e' : (⟨(j : ℕ) % 128, by omega⟩ : Fin 128) = ⟨j - 128 - 128 - 128 - 128 - 128 - 128, by omega⟩ := Fin.ext (by show (j : ℕ) % 128 = j - 128 - 128 - 128 - 128 - 128 - 128; omega)
    rw [e, e', c6_at _ _ _ _ _ _ _ _ _ _ r j (by omega) (by omega), ld0]
    simp only [hB]
    exact congrArg (fun g => headn _ g _ _ * _) (funext (ld1 x6))
  have e : (⟨(j : ℕ) / 128, by omega⟩ : Fin 8) = 7 := Fin.ext (by show (j : ℕ) / 128 = 7; omega)
  have e' : (⟨(j : ℕ) % 128, by omega⟩ : Fin 128) = ⟨j - 128 - 128 - 128 - 128 - 128 - 128 - 128, by omega⟩ := Fin.ext (by show (j : ℕ) % 128 = j - 128 - 128 - 128 - 128 - 128 - 128 - 128; omega)
  rw [e, e', c7_at _ _ _ _ _ _ _ _ _ _ r j (by omega) (by omega), ld0]
  simp only [hB]
  exact congrArg (fun g => headn _ g _ _ * _) (funext (ld1 x6))

end Cert.Tail5
end
-- ==== Proof.Tail5.lean ====
module

public import proofs.«01_k».proof.Proof.Head5

@[expose] public section

set_option maxRecDepth 16384

/-! The fifth kernel: what it writes at each grid point, row by row, and its whole result. -/

noncomputable section
namespace Cert.Tail5

open Cert.Kernel5Ideal Cert.Kernel5Ideal.Gen Cert.Kernel5Ideal.Lay
open Idealize.ShloMosaic Idealize.ShloMosaic.TcCoe Idealize.SL.Sem
open Cert.Row

variable (i : grid0.Coords) (x0 : Vec Ideal S640x1024 .f32) (x1 : Vec Ideal S640x1024 .bf16)
  (x2 : Vec Ideal S1024x1024 .bf16) (x3 : Vec Ideal S256x1024 .f32) (x4 x5 : Vec Ideal S640x1024 .bf16)
  (x6 : Vec Ideal S1x128 .f32) (x7 : Vec Ideal S1x8x6144 .f32) (x8 : Vec Ideal S1x1024 .f32)
  (x9 : Vec Ideal S1x1024x5632 .bf16) (x10 : Vec Ideal S1x2816x1024 .bf16)

/-- Whether row `r` of the grid point is past the latent rows. -/
def past (r : Fin 640) : BitVec 1 :=
  if (r : ℕ) < 384 then Scalar.cmpi CmpIPredicate.sgt (BitVec.ofNat 32 ↑(i 0)) 25#32
  else Scalar.cmpi CmpIPredicate.sge (BitVec.ofNat 32 ↑(i 0)) 25#32

/-- The modulation row that row `r` takes. -/
def md (r : Fin 640) (n : Fin 6144) : EReal := Scalar.select (past i r) (x7 (ix3 0 1 n)) (x7 (ix3 0 0 n))

/-- The layer's input in row `r`: a latent row, or a context row. -/
def inp (r : Fin 640) (j : Fin 1024) : EReal :=
  if (r : ℕ) < 384 then x0 (ix2 r j)
  else Scalar.select (Scalar.cmpi CmpIPredicate.sge (BitVec.ofNat 32 ↑(i 0)) 25#32) (x3 (ix2 ⟨r - 384, by omega⟩ j)) (x0 (ix2 r j))

theorem low (r : Fin 640) (hr : ¬ (r : ℕ) < 384) : (⟨384 + ((r : ℕ) - 384), by omega⟩ : Fin 640) = r :=
  Fin.ext (by simp only; omega)

theorem select_at {s : Shape} (b : BitVec 1) (u v : s.Idx → EReal) (y : s.Idx) :
    Scalar.select b u v y = Scalar.select b (u y) (v y) := by
  unfold Scalar.select
  split <;> rfl

/-- A row's readout. -/
abbrev ro (r : Fin 640) : Fin 1024 → EReal :=
  readout (fun k => x1 (ix2 r k) + x4 (ix2 r k)) (fun k => x5 (ix2 r k)) (fun k => x6 (ix2 0 k))

/-- A row after the residual step. -/
abbrev r29 (r : Fin 640) : Fin 1024 → EReal :=
  res (inp i x0 x3 r) (sec 2 (md i x7 r)) (ro x1 x4 x5 x6 r) (fun k j => x2 (ix2 k j))

theorem p16_at (a v129 v130 v134 v135 v137 v143 v145 v154 v156) (r : Fin 640) (j : Fin 1024) :
    k0_pay16 (F := Ideal) a v129 v130 v134 v135 v137 v143 v145 v154 v156 (ix2 r j)
      = if h : (r : ℕ) < 384 then v137 (ix2 ⟨r, h⟩ j)
          + Scalar.select (Scalar.cmpi .sgt a 25#32) (v143 (ix3 0 0 j)) (v145 (ix3 0 0 j)) * ∑ k, v129 (ix2 r k) * v130 (ix2 k j)
        else Scalar.select (Scalar.cmpi .sge a 25#32) (v134 (ix2 ⟨r - 384, by omega⟩ j)) (v135 (ix2 ⟨r - 384, by omega⟩ j))
          + Scalar.select (Scalar.cmpi .sge a 25#32) (v154 (ix3 0 0 j)) (v156 (ix3 0 0 j)) * ∑ k, v129 (ix2 r k) * v130 (ix2 k j) := by
  by_cases hr : (r : ℕ) < 384
  · rw [dif_pos hr]
    pointwise [k0_pay16, hr]
  · rw [dif_neg hr, ← select_at (Scalar.cmpi CmpIPredicate.sge a 25#32) v134 v135]
    unfold k0_pay16
    generalize Scalar.select (Scalar.cmpi CmpIPredicate.sge a 25#32) v134 v135 = V
    generalize hC : concatenate S640x1024 0 [⟨S384x1024, v137⟩, ⟨S256x1024, V⟩] concatenates_S384x1024_S256x1024_S640x1024_d0 = C
    have eC : C (ix2 r j) = V (ix2 ⟨r - 384, by omega⟩ j) := by
      rw [← hC]
      pointwise [hr]
    rw [← eC]
    pointwise [hr]
    simp only [low r hr]

theorem b29_at (r : Fin 640) (j : Fin 1024) :
    val29 (F := Ideal) i x0 x1 x2 x3 x4 x5 x6 x7 x8 x9 x10 (ix2 r j) = r29 i x0 x1 x2 x3 x4 x5 x6 x7 r j := by
  unfold val29
  rw [p16_at]
  simp only [b27_at]
  unfold r29 res inp sec md past
  by_cases hr : (r : ℕ) < 384
  · rw [dif_pos hr, if_pos hr, if_pos hr]
    pointwise []
  · rw [dif_neg hr, if_neg hr, if_neg hr]
    pointwise []
    simp only [low r hr]

theorem b28_at (j : Fin 1024) : val28 (F := Ideal) i x0 x1 x2 x3 x4 x5 x6 x7 x8 x9 x10 (ix2 0 j) = x8 (ix2 0 j) := by
  pointwise [val28, k0_pay15]

theorem p18_at (v140 v164 v165 v166 v168 v186 v188) (r : Fin 384) (j : Fin 1024) :
    k0_pay18 (F := Ideal) v140 v164 v165 v166 v168 v186 v188 (ix2 r j)
      = v165 (ix2 r j) * rs (fun k => v165 (ix2 r k))
          * (v140 (ix2 0 j) * (1 + Scalar.select v164 (v166 (ix3 0 0 j)) (v168 (ix3 0 0 j))))
        + Scalar.select v164 (v186 (ix3 0 0 j)) (v188 (ix3 0 0 j)) := by
  pointwise [k0_pay18, rs]

theorem p20_at (a v195 v197) (j : Fin 1024) :
    k0_pay20 (F := Ideal) a v195 v197 (ix2 0 j)
      = 1 + Scalar.select (Scalar.cmpi .sge a 25#32) (v195 (ix3 0 0 j)) (v197 (ix3 0 0 j)) := by
  pointwise [k0_pay20]

theorem p21_at (v140 v192 v193 v194 v201 v215 v217) (r : Fin 640) (j : Fin 1024) :
    k0_pay21 (F := Ideal) v140 v192 v193 v194 v201 v215 v217 (ix2 r j)
      = if h : (r : ℕ) < 384 then v192 (ix2 ⟨r, h⟩ j)
        else v194 (ix2 ⟨r - 384, by omega⟩ j) * rs (fun k => v194 (ix2 ⟨r - 384, by omega⟩ k))
            * (v140 (ix2 0 j) * v201 (ix2 0 j))
          + Scalar.select v193 (v215 (ix3 0 0 j)) (v217 (ix3 0 0 j)) := by
  by_cases hr : (r : ℕ) < 384
  · rw [dif_pos hr]
    pointwise [k0_pay21, hr]
  · rw [dif_neg hr]
    pointwise [k0_pay21, rs, hr]

/-- A row after norm and modulation. -/
abbrev r21 (r : Fin 640) : Fin 1024 → EReal :=
  hid (r29 i x0 x1 x2 x3 x4 x5 x6 x7 r) (fun j => x8 (ix2 0 j)) (sec 4 (md i x7 r)) (sec 3 (md i x7 r))

/-- The hidden rows as the kernel computes them. -/
abbrev b21 : FVec Ideal S640x1024 .bf16 :=
  k0_pay21 (val28 i x0 x1 x2 x3 x4 x5 x6 x7 x8 x9 x10) (val30 i x0 x1 x2 x3 x4 x5 x6 x7 x8 x9 x10) (Scalar.cmpi .sge (BitVec.ofNat 32 (i 0).val) 25#32) (val31 i x0 x1 x2 x3 x4 x5 x6 x7 x8 x9 x10) (val32 i x0 x1 x2 x3 x4 x5 x6 x7 x8 x9 x10)
    (View.ld x7 rc_11) (View.ld x7 rc_12)

theorem b30_at (r : Fin 640) (hr : (r : ℕ) < 384) (j : Fin 1024) :
    val30 (F := Ideal) i x0 x1 x2 x3 x4 x5 x6 x7 x8 x9 x10 (ix2 ⟨r, hr⟩ j) = r21 i x0 x1 x2 x3 x4 x5 x6 x7 x8 r j := by
  have e29 (j : Fin 1024) : extractStridedSlice S384x1024 ![0, 0] (val29 (F := Ideal) i x0 x1 x2 x3 x4 x5 x6 x7 x8 x9 x10)
      slices_S640x1024_o0_0_S384x1024 (ix2 ⟨r, hr⟩ j) = r29 i x0 x1 x2 x3 x4 x5 x6 x7 r j := by
    rw [← b29_at i x0 x1 x2 x3 x4 x5 x6 x7 x8 x9 x10]
    generalize val29 (F := Ideal) i x0 x1 x2 x3 x4 x5 x6 x7 x8 x9 x10 = B
    pointwise []
  rw [val30_eq, p18_at, b28_at]
  simp only [e29]
  unfold r21 hid sec md past
  rw [if_pos hr]
  pointwise []

theorem b31_at (r : Fin 640) (hr : ¬ (r : ℕ) < 384) (j : Fin 1024) :
    val31 (F := Ideal) i x0 x1 x2 x3 x4 x5 x6 x7 x8 x9 x10 (ix2 ⟨r - 384, by omega⟩ j) = r29 i x0 x1 x2 x3 x4 x5 x6 x7 r j := by
  rw [← b29_at i x0 x1 x2 x3 x4 x5 x6 x7 x8 x9 x10]
  unfold val31
  generalize val29 (F := Ideal) i x0 x1 x2 x3 x4 x5 x6 x7 x8 x9 x10 = B
  pointwise [k0_pay19]
  simp only [low r hr]

theorem b21_at (r : Fin 640) (j : Fin 1024) :
    b21 i x0 x1 x2 x3 x4 x5 x6 x7 x8 x9 x10 (ix2 r j) = r21 i x0 x1 x2 x3 x4 x5 x6 x7 x8 r j := by
  unfold b21
  rw [p21_at]
  by_cases hr : (r : ℕ) < 384
  · rw [dif_pos hr, b30_at]
  · rw [dif_neg hr]
    simp only [b31_at i x0 x1 x2 x3 x4 x5 x6 x7 x8 x9 x10 r hr]
    unfold val32
    rw [p20_at, b28_at]
    unfold r21 hid sec md past
    rw [if_neg hr]
    pointwise []

theorem p22_at (v140 v192 v193 v194 v201 v215 v217 v224 v227 v234) (r : Fin 640) (j : Fin 1024) :
    k0_pay22 (F := Ideal) v140 v192 v193 v194 v201 v215 v217 v224 v227 v234 (ix2 r j)
      = ∑ k : Fin 1024, ((∑ i, k0_pay21 (F := Ideal) v140 v192 v193 v194 v201 v215 v217 (ix2 r i) * v224 (ix3 0 i k))
          * Ideal.logistic (∑ i, k0_pay21 (F := Ideal) v140 v192 v193 v194 v201 v215 v217 (ix2 r i) * v224 (ix3 0 i k))
          * ∑ i, k0_pay21 (F := Ideal) v140 v192 v193 v194 v201 v215 v217 (ix2 r i) * v227 (ix3 0 i k)) * v234 (ix3 0 k j) := by
  unfold k0_pay22
  generalize k0_pay21 (F := Ideal) v140 v192 v193 v194 v201 v215 v217 = B
  pointwise []

theorem p23_at (v223 v236 v237 v240 v247 v251 v254 v261) (r : Fin 640) (j : Fin 1024) :
    k0_pay23 (F := Ideal) v223 v236 v237 v240 v247 v251 v254 v261 (ix2 r j)
      = (v236 (ix2 r j)
          + ∑ k : Fin 1024, ((∑ i, v223 (ix2 r i) * v237 (ix3 0 i k)) * Ideal.logistic (∑ i, v223 (ix2 r i) * v237 (ix3 0 i k))
            * ∑ i, v223 (ix2 r i) * v240 (ix3 0 i k)) * v247 (ix3 0 k j))
        + ∑ k : Fin 768, ((∑ i, v223 (ix2 r i) * v251 (ix3 0 i k)) * Ideal.logistic (∑ i, v223 (ix2 r i) * v251 (ix3 0 i k))
          * ∑ i, v223 (ix2 r i) * v254 (ix3 0 i k)) * v261 (ix3 0 k j) := by
  pointwise [k0_pay23]

/-- The input weights and the output weights. -/
abbrev win (i' : Fin 1024) (k : Fin 5632) : EReal := x9 (ix3 0 i' k)
abbrev wout (k : Fin 2816) (j : Fin 1024) : EReal := x10 (ix3 0 k j)

/-- The network's sums as the kernel computes them. -/
abbrev b23 : FVec Ideal S640x1024 .f32 :=
  k0_pay23 (b21 i x0 x1 x2 x3 x4 x5 x6 x7 x8 x9 x10)
    (k0_pay22 (val28 i x0 x1 x2 x3 x4 x5 x6 x7 x8 x9 x10) (val30 i x0 x1 x2 x3 x4 x5 x6 x7 x8 x9 x10) (Scalar.cmpi .sge (BitVec.ofNat 32 (i 0).val) 25#32) (val31 i x0 x1 x2 x3 x4 x5 x6 x7 x8 x9 x10) (val32 i x0 x1 x2 x3 x4 x5 x6 x7 x8 x9 x10)
      (View.ld x7 rc_11) (View.ld x7 rc_12) (View.ld x9 rc_13) (View.ld x9 rc_14) (View.ld x10 rc_15))
    (View.ld x9 rc_16) (View.ld x9 rc_17) (View.ld x10 rc_18) (View.ld x9 rc_19) (View.ld x9 rc_20) (View.ld x10 rc_21)

theorem b23_at (r : Fin 640) (j : Fin 1024) :
    b23 i x0 x1 x2 x3 x4 x5 x6 x7 x8 x9 x10 (ix2 r j) = ffn (r21 i x0 x1 x2 x3 x4 x5 x6 x7 x8 r) (win x9) (wout x10) j := by
  have e (k : Fin 1024) := b21_at i x0 x1 x2 x3 x4 x5 x6 x7 x8 x9 x10 r k
  unfold b23
  rw [p23_at, p22_at, ffn_runs]
  unfold b21 at e ⊢
  simp only [e]
  generalize r21 i x0 x1 x2 x3 x4 x5 x6 x7 x8 r = H
  pointwise []

/-- The row after the network. -/
abbrev r1 (r : Fin 640) : Fin 1024 → EReal :=
  mix (inp i x0 x3 r) (md i x7 r) (ro x1 x4 x5 x6 r) (fun k j => x2 (ix2 k j))
    (fun j => x8 (ix2 0 j)) (win x9) (wout x10)

/-- The whole block as the kernel computes it. -/
abbrev b1 : FVec Ideal S640x1024 .f32 :=
  k0_pay1 (BitVec.ofNat 32 (i 0).val) (val29 i x0 x1 x2 x3 x4 x5 x6 x7 x8 x9 x10) (b23 i x0 x1 x2 x3 x4 x5 x6 x7 x8 x9 x10) (Scalar.cmpi .sgt (BitVec.ofNat 32 (i 0).val) 25#32)
    (k0_pay24 (val29 i x0 x1 x2 x3 x4 x5 x6 x7 x8 x9 x10)) (k0_pay25 (View.ld x7 rc_22)) (View.ld x7 rc_23) (View.ld x7 rc_22) (View.ld x7 rc_23)

theorem b1_at (r : Fin 640) (j : Fin 1024) :
    b1 i x0 x1 x2 x3 x4 x5 x6 x7 x8 x9 x10 (ix2 r j) = r1 i x0 x1 x2 x3 x4 x5 x6 x7 x8 x9 x10 r j := by
  have e29 := b29_at i x0 x1 x2 x3 x4 x5 x6 x7 x8 x9 x10 r j
  have e23 := b23_at i x0 x1 x2 x3 x4 x5 x6 x7 x8 x9 x10 r j
  unfold r1 mix tail
  unfold r29 at e29
  rw [← e23, ← e29]
  unfold b1
  generalize b23 i x0 x1 x2 x3 x4 x5 x6 x7 x8 x9 x10 = C
  generalize val29 (F := Ideal) i x0 x1 x2 x3 x4 x5 x6 x7 x8 x9 x10 = B
  unfold sec md past
  by_cases hr : (r : ℕ) < 384
  · rw [if_pos hr]
    pointwise [k0_pay1, k0_pay24, k0_pay25, hr]
  · rw [if_neg hr]
    pointwise [k0_pay1, k0_pay24, k0_pay25, hr]
    simp only [low r hr]

variable (m : (ℓ : Loc nD τ sig) → Buf (Elt Ideal) ℓ) (c : Dev nD)

/-- The modulation row of token `s`. -/
def mdr (a b : FVec Ideal S4x6144 .f32) (s : Fin 16640) (n : Fin 6144) : EReal :=
  if (s : ℕ) < 16384 then a (ix2 0 n) else b (ix2 0 n)

/-- The input row of token `s`: the latent rows, then the context rows. -/
def inr (a : FVec Ideal S16384x1024 .f32) (b : FVec Ideal S256x1024 .f32) (s : Fin 16640) (j : Fin 1024) : EReal :=
  if h : (s : ℕ) < 16384 then a (ix2 ⟨s, h⟩ j) else b (ix2 ⟨s - 16384, by omega⟩ j)

/-- The readout row of token `s`. -/
def ror (a b g : FVec Ideal S16640x1024 .bf16) (gn : FVec Ideal S128 .f32) (s : Fin 16640) : Fin 1024 → EReal :=
  readout (fun k => a (ix2 s k) + b (ix2 s k)) (fun k => g (ix2 s k)) (fun k => gn (ix1 k))

/-- A row of the result, from the launch's arguments. -/
def out (m : (ℓ : Loc nD τ sig) → Buf (Elt Ideal) ℓ) (c : Dev nD) (s : Fin 16640) (j : Fin 1024) : EReal :=
  mix (inr (m ((c : Thread nD τ).loc main_arg0)) (m ((c : Thread nD τ).loc main_arg8)) s)
      (mdr (m ((c : Thread nD τ).loc main_arg3)) (m ((c : Thread nD τ).loc main_arg4)) s)
      (ror (m ((c : Thread nD τ).loc main_arg1)) (m ((c : Thread nD τ).loc main_arg9))
        (m ((c : Thread nD τ).loc main_arg10)) (m ((c : Thread nD τ).loc main_arg11)) s)
      (fun k j => (m ((c : Thread nD τ).loc main_arg2) : FVec Ideal S1024x1024 .f32) (ix2 k j))
      (fun j => (m ((c : Thread nD τ).loc main_arg5) : FVec Ideal S1024 .f32) (ix1 j))
      (fun i k => (m ((c : Thread nD τ).loc main_arg6) : FVec Ideal S4x1024x5632 .f32) (ix3 0 i k))
      (fun k j => (m ((c : Thread nD τ).loc main_arg7) : FVec Ideal S4x2816x1024 .f32) (ix3 0 k j)) j

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0, 0] ∧ win0_8.index t = ![0, 0] ∧ win0_9.index t = ![0, 0, 0]
    ∧ win0_10.index t = ![0, 0, 0] ∧ win0_11.index t = ![t.val, 0] ∧ (grid0.coords t 0).val = t.val :=
  (by decide +kernel : ∀ t : Fin grid0.N, _)

theorem past_idx : ∀ t : Fin cfg0.N, Scalar.cmpi CmpIPredicate.sgt (BitVec.ofNat 32 t.val) 25#32 = 0#1
    ∧ Scalar.cmpi CmpIPredicate.sge (BitVec.ofNat 32 t.val) 25#32 = BitVec.ofBool (decide (25 ≤ t.val)) :=
  (by decide +kernel : ∀ t : Fin grid0.N, _)

theorem at_idx (t : Fin cfg0.N) : (grid0.coords t 0).val = t.val := (idx t).2.2.2.2.2.2.2.2.2.2.2.2

/-! Each block the grid point reads, from the launch's arguments. -/

theorem blk0 (t : Fin cfg0.N) (r : Fin 640) (j : Fin 1024) (s : Fin 16384) (hs : (s : ℕ) = 640 * t.val + r) :
    first m c t (ix2 r j) = (m ((c : Thread nD τ).loc main_arg0) : FVec Ideal S16384x1024 .f32) (ix2 s j) := by
  have hm : win0_0.moved (grid0.coords t) (ix2 r j) = true := (win0_0.moved_iff _ _).mpr (by
    obtain ⟨h1, h2, h3⟩ := moved_rows t
    refine Fin.forall_fin_two.mpr ⟨?_, ?_⟩
    · by_cases h : t.val < 25
      · rw [h2 (by rw [at_idx]; exact h)]; exact r.isLt
      · exact lt_of_lt_of_le (show (r : ℕ) < 384 by omega) h1
    · rw [h3]; exact j.isLt)
  unfold first filled Pipeline.Window.fill
  rw [dif_pos hm]
  blk_point [iblk, V, idx t]

theorem blk1 (t : Fin cfg0.N) (r : Fin 640) (j : Fin 1024) (s : Fin 16640) (hs : (s : ℕ) = 640 * t.val + r) :
    iblk m c 1 t (ix2 r j) = (m ((c : Thread nD τ).loc main_arg1) : FVec Ideal S16640x1024 .bf16) (ix2 s j) := by
  blk_point [iblk, V, idx t]

theorem blk2 (t : Fin cfg0.N) (k : Fin 1024) (j : Fin 1024) :
    iblk m c 2 t (ix2 k j) = (m ((c : Thread nD τ).loc main_arg2) : FVec Ideal S1024x1024 .f32) (ix2 k j) := by
  unfold iblk
  entry_read
  blk_point [iblk, V, idx t]

theorem blk3 (t : Fin cfg0.N) (r : Fin 256) (j : Fin 1024) :
    iblk m c 3 t (ix2 r j) = (m ((c : Thread nD τ).loc main_arg8) : FVec Ideal S256x1024 .f32) (ix2 r j) := by
  blk_point [iblk, V, idx t]

theorem blk4 (t : Fin cfg0.N) (r : Fin 640) (j : Fin 1024) (s : Fin 16640) (hs : (s : ℕ) = 640 * t.val + r) :
    iblk m c 4 t (ix2 r j) = (m ((c : Thread nD τ).loc main_arg9) : FVec Ideal S16640x1024 .bf16) (ix2 s j) := by
  blk_point [iblk, V, idx t]

theorem blk5 (t : Fin cfg0.N) (r : Fin 640) (j : Fin 1024) (s : Fin 16640) (hs : (s : ℕ) = 640 * t.val + r) :
    iblk m c 5 t (ix2 r j) = (m ((c : Thread nD τ).loc main_arg10) : FVec Ideal S16640x1024 .bf16) (ix2 s j) := by
  blk_point [iblk, V, idx t]

theorem rd6 (t : Fin cfg0.N) (A : Vec Ideal S1x128 .f32) (j : Fin 128) :
    View.read (Elt Ideal) ((cfg0.win 6).blk t).view A (ix2 0 j) = A (ix2 0 j) := by
  blk_point [idx t]

theorem rd7 (t : Fin cfg0.N) (A : Vec Ideal S4x8x6144 .f32) (p : Fin 8) (j : Fin 6144) :
    View.read (Elt Ideal) ((cfg0.win 7).blk t).view A (ix3 0 p j) = A (ix3 0 p j) := by
  blk_point [idx t]

theorem rd8 (t : Fin cfg0.N) (A : Vec Ideal S1x1024 .f32) (j : Fin 1024) :
    View.read (Elt Ideal) ((cfg0.win 8).blk t).view A (ix2 0 j) = A (ix2 0 j) := by
  blk_point [idx t]

theorem blk6 (t : Fin cfg0.N) (j : Fin 128) :
    iblk m c 6 t (ix2 0 j) = (m ((c : Thread nD τ).loc main_arg11) : FVec Ideal S128 .f32) (ix1 j) := by
  unfold iblk
  rw [rd6]
  entry_read
  pointwise []

/-- The stacked modulation table the host prepares. -/
def tbl (a b : FVec Ideal S4x6144 .f32) : FVec Ideal S4x8x6144 .f32 :=
  concatenate S4x8x6144 1
    [⟨S4x1x6144, broadcastInDim S4x1x6144 ![0, 2] bcast_S4x6144_S4x1x6144_0_2 a⟩,
     ⟨S4x1x6144, broadcastInDim S4x1x6144 ![0, 2] bcast_S4x6144_S4x1x6144_0_2 b⟩,
     ⟨S4x6x6144, broadcastInDim S4x6x6144 ![] bcast_S_S4x6x6144 (constant S_ .f32 0x00000000#32)⟩]
    concatenates_S4x1x6144_S4x1x6144_S4x6x6144_S4x8x6144_d1

theorem tbl_lat (a b : FVec Ideal S4x6144 .f32) (l : Fin 4) (n : Fin 6144) : tbl a b (ix3 l 0 n) = a (ix2 l n) := by
  pointwise [tbl]

theorem tbl_ctx (a b : FVec Ideal S4x6144 .f32) (l : Fin 4) (n : Fin 6144) : tbl a b (ix3 l 1 n) = b (ix2 l n) := by
  pointwise [tbl]

theorem V_tbl : (V m c main_v4 : Vec Ideal S4x8x6144 .f32)
    = tbl (m ((c : Thread nD τ).loc main_arg3)) (m ((c : Thread nD τ).loc main_arg4)) := rfl

theorem blk7 (t : Fin cfg0.N) (r : Fin 640) (n : Fin 6144) (s : Fin 16640) (hs : (s : ℕ) = 640 * t.val + r) :
    md (grid0.coords t) (iblk m c 7 t) r n = mdr (m ((c : Thread nD τ).loc main_arg3)) (m ((c : Thread nD τ).loc main_arg4)) s n := by
  have ht : t.val < 26 := t.isLt
  have h0 : iblk m c 7 t (ix3 0 0 n) = (m ((c : Thread nD τ).loc main_arg3) : FVec Ideal S4x6144 .f32) (ix2 0 n) := by
    unfold iblk
    rw [rd7]
    exact (congrFun (V_tbl m c) _).trans (tbl_lat _ _ _ _)
  have h1 : iblk m c 7 t (ix3 0 1 n) = (m ((c : Thread nD τ).loc main_arg4) : FVec Ideal S4x6144 .f32) (ix2 0 n) := by
    unfold iblk
    rw [rd7]
    exact (congrFun (V_tbl m c) _).trans (tbl_ctx _ _ _ _)
  unfold md past mdr
  rw [at_idx, (past_idx t).1, (past_idx t).2, h0, h1]
  by_cases hr : (r : ℕ) < 384
  · rw [if_pos hr, if_pos (by omega)]
    exact if_neg (by decide)
  · rw [if_neg hr]
    by_cases h : 25 ≤ t.val
    · rw [if_neg (c := (s : ℕ) < 16384) (by omega), decide_eq_true h]
      exact if_pos (by decide)
    · rw [if_pos (c := (s : ℕ) < 16384) (by omega), decide_eq_false h]
      exact if_neg (by decide)

theorem blk_inp (t : Fin cfg0.N) (r : Fin 640) (j : Fin 1024) (s : Fin 16640) (hs : (s : ℕ) = 640 * t.val + r) :
    inp (grid0.coords t) (first m c t) (iblk m c 3 t) r j
      = inr (m ((c : Thread nD τ).loc main_arg0)) (m ((c : Thread nD τ).loc main_arg8)) s j := by
  have ht : t.val < 26 := t.isLt
  unfold inp inr
  rw [at_idx, (past_idx t).2]
  by_cases hr : (r : ℕ) < 384
  · rw [if_pos hr, dif_pos (by omega)]
    exact blk0 m c t r j ⟨s, by omega⟩ hs
  · rw [if_neg hr]
    by_cases h : 25 ≤ t.val
    · rw [dif_neg (by omega), decide_eq_true h]
      refine (if_pos (by decide)).trans ((blk3 m c t _ j).trans ?_)
      exact congrArg (fun q => (m ((c : Thread nD τ).loc main_arg8) : FVec Ideal S256x1024 .f32) (ix2 q j))
        (Fin.ext (by show (r : ℕ) - 384 = s - 16384; omega))
    · rw [dif_pos (by omega), decide_eq_false h]
      exact (if_neg (by decide)).trans (blk0 m c t r j ⟨s, by omega⟩ hs)

theorem blk8 (t : Fin cfg0.N) (j : Fin 1024) :
    iblk m c 8 t (ix2 0 j) = (m ((c : Thread nD τ).loc main_arg5) : FVec Ideal S1024 .f32) (ix1 j) := by
  unfold iblk
  rw [rd8]
  entry_read
  pointwise []

theorem blk9 (t : Fin cfg0.N) (i : Fin 1024) (k : Fin 5632) :
    iblk m c 9 t (ix3 0 i k) = (m ((c : Thread nD τ).loc main_arg6) : FVec Ideal S4x1024x5632 .f32) (ix3 0 i k) := by
  unfold iblk
  entry_read
  blk_point [iblk, V, idx t]

theorem blk10 (t : Fin cfg0.N) (k : Fin 2816) (j : Fin 1024) :
    iblk m c 10 t (ix3 0 k j) = (m ((c : Thread nD τ).loc main_arg7) : FVec Ideal S4x2816x1024 .f32) (ix3 0 k j) := by
  unfold iblk
  entry_read
  blk_point [iblk, V, idx t]

/-- What grid point `t` writes, row by row. -/
theorem row (t : Fin cfg0.N) (r : Fin 640) (j : Fin 1024) (s : Fin 16640) (hs : (s : ℕ) = 640 * t.val + r) :
    b1 (grid0.coords t) (first m c t) (iblk m c 1 t) (iblk m c 2 t) (iblk m c 3 t) (iblk m c 4 t) (iblk m c 5 t) (iblk m c 6 t) (iblk m c 7 t) (iblk m c 8 t) (iblk m c 9 t) (iblk m c 10 t) (ix2 r j) = out m c s j := by
  have e9 : win (iblk m c 9 t) = fun i k => (m ((c : Thread nD τ).loc main_arg6) : FVec Ideal S4x1024x5632 .f32) (ix3 0 i k) := by
    funext i k
    exact blk9 m c t i k
  have e10 : wout (iblk m c 10 t) = fun k j => (m ((c : Thread nD τ).loc main_arg7) : FVec Ideal S4x2816x1024 .f32) (ix3 0 k j) := by
    funext k j
    exact blk10 m c t k j
  have e7 : md (grid0.coords t) (iblk m c 7 t) r = mdr (m ((c : Thread nD τ).loc main_arg3)) (m ((c : Thread nD τ).loc main_arg4)) s := by
    funext n
    exact blk7 m c t r n s hs
  have ei : inp (grid0.coords t) (first m c t) (iblk m c 3 t) r
      = inr (m ((c : Thread nD τ).loc main_arg0)) (m ((c : Thread nD τ).loc main_arg8)) s := by
    funext n
    exact blk_inp m c t r n s hs
  have e6 : (fun k => iblk m c 6 t (ix2 0 k)) = fun k => (m ((c : Thread nD τ).loc main_arg11) : FVec Ideal S128 .f32) (ix1 k) := by
    funext k
    exact blk6 m c t k
  rw [b1_at]
  unfold out r1 ror
  rw [e9, e10, e7, ei]
  unfold ro
  rw [e6]
  simp only [blk1 m c t r _ s hs, blk4 m c t r _ s hs, blk5 m c t r _ s hs, blk2 m c t, blk8 m c t]

/-- The result array after the run. -/
theorem final : (dats m 0 c).arrAt 11 (cfgs 0).N = fun y : S16640x1024.Idx => out m c (y 0) (y 1) := by
  refine (dats m 0 c).arrAt_eq_of_covers 11 _ (by decide +kernel) fun t _ y => ?_
  blk_simp
  rw [after0_11]
  unfold outBlk
  frame_out
  have hy : y = ix2 (y 0) (y 1) := by funext a; fin_cases a <;> rfl
  have hj : (((View.whole main_v9).slice (win0_11.rect t)).emb y 1) = y 1 := by
    apply Fin.ext
    blk_simp [idx t]
    try omega
  have hs : ((((View.whole main_v9).slice (win0_11.rect t)).emb y 0 : Fin 16640) : ℕ) = 640 * t.val + (y 0 : Fin 640) := by
    blk_simp [idx t]
    try omega
  rw [hj]
  refine Eq.trans ?_ (row m c t (y 0) (y 1) _ hs)
  exact congrArg (b1 (grid0.coords t) (first m c t) (iblk m c 1 t) (iblk m c 2 t) (iblk m c 3 t) (iblk m c 4 t) (iblk m c 5 t) (iblk m c 6 t) (iblk m c 7 t) (iblk m c 8 t) (iblk m c 9 t) (iblk m c 10 t)) hy

end Cert.Tail5
end
-- ==== Proof.Ref5.lean ====
module

public import proofs.«01_k».proof.Proof.Row5
public import proofs.«01_k».proof.Proof.Gen.Reference5Ideal.Read

@[expose] public section

set_option maxRecDepth 16384

/-! The fifth reference, row by row: the readout, then the latent rows, then the context rows. -/

noncomputable section
namespace Cert.Ref5

open Cert.Reference5Ideal Cert.Reference5Ideal.Gen Cert.Reference5Ideal.Read Idealize.ShloMosaic Idealize.ShloMosaic.TcCoe
open Cert.Row

variable (x0 : FVec Ideal S16384x1024 .f32) (x1 : FVec Ideal S16640x1024 .bf16) (x2 : FVec Ideal S1024x1024 .f32)
  (x3 x4 : FVec Ideal S4x6144 .f32) (x5 : FVec Ideal S1024 .f32) (x6 : FVec Ideal S4x1024x5632 .f32)
  (x7 : FVec Ideal S4x2816x1024 .f32) (x8 : FVec Ideal S256x1024 .f32) (x9 x10 : FVec Ideal S16640x1024 .bf16)
  (x11 : FVec Ideal S128 .f32)

/-- A head's entry after the norm. -/
theorem v17 (s : Fin 16640) (h : Fin 8) (k : Fin 128) :
    val_main_v17 (F := Ideal) x1 x9 x11 (ix3 s h k)
      = headn (fun k => x1 (ix2 s k) + x9 (ix2 s k)) (fun k => x11 (ix1 k)) h k := by
  have e2 (k : Fin 1024) : val_main_v2 (F := Ideal) x1 x9 (ix2 s k) = x1 (ix2 s k) + x9 (ix2 s k) := by
    pointwise [val_main_v2, val_main_v1, val_main_v0]
  have e4 (h : Fin 8) (k : Fin 128) : val_main_v4 (F := Ideal) x1 x9 (ix3 s h k)
      = x1 (ix2 s ⟨128 * h + k, by omega⟩) + x9 (ix2 s ⟨128 * h + k, by omega⟩) := by
    rw [← e2]
    pointwise [val_main_v4]
    exact congrArg (fun q => val_main_v2 (F := Ideal) x1 x9 (ix2 s q)) (Fin.ext (by simp only; omega))
  unfold headn
  simp only [← e4]
  pointwise [val_main_v17, val_main_v16, val_main_v15, val_main_v14, val_main_v13, val_main_v12, val_main_v11, val_main_v10, val_main_cst_1, val_main_v9, val_main_v8, val_main_cst_0, val_main_v7, val_main_v6, val_main_cst, val_main_v5]

/-- The readout row. -/
abbrev ro (s : Fin 16640) : Fin 1024 → EReal :=
  readout (fun k => x1 (ix2 s k) + x9 (ix2 s k)) (fun k => x10 (ix2 s k)) (fun k => x11 (ix1 k))

theorem v19 (s : Fin 16640) (j : Fin 1024) :
    val_main_v19 (F := Ideal) x1 x9 x10 x11 (ix2 s j) = ro x1 x9 x10 x11 s j := by
  unfold ro readout
  rw [← v17]
  pointwise [val_main_v19, val_main_v18, val_main_v3]

theorem v20 (s : Fin 16640) (j : Fin 1024) :
    val_main_v20 (F := Ideal) x1 x2 x9 x10 x11 (ix2 s j) = ∑ k, ro x1 x9 x10 x11 s k * x2 (ix2 k j) := by
  simp only [← v19]
  pointwise [val_main_v20]

/-- A latent row after the residual step. -/
abbrev r37 (s : Fin 16384) : Fin 1024 → EReal :=
  res (fun j => x0 (ix2 s j)) (sec 2 fun n => x3 (ix2 0 n)) (ro x1 x9 x10 x11 ⟨s, by omega⟩) (fun k j => x2 (ix2 k j))

theorem v37 (s : Fin 16384) (j : Fin 1024) :
    val_main_v37 (F := Ideal) x0 x1 x2 x3 x9 x10 x11 (ix2 s j) = r37 x0 x1 x2 x3 x9 x10 x11 s j := by
  unfold r37 res
  rw [← v20]
  pointwise [val_main_v37, val_main_v36, val_main_v35, val_main_v34, val_main_v33, val_main_v32, val_main_v31, val_main_v30, val_main_v29, val_main_v28, val_main_v27, val_main_v26, val_main_v25, sec]

theorem v45 (s : Fin 16384) (j : Fin 1) :
    val_main_v45 (F := Ideal) x0 x1 x2 x3 x9 x10 x11 (ix2 s j) = rs (r37 x0 x1 x2 x3 x9 x10 x11 s) := by
  have e := v37 x0 x1 x2 x3 x9 x10 x11
  unfold rs
  simp only [← e]
  pointwise [val_main_v45, val_main_v44, val_main_v43, val_main_cst_4, val_main_v42, val_main_v41, val_main_cst_3, val_main_v40, val_main_v39, val_main_cst_2, val_main_v38]

theorem v56 (s : Fin 16384) (j : Fin 1024) :
    val_main_v56 (F := Ideal) x0 x1 x2 x3 x5 x9 x10 x11 (ix2 s j)
      = hid (r37 x0 x1 x2 x3 x9 x10 x11 s) (fun j => x5 (ix1 j)) (sec 4 fun n => x3 (ix2 0 n)) (sec 3 fun n => x3 (ix2 0 n)) j := by
  have e := v37 x0 x1 x2 x3 x9 x10 x11
  have e2 := v45 x0 x1 x2 x3 x9 x10 x11
  unfold hid
  rw [← e2 s 0]
  simp only [← e]
  pointwise [val_main_v56, val_main_v55, val_main_v54, val_main_v53, val_main_v52, val_main_v51, val_main_cst_5, val_main_v50, val_main_v49, val_main_v48, val_main_v47, val_main_v46, val_main_v35, val_main_v34, val_main_v33, val_main_v32, val_main_v31, val_main_v30, val_main_v29, val_main_v28, val_main_v27, val_main_v26, sec]
  simp only [mul_assoc]

/-- A latent row after residual step and network. -/
abbrev r65 (s : Fin 16384) : Fin 1024 → EReal :=
  tail (r37 x0 x1 x2 x3 x9 x10 x11 s) (fun j => x5 (ix1 j)) (sec 4 fun n => x3 (ix2 0 n)) (sec 3 fun n => x3 (ix2 0 n)) (sec 5 fun n => x3 (ix2 0 n))
    (fun i k => x6 (ix3 0 i k)) (fun k j => x7 (ix3 0 k j))

theorem v65 (s : Fin 16384) (j : Fin 1024) :
    val_main_v65 (F := Ideal) x0 x1 x2 x3 x5 x6 x7 x9 x10 x11 (ix2 s j) = r65 x0 x1 x2 x3 x5 x6 x7 x9 x10 x11 s j := by
  have e := v37 x0 x1 x2 x3 x9 x10 x11
  have e2 := v56 x0 x1 x2 x3 x5 x9 x10 x11
  unfold r65 tail ffn unit
  simp only [← e2]
  rw [← e]
  pointwise [val_main_v65, val_main_v64, val_main_v63, val_main_v62, val_main_v61, val_main_v60, val_main_call0_v5, val_main_call0_v4, val_main_call0_cst_0, val_main_call0_v3, val_main_call0_v2, val_main_call0_cst, val_main_call0_v1, val_main_call0_v0, val_main_v59, val_main_v58, val_main_v57, val_main_v35, val_main_v34, val_main_v33, val_main_v32, val_main_v31, val_main_v30, val_main_v29, val_main_v28, val_main_v27, val_main_v26, val_main_v24, val_main_v23, val_main_v22, val_main_v21, sec]
  rfl

/-- A context row after the residual step. -/
abbrev r78 (s : Fin 256) : Fin 1024 → EReal :=
  res (fun j => x8 (ix2 s j)) (sec 2 fun n => x4 (ix2 0 n)) (ro x1 x9 x10 x11 ⟨16384 + s, by omega⟩) (fun k j => x2 (ix2 k j))

theorem v78 (s : Fin 256) (j : Fin 1024) :
    val_main_v78 (F := Ideal) x1 x2 x4 x8 x9 x10 x11 (ix2 s j) = r78 x1 x2 x4 x8 x9 x10 x11 s j := by
  unfold r78 res
  rw [← v20]
  pointwise [val_main_v78, val_main_v77, val_main_v76, val_main_v75, val_main_v74, val_main_v73, val_main_v72, val_main_v71, val_main_v70, val_main_v69, val_main_v68, val_main_v67, val_main_v66, sec]

theorem v86 (s : Fin 256) (j : Fin 1) :
    val_main_v86 (F := Ideal) x1 x2 x4 x8 x9 x10 x11 (ix2 s j) = rs (r78 x1 x2 x4 x8 x9 x10 x11 s) := by
  have e := v78 x1 x2 x4 x8 x9 x10 x11
  unfold rs
  simp only [← e]
  pointwise [val_main_v86, val_main_v85, val_main_v84, val_main_cst_8, val_main_v83, val_main_v82, val_main_cst_7, val_main_v81, val_main_v80, val_main_cst_6, val_main_v79]

theorem v97 (s : Fin 256) (j : Fin 1024) :
    val_main_v97 (F := Ideal) x1 x2 x4 x5 x8 x9 x10 x11 (ix2 s j)
      = hid (r78 x1 x2 x4 x8 x9 x10 x11 s) (fun j => x5 (ix1 j)) (sec 4 fun n => x4 (ix2 0 n)) (sec 3 fun n => x4 (ix2 0 n)) j := by
  have e := v78 x1 x2 x4 x8 x9 x10 x11
  have e2 := v86 x1 x2 x4 x8 x9 x10 x11
  unfold hid
  rw [← e2 s 0]
  simp only [← e]
  pointwise [val_main_v97, val_main_v96, val_main_v95, val_main_v94, val_main_v93, val_main_v92, val_main_cst_9, val_main_v91, val_main_v90, val_main_v89, val_main_v88, val_main_v87, val_main_v76, val_main_v75, val_main_v74, val_main_v73, val_main_v72, val_main_v71, val_main_v70, val_main_v69, val_main_v68, val_main_v67, sec]
  simp only [mul_assoc]

/-- A context row after residual step and network. -/
abbrev r106 (s : Fin 256) : Fin 1024 → EReal :=
  tail (r78 x1 x2 x4 x8 x9 x10 x11 s) (fun j => x5 (ix1 j)) (sec 4 fun n => x4 (ix2 0 n)) (sec 3 fun n => x4 (ix2 0 n)) (sec 5 fun n => x4 (ix2 0 n))
    (fun i k => x6 (ix3 0 i k)) (fun k j => x7 (ix3 0 k j))

theorem v106 (s : Fin 256) (j : Fin 1024) :
    val_main_v106 (F := Ideal) x1 x2 x4 x5 x6 x7 x8 x9 x10 x11 (ix2 s j) = r106 x1 x2 x4 x5 x6 x7 x8 x9 x10 x11 s j := by
  have e := v78 x1 x2 x4 x8 x9 x10 x11
  have e2 := v97 x1 x2 x4 x5 x8 x9 x10 x11
  unfold r106 tail ffn unit
  simp only [← e2]
  rw [← e]
  pointwise [val_main_v106, val_main_v105, val_main_v104, val_main_v103, val_main_v102, val_main_v101, val_main_call1_v5, val_main_call1_v4, val_main_call1_cst_0, val_main_call1_v3, val_main_call1_v2, val_main_call1_cst, val_main_call1_v1, val_main_call1_v0, val_main_v100, val_main_v99, val_main_v98, val_main_v76, val_main_v75, val_main_v74, val_main_v73, val_main_v72, val_main_v71, val_main_v70, val_main_v69, val_main_v68, val_main_v67, val_main_v24, val_main_v23, val_main_v22, val_main_v21, sec]
  rfl

theorem lat (s : Fin 16640) (j : Fin 1024) (hs : (s : ℕ) < 16384) :
    val_main_v107 (F := Ideal) x0 x1 x2 x3 x4 x5 x6 x7 x8 x9 x10 x11 (ix2 s j) = r65 x0 x1 x2 x3 x5 x6 x7 x9 x10 x11 ⟨s, hs⟩ j := by
  refine Eq.trans ?_ (v65 x0 x1 x2 x3 x5 x6 x7 x9 x10 x11 ⟨s, hs⟩ j)
  pointwise [val_main_v107, hs]

theorem ctx (s : Fin 16640) (j : Fin 1024) (hs : ¬ (s : ℕ) < 16384) :
    val_main_v107 (F := Ideal) x0 x1 x2 x3 x4 x5 x6 x7 x8 x9 x10 x11 (ix2 s j) = r106 x1 x2 x4 x5 x6 x7 x8 x9 x10 x11 ⟨s - 16384, by omega⟩ j := by
  refine Eq.trans ?_ (v106 x1 x2 x4 x5 x6 x7 x8 x9 x10 x11 ⟨s - 16384, by omega⟩ j)
  pointwise [val_main_v107, hs]

/-- The modulation row of a token: the latent rows' or the context rows'. -/
def pick (x3 x4 : FVec Ideal S4x6144 .f32) (s : Fin 16640) (n : Fin 6144) : EReal :=
  if (s : ℕ) < 16384 then x3 (ix2 0 n) else x4 (ix2 0 n)

/-- The input row of a token: a latent row or a context row. -/
def row (x0 : FVec Ideal S16384x1024 .f32) (x8 : FVec Ideal S256x1024 .f32) (s : Fin 16640) (j : Fin 1024) : EReal :=
  if h : (s : ℕ) < 16384 then x0 (ix2 ⟨s, h⟩ j) else x8 (ix2 ⟨s - 16384, by omega⟩ j)

theorem whole (s : Fin 16640) (j : Fin 1024) :
    val_main_v107 (F := Ideal) x0 x1 x2 x3 x4 x5 x6 x7 x8 x9 x10 x11 (ix2 s j)
      = mix (row x0 x8 s) (pick x3 x4 s) (ro x1 x9 x10 x11 s) (fun k j => x2 (ix2 k j))
          (fun j => x5 (ix1 j)) (fun i k => x6 (ix3 0 i k)) (fun k j => x7 (ix3 0 k j)) j := by
  by_cases hs : (s : ℕ) < 16384
  · have e : pick x3 x4 s = fun n => x3 (ix2 0 n) := by
      funext n
      exact if_pos hs
    have e1 : row x0 x8 s = fun n => x0 (ix2 ⟨s, hs⟩ n) := by
      funext n
      exact dif_pos hs
    rw [lat _ _ _ _ _ _ _ _ _ _ _ _ s j hs, e, e1]
    rfl
  · have e : pick x3 x4 s = fun n => x4 (ix2 0 n) := by
      funext n
      exact if_neg hs
    have e1 : row x0 x8 s = fun n => x8 (ix2 ⟨s - 16384, by omega⟩ n) := by
      funext n
      exact dif_neg hs
    have e2 : (⟨16384 + ((s : ℕ) - 16384), by omega⟩ : Fin 16640) = s := Fin.ext (by simp only; omega)
    rw [ctx _ _ _ _ _ _ _ _ _ _ _ _ s j hs, e, e1]
    unfold r106 r78
    simp only [e2]
    rfl

end Cert.Ref5
-- ==== Proof.Equal5.lean ====
module

public import proofs.«01_k».proof.Defs
public import proofs.«01_k».proof.Proof.Tail5
public import proofs.«01_k».proof.Proof.Ref5

@[expose] public section

set_option maxRecDepth 16384

noncomputable section
namespace Cert.Equal5

open Idealize.ShloMosaic Idealize.SL.Sem

/-- The fifth kernel and the fifth reference end with equal results. -/
theorem algebraic : Cert.algebraic_Kernel5Ideal_Reference5Ideal := by
  pair_intro
  · run_from Cert.Kernel5Ideal.Lay.run_kept m g
  · refine θ_run_mono (Cert.Reference5Ideal.Value.run m' g') ?_
    intro r hr c
    refine ⟨(hr c).1.trans ?_, (hr c).2⟩
    rw [Cert.Reference5Ideal.Read.val_main_v107_eq]
    refine Eq.trans ?_ (Cert.Tail5.final m c).symm
    obtain ⟨h0, h1, h2, h3, h4, h5, h6, h7, h8, h9, h10, h11⟩ := hagree c
    rw [h0, h1, h2, h3, h4, h5, h6, h7, h8, h9, h10, h11]
    funext y
    have hy : y = ix2 (y 0) (y 1) := by funext a; fin_cases a <;> rfl
    refine Eq.trans (congrArg _ hy) ?_
    refine (Cert.Ref5.whole _ _ _ _ _ _ _ _ _ _ _ _ (y 0) (y 1)).trans ?_
    unfold Cert.Tail5.out
    rfl

end Cert.Equal5
-- ==== Proof.Row6.lean ====
module

public import proofs.«01_k».proof.Proof.Row

@[expose] public section

set_option maxRecDepth 16384

/-! The attention projection of one token: a normalized row times the weights, heads of 64 rotated. -/

noncomputable section
namespace Cert.Row6

open Idealize.ShloMosaic Cert.Row

/-- A slab of 128 columns with its three tables: the entry, the entry 16 to the right and the entry 16 to the left. -/
def rot (y : Fin 1536 → EReal) (C A B : Fin 128 → EReal) (q : Fin 1536) : EReal :=
  y q * C ⟨q % 128, by omega⟩ + y ⟨128 * (q / 128) + (q % 128 + 16) % 128, by omega⟩ * A ⟨q % 128, by omega⟩
    + y ⟨128 * (q / 128) + (q % 128 + 112) % 128, by omega⟩ * B ⟨q % 128, by omega⟩

/-- A head rotated: each half of 32 columns turns its two runs of 16 against each other. -/
def rope (y : Fin 1536 → EReal) (cs sn : Fin 64 → EReal) (q : Fin 1536) : EReal :=
  y q * cs ⟨q % 64, by omega⟩
    + (if h : (q : ℕ) % 32 < 16 then -y ⟨q + 16, by omega⟩ else y ⟨q - 16, by omega⟩) * sn ⟨q % 64, by omega⟩

/-- The table that takes the right neighbour. -/
def tabA (sn : Fin 64 → EReal) (l : Fin 128) : EReal := if (l : ℕ) % 32 < 16 then -sn ⟨l % 64, by omega⟩ else 0

/-- The table that takes the left neighbour. -/
def tabB (sn : Fin 64 → EReal) (l : Fin 128) : EReal := if (l : ℕ) % 32 < 16 then 0 else sn ⟨l % 64, by omega⟩

theorem rot_rope (y : Fin 1536 → EReal) (cs sn : Fin 64 → EReal) (q : Fin 1536) :
    rot y (fun l => cs ⟨l % 64, by omega⟩) (tabA sn) (tabB sn) q = rope y cs sn q := by
  have e : (⟨(q : ℕ) % 128 % 64, by omega⟩ : Fin 64) = ⟨q % 64, by omega⟩ := Fin.ext (by simp only; omega)
  unfold rot rope tabA tabB
  by_cases h : (q : ℕ) % 32 < 16
  · have h' : (q : ℕ) % 128 % 32 < 16 := by omega
    have e2 : (⟨128 * ((q : ℕ) / 128) + ((q : ℕ) % 128 + 16) % 128, by omega⟩ : Fin 1536) = ⟨q + 16, by omega⟩ :=
      Fin.ext (by simp only; omega)
    simp only [h, h', e, e2, if_true, dif_pos, mul_zero, add_zero, mul_neg, neg_mul]
  · have h' : ¬ (q : ℕ) % 128 % 32 < 16 := by omega
    have e2 : (⟨128 * ((q : ℕ) / 128) + ((q : ℕ) % 128 + 112) % 128, by omega⟩ : Fin 1536) = ⟨q - 16, by omega⟩ :=
      Fin.ext (by simp only; omega)
    simp only [h, h', e, e2, if_false, dif_neg, mul_zero, add_zero, not_false_eq_true]

/-- Tables of ones and zeros leave the row as it is. -/
theorem rot_one (y : Fin 1536 → EReal) (q : Fin 1536) : rot y (fun _ => 1) (fun _ => 0) (fun _ => 0) q = y q := by
  unfold rot
  simp only [mul_one, mul_zero, add_zero]

/-- A finite factor of each weight comes out of the product. -/
theorem sum_scale {n : ℕ} (c : EReal) (h0 : 0 ≤ c) (h1 : c ≠ ⊤) (f g : Fin n → EReal) :
    ∑ k, f k * (g k * c) = (∑ k, f k * g k) * c := by
  induction n with
  | zero => simp
  | succ n ih =>
    rw [Fin.sum_univ_succ, Fin.sum_univ_succ, ih, EReal.right_distrib_of_nonneg_of_ne_top h0 h1, mul_assoc]

/-- A finite factor of each entry comes out of the rotation. -/
theorem rope_scale (c : EReal) (h0 : 0 ≤ c) (h1 : c ≠ ⊤) (y : Fin 1536 → EReal) (cs sn : Fin 64 → EReal) (q : Fin 1536) :
    rope (fun q => y q * c) cs sn q = rope y cs sn q * c := by
  unfold rope
  rw [EReal.right_distrib_of_nonneg_of_ne_top h0 h1, mul_right_comm]
  congr 1
  split
  · rw [← neg_mul, mul_right_comm]
  · rw [mul_right_comm]

/-- One eighth, as its bits spell it. -/
abbrev eighth : EReal := Ideal.ofBits FTy.f32 1040187392#32

theorem eighth_eq : eighth = ((1 / 8 : ℝ) : EReal) := by
  simp [eighth, Ideal.ofBits, Ideal.ieee, -Ideal.ofBits.eq_1]
  rw [← EReal.coe_mul]
  norm_num

theorem eighth_nonneg : 0 ≤ eighth := by
  rw [eighth_eq]
  exact_mod_cast (by norm_num : (0 : ℝ) ≤ 1 / 8)

theorem eighth_ne_top : eighth ≠ ⊤ := by
  rw [eighth_eq]
  exact EReal.coe_ne_top _

/-- The row's product with the weights. -/
def proj (h : Fin 1024 → EReal) (w : Fin 1024 → Fin 1536 → EReal) (q : Fin 1536) : EReal := ∑ k, h k * w k q

/-- The weights with the queries' columns scaled. -/
def scaled (w : Fin 1024 → Fin 1536 → EReal) (k : Fin 1024) (q : Fin 1536) : EReal :=
  if (q : ℕ) < 1024 then w k q * eighth else w k q

/-- One entry as the kernel computes it: queries and keys turned by the tables, queries scaled. -/
def ker (y : Fin 1536 → EReal) (C A B : Fin 128 → EReal) (u : EReal) (q : Fin 1536) : EReal :=
  if (q : ℕ) < 1024 then rot y C A B q * u else if (q : ℕ) < 1280 then rot y C A B q else y q

/-- The rotation reads its own slab only. -/
theorem rot_congr (y z : Fin 1536 → EReal) (C A B : Fin 128 → EReal) (q : Fin 1536)
    (h : ∀ p : Fin 1536, (p : ℕ) / 128 = q / 128 → y p = z p) : rot y C A B q = rot z C A B q := by
  unfold rot
  rw [h q rfl, h ⟨128 * (q / 128) + (q % 128 + 16) % 128, by omega⟩ (by simp only; omega),
    h ⟨128 * (q / 128) + (q % 128 + 112) % 128, by omega⟩ (by simp only; omega)]

theorem proj_hi (h : Fin 1024 → EReal) (w : Fin 1024 → Fin 1536 → EReal) (q : Fin 1536) (hq : ¬ (q : ℕ) < 1024) :
    proj h (scaled w) q = proj h w q := by
  unfold proj scaled
  simp only [if_neg hq]

theorem proj_lo (h : Fin 1024 → EReal) (w : Fin 1024 → Fin 1536 → EReal) (q : Fin 1536) (hq : (q : ℕ) < 1024) :
    proj h (scaled w) q = proj h w q * eighth := by
  unfold proj scaled
  simp only [if_pos hq]
  exact sum_scale _ eighth_nonneg eighth_ne_top _ _

/-- The kernel's entry of a latent row, rotated after the scale. -/
theorem ker_lat (h : Fin 1024 → EReal) (w : Fin 1024 → Fin 1536 → EReal) (cs sn : Fin 64 → EReal) (u : EReal) (q : Fin 1536) :
    ker (proj h (scaled w)) (fun l => cs ⟨l % 64, by omega⟩) (tabA sn) (tabB sn) u q
      = if (q : ℕ) < 1024 then rope (proj h w) cs sn q * eighth * u
        else if (q : ℕ) < 1280 then rope (proj h w) cs sn q else proj h w q := by
  unfold ker
  by_cases hq : (q : ℕ) < 1024
  · rw [if_pos hq, if_pos hq, ← rope_scale _ eighth_nonneg eighth_ne_top, ← rot_rope]
    congr 1
    exact rot_congr _ _ _ _ _ _ fun p hp => proj_lo h w p (by omega)
  · rw [if_neg hq, if_neg hq, proj_hi h w q hq, ← rot_rope,
      rot_congr _ _ _ _ _ _ fun p hp => proj_hi h w p (by omega)]

/-- The kernel's entry of a context row, which is not rotated. -/
theorem ker_ctx (h : Fin 1024 → EReal) (w : Fin 1024 → Fin 1536 → EReal) (u : EReal) (q : Fin 1536) :
    ker (proj h (scaled w)) (fun _ => 1) (fun _ => 0) (fun _ => 0) u q
      = if (q : ℕ) < 1024 then proj h w q * eighth * u else proj h w q := by
  unfold ker
  simp only [rot_one]
  by_cases hq : (q : ℕ) < 1024
  · rw [if_pos hq, if_pos hq, proj_lo h w q hq]
  · rw [if_neg hq, if_neg hq, proj_hi h w q hq, ite_self]

/-- A latent token's angles: the first half of a head turns by the token's row, the second by its column. -/
def ang (a : Fin 256 → Fin 16 → EReal) (b : Fin 64 → Fin 16 → EReal) (s : Fin 16384) (e : Fin 64) : EReal :=
  if (e : ℕ) < 32 then a ⟨s / 64, by omega⟩ ⟨e % 16, by omega⟩ else b ⟨s % 64, by omega⟩ ⟨e % 16, by omega⟩

/-- The modulation row of token `s`. -/
def mdr (a b : Fin 6144 → EReal) (s : Fin 16640) (n : Fin 6144) : EReal := if (s : ℕ) < 16384 then a n else b n

/-- A latent token's row rotated; a context token's row as it is. -/
def turned (s : Fin 16640) (y : Fin 1536 → EReal) (cs sn : Fin 16384 → Fin 64 → EReal) (q : Fin 1536) : EReal :=
  if hs : (s : ℕ) < 16384 then rope y (cs ⟨s, hs⟩) (sn ⟨s, hs⟩) q else y q

/-- One entry of the call's result. -/
def res6 (s : Fin 16640) (y : Fin 1536 → EReal) (cs sn : Fin 16384 → Fin 64 → EReal) (u : EReal) (q : Fin 1536) : EReal :=
  if (q : ℕ) < 1024 then turned s y cs sn q * eighth * u else if (q : ℕ) < 1280 then turned s y cs sn q else y q

end Cert.Row6
end
-- ==== Proof.Pay6.lean ====
module

public import proofs.«01_k».proof.Proof.Row6
public import proofs.«01_k».proof.Proof.Gen.Kernel6Ideal.Frame

@[expose] public section

set_option maxRecDepth 16384

/-! The attention projection's kernel: what each of its twelve stores holds, entry by entry. -/

noncomputable section
namespace Cert.Tail6

open Cert.Kernel6Ideal Cert.Kernel6Ideal.Gen Idealize.ShloMosaic Idealize.ShloMosaic.TcCoe Idealize.SL.Sem
open Cert.Row

variable (i : grid0.Coords)

/-- Whether row `r` of the grid point is past the latent rows. -/
def past (r : Fin 640) : BitVec 1 :=
  if (r : ℕ) < 384 then Scalar.cmpi CmpIPredicate.sgt (BitVec.ofNat 32 ↑(i 0)) 25#32
  else Scalar.cmpi CmpIPredicate.sge (BitVec.ofNat 32 ↑(i 0)) 25#32

theorem low (r : Fin 640) (hr : ¬ (r : ℕ) < 384) : (⟨384 + ((r : ℕ) - 384), by omega⟩ : Fin 640) = r :=
  Fin.ext (by simp only; omega)

/-- The normalized and modulated block, row by row. -/
theorem b62_at (v0 : Vec Ideal S640x1024 .f32) (v1 : Vec Ideal S1x1024 .f32) (v5 v7 v25 v27 v34 v36 v54 v56 : Vec Ideal S1x1x1024 .f32)
    (s1 s0 h1 h0 : Fin 1024 → EReal)
    (e5 : ∀ j, v5 (ix3 0 0 j) = s1 j) (e7 : ∀ j, v7 (ix3 0 0 j) = s0 j)
    (e25 : ∀ j, v25 (ix3 0 0 j) = h1 j) (e27 : ∀ j, v27 (ix3 0 0 j) = h0 j)
    (e34 : ∀ j, v34 (ix3 0 0 j) = s1 j) (e36 : ∀ j, v36 (ix3 0 0 j) = s0 j)
    (e54 : ∀ j, v54 (ix3 0 0 j) = h1 j) (e56 : ∀ j, v56 (ix3 0 0 j) = h0 j) (r : Fin 640) (j : Fin 1024) :
    k0_pay7 (F := Ideal) (k0_pay4 v1) (k0_pay5 i v0 v1 v5 v7 v25 v27) (Scalar.cmpi .sge (BitVec.ofNat 32 (i 0).val) 25#32)
        (k0_pay6 v0) v34 v36 v54 v56 (ix2 r j)
      = hid (fun j => v0 (ix2 r j)) (fun j => v1 (ix2 0 j)) (fun j => Scalar.select (past i r) (s1 j) (s0 j))
          (fun j => Scalar.select (past i r) (h1 j) (h0 j)) j := by
  by_cases hr : (r : ℕ) < 384
  · unfold past
    rw [if_pos hr]
    pointwise [k0_pay7, k0_pay4, k0_pay5, k0_pay6, hid, rs, hr, e5, e7, e25, e27]
  · unfold past
    rw [if_neg hr]
    pointwise [k0_pay7, k0_pay4, k0_pay5, k0_pay6, hid, rs, hr, e34, e36, e54, e56, low r hr]

/-- The group of 64 rows that holds row `r`, and the row's place in it. -/
def gr (r : Fin 640) : Fin 10 := ⟨r / 64, by omega⟩
def po (r : Fin 640) : Fin 64 := ⟨r % 64, by omega⟩

/-- Ten groups of 64 rows stacked. -/
theorem stack_at (u0 u1 u2 u3 u4 u5 u6 u7 u8 u9 : FVec Ideal S64x128 .f32) (r : Fin 640) (l : Fin 128) :
    concatenate S640x128 0 [⟨S64x128, u0⟩, ⟨S64x128, u1⟩, ⟨S64x128, u2⟩, ⟨S64x128, u3⟩, ⟨S64x128, u4⟩, ⟨S64x128, u5⟩, ⟨S64x128, u6⟩, ⟨S64x128, u7⟩, ⟨S64x128, u8⟩, ⟨S64x128, u9⟩]
      concatenates_S64x128_S64x128_S64x128_S64x128_S64x128_S64x128_S64x128_S64x128_S64x128_S64x128_S640x128_d0 (ix2 r l)
      = (![u0, u1, u2, u3, u4, u5, u6, u7, u8, u9] : Fin 10 → FVec Ideal S64x128 .f32) (gr r) (ix2 (po r) l) := by
  rcases r with ⟨r, hr⟩
  unfold gr po
  by_cases h0 : r < 64
  · obtain ⟨e1, e2⟩ : r / 64 = 0 ∧ r % 64 = r := by omega
    simp only [e1, e2]
    pointwise [h0]
  by_cases h1 : r - 64 < 64
  · obtain ⟨e1, e2⟩ : r / 64 = 1 ∧ r % 64 = r - 64 := by omega
    simp only [e1, e2]
    pointwise [h0, h1]
  by_cases h2 : r - 64 - 64 < 64
  · obtain ⟨e1, e2⟩ : r / 64 = 2 ∧ r % 64 = r - 64 - 64 := by omega
    simp only [e1, e2]
    pointwise [h0, h1, h2]
  by_cases h3 : r - 64 - 64 - 64 < 64
  · obtain ⟨e1, e2⟩ : r / 64 = 3 ∧ r % 64 = r - 64 - 64 - 64 := by omega
    simp only [e1, e2]
    pointwise [h0, h1, h2, h3]
  by_cases h4 : r - 64 - 64 - 64 - 64 < 64
  · obtain ⟨e1, e2⟩ : r / 64 = 4 ∧ r % 64 = r - 64 - 64 - 64 - 64 := by omega
    simp only [e1, e2]
    pointwise [h0, h1, h2, h3, h4]
  by_cases h5 : r - 64 - 64 - 64 - 64 - 64 < 64
  · obtain ⟨e1, e2⟩ : r / 64 = 5 ∧ r % 64 = r - 64 - 64 - 64 - 64 - 64 := by omega
    simp only [e1, e2]
    pointwise [h0, h1, h2, h3, h4, h5]
  by_cases h6 : r - 64 - 64 - 64 - 64 - 64 - 64 < 64
  · obtain ⟨e1, e2⟩ : r / 64 = 6 ∧ r % 64 = r - 64 - 64 - 64 - 64 - 64 - 64 := by omega
    simp only [e1, e2]
    pointwise [h0, h1, h2, h3, h4, h5, h6]
  by_cases h7 : r - 64 - 64 - 64 - 64 - 64 - 64 - 64 < 64
  · obtain ⟨e1, e2⟩ : r / 64 = 7 ∧ r % 64 = r - 64 - 64 - 64 - 64 - 64 - 64 - 64 := by omega
    simp only [e1, e2]
    pointwise [h0, h1, h2, h3, h4, h5, h6, h7]
  by_cases h8 : r - 64 - 64 - 64 - 64 - 64 - 64 - 64 - 64 < 64
  · obtain ⟨e1, e2⟩ : r / 64 = 8 ∧ r % 64 = r - 64 - 64 - 64 - 64 - 64 - 64 - 64 - 64 := by omega
    simp only [e1, e2]
    pointwise [h0, h1, h2, h3, h4, h5, h6, h7, h8]
  · have h9 : r - 64 - 64 - 64 - 64 - 64 - 64 - 64 - 64 - 64 < 64 := by omega
    obtain ⟨e1, e2⟩ : r / 64 = 9 ∧ r % 64 = r - 64 - 64 - 64 - 64 - 64 - 64 - 64 - 64 - 64 := by omega
    simp only [e1, e2]
    pointwise [h0, h1, h2, h3, h4, h5, h6, h7, h8, h9]

/-- One group of 64 rows: the row part, plus the column part where the group is latent. -/
theorem group_at (a : Vec Ideal S1x1x128 .f32) (b : Vec Ideal S1x64x128 .f32) (w : BitVec 1) (p : Fin 64) (l : Fin 128) :
    addf (broadcastTo S64x128 (shapeCast S1x128 a shapeCasts_S1x1x128_S1x128) broadcasts_S1x128_S64x128)
        (Scalar.select w (shapeCast S64x128 b shapeCasts_S1x64x128_S64x128) (broadcast S64x128 (FloatOps.ofBits (F := Ideal) FTy.f32 0#32))) (ix2 p l)
      = a (ix3 0 0 l) + Scalar.select w (b (ix3 0 p l)) 0 := by
  pointwise []

/-- A table's entry: the group's row part, plus the column part where the group is latent. -/
def ent (v63 : BitVec 32) (R : Fin 10 → Fin 128 → EReal) (S : Fin 64 → Fin 128 → EReal) (g : Fin 10) (p : Fin 64) (l : Fin 128) : EReal :=
  R g l
    + Scalar.select (Scalar.cmpi .slt (Scalar.addi v63 (BitVec.ofNat 32 g.val)) 256#32) (S p l) 0

theorem tab0_at (v63 : BitVec 32) (X : Vec Ideal S3x260x128 .f32) (Y : Vec Ideal S3x64x128 .f32) (r : Fin 640) (l : Fin 128) :
    concatenate S640x128 0 [⟨S64x128, addf (broadcastTo S64x128 (shapeCast S1x128 (View.ld X (Rect.unit (s := S3x260x128) (k0_off1 i 0#32) S1x1x128.size (k0_off1_inb i 0))) shapeCasts_S1x1x128_S1x128) broadcasts_S1x128_S64x128)
          (Scalar.select (Scalar.cmpi CmpIPredicate.slt (Scalar.addi v63 0#32) 256#32) (shapeCast S64x128 (View.ld Y (Rect.unit (s := S3x64x128) ![0, 0, 0] S1x64x128.size inb_S3x64x128_S1x64x128_0_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off1 i 1#32) S1x1x128.size (k0_off1_inb i 1))) shapeCasts_S1x1x128_S1x128) broadcasts_S1x128_S64x128)
          (Scalar.select (Scalar.cmpi CmpIPredicate.slt (Scalar.addi v63 1#32) 256#32) (shapeCast S64x128 (View.ld Y (Rect.unit (s := S3x64x128) ![0, 0, 0] S1x64x128.size inb_S3x64x128_S1x64x128_0_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off1 i 2#32) S1x1x128.size (k0_off1_inb i 2))) shapeCasts_S1x1x128_S1x128) broadcasts_S1x128_S64x128)
          (Scalar.select (Scalar.cmpi CmpIPredicate.slt (Scalar.addi v63 2#32) 256#32) (shapeCast S64x128 (View.ld Y (Rect.unit (s := S3x64x128) ![0, 0, 0] S1x64x128.size inb_S3x64x128_S1x64x128_0_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off1 i 3#32) S1x1x128.size (k0_off1_inb i 3))) shapeCasts_S1x1x128_S1x128) broadcasts_S1x128_S64x128)
          (Scalar.select (Scalar.cmpi CmpIPredicate.slt (Scalar.addi v63 3#32) 256#32) (shapeCast S64x128 (View.ld Y (Rect.unit (s := S3x64x128) ![0, 0, 0] S1x64x128.size inb_S3x64x128_S1x64x128_0_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off1 i 4#32) S1x1x128.size (k0_off1_inb i 4))) shapeCasts_S1x1x128_S1x128) broadcasts_S1x128_S64x128)
          (Scalar.select (Scalar.cmpi CmpIPredicate.slt (Scalar.addi v63 4#32) 256#32) (shapeCast S64x128 (View.ld Y (Rect.unit (s := S3x64x128) ![0, 0, 0] S1x64x128.size inb_S3x64x128_S1x64x128_0_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off1 i 5#32) S1x1x128.size (k0_off1_inb i 5))) shapeCasts_S1x1x128_S1x128) broadcasts_S1x128_S64x128)
          (Scalar.select (Scalar.cmpi CmpIPredicate.slt (Scalar.addi v63 5#32) 256#32) (shapeCast S64x128 (View.ld Y (Rect.unit (s := S3x64x128) ![0, 0, 0] S1x64x128.size inb_S3x64x128_S1x64x128_0_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off1 i 6#32) S1x1x128.size (k0_off1_inb i 6))) shapeCasts_S1x1x128_S1x128) broadcasts_S1x128_S64x128)
          (Scalar.select (Scalar.cmpi CmpIPredicate.slt (Scalar.addi v63 6#32) 256#32) (shapeCast S64x128 (View.ld Y (Rect.unit (s := S3x64x128) ![0, 0, 0] S1x64x128.size inb_S3x64x128_S1x64x128_0_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off1 i 7#32) S1x1x128.size (k0_off1_inb i 7))) shapeCasts_S1x1x128_S1x128) broadcasts_S1x128_S64x128)
          (Scalar.select (Scalar.cmpi CmpIPredicate.slt (Scalar.addi v63 7#32) 256#32) (shapeCast S64x128 (View.ld Y (Rect.unit (s := S3x64x128) ![0, 0, 0] S1x64x128.size inb_S3x64x128_S1x64x128_0_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off1 i 8#32) S1x1x128.size (k0_off1_inb i 8))) shapeCasts_S1x1x128_S1x128) broadcasts_S1x128_S64x128)
          (Scalar.select (Scalar.cmpi CmpIPredicate.slt (Scalar.addi v63 8#32) 256#32) (shapeCast S64x128 (View.ld Y (Rect.unit (s := S3x64x128) ![0, 0, 0] S1x64x128.size inb_S3x64x128_S1x64x128_0_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off1 i 9#32) S1x1x128.size (k0_off1_inb i 9))) shapeCasts_S1x1x128_S1x128) broadcasts_S1x128_S64x128)
          (Scalar.select (Scalar.cmpi CmpIPredicate.slt (Scalar.addi v63 9#32) 256#32) (shapeCast S64x128 (View.ld Y (Rect.unit (s := S3x64x128) ![0, 0, 0] S1x64x128.size inb_S3x64x128_S1x64x128_0_0_0)) shapeCasts_S1x64x128_S64x128) (broadcast S64x128 (FloatOps.ofBits (F := Ideal) FTy.f32 0#32)))⟩]
      concatenates_S64x128_S64x128_S64x128_S64x128_S64x128_S64x128_S64x128_S64x128_S64x128_S64x128_S640x128_d0 (ix2 r l)
      = ent v63 (fun g l => X (ix3 0 ⟨10 * (i 0).val + g, by have := (i 0).isLt; change _ < 26 at this; omega⟩ l)) (fun p l => Y (ix3 0 p l)) (gr r) (po r) l := by
  rw [stack_at]
  unfold ent
  generalize po r = p
  generalize gr r = g
  have eo (g : Fin 10) (h) : View.ld X (Rect.unit (s := S3x260x128) (k0_off1 i (BitVec.ofNat 32 g.val)) S1x1x128.size h) (ix3 0 0 l)
      = X (ix3 0 ⟨10 * (i 0).val + g, by have := (i 0).isLt; change _ < 26 at this; omega⟩ l) := by
    have e (o : Fin 3 → ℕ) (h) (n : ℕ) (hn : n < 260) (ho : o = ![0, n, 0]) :
        View.ld X (Rect.unit (s := S3x260x128) o S1x1x128.size h) (ix3 0 0 l) = X (ix3 0 ⟨n, hn⟩ l) := by
      subst ho
      pointwise []
    exact e _ h _ _ (k0_off1_eq i g)
  have ey (h) : View.ld Y (Rect.unit (s := S3x64x128) ![0, 0, 0] S1x64x128.size h) (ix3 0 p l) = Y (ix3 0 p l) := by
    pointwise []
  fin_cases g
  · exact (group_at _ _ _ _ _).trans (congrArg₂ _ (eo 0 _) (congrArg₂ _ (ey _) rfl))
  · exact (group_at _ _ _ _ _).trans (congrArg₂ _ (eo 1 _) (congrArg₂ _ (ey _) rfl))
  · exact (group_at _ _ _ _ _).trans (congrArg₂ _ (eo 2 _) (congrArg₂ _ (ey _) rfl))
  · exact (group_at _ _ _ _ _).trans (congrArg₂ _ (eo 3 _) (congrArg₂ _ (ey _) rfl))
  · exact (group_at _ _ _ _ _).trans (congrArg₂ _ (eo 4 _) (congrArg₂ _ (ey _) rfl))
  · exact (group_at _ _ _ _ _).trans (congrArg₂ _ (eo 5 _) (congrArg₂ _ (ey _) rfl))
  · exact (group_at _ _ _ _ _).trans (congrArg₂ _ (eo 6 _) (congrArg₂ _ (ey _) rfl))
  · exact (group_at _ _ _ _ _).trans (congrArg₂ _ (eo 7 _) (congrArg₂ _ (ey _) rfl))
  · exact (group_at _ _ _ _ _).trans (congrArg₂ _ (eo 8 _) (congrArg₂ _ (ey _) rfl))
  · exact (group_at _ _ _ _ _).trans (congrArg₂ _ (eo 9 _) (congrArg₂ _ (ey _) rfl))

theorem tab1_at (v63 : BitVec 32) (X : Vec Ideal S3x260x128 .f32) (Y : Vec Ideal S3x64x128 .f32) (r : Fin 640) (l : Fin 128) :
    concatenate S640x128 0 [⟨S64x128, addf (broadcastTo S64x128 (shapeCast S1x128 (View.ld X (Rect.unit (s := S3x260x128) (k0_off2 i 0#32) S1x1x128.size (k0_off2_inb i 0))) shapeCasts_S1x1x128_S1x128) broadcasts_S1x128_S64x128)
          (Scalar.select (Scalar.cmpi CmpIPredicate.slt (Scalar.addi v63 0#32) 256#32) (shapeCast S64x128 (View.ld Y (Rect.unit (s := S3x64x128) ![1, 0, 0] S1x64x128.size inb_S3x64x128_S1x64x128_1_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off2 i 1#32) S1x1x128.size (k0_off2_inb i 1))) shapeCasts_S1x1x128_S1x128) broadcasts_S1x128_S64x128)
          (Scalar.select (Scalar.cmpi CmpIPredicate.slt (Scalar.addi v63 1#32) 256#32) (shapeCast S64x128 (View.ld Y (Rect.unit (s := S3x64x128) ![1, 0, 0] S1x64x128.size inb_S3x64x128_S1x64x128_1_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off2 i 2#32) S1x1x128.size (k0_off2_inb i 2))) shapeCasts_S1x1x128_S1x128) broadcasts_S1x128_S64x128)
          (Scalar.select (Scalar.cmpi CmpIPredicate.slt (Scalar.addi v63 2#32) 256#32) (shapeCast S64x128 (View.ld Y (Rect.unit (s := S3x64x128) ![1, 0, 0] S1x64x128.size inb_S3x64x128_S1x64x128_1_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off2 i 3#32) S1x1x128.size (k0_off2_inb i 3))) shapeCasts_S1x1x128_S1x128) broadcasts_S1x128_S64x128)
          (Scalar.select (Scalar.cmpi CmpIPredicate.slt (Scalar.addi v63 3#32) 256#32) (shapeCast S64x128 (View.ld Y (Rect.unit (s := S3x64x128) ![1, 0, 0] S1x64x128.size inb_S3x64x128_S1x64x128_1_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off2 i 4#32) S1x1x128.size (k0_off2_inb i 4))) shapeCasts_S1x1x128_S1x128) broadcasts_S1x128_S64x128)
          (Scalar.select (Scalar.cmpi CmpIPredicate.slt (Scalar.addi v63 4#32) 256#32) (shapeCast S64x128 (View.ld Y (Rect.unit (s := S3x64x128) ![1, 0, 0] S1x64x128.size inb_S3x64x128_S1x64x128_1_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off2 i 5#32) S1x1x128.size (k0_off2_inb i 5))) shapeCasts_S1x1x128_S1x128) broadcasts_S1x128_S64x128)
          (Scalar.select (Scalar.cmpi CmpIPredicate.slt (Scalar.addi v63 5#32) 256#32) (shapeCast S64x128 (View.ld Y (Rect.unit (s := S3x64x128) ![1, 0, 0] S1x64x128.size inb_S3x64x128_S1x64x128_1_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off2 i 6#32) S1x1x128.size (k0_off2_inb i 6))) shapeCasts_S1x1x128_S1x128) broadcasts_S1x128_S64x128)
          (Scalar.select (Scalar.cmpi CmpIPredicate.slt (Scalar.addi v63 6#32) 256#32) (shapeCast S64x128 (View.ld Y (Rect.unit (s := S3x64x128) ![1, 0, 0] S1x64x128.size inb_S3x64x128_S1x64x128_1_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off2 i 7#32) S1x1x128.size (k0_off2_inb i 7))) shapeCasts_S1x1x128_S1x128) broadcasts_S1x128_S64x128)
          (Scalar.select (Scalar.cmpi CmpIPredicate.slt (Scalar.addi v63 7#32) 256#32) (shapeCast S64x128 (View.ld Y (Rect.unit (s := S3x64x128) ![1, 0, 0] S1x64x128.size inb_S3x64x128_S1x64x128_1_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off2 i 8#32) S1x1x128.size (k0_off2_inb i 8))) shapeCasts_S1x1x128_S1x128) broadcasts_S1x128_S64x128)
          (Scalar.select (Scalar.cmpi CmpIPredicate.slt (Scalar.addi v63 8#32) 256#32) (shapeCast S64x128 (View.ld Y (Rect.unit (s := S3x64x128) ![1, 0, 0] S1x64x128.size inb_S3x64x128_S1x64x128_1_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off2 i 9#32) S1x1x128.size (k0_off2_inb i 9))) shapeCasts_S1x1x128_S1x128) broadcasts_S1x128_S64x128)
          (Scalar.select (Scalar.cmpi CmpIPredicate.slt (Scalar.addi v63 9#32) 256#32) (shapeCast S64x128 (View.ld Y (Rect.unit (s := S3x64x128) ![1, 0, 0] S1x64x128.size inb_S3x64x128_S1x64x128_1_0_0)) shapeCasts_S1x64x128_S64x128) (broadcast S64x128 (FloatOps.ofBits (F := Ideal) FTy.f32 0#32)))⟩]
      concatenates_S64x128_S64x128_S64x128_S64x128_S64x128_S64x128_S64x128_S64x128_S64x128_S64x128_S640x128_d0 (ix2 r l)
      = ent v63 (fun g l => X (ix3 1 ⟨10 * (i 0).val + g, by have := (i 0).isLt; change _ < 26 at this; omega⟩ l)) (fun p l => Y (ix3 1 p l)) (gr r) (po r) l := by
  rw [stack_at]
  unfold ent
  generalize po r = p
  generalize gr r = g
  have eo (g : Fin 10) (h) : View.ld X (Rect.unit (s := S3x260x128) (k0_off2 i (BitVec.ofNat 32 g.val)) S1x1x128.size h) (ix3 0 0 l)
      = X (ix3 1 ⟨10 * (i 0).val + g, by have := (i 0).isLt; change _ < 26 at this; omega⟩ l) := by
    have e (o : Fin 3 → ℕ) (h) (n : ℕ) (hn : n < 260) (ho : o = ![1, n, 0]) :
        View.ld X (Rect.unit (s := S3x260x128) o S1x1x128.size h) (ix3 0 0 l) = X (ix3 1 ⟨n, hn⟩ l) := by
      subst ho
      pointwise []
    exact e _ h _ _ (k0_off2_eq i g)
  have ey (h) : View.ld Y (Rect.unit (s := S3x64x128) ![1, 0, 0] S1x64x128.size h) (ix3 0 p l) = Y (ix3 1 p l) := by
    pointwise []
  fin_cases g
  · exact (group_at _ _ _ _ _).trans (congrArg₂ _ (eo 0 _) (congrArg₂ _ (ey _) rfl))
  · exact (group_at _ _ _ _ _).trans (congrArg₂ _ (eo 1 _) (congrArg₂ _ (ey _) rfl))
  · exact (group_at _ _ _ _ _).trans (congrArg₂ _ (eo 2 _) (congrArg₂ _ (ey _) rfl))
  · exact (group_at _ _ _ _ _).trans (congrArg₂ _ (eo 3 _) (congrArg₂ _ (ey _) rfl))
  · exact (group_at _ _ _ _ _).trans (congrArg₂ _ (eo 4 _) (congrArg₂ _ (ey _) rfl))
  · exact (group_at _ _ _ _ _).trans (congrArg₂ _ (eo 5 _) (congrArg₂ _ (ey _) rfl))
  · exact (group_at _ _ _ _ _).trans (congrArg₂ _ (eo 6 _) (congrArg₂ _ (ey _) rfl))
  · exact (group_at _ _ _ _ _).trans (congrArg₂ _ (eo 7 _) (congrArg₂ _ (ey _) rfl))
  · exact (group_at _ _ _ _ _).trans (congrArg₂ _ (eo 8 _) (congrArg₂ _ (ey _) rfl))
  · exact (group_at _ _ _ _ _).trans (congrArg₂ _ (eo 9 _) (congrArg₂ _ (ey _) rfl))

theorem tab2_at (v63 : BitVec 32) (X : Vec Ideal S3x260x128 .f32) (Y : Vec Ideal S3x64x128 .f32) (r : Fin 640) (l : Fin 128) :
    concatenate S640x128 0 [⟨S64x128, addf (broadcastTo S64x128 (shapeCast S1x128 (View.ld X (Rect.unit (s := S3x260x128) (k0_off3 i 0#32) S1x1x128.size (k0_off3_inb i 0))) shapeCasts_S1x1x128_S1x128) broadcasts_S1x128_S64x128)
          (Scalar.select (Scalar.cmpi CmpIPredicate.slt (Scalar.addi v63 0#32) 256#32) (shapeCast S64x128 (View.ld Y (Rect.unit (s := S3x64x128) ![2, 0, 0] S1x64x128.size inb_S3x64x128_S1x64x128_2_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off3 i 1#32) S1x1x128.size (k0_off3_inb i 1))) shapeCasts_S1x1x128_S1x128) broadcasts_S1x128_S64x128)
          (Scalar.select (Scalar.cmpi CmpIPredicate.slt (Scalar.addi v63 1#32) 256#32) (shapeCast S64x128 (View.ld Y (Rect.unit (s := S3x64x128) ![2, 0, 0] S1x64x128.size inb_S3x64x128_S1x64x128_2_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off3 i 2#32) S1x1x128.size (k0_off3_inb i 2))) shapeCasts_S1x1x128_S1x128) broadcasts_S1x128_S64x128)
          (Scalar.select (Scalar.cmpi CmpIPredicate.slt (Scalar.addi v63 2#32) 256#32) (shapeCast S64x128 (View.ld Y (Rect.unit (s := S3x64x128) ![2, 0, 0] S1x64x128.size inb_S3x64x128_S1x64x128_2_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off3 i 3#32) S1x1x128.size (k0_off3_inb i 3))) shapeCasts_S1x1x128_S1x128) broadcasts_S1x128_S64x128)
          (Scalar.select (Scalar.cmpi CmpIPredicate.slt (Scalar.addi v63 3#32) 256#32) (shapeCast S64x128 (View.ld Y (Rect.unit (s := S3x64x128) ![2, 0, 0] S1x64x128.size inb_S3x64x128_S1x64x128_2_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off3 i 4#32) S1x1x128.size (k0_off3_inb i 4))) shapeCasts_S1x1x128_S1x128) broadcasts_S1x128_S64x128)
          (Scalar.select (Scalar.cmpi CmpIPredicate.slt (Scalar.addi v63 4#32) 256#32) (shapeCast S64x128 (View.ld Y (Rect.unit (s := S3x64x128) ![2, 0, 0] S1x64x128.size inb_S3x64x128_S1x64x128_2_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off3 i 5#32) S1x1x128.size (k0_off3_inb i 5))) shapeCasts_S1x1x128_S1x128) broadcasts_S1x128_S64x128)
          (Scalar.select (Scalar.cmpi CmpIPredicate.slt (Scalar.addi v63 5#32) 256#32) (shapeCast S64x128 (View.ld Y (Rect.unit (s := S3x64x128) ![2, 0, 0] S1x64x128.size inb_S3x64x128_S1x64x128_2_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off3 i 6#32) S1x1x128.size (k0_off3_inb i 6))) shapeCasts_S1x1x128_S1x128) broadcasts_S1x128_S64x128)
          (Scalar.select (Scalar.cmpi CmpIPredicate.slt (Scalar.addi v63 6#32) 256#32) (shapeCast S64x128 (View.ld Y (Rect.unit (s := S3x64x128) ![2, 0, 0] S1x64x128.size inb_S3x64x128_S1x64x128_2_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off3 i 7#32) S1x1x128.size (k0_off3_inb i 7))) shapeCasts_S1x1x128_S1x128) broadcasts_S1x128_S64x128)
          (Scalar.select (Scalar.cmpi CmpIPredicate.slt (Scalar.addi v63 7#32) 256#32) (shapeCast S64x128 (View.ld Y (Rect.unit (s := S3x64x128) ![2, 0, 0] S1x64x128.size inb_S3x64x128_S1x64x128_2_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off3 i 8#32) S1x1x128.size (k0_off3_inb i 8))) shapeCasts_S1x1x128_S1x128) broadcasts_S1x128_S64x128)
          (Scalar.select (Scalar.cmpi CmpIPredicate.slt (Scalar.addi v63 8#32) 256#32) (shapeCast S64x128 (View.ld Y (Rect.unit (s := S3x64x128) ![2, 0, 0] S1x64x128.size inb_S3x64x128_S1x64x128_2_0_0)) shapeCasts_S1x64x128_S64x128) (broadcast S64x128 (FloatOps.ofBits (F := Ideal) FTy.f32 0#32)))⟩,
        ⟨S64x128, addf (broadcastTo S64x128 (shapeCast S1x128 (View.ld X (Rect.unit (s := S3x260x128) (k0_off3 i 9#32) S1x1x128.size (k0_off3_inb i 9))) shapeCasts_S1x1x128_S1x128) broadcasts_S1x128_S64x128)
          (Scalar.select (Scalar.cmpi CmpIPredicate.slt (Scalar.addi v63 9#32) 256#32) (shapeCast S64x128 (View.ld Y (Rect.unit (s := S3x64x128) ![2, 0, 0] S1x64x128.size inb_S3x64x128_S1x64x128_2_0_0)) shapeCasts_S1x64x128_S64x128) (broadcast S64x128 (FloatOps.ofBits (F := Ideal) FTy.f32 0#32)))⟩]
      concatenates_S64x128_S64x128_S64x128_S64x128_S64x128_S64x128_S64x128_S64x128_S64x128_S64x128_S640x128_d0 (ix2 r l)
      = ent v63 (fun g l => X (ix3 2 ⟨10 * (i 0).val + g, by have := (i 0).isLt; change _ < 26 at this; omega⟩ l)) (fun p l => Y (ix3 2 p l)) (gr r) (po r) l := by
  rw [stack_at]
  unfold ent
  generalize po r = p
  generalize gr r = g
  have eo (g : Fin 10) (h) : View.ld X (Rect.unit (s := S3x260x128) (k0_off3 i (BitVec.ofNat 32 g.val)) S1x1x128.size h) (ix3 0 0 l)
      = X (ix3 2 ⟨10 * (i 0).val + g, by have := (i 0).isLt; change _ < 26 at this; omega⟩ l) := by
    have e (o : Fin 3 → ℕ) (h) (n : ℕ) (hn : n < 260) (ho : o = ![2, n, 0]) :
        View.ld X (Rect.unit (s := S3x260x128) o S1x1x128.size h) (ix3 0 0 l) = X (ix3 2 ⟨n, hn⟩ l) := by
      subst ho
      pointwise []
    exact e _ h _ _ (k0_off3_eq i g)
  have ey (h) : View.ld Y (Rect.unit (s := S3x64x128) ![2, 0, 0] S1x64x128.size h) (ix3 0 p l) = Y (ix3 2 p l) := by
    pointwise []
  fin_cases g
  · exact (group_at _ _ _ _ _).trans (congrArg₂ _ (eo 0 _) (congrArg₂ _ (ey _) rfl))
  · exact (group_at _ _ _ _ _).trans (congrArg₂ _ (eo 1 _) (congrArg₂ _ (ey _) rfl))
  · exact (group_at _ _ _ _ _).trans (congrArg₂ _ (eo 2 _) (congrArg₂ _ (ey _) rfl))
  · exact (group_at _ _ _ _ _).trans (congrArg₂ _ (eo 3 _) (congrArg₂ _ (ey _) rfl))
  · exact (group_at _ _ _ _ _).trans (congrArg₂ _ (eo 4 _) (congrArg₂ _ (ey _) rfl))
  · exact (group_at _ _ _ _ _).trans (congrArg₂ _ (eo 5 _) (congrArg₂ _ (ey _) rfl))
  · exact (group_at _ _ _ _ _).trans (congrArg₂ _ (eo 6 _) (congrArg₂ _ (ey _) rfl))
  · exact (group_at _ _ _ _ _).trans (congrArg₂ _ (eo 7 _) (congrArg₂ _ (ey _) rfl))
  · exact (group_at _ _ _ _ _).trans (congrArg₂ _ (eo 8 _) (congrArg₂ _ (ey _) rfl))
  · exact (group_at _ _ _ _ _).trans (congrArg₂ _ (eo 9 _) (congrArg₂ _ (ey _) rfl))

theorem p46_eq (v63 : BitVec 32) (u0 u1 u2 u3 u4 u5 u6 u7 u8 : FVec Ideal S64x128 .f32) (a : Vec Ideal S1x1x128 .f32) (b : Vec Ideal S1x64x128 .f32) :
    k0_pay46 (F := Ideal) v63 u0 u1 u2 u3 u4 u5 u6 u7 u8 a b = concatenate S640x128 0 [⟨S64x128, u0⟩, ⟨S64x128, u1⟩, ⟨S64x128, u2⟩, ⟨S64x128, u3⟩, ⟨S64x128, u4⟩, ⟨S64x128, u5⟩, ⟨S64x128, u6⟩, ⟨S64x128, u7⟩, ⟨S64x128, u8⟩,
      ⟨S64x128, addf (broadcastTo S64x128 (shapeCast S1x128 a shapeCasts_S1x1x128_S1x128) broadcasts_S1x128_S64x128)
        (Scalar.select (Scalar.cmpi CmpIPredicate.slt (Scalar.addi v63 9#32) 256#32) (shapeCast S64x128 b shapeCasts_S1x64x128_S64x128)
          (broadcast S64x128 (FloatOps.ofBits (F := Ideal) FTy.f32 0#32)))⟩]
      concatenates_S64x128_S64x128_S64x128_S64x128_S64x128_S64x128_S64x128_S64x128_S64x128_S64x128_S640x128_d0 := rfl

/-- The columns of one block of 256, times the row. -/
def dot (v62 : FVec Ideal S640x1024 .bf16) (w : Vec Ideal S1024x256 .bf16) (r : Fin 640) (q : Fin 256) : EReal :=
  ∑ k : Fin 1024, v62 (ix2 r k) * w (ix2 k q)

/-- A slab of 128 columns turned by its three tables. -/
def turn (y : Fin 256 → EReal) (o : Fin 2) (C A B : EReal) (l : Fin 128) : EReal :=
  y ⟨128 * o + l, by omega⟩ * C + y ⟨128 * o + (l + 128 - 112) % 128, by omega⟩ * A + y ⟨128 * o + (l + 128 - 16) % 128, by omega⟩ * B

theorem s48_at (v62 : FVec Ideal S640x1024 .bf16) (v63 : BitVec 32) (C A : FVec Ideal S640x128 .f32) (u0 u1 u2 u3 u4 u5 u6 u7 u8 : FVec Ideal S64x128 .f32) (a : Vec Ideal S1x1x128 .f32) (b : Vec Ideal S1x64x128 .f32) (w : Vec Ideal S1024x256 .bf16) (r : Fin 640) (l : Fin 128) :
    k0_pay48 (F := Ideal) v62 v63 C A u0 u1 u2 u3 u4 u5 u6 u7 u8 a b w (ix2 r l)
      = turn (dot v62 w r) 0 (C (ix2 r l)) (A (ix2 r l)) ((k0_pay46 (F := Ideal) v63 u0 u1 u2 u3 u4 u5 u6 u7 u8 a b) (ix2 r l)) l * Named.named (F := Ideal) (φ := .f32) κ "l2e" 0x3FB8AA3B#32 := by
  unfold k0_pay48
  generalize k0_pay46 (F := Ideal) v63 u0 u1 u2 u3 u4 u5 u6 u7 u8 a b = B
  pointwise [k0_pay47, turn, dot]

theorem s49_at (v62 : FVec Ideal S640x1024 .bf16) (v63 : BitVec 32) (C A : FVec Ideal S640x128 .f32) (u0 u1 u2 u3 u4 u5 u6 u7 u8 : FVec Ideal S64x128 .f32) (a : Vec Ideal S1x1x128 .f32) (b : Vec Ideal S1x64x128 .f32) (w : Vec Ideal S1024x256 .bf16) (r : Fin 640) (l : Fin 128) :
    k0_pay49 (F := Ideal) v62 v63 C A u0 u1 u2 u3 u4 u5 u6 u7 u8 a b w (ix2 r l)
      = turn (dot v62 w r) 1 (C (ix2 r l)) (A (ix2 r l)) ((k0_pay46 (F := Ideal) v63 u0 u1 u2 u3 u4 u5 u6 u7 u8 a b) (ix2 r l)) l * Named.named (F := Ideal) (φ := .f32) κ "l2e" 0x3FB8AA3B#32 := by
  unfold k0_pay49
  generalize k0_pay46 (F := Ideal) v63 u0 u1 u2 u3 u4 u5 u6 u7 u8 a b = B
  pointwise [k0_pay47, turn, dot]

theorem s51_at (v62 : FVec Ideal S640x1024 .bf16) (C A B : FVec Ideal S640x128 .f32) (w : Vec Ideal S1024x256 .bf16) (r : Fin 640) (l : Fin 128) :
    k0_pay51 (F := Ideal) v62 C A B w (ix2 r l)
      = turn (dot v62 w r) 0 (C (ix2 r l)) (A (ix2 r l)) (B (ix2 r l)) l * Named.named (F := Ideal) (φ := .f32) κ "l2e" 0x3FB8AA3B#32 := by
  pointwise [k0_pay51, k0_pay50, turn, dot]

theorem s52_at (v62 : FVec Ideal S640x1024 .bf16) (C A B : FVec Ideal S640x128 .f32) (w : Vec Ideal S1024x256 .bf16) (r : Fin 640) (l : Fin 128) :
    k0_pay52 (F := Ideal) v62 C A B w (ix2 r l)
      = turn (dot v62 w r) 1 (C (ix2 r l)) (A (ix2 r l)) (B (ix2 r l)) l * Named.named (F := Ideal) (φ := .f32) κ "l2e" 0x3FB8AA3B#32 := by
  pointwise [k0_pay52, k0_pay50, turn, dot]

theorem s55_at (v62 : FVec Ideal S640x1024 .bf16) (C A B : FVec Ideal S640x128 .f32) (w : Vec Ideal S1024x256 .bf16) (r : Fin 640) (l : Fin 128) :
    k0_pay55 (F := Ideal) (k0_pay54 v62 C A B w) (ix2 r l)
      = turn (dot v62 w r) 0 (C (ix2 r l)) (A (ix2 r l)) (B (ix2 r l)) l * Named.named (F := Ideal) (φ := .f32) κ "l2e" 0x3FB8AA3B#32 := by
  pointwise [k0_pay55, k0_pay54, k0_pay53, turn, dot]

theorem s56_at (v62 : FVec Ideal S640x1024 .bf16) (C A B : FVec Ideal S640x128 .f32) (w : Vec Ideal S1024x256 .bf16) (r : Fin 640) (l : Fin 128) :
    k0_pay56 (F := Ideal) C A B (k0_pay53 v62 w) (ix2 r l)
      = turn (dot v62 w r) 1 (C (ix2 r l)) (A (ix2 r l)) (B (ix2 r l)) l * Named.named (F := Ideal) (φ := .f32) κ "l2e" 0x3FB8AA3B#32 := by
  pointwise [k0_pay56, k0_pay53, turn, dot]

theorem s58_at (v62 : FVec Ideal S640x1024 .bf16) (C A B : FVec Ideal S640x128 .f32) (w : Vec Ideal S1024x256 .bf16) (r : Fin 640) (l : Fin 128) :
    k0_pay58 (F := Ideal) v62 C A B w (ix2 r l)
      = turn (dot v62 w r) 0 (C (ix2 r l)) (A (ix2 r l)) (B (ix2 r l)) l * Named.named (F := Ideal) (φ := .f32) κ "l2e" 0x3FB8AA3B#32 := by
  pointwise [k0_pay58, k0_pay57, turn, dot]

theorem s60_at (v62 : FVec Ideal S640x1024 .bf16) (C A B : FVec Ideal S640x128 .f32) (w : Vec Ideal S1024x256 .bf16) (r : Fin 640) (l : Fin 128) :
    k0_pay60 (F := Ideal) (k0_pay59 v62 C A B w) (ix2 r l)
      = turn (dot v62 w r) 1 (C (ix2 r l)) (A (ix2 r l)) (B (ix2 r l)) l * Named.named (F := Ideal) (φ := .f32) κ "l2e" 0x3FB8AA3B#32 := by
  pointwise [k0_pay60, k0_pay59, k0_pay57, turn, dot]

theorem s62_at (v62 : FVec Ideal S640x1024 .bf16) (C A B : FVec Ideal S640x128 .f32) (w : Vec Ideal S1024x256 .bf16) (r : Fin 640) (l : Fin 128) :
    k0_pay62 (F := Ideal) v62 C A B w (ix2 r l)
      = turn (dot v62 w r) 0 (C (ix2 r l)) (A (ix2 r l)) (B (ix2 r l)) l := by
  pointwise [k0_pay62, k0_pay61, turn, dot]

theorem s63_at (v62 : FVec Ideal S640x1024 .bf16) (C A B : FVec Ideal S640x128 .f32) (w : Vec Ideal S1024x256 .bf16) (r : Fin 640) (l : Fin 128) :
    k0_pay63 (F := Ideal) v62 C A B w (ix2 r l)
      = turn (dot v62 w r) 1 (C (ix2 r l)) (A (ix2 r l)) (B (ix2 r l)) l := by
  pointwise [k0_pay63, k0_pay61, turn, dot]

theorem s2_at (v62 : FVec Ideal S640x1024 .bf16) (w : Vec Ideal S1024x256 .bf16) (r : Fin 640) (l : Fin 128) :
    k0_pay2 (F := Ideal) v62 (k0_pay64 w) (ix2 r l)
      = dot v62 w r ⟨128 * 0 + l, by omega⟩ := by
  pointwise [k0_pay2, k0_pay1, k0_pay64, turn, dot]

theorem s3_at (v62 : FVec Ideal S640x1024 .bf16) (w : Vec Ideal S1024x256 .bf16) (r : Fin 640) (l : Fin 128) :
    k0_pay3 (F := Ideal) v62 (k0_pay64 w) (ix2 r l)
      = dot v62 w r ⟨128 * 1 + l, by omega⟩ := by
  pointwise [k0_pay3, k0_pay1, k0_pay64, turn, dot]

end Cert.Tail6
end
-- ==== Proof.Tab6.lean ====
module

public import proofs.«01_k».proof.Proof.Pay6

@[expose] public section

set_option maxRecDepth 16384

/-! The attention projection's kernel: the tables and weights the host prepares. -/

noncomputable section
namespace Cert.Tail6

open Cert.Kernel6Ideal Cert.Kernel6Ideal.Gen Idealize.ShloMosaic Idealize.ShloMosaic.TcCoe Idealize.SL.Sem
open Cert.Row

/-- Which of a half's 32 columns are its first 16. -/
def mask : IVec S32 1 := cmpi .slt (iotaInDim S32 32 0) (broadcastInDim S32 ![] bcast_S_S32 (constantI S_ 32 16#32))

theorem mask_bits : ∀ e : Fin 32, IntOp.cmpi CmpIPredicate.slt (BitVec.ofNat 32 e.val) 16#32 = if (e : ℕ) < 16 then 1#1 else 0#1 := by
  decide +kernel

theorem mask_at (e : Fin 32) : mask (ix1 e) = if (e : ℕ) < 16 then 1#1 else 0#1 := by
  rw [← mask_bits]
  pointwise [mask]

/-- A run of 16 columns twice. -/
def wide256 (a : FVec Ideal S256x16 .f32) : FVec Ideal S256x32 .f32 :=
  concatenate S256x32 1 [⟨S256x16, a⟩, ⟨S256x16, a⟩] concatenates_S256x16_S256x16_S256x32_d1

theorem wide256_at (a : FVec Ideal S256x16 .f32) (p : Fin 256) (e : Fin 32) : wide256 a (ix2 p e) = a (ix2 p ⟨e % 16, by omega⟩) := by
  by_cases h : (e : ℕ) < 16
  · have e1 : (e : ℕ) % 16 = e := by omega
    simp only [e1]
    pointwise [wide256, h]
  · have e1 : (e : ℕ) % 16 = e - 16 := by omega
    simp only [e1]
    pointwise [wide256, h]

/-- Columns of zeros. -/
def zero256 : FVec Ideal S256x32 .f32 := broadcastInDim S256x32 ![] bcast_S_S256x32 (constant S_ .f32 0x00000000#32)

/-- The sines that the first 16 columns take, negated, and those that the last 16 take. -/
def first256 (a : FVec Ideal S256x16 .f32) : FVec Ideal S256x32 .f32 :=
  select (broadcastInDim S256x32 ![1] bcast_S32_S256x32_1 mask) (Host.negf (wide256 a))
    (broadcastInDim S256x32 ![] bcast_S_S256x32 (id (constant S_ .f32 0x00000000#32)))
def last256 (a : FVec Ideal S256x16 .f32) : FVec Ideal S256x32 .f32 :=
  select (broadcastInDim S256x32 ![1] bcast_S32_S256x32_1 mask)
    (broadcastInDim S256x32 ![] bcast_S_S256x32 (id (constant S_ .f32 0x00000000#32))) (wide256 a)

theorem first256_at (a : FVec Ideal S256x16 .f32) (p : Fin 256) (e : Fin 32) :
    first256 a (ix2 p e) = if (e : ℕ) < 16 then -a (ix2 p ⟨e % 16, by omega⟩) else 0 := by
  rw [← wide256_at a p e]
  have hm := mask_at e
  by_cases h : (e : ℕ) < 16
  · rw [if_pos h] at hm ⊢
    pointwise [first256, hm, id]
  · rw [if_neg h] at hm ⊢
    pointwise [first256, hm, id]

theorem last256_at (a : FVec Ideal S256x16 .f32) (p : Fin 256) (e : Fin 32) :
    last256 a (ix2 p e) = if (e : ℕ) < 16 then 0 else a (ix2 p ⟨e % 16, by omega⟩) := by
  rw [← wide256_at a p e]
  have hm := mask_at e
  by_cases h : (e : ℕ) < 16
  · rw [if_pos h] at hm ⊢
    pointwise [last256, hm, id]
  · rw [if_neg h] at hm ⊢
    pointwise [last256, hm, id]

/-- The two halves of a head, for the two heads of a slab. -/
def lane256 (u v : FVec Ideal S256x32 .f32) : FVec Ideal S256x128 .f32 :=
  shapeCast S256x128 (broadcastInDim S1x256x2x64 ![0, 1, 2, 3] bcast_S1x256x1x64_S1x256x2x64_0_1_2_3
    (shapeCast S1x256x1x64 (concatenate S256x64 1 [⟨S256x32, u⟩, ⟨S256x32, v⟩] concatenates_S256x32_S256x32_S256x64_d1)
      shapeCasts_S256x64_S1x256x1x64)) shapeCasts_S1x256x2x64_S256x128

theorem lane256_at (u v : FVec Ideal S256x32 .f32) (p : Fin 256) (l : Fin 128) :
    lane256 u v (ix2 p l) = if h : (l : ℕ) % 64 < 32 then u (ix2 p ⟨l % 64, h⟩) else v (ix2 p ⟨l % 64 - 32, by omega⟩) := by
  by_cases h : (l : ℕ) % 64 < 32
  · rw [dif_pos h]
    pointwise [lane256, h]
  · rw [dif_neg h]
    pointwise [lane256, h]

/-- A run of 16 columns twice. -/
def wide64 (a : FVec Ideal S64x16 .f32) : FVec Ideal S64x32 .f32 :=
  concatenate S64x32 1 [⟨S64x16, a⟩, ⟨S64x16, a⟩] concatenates_S64x16_S64x16_S64x32_d1

theorem wide64_at (a : FVec Ideal S64x16 .f32) (p : Fin 64) (e : Fin 32) : wide64 a (ix2 p e) = a (ix2 p ⟨e % 16, by omega⟩) := by
  by_cases h : (e : ℕ) < 16
  · have e1 : (e : ℕ) % 16 = e := by omega
    simp only [e1]
    pointwise [wide64, h]
  · have e1 : (e : ℕ) % 16 = e - 16 := by omega
    simp only [e1]
    pointwise [wide64, h]

/-- Columns of zeros. -/
def zero64 : FVec Ideal S64x32 .f32 := broadcastInDim S64x32 ![] bcast_S_S64x32 (constant S_ .f32 0x00000000#32)

/-- The sines that the first 16 columns take, negated, and those that the last 16 take. -/
def first64 (a : FVec Ideal S64x16 .f32) : FVec Ideal S64x32 .f32 :=
  select (broadcastInDim S64x32 ![1] bcast_S32_S64x32_1 mask) (Host.negf (wide64 a))
    (broadcastInDim S64x32 ![] bcast_S_S64x32 (id (constant S_ .f32 0x00000000#32)))
def last64 (a : FVec Ideal S64x16 .f32) : FVec Ideal S64x32 .f32 :=
  select (broadcastInDim S64x32 ![1] bcast_S32_S64x32_1 mask)
    (broadcastInDim S64x32 ![] bcast_S_S64x32 (id (constant S_ .f32 0x00000000#32))) (wide64 a)

theorem first64_at (a : FVec Ideal S64x16 .f32) (p : Fin 64) (e : Fin 32) :
    first64 a (ix2 p e) = if (e : ℕ) < 16 then -a (ix2 p ⟨e % 16, by omega⟩) else 0 := by
  rw [← wide64_at a p e]
  have hm := mask_at e
  by_cases h : (e : ℕ) < 16
  · rw [if_pos h] at hm ⊢
    pointwise [first64, hm, id]
  · rw [if_neg h] at hm ⊢
    pointwise [first64, hm, id]

theorem last64_at (a : FVec Ideal S64x16 .f32) (p : Fin 64) (e : Fin 32) :
    last64 a (ix2 p e) = if (e : ℕ) < 16 then 0 else a (ix2 p ⟨e % 16, by omega⟩) := by
  rw [← wide64_at a p e]
  have hm := mask_at e
  by_cases h : (e : ℕ) < 16
  · rw [if_pos h] at hm ⊢
    pointwise [last64, hm, id]
  · rw [if_neg h] at hm ⊢
    pointwise [last64, hm, id]

/-- The two halves of a head, for the two heads of a slab. -/
def lane64 (u v : FVec Ideal S64x32 .f32) : FVec Ideal S64x128 .f32 :=
  shapeCast S64x128 (broadcastInDim S1x64x2x64 ![0, 1, 2, 3] bcast_S1x64x1x64_S1x64x2x64_0_1_2_3
    (shapeCast S1x64x1x64 (concatenate S64x64 1 [⟨S64x32, u⟩, ⟨S64x32, v⟩] concatenates_S64x32_S64x32_S64x64_d1)
      shapeCasts_S64x64_S1x64x1x64)) shapeCasts_S1x64x2x64_S64x128

theorem lane64_at (u v : FVec Ideal S64x32 .f32) (p : Fin 64) (l : Fin 128) :
    lane64 u v (ix2 p l) = if h : (l : ℕ) % 64 < 32 then u (ix2 p ⟨l % 64, h⟩) else v (ix2 p ⟨l % 64 - 32, by omega⟩) := by
  by_cases h : (l : ℕ) % 64 < 32
  · rw [dif_pos h]
    pointwise [lane64, h]
  · rw [dif_neg h]
    pointwise [lane64, h]

/-- The row parts of the three tables, with the context's rows below. -/
def ta (a b : FVec Ideal S256x16 .f32) : FVec Ideal S3x260x128 .f32 :=
  concatenate S3x260x128 0
    [⟨S1x260x128, broadcastInDim S1x260x128 ![1, 2] bcast_S260x128_S1x260x128_1_2
        (concatenate S260x128 0 [⟨S256x128, lane256 (wide256 a) zero256⟩,
          ⟨S4x128, broadcastInDim S4x128 ![] bcast_S_S4x128 (constant S_ .f32 0x3F800000#32)⟩] concatenates_S256x128_S4x128_S260x128_d0)⟩,
     ⟨S1x260x128, broadcastInDim S1x260x128 ![1, 2] bcast_S260x128_S1x260x128_1_2
        (concatenate S260x128 0 [⟨S256x128, lane256 (first256 b) zero256⟩,
          ⟨S4x128, broadcastInDim S4x128 ![] bcast_S_S4x128 (constant S_ .f32 0x00000000#32)⟩] concatenates_S256x128_S4x128_S260x128_d0)⟩,
     ⟨S1x260x128, broadcastInDim S1x260x128 ![1, 2] bcast_S260x128_S1x260x128_1_2
        (concatenate S260x128 0 [⟨S256x128, lane256 (last256 b) zero256⟩,
          ⟨S4x128, broadcastInDim S4x128 ![] bcast_S_S4x128 (constant S_ .f32 0x00000000#32)⟩] concatenates_S256x128_S4x128_S260x128_d0)⟩]
    concatenates_S1x260x128_S1x260x128_S1x260x128_S3x260x128_d0

/-- The column parts. -/
def tb (a b : FVec Ideal S64x16 .f32) : FVec Ideal S3x64x128 .f32 :=
  concatenate S3x64x128 0
    [⟨S1x64x128, broadcastInDim S1x64x128 ![1, 2] bcast_S64x128_S1x64x128_1_2 (lane64 zero64 (wide64 a))⟩,
     ⟨S1x64x128, broadcastInDim S1x64x128 ![1, 2] bcast_S64x128_S1x64x128_1_2 (lane64 zero64 (first64 b))⟩,
     ⟨S1x64x128, broadcastInDim S1x64x128 ![1, 2] bcast_S64x128_S1x64x128_1_2 (lane64 zero64 (last64 b))⟩]
    concatenates_S1x64x128_S1x64x128_S1x64x128_S3x64x128_d0

theorem ta0_lat (a b : FVec Ideal S256x16 .f32) (p : Fin 260) (hp : (p : ℕ) < 256) (l : Fin 128) :
    ta a b (ix3 0 p l) = lane256 (wide256 a) zero256 (ix2 ⟨p, hp⟩ l) := by
  pointwise [ta, hp]

theorem ta0_ctx (a b : FVec Ideal S256x16 .f32) (p : Fin 260) (hp : ¬ (p : ℕ) < 256) (l : Fin 128) :
    ta a b (ix3 0 p l) = 1 := by
  pointwise [ta, hp]

theorem tb0_at (a b : FVec Ideal S64x16 .f32) (p : Fin 64) (l : Fin 128) :
    tb a b (ix3 0 p l) = lane64 zero64 (wide64 a) (ix2 p l) := by
  pointwise [tb]

theorem ta1_lat (a b : FVec Ideal S256x16 .f32) (p : Fin 260) (hp : (p : ℕ) < 256) (l : Fin 128) :
    ta a b (ix3 1 p l) = lane256 (first256 b) zero256 (ix2 ⟨p, hp⟩ l) := by
  pointwise [ta, hp]

theorem ta1_ctx (a b : FVec Ideal S256x16 .f32) (p : Fin 260) (hp : ¬ (p : ℕ) < 256) (l : Fin 128) :
    ta a b (ix3 1 p l) = 0 := by
  pointwise [ta, hp]

theorem tb1_at (a b : FVec Ideal S64x16 .f32) (p : Fin 64) (l : Fin 128) :
    tb a b (ix3 1 p l) = lane64 zero64 (first64 b) (ix2 p l) := by
  pointwise [tb]

theorem ta2_lat (a b : FVec Ideal S256x16 .f32) (p : Fin 260) (hp : (p : ℕ) < 256) (l : Fin 128) :
    ta a b (ix3 2 p l) = lane256 (last256 b) zero256 (ix2 ⟨p, hp⟩ l) := by
  pointwise [ta, hp]

theorem ta2_ctx (a b : FVec Ideal S256x16 .f32) (p : Fin 260) (hp : ¬ (p : ℕ) < 256) (l : Fin 128) :
    ta a b (ix3 2 p l) = 0 := by
  pointwise [ta, hp]

theorem tb2_at (a b : FVec Ideal S64x16 .f32) (p : Fin 64) (l : Fin 128) :
    tb a b (ix3 2 p l) = lane64 zero64 (last64 b) (ix2 p l) := by
  pointwise [tb]

theorem zero256_at (p : Fin 256) (e : Fin 32) : zero256 (ix2 p e) = 0 := by
  pointwise [zero256]
theorem zero64_at (p : Fin 64) (e : Fin 32) : zero64 (ix2 p e) = 0 := by
  pointwise [zero64]

/-- The weights the kernel reads: the queries' columns scaled. -/
def wts (w : FVec Ideal S1024x1536 .f32) : FVec Ideal S1024x1536 .bf16 :=
  truncf .bf16 (concatenate S1024x1536 1 [⟨S1024x1024, mulf (extractStridedSlice S1024x1024 ![0, 0] w slices_S1024x1536_S1024x1024_0_0)
      (broadcastInDim S1024x1024 ![] bcast_S_S1024x1024 (constant S_ .f32 0x3E000000#32))⟩,
    ⟨S1024x512, extractStridedSlice S1024x512 ![0, 1024] w slices_S1024x1536_S1024x512_0_1024⟩]
    concatenates_S1024x1024_S1024x512_S1024x1536_d1) bitsLt_bf16_f32

theorem wts_at (w : FVec Ideal S1024x1536 .f32) (k : Fin 1024) (q : Fin 1536) :
    wts w (ix2 k q) = Row6.scaled (fun k q => w (ix2 k q)) k q := by
  unfold Row6.scaled
  by_cases h : (q : ℕ) < 1024
  · rw [if_pos h]
    pointwise [wts, h]
  · have e : (⟨1024 + ((q : ℕ) - 1024), by omega⟩ : Fin 1536) = q := Fin.ext (by simp only; omega)
    rw [if_neg h]
    pointwise [wts, h, e]

/-- The stacked modulation table. -/
def tbl (a b : FVec Ideal S4x6144 .f32) : FVec Ideal S4x8x6144 .f32 :=
  concatenate S4x8x6144 1
    [⟨S4x1x6144, broadcastInDim S4x1x6144 ![0, 2] bcast_S4x6144_S4x1x6144_0_2 a⟩,
     ⟨S4x1x6144, broadcastInDim S4x1x6144 ![0, 2] bcast_S4x6144_S4x1x6144_0_2 b⟩,
     ⟨S4x6x6144, broadcastInDim S4x6x6144 ![] bcast_S_S4x6x6144 (constant S_ .f32 0x00000000#32)⟩]
    concatenates_S4x1x6144_S4x1x6144_S4x6x6144_S4x8x6144_d1

theorem tbl_lat (a b : FVec Ideal S4x6144 .f32) (l : Fin 4) (n : Fin 6144) : tbl a b (ix3 l 0 n) = a (ix2 l n) := by
  pointwise [tbl]

theorem tbl_ctx (a b : FVec Ideal S4x6144 .f32) (l : Fin 4) (n : Fin 6144) : tbl a b (ix3 l 1 n) = b (ix2 l n) := by
  pointwise [tbl]

variable (m : (ℓ : Loc nD τ sig) → Buf (Elt Ideal) ℓ) (c : Dev nD)

theorem V_tbl : (V m c main_v64 : Vec Ideal S4x8x6144 .f32)
    = tbl (m ((c : Thread nD τ).loc main_arg2)) (m ((c : Thread nD τ).loc main_arg3)) := rfl

theorem V_wts : (V m c main_v59 : Vec Ideal S1024x1536 .bf16) = wts (m ((c : Thread nD τ).loc main_arg4)) := rfl

end Cert.Tail6
end
-- ==== Proof.Blk6.lean ====
module

public import proofs.«01_k».proof.Proof.Tab6
public import proofs.«01_k».proof.Proof.Soft

@[expose] public section

set_option maxRecDepth 16384

/-! The attention projection's kernel: what each grid point reads, and its entries of the result. -/

noncomputable section
namespace Cert.Tail6

open Cert.Kernel6Ideal Cert.Kernel6Ideal.Gen Idealize.ShloMosaic Idealize.ShloMosaic.TcCoe Idealize.SL.Sem
open Cert.Row Cert.Row6

theorem idx : ∀ t : Fin cfg0.N, win0_0.index t = ![t.val, 0] ∧ win0_1.index t = ![0, 0] ∧ win0_2.index t = ![3, 0, 0]
    ∧ win0_3.index t = ![0, 0] ∧ win0_4.index t = ![0, 0, 0] ∧ win0_5.index t = ![0, 0, 0] ∧ win0_6.index t = ![t.val, 0]
    ∧ (grid0.coords t 0).val = t.val :=
  (by decide +kernel : ∀ t : Fin grid0.N, _)

theorem past_idx : ∀ t : Fin cfg0.N, Scalar.cmpi CmpIPredicate.sgt (BitVec.ofNat 32 t.val) 25#32 = 0#1
    ∧ Scalar.cmpi CmpIPredicate.sge (BitVec.ofNat 32 t.val) 25#32 = BitVec.ofBool (decide (25 ≤ t.val)) :=
  (by decide +kernel : ∀ t : Fin grid0.N, _)

theorem sel_idx : ∀ (t : Fin 26) (g : Fin 10),
    Scalar.cmpi CmpIPredicate.slt (Scalar.addi (Scalar.muli (BitVec.ofNat 32 t.val) 10#32) (BitVec.ofNat 32 g.val)) 256#32
      = BitVec.ofBool (decide (10 * t.val + g.val < 256)) := by
  decide +kernel

theorem l2e_named : Named.named (F := Ideal) (φ := .f32) κ "l2e" 0x3FB8AA3B#32 = Soft.l2e := rfl

variable (m : (ℓ : Loc nD τ sig) → Buf (Elt Ideal) ℓ) (c : Dev nD)

/-- The launch's arguments. -/
abbrev X0 : FVec Ideal S16640x1024 .f32 := m ((c : Thread nD τ).loc main_arg0)
abbrev X1 : FVec Ideal S1024 .f32 := m ((c : Thread nD τ).loc main_arg1)
abbrev X2 : FVec Ideal S4x6144 .f32 := m ((c : Thread nD τ).loc main_arg2)
abbrev X3 : FVec Ideal S4x6144 .f32 := m ((c : Thread nD τ).loc main_arg3)
abbrev X4 : FVec Ideal S1024x1536 .f32 := m ((c : Thread nD τ).loc main_arg4)
abbrev X5 : FVec Ideal S256x16 .f32 := m ((c : Thread nD τ).loc main_arg5)
abbrev X6 : FVec Ideal S256x16 .f32 := m ((c : Thread nD τ).loc main_arg6)
abbrev X7 : FVec Ideal S64x16 .f32 := m ((c : Thread nD τ).loc main_arg7)
abbrev X8 : FVec Ideal S64x16 .f32 := m ((c : Thread nD τ).loc main_arg8)

theorem blk0 (t : Fin cfg0.N) (r : Fin 640) (j : Fin 1024) (s : Fin 16640) (hs : (s : ℕ) = 640 * t.val + r) :
    iblk m c 0 t (ix2 r j) = X0 m c (ix2 s j) := by
  blk_point [iblk, V, idx t]

theorem rd1 (t : Fin cfg0.N) (A : Vec Ideal S1x1024 .f32) (j : Fin 1024) :
    View.read (Elt Ideal) ((cfg0.win 1).blk t).view A (ix2 0 j) = A (ix2 0 j) := by
  blk_point [idx t]

theorem rd2 (t : Fin cfg0.N) (A : Vec Ideal S4x8x6144 .f32) (p : Fin 8) (j : Fin 6144) :
    View.read (Elt Ideal) ((cfg0.win 2).blk t).view A (ix3 0 p j) = A (ix3 3 p j) := by
  blk_point [idx t]

theorem rd3 (t : Fin cfg0.N) (A : Vec Ideal S1024x1536 .bf16) (k : Fin 1024) (q : Fin 1536) :
    View.read (Elt Ideal) ((cfg0.win 3).blk t).view A (ix2 k q) = A (ix2 k q) := by
  blk_point [idx t]

theorem rd4 (t : Fin cfg0.N) (A : Vec Ideal S3x260x128 .f32) (n : Fin 3) (p : Fin 260) (l : Fin 128) :
    View.read (Elt Ideal) ((cfg0.win 4).blk t).view A (ix3 n p l) = A (ix3 n p l) := by
  blk_point [idx t]

theorem rd5 (t : Fin cfg0.N) (A : Vec Ideal S3x64x128 .f32) (n : Fin 3) (p : Fin 64) (l : Fin 128) :
    View.read (Elt Ideal) ((cfg0.win 5).blk t).view A (ix3 n p l) = A (ix3 n p l) := by
  blk_point [idx t]

theorem V_nw : (V m c main_v60 : Vec Ideal S1x1024 .f32) = shapeCast S1x1024 (X1 m c) shapeCasts_S1024_S1x1024 := rfl

theorem blk1 (t : Fin cfg0.N) (j : Fin 1024) : iblk m c 1 t (ix2 0 j) = X1 m c (ix1 j) := by
  unfold iblk
  rw [rd1]
  exact (congrFun (V_nw m c) _).trans (by pointwise [])

theorem blk2_lat (t : Fin cfg0.N) (n : Fin 6144) : iblk m c 2 t (ix3 0 0 n) = X2 m c (ix2 3 n) := by
  unfold iblk
  rw [rd2]
  exact (congrFun (V_tbl m c) _).trans (tbl_lat _ _ _ _)

theorem blk2_ctx (t : Fin cfg0.N) (n : Fin 6144) : iblk m c 2 t (ix3 0 1 n) = X3 m c (ix2 3 n) := by
  unfold iblk
  rw [rd2]
  exact (congrFun (V_tbl m c) _).trans (tbl_ctx _ _ _ _)

theorem blk3 (t : Fin cfg0.N) (k : Fin 1024) (q : Fin 1536) :
    iblk m c 3 t (ix2 k q) = scaled (fun k q => X4 m c (ix2 k q)) k q := by
  unfold iblk
  rw [rd3]
  exact (congrFun (V_wts m c) _).trans (wts_at _ _ _)

theorem blk4 (hV : (V m c main_v30 : Vec Ideal S3x260x128 .f32) = ta (X5 m c) (X6 m c)) (t : Fin cfg0.N) (n : Fin 3) (p : Fin 260) (l : Fin 128) :
    iblk m c 4 t (ix3 n p l) = ta (X5 m c) (X6 m c) (ix3 n p l) := by
  unfold iblk
  rw [rd4]
  exact congrFun hV _

theorem blk5 (hV : (V m c main_v53 : Vec Ideal S3x64x128 .f32) = tb (X7 m c) (X8 m c)) (t : Fin cfg0.N) (n : Fin 3) (p : Fin 64) (l : Fin 128) :
    iblk m c 5 t (ix3 n p l) = tb (X7 m c) (X8 m c) (ix3 n p l) := by
  unfold iblk
  rw [rd5]
  exact congrFun hV _

/-- The modulation row a token takes. -/
theorem md_sel (t : Fin cfg0.N) (r : Fin 640) (s : Fin 16640) (hs : (s : ℕ) = 640 * t.val + r) (n : Fin 6144) :
    Scalar.select (past (grid0.coords t) r) (X3 m c (ix2 3 n)) (X2 m c (ix2 3 n))
      = mdr (fun n => X2 m c (ix2 3 n)) (fun n => X3 m c (ix2 3 n)) s n := by
  have ht : t.val < 26 := t.isLt
  have hg : (grid0.coords t 0).val = t.val := (idx t).2.2.2.2.2.2.2
  unfold past mdr
  rw [hg, (past_idx t).1, (past_idx t).2]
  by_cases hr : (r : ℕ) < 384
  · rw [if_pos hr, if_pos (by omega)]
    exact if_neg (by decide)
  · rw [if_neg hr]
    by_cases h : 25 ≤ t.val
    · rw [if_neg (c := (s : ℕ) < 16384) (by omega), decide_eq_true h]
      exact if_pos (by decide)
    · rw [if_pos (c := (s : ℕ) < 16384) (by omega), decide_eq_false h]
      exact if_neg (by decide)

/-- The tables' entries of one token. -/
def Ct (s : Fin 16640) (l : Fin 128) : EReal :=
  if hs : (s : ℕ) < 16384 then ang (fun g f => X5 m c (ix2 g f)) (fun g f => X7 m c (ix2 g f)) ⟨s, hs⟩ ⟨l % 64, by omega⟩ else 1
def At (s : Fin 16640) (l : Fin 128) : EReal :=
  if hs : (s : ℕ) < 16384 then tabA (ang (fun g f => X6 m c (ix2 g f)) (fun g f => X8 m c (ix2 g f)) ⟨s, hs⟩) l else 0
def Bt (s : Fin 16640) (l : Fin 128) : EReal :=
  if hs : (s : ℕ) < 16384 then tabB (ang (fun g f => X6 m c (ix2 g f)) (fun g f => X8 m c (ix2 g f)) ⟨s, hs⟩) l else 0

/-- A token's row after norm and modulation. -/
def hk (s : Fin 16640) : Fin 1024 → EReal :=
  hid (fun j => X0 m c (ix2 s j)) (fun j => X1 m c (ix1 j)) (sec 1 (mdr (fun n => X2 m c (ix2 3 n)) (fun n => X3 m c (ix2 3 n)) s))
    (sec 0 (mdr (fun n => X2 m c (ix2 3 n)) (fun n => X3 m c (ix2 3 n)) s))

/-- A token's row times the weights the kernel reads. -/
def yk (s : Fin 16640) : Fin 1536 → EReal := proj (hk m c s) (scaled fun k q => X4 m c (ix2 k q))

/-- The call's result, entry by entry. -/
def outv (s : Fin 16640) (q : Fin 1536) : EReal := ker (yk m c s) (Ct m c s) (At m c s) (Bt m c s) Soft.l2e q

theorem Ct_ent (t : Fin cfg0.N) (r : Fin 640) (s : Fin 16640) (hs : (s : ℕ) = 640 * t.val + r) (l : Fin 128)
    (R : Fin 10 → Fin 128 → EReal) (S : Fin 64 → Fin 128 → EReal) (hd : ∀ g : Fin 10, 10 * (grid0.coords t 0).val + g.val < 260)
    (hR : ∀ g l, R g l = ta (X5 m c) (X6 m c) (ix3 0 ⟨10 * (grid0.coords t 0).val + g, hd g⟩ l))
    (hS : ∀ p l, S p l = tb (X7 m c) (X8 m c) (ix3 0 p l)) :
    ent (Scalar.muli (BitVec.ofNat 32 (grid0.coords t 0).val) 10#32) R S (gr r) (po r) l = Ct m c s l := by
  have ht : t.val < 26 := t.isLt
  have hg : (grid0.coords t 0).val = t.val := (idx t).2.2.2.2.2.2.2
  have hk : (gr r).val = (r : ℕ) / 64 := rfl
  unfold ent
  rw [hR, hS]
  simp only [hg]
  rw [sel_idx ⟨t.val, ht⟩ (gr r), tb0_at]
  simp only []
  unfold Ct
  by_cases h : 10 * t.val + (gr r).val < 256
  · have h1 : (s : ℕ) < 16384 := by omega
    have e1 : (⟨10 * t.val + (gr r).val, h⟩ : Fin 256) = ⟨(s : ℕ) / 64, by omega⟩ := Fin.ext (by simp only; omega)
    have e2 : po r = ⟨(s : ℕ) % 64, by omega⟩ := Fin.ext (by show (r : ℕ) % 64 = _; simp only; omega)
    rw [dif_pos h1, decide_eq_true h, ta0_lat _ _ _ h, e1, e2]
    refine Eq.trans (congrArg _ (if_pos (by decide))) ?_
    rw [lane256_at, lane64_at]
    by_cases h2 : (l : ℕ) % 64 < 32
    · rw [dif_pos h2, dif_pos h2, wide256_at, zero64_at, add_zero]
      unfold ang
      rw [if_pos h2]
    · rw [dif_neg h2, dif_neg h2, wide64_at, zero256_at, zero_add]
      unfold ang
      have e3 : (⟨((l : ℕ) % 64 - 32) % 16, by omega⟩ : Fin 16) = ⟨(l : ℕ) % 64 % 16, by omega⟩ := Fin.ext (by simp only; omega)
      rw [if_neg h2]
      exact congrArg _ (congrArg _ e3)
  · have h1 : ¬ (s : ℕ) < 16384 := by omega
    rw [dif_neg h1, decide_eq_false h, ta0_ctx _ _ _ h]
    refine Eq.trans (congrArg _ (if_neg (by decide))) ?_
    rw [add_zero]

theorem At_ent (t : Fin cfg0.N) (r : Fin 640) (s : Fin 16640) (hs : (s : ℕ) = 640 * t.val + r) (l : Fin 128)
    (R : Fin 10 → Fin 128 → EReal) (S : Fin 64 → Fin 128 → EReal) (hd : ∀ g : Fin 10, 10 * (grid0.coords t 0).val + g.val < 260)
    (hR : ∀ g l, R g l = ta (X5 m c) (X6 m c) (ix3 1 ⟨10 * (grid0.coords t 0).val + g, hd g⟩ l))
    (hS : ∀ p l, S p l = tb (X7 m c) (X8 m c) (ix3 1 p l)) :
    ent (Scalar.muli (BitVec.ofNat 32 (grid0.coords t 0).val) 10#32) R S (gr r) (po r) l = At m c s l := by
  have ht : t.val < 26 := t.isLt
  have hg : (grid0.coords t 0).val = t.val := (idx t).2.2.2.2.2.2.2
  have hk : (gr r).val = (r : ℕ) / 64 := rfl
  unfold ent
  rw [hR, hS]
  simp only [hg]
  rw [sel_idx ⟨t.val, ht⟩ (gr r), tb1_at]
  simp only []
  unfold At
  by_cases h : 10 * t.val + (gr r).val < 256
  · have h1 : (s : ℕ) < 16384 := by omega
    have e1 : (⟨10 * t.val + (gr r).val, h⟩ : Fin 256) = ⟨(s : ℕ) / 64, by omega⟩ := Fin.ext (by simp only; omega)
    have e2 : po r = ⟨(s : ℕ) % 64, by omega⟩ := Fin.ext (by show (r : ℕ) % 64 = _; simp only; omega)
    rw [dif_pos h1, decide_eq_true h, ta1_lat _ _ _ h, e1, e2]
    refine Eq.trans (congrArg _ (if_pos (by decide))) ?_
    rw [lane256_at, lane64_at]
    by_cases h2 : (l : ℕ) % 64 < 32
    · rw [dif_pos h2, dif_pos h2, first256_at, zero64_at, add_zero]
      unfold tabA ang
      by_cases h3 : (l : ℕ) % 64 < 16
      · rw [if_pos (by omega), if_pos (by omega)]
        try rw [if_pos (by omega)]
      · rw [if_neg (by omega), if_neg (by omega)]
        try rw [if_pos (by omega)]
    · rw [dif_neg h2, dif_neg h2, first64_at, zero256_at, zero_add]
      unfold tabA ang
      have e3 : (⟨((l : ℕ) % 64 - 32) % 16, by omega⟩ : Fin 16) = ⟨(l : ℕ) % 64 % 16, by omega⟩ := Fin.ext (by simp only; omega)
      simp only [e3]
      by_cases h3 : (l : ℕ) % 64 - 32 < 16
      · rw [if_pos (by omega), if_pos (by omega)]
        try rw [if_neg (by omega)]
      · rw [if_neg (by omega), if_neg (by omega)]
        try rw [if_neg (by omega)]
  · have h1 : ¬ (s : ℕ) < 16384 := by omega
    rw [dif_neg h1, decide_eq_false h, ta1_ctx _ _ _ h]
    refine Eq.trans (congrArg _ (if_neg (by decide))) ?_
    rw [add_zero]

theorem Bt_ent (t : Fin cfg0.N) (r : Fin 640) (s : Fin 16640) (hs : (s : ℕ) = 640 * t.val + r) (l : Fin 128)
    (R : Fin 10 → Fin 128 → EReal) (S : Fin 64 → Fin 128 → EReal) (hd : ∀ g : Fin 10, 10 * (grid0.coords t 0).val + g.val < 260)
    (hR : ∀ g l, R g l = ta (X5 m c) (X6 m c) (ix3 2 ⟨10 * (grid0.coords t 0).val + g, hd g⟩ l))
    (hS : ∀ p l, S p l = tb (X7 m c) (X8 m c) (ix3 2 p l)) :
    ent (Scalar.muli (BitVec.ofNat 32 (grid0.coords t 0).val) 10#32) R S (gr r) (po r) l = Bt m c s l := by
  have ht : t.val < 26 := t.isLt
  have hg : (grid0.coords t 0).val = t.val := (idx t).2.2.2.2.2.2.2
  have hk : (gr r).val = (r : ℕ) / 64 := rfl
  unfold ent
  rw [hR, hS]
  simp only [hg]
  rw [sel_idx ⟨t.val, ht⟩ (gr r), tb2_at]
  simp only []
  unfold Bt
  by_cases h : 10 * t.val + (gr r).val < 256
  · have h1 : (s : ℕ) < 16384 := by omega
    have e1 : (⟨10 * t.val + (gr r).val, h⟩ : Fin 256) = ⟨(s : ℕ) / 64, by omega⟩ := Fin.ext (by simp only; omega)
    have e2 : po r = ⟨(s : ℕ) % 64, by omega⟩ := Fin.ext (by show (r : ℕ) % 64 = _; simp only; omega)
    rw [dif_pos h1, decide_eq_true h, ta2_lat _ _ _ h, e1, e2]
    refine Eq.trans (congrArg _ (if_pos (by decide))) ?_
    rw [lane256_at, lane64_at]
    by_cases h2 : (l : ℕ) % 64 < 32
    · rw [dif_pos h2, dif_pos h2, last256_at, zero64_at, add_zero]
      unfold tabB ang
      by_cases h3 : (l : ℕ) % 64 < 16
      · rw [if_pos (by omega), if_pos (by omega)]
        try rw [if_pos (by omega)]
      · rw [if_neg (by omega), if_neg (by omega)]
        try rw [if_pos (by omega)]
    · rw [dif_neg h2, dif_neg h2, last64_at, zero256_at, zero_add]
      unfold tabB ang
      have e3 : (⟨((l : ℕ) % 64 - 32) % 16, by omega⟩ : Fin 16) = ⟨(l : ℕ) % 64 % 16, by omega⟩ := Fin.ext (by simp only; omega)
      simp only [e3]
      by_cases h3 : (l : ℕ) % 64 - 32 < 16
      · rw [if_pos (by omega), if_pos (by omega)]
        try rw [if_neg (by omega)]
      · rw [if_neg (by omega), if_neg (by omega)]
        try rw [if_neg (by omega)]
  · have h1 : ¬ (s : ℕ) < 16384 := by omega
    rw [dif_neg h1, decide_eq_false h, ta2_ctx _ _ _ h]
    refine Eq.trans (congrArg _ (if_neg (by decide))) ?_
    rw [add_zero]

/-- Two slabs of one block of columns, turned. -/
theorem turn_at (s : Fin 16640) (r : Fin 640) (l : Fin 128) (o : Fin 2) (k : Fin 6) (q : Fin 1536) (v62 : FVec Ideal S640x1024 .bf16)
    (w : Vec Ideal S1024x256 .bf16) (C A B : EReal) (hB : ∀ j, v62 (ix2 r j) = hk m c s j)
    (hw : ∀ (i : Fin 1024) (j : Fin 256), w (ix2 i j) = scaled (fun k q => X4 m c (ix2 k q)) i ⟨256 * k + j, by omega⟩)
    (hC : C = Ct m c s l) (hA : A = At m c s l) (hB' : B = Bt m c s l) (hq : (q : ℕ) = 256 * k + 128 * o + l) :
    turn (dot v62 w r) o C A B l = rot (yk m c s) (Ct m c s) (At m c s) (Bt m c s) q := by
  have hy (p : Fin 256) (p' : Fin 1536) (hp : (p' : ℕ) = 256 * k + p) : dot v62 w r p = yk m c s p' := by
    have e : (⟨256 * (k : ℕ) + p, by omega⟩ : Fin 1536) = p' := Fin.ext (by simp only; omega)
    unfold dot yk proj
    simp only [hB, hw, e]
  have hl : (⟨(q : ℕ) % 128, by omega⟩ : Fin 128) = l := Fin.ext (by simp only; omega)
  unfold turn rot
  rw [hl, hC, hA, hB', hy _ q (by simp only; omega), hy _ ⟨128 * ((q : ℕ) / 128) + ((q : ℕ) % 128 + 16) % 128, by omega⟩ (by simp only; omega),
    hy _ ⟨128 * ((q : ℕ) / 128) + ((q : ℕ) % 128 + 112) % 128, by omega⟩ (by simp only; omega)]

/-- A query entry. -/
theorem slab_q (s : Fin 16640) (r : Fin 640) (l : Fin 128) (o : Fin 2) (k : Fin 6) (q : Fin 1536) (v62 : FVec Ideal S640x1024 .bf16)
    (w : Vec Ideal S1024x256 .bf16) (C A B : EReal) (hB : ∀ j, v62 (ix2 r j) = hk m c s j)
    (hw : ∀ (i : Fin 1024) (j : Fin 256), w (ix2 i j) = scaled (fun k q => X4 m c (ix2 k q)) i ⟨256 * k + j, by omega⟩)
    (hC : C = Ct m c s l) (hA : A = At m c s l) (hB' : B = Bt m c s l) (hq : (q : ℕ) = 256 * k + 128 * o + l) (hk' : (k : ℕ) < 4) :
    turn (dot v62 w r) o C A B l * Named.named (F := Ideal) (φ := .f32) κ "l2e" 0x3FB8AA3B#32 = outv m c s q := by
  unfold outv ker
  rw [if_pos (by omega), turn_at m c s r l o k q v62 w C A B hB hw hC hA hB' hq, l2e_named]

/-- A key entry. -/
theorem slab_k (s : Fin 16640) (r : Fin 640) (l : Fin 128) (o : Fin 2) (q : Fin 1536) (v62 : FVec Ideal S640x1024 .bf16)
    (w : Vec Ideal S1024x256 .bf16) (C A B : EReal) (hB : ∀ j, v62 (ix2 r j) = hk m c s j)
    (hw : ∀ (i : Fin 1024) (j : Fin 256), w (ix2 i j) = scaled (fun k q => X4 m c (ix2 k q)) i ⟨256 * (4 : Fin 6) + j, by omega⟩)
    (hC : C = Ct m c s l) (hA : A = At m c s l) (hB' : B = Bt m c s l) (hq : (q : ℕ) = 1024 + 128 * o + l) :
    turn (dot v62 w r) o C A B l = outv m c s q := by
  unfold outv ker
  rw [if_neg (by omega), if_pos (by omega), turn_at m c s r l o 4 q v62 w C A B hB hw hC hA hB' (by simp only [hq]; rfl)]

/-- A value entry. -/
theorem slab_v (s : Fin 16640) (r : Fin 640) (l : Fin 128) (o : Fin 2) (q : Fin 1536) (v62 : FVec Ideal S640x1024 .bf16)
    (w : Vec Ideal S1024x256 .bf16) (hB : ∀ j, v62 (ix2 r j) = hk m c s j)
    (hw : ∀ (i : Fin 1024) (j : Fin 256), w (ix2 i j) = scaled (fun k q => X4 m c (ix2 k q)) i ⟨256 * (5 : Fin 6) + j, by omega⟩)
    (hq : (q : ℕ) = 1280 + 128 * o + l) :
    dot v62 w r ⟨128 * o + l, by omega⟩ = outv m c s q := by
  have e : (⟨256 * ((5 : Fin 6) : ℕ) + (128 * o + l), by omega⟩ : Fin 1536) = q := Fin.ext (by simp only; omega)
  unfold outv ker yk proj dot
  rw [if_neg (by omega), if_neg (by omega)]
  simp only [hB, hw, e]

end Cert.Tail6
end
-- ==== Proof.Tv6.lean ====
module

public import proofs.«01_k».proof.Proof.Tab6

@[expose] public section

set_option maxRecDepth 16384

/-! The attention projection's kernel: the rotary tables as the host leaves them, stage by stage. -/

noncomputable section
namespace Cert.Tail6

open Cert.Kernel6Ideal Cert.Kernel6Ideal.Gen Idealize.ShloMosaic Idealize.ShloMosaic.TcCoe Idealize.SL.Sem

theorem run_app (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons a l ih => exact ih _

/-- The host's stages. -/
abbrev stA (σ : Valuation τ sig (Elt Ideal)) : Valuation τ sig (Elt Ideal) := StableHlo.after hostOps0 σ
abbrev stB (σ : Valuation τ sig (Elt Ideal)) : Valuation τ sig (Elt Ideal) :=
  StableHlo.after hostOps0_3 (StableHlo.after hostOps0_2 (StableHlo.after hostOps0_1 σ))
abbrev stC (σ : Valuation τ sig (Elt Ideal)) : Valuation τ sig (Elt Ideal) := StableHlo.after hostOps0_4 σ
abbrev stD (σ : Valuation τ sig (Elt Ideal)) : Valuation τ sig (Elt Ideal) :=
  StableHlo.after hostOps0_7 (StableHlo.after hostOps0_6 (StableHlo.after hostOps0_5 σ))
abbrev stE (σ : Valuation τ sig (Elt Ideal)) : Valuation τ sig (Elt Ideal) := StableHlo.after hostOps0_8 σ

abbrev stC1 (σ : Valuation τ sig (Elt Ideal)) : Valuation τ sig (Elt Ideal) := StableHlo.after (hostOps0_4.take 18) σ
abbrev stC2 (σ : Valuation τ sig (Elt Ideal)) : Valuation τ sig (Elt Ideal) := StableHlo.after (hostOps0_4.drop 18) σ
abbrev stE1 (σ : Valuation τ sig (Elt Ideal)) : Valuation τ sig (Elt Ideal) := StableHlo.after (hostOps0_8.take 15) σ
abbrev stE2 (σ : Valuation τ sig (Elt Ideal)) : Valuation τ sig (Elt Ideal) := StableHlo.after (hostOps0_8.drop 15) σ

variable (σ : Valuation τ sig (Elt Ideal))

def at_v2 : IVec S32 1 := σ (Proc.devRef .tc main_v2)
def at_v3 : FVec Ideal S4x128 .f32 := σ (Proc.devRef .tc main_v3)
def at_v4 : FVec Ideal S4x128 .f32 := σ (Proc.devRef .tc main_v4)
def at_cst_2 : FVec Ideal S_ .f32 := σ (Proc.devRef .tc main_cst_2)
def at_cst_5 : FVec Ideal S_ .f32 := σ (Proc.devRef .tc main_cst_5)
def at_v30 : FVec Ideal S3x260x128 .f32 := σ (Proc.devRef .tc main_v30)
def at_v53 : FVec Ideal S3x64x128 .f32 := σ (Proc.devRef .tc main_v53)
def at_v6 : FVec Ideal S256x32 .f32 := σ (Proc.devRef .tc main_v6)
def at_v7 : FVec Ideal S256x32 .f32 := σ (Proc.devRef .tc main_v7)
def at_v8 : FVec Ideal S256x32 .f32 := σ (Proc.devRef .tc main_v8)
def at_v9 : FVec Ideal S256x32 .f32 := σ (Proc.devRef .tc main_v9)
def at_v10 : FVec Ideal S256x32 .f32 := σ (Proc.devRef .tc main_v10)
def at_v11 : FVec Ideal S256x32 .f32 := σ (Proc.devRef .tc main_v11)
def at_v32 : FVec Ideal S64x32 .f32 := σ (Proc.devRef .tc main_v32)
def at_v33 : FVec Ideal S64x32 .f32 := σ (Proc.devRef .tc main_v33)
def at_v34 : FVec Ideal S64x32 .f32 := σ (Proc.devRef .tc main_v34)
def at_v35 : FVec Ideal S64x32 .f32 := σ (Proc.devRef .tc main_v35)
def at_v36 : FVec Ideal S64x32 .f32 := σ (Proc.devRef .tc main_v36)
def at_v37 : FVec Ideal S64x32 .f32 := σ (Proc.devRef .tc main_v37)
def at_arg5 : FVec Ideal S256x16 .f32 := σ (Proc.devRef .tc main_arg5)
def at_arg6 : FVec Ideal S256x16 .f32 := σ (Proc.devRef .tc main_arg6)
def at_arg7 : FVec Ideal S64x16 .f32 := σ (Proc.devRef .tc main_arg7)
def at_arg8 : FVec Ideal S64x16 .f32 := σ (Proc.devRef .tc main_arg8)
def at_v27 : FVec Ideal S1x260x128 .f32 := σ (Proc.devRef .tc main_v27)
def at_v28 : FVec Ideal S1x260x128 .f32 := σ (Proc.devRef .tc main_v28)
def at_v29 : FVec Ideal S1x260x128 .f32 := σ (Proc.devRef .tc main_v29)
def at_v50 : FVec Ideal S1x64x128 .f32 := σ (Proc.devRef .tc main_v50)
def at_v51 : FVec Ideal S1x64x128 .f32 := σ (Proc.devRef .tc main_v51)
def at_v52 : FVec Ideal S1x64x128 .f32 := σ (Proc.devRef .tc main_v52)

theorem A_v2 : at_v2 (stA σ) = mask := rfl
theorem A_v3 : at_v3 (stA σ) = broadcastInDim S4x128 ![] bcast_S_S4x128 (constant S_ .f32 0x3F800000#32) := rfl
theorem A_v4 : at_v4 (stA σ) = broadcastInDim S4x128 ![] bcast_S_S4x128 (constant S_ .f32 0x00000000#32) := rfl
theorem A_v6 : at_v6 (stA σ) = zero256 := rfl
theorem A_v7 : at_v7 (stA σ) = wide256 (at_arg5 σ) := rfl
theorem A_v8 : at_v8 (stA σ) = wide256 (at_arg6 σ) := rfl
theorem A_v9 : at_v9 (stA σ) = Host.negf (wide256 (at_arg6 σ)) := rfl
theorem A_cst_2 : at_cst_2 (stA σ) = constant S_ .f32 0x00000000#32 := rfl
theorem A_arg7 : at_arg7 (stA σ) = at_arg7 σ := rfl
theorem A_arg8 : at_arg8 (stA σ) = at_arg8 σ := rfl
theorem B_v2 : at_v2 (stB σ) = at_v2 σ := rfl
theorem B_v3 : at_v3 (stB σ) = at_v3 σ := rfl
theorem B_v4 : at_v4 (stB σ) = at_v4 σ := rfl
theorem B_v6 : at_v6 (stB σ) = at_v6 σ := rfl
theorem B_v7 : at_v7 (stB σ) = at_v7 σ := rfl
theorem B_arg7 : at_arg7 (stB σ) = at_arg7 σ := rfl
theorem B_arg8 : at_arg8 (stB σ) = at_arg8 σ := rfl
theorem B_v10 : at_v10 (stB σ) = select (broadcastInDim S256x32 ![1] bcast_S32_S256x32_1 (at_v2 σ)) (at_v9 σ) (broadcastInDim S256x32 ![] bcast_S_S256x32 (id (at_cst_2 σ))) := rfl
theorem B_v11 : at_v11 (stB σ) = select (broadcastInDim S256x32 ![1] bcast_S32_S256x32_1 (at_v2 σ)) (broadcastInDim S256x32 ![] bcast_S_S256x32 (id (constant S_ .f32 0x00000000#32))) (at_v8 σ) := rfl
theorem C1_v27 : at_v27 (stC1 σ) = broadcastInDim S1x260x128 ![1, 2] bcast_S260x128_S1x260x128_1_2
        (concatenate S260x128 0 [⟨S256x128, lane256 (at_v7 σ) (at_v6 σ)⟩, ⟨S4x128, at_v3 σ⟩] concatenates_S256x128_S4x128_S260x128_d0) := rfl
theorem C1_v28 : at_v28 (stC1 σ) = broadcastInDim S1x260x128 ![1, 2] bcast_S260x128_S1x260x128_1_2
        (concatenate S260x128 0 [⟨S256x128, lane256 (at_v10 σ) (at_v6 σ)⟩, ⟨S4x128, at_v4 σ⟩] concatenates_S256x128_S4x128_S260x128_d0) := rfl
theorem C1_v29 : at_v29 (stC1 σ) = broadcastInDim S1x260x128 ![1, 2] bcast_S260x128_S1x260x128_1_2
        (concatenate S260x128 0 [⟨S256x128, lane256 (at_v11 σ) (at_v6 σ)⟩, ⟨S4x128, at_v4 σ⟩] concatenates_S256x128_S4x128_S260x128_d0) := rfl
theorem C2_v30 : at_v30 (stC2 σ) = concatenate S3x260x128 0 [⟨S1x260x128, at_v27 σ⟩, ⟨S1x260x128, at_v28 σ⟩, ⟨S1x260x128, at_v29 σ⟩]
    concatenates_S1x260x128_S1x260x128_S1x260x128_S3x260x128_d0 := rfl
theorem C_split : stC σ = stC2 (stC1 σ) :=
  (congrArg (StableHlo.after · σ) (List.take_append_drop 18 hostOps0_4)).symm.trans (run_app _ _ σ)
theorem C_v2 : at_v2 (stC σ) = at_v2 σ := rfl
theorem C_v32 : at_v32 (stC σ) = zero64 := rfl
theorem C_v33 : at_v33 (stC σ) = wide64 (at_arg7 σ) := rfl
theorem C_v34 : at_v34 (stC σ) = wide64 (at_arg8 σ) := rfl
theorem C_v35 : at_v35 (stC σ) = Host.negf (wide64 (at_arg8 σ)) := rfl
theorem C_cst_5 : at_cst_5 (stC σ) = constant S_ .f32 0x00000000#32 := rfl
theorem D_v30 : at_v30 (stD σ) = at_v30 σ := rfl
theorem D_v32 : at_v32 (stD σ) = at_v32 σ := rfl
theorem D_v33 : at_v33 (stD σ) = at_v33 σ := rfl
theorem D_v36 : at_v36 (stD σ) = select (broadcastInDim S64x32 ![1] bcast_S32_S64x32_1 (at_v2 σ)) (at_v35 σ) (broadcastInDim S64x32 ![] bcast_S_S64x32 (id (at_cst_5 σ))) := rfl
theorem D_v37 : at_v37 (stD σ) = select (broadcastInDim S64x32 ![1] bcast_S32_S64x32_1 (at_v2 σ)) (broadcastInDim S64x32 ![] bcast_S_S64x32 (id (constant S_ .f32 0x00000000#32))) (at_v34 σ) := rfl
theorem E_v30 : at_v30 (stE σ) = at_v30 σ := rfl
theorem E1_v50 : at_v50 (stE1 σ) = broadcastInDim S1x64x128 ![1, 2] bcast_S64x128_S1x64x128_1_2 (lane64 (at_v32 σ) (at_v33 σ)) := rfl
theorem E1_v51 : at_v51 (stE1 σ) = broadcastInDim S1x64x128 ![1, 2] bcast_S64x128_S1x64x128_1_2 (lane64 (at_v32 σ) (at_v36 σ)) := rfl
theorem E1_v52 : at_v52 (stE1 σ) = broadcastInDim S1x64x128 ![1, 2] bcast_S64x128_S1x64x128_1_2 (lane64 (at_v32 σ) (at_v37 σ)) := rfl
theorem E2_v53 : at_v53 (stE2 σ) = concatenate S3x64x128 0 [⟨S1x64x128, at_v50 σ⟩, ⟨S1x64x128, at_v51 σ⟩, ⟨S1x64x128, at_v52 σ⟩]
    concatenates_S1x64x128_S1x64x128_S1x64x128_S3x64x128_d0 := rfl
theorem E_split : stE σ = stE2 (stE1 σ) :=
  (congrArg (StableHlo.after · σ) (List.take_append_drop 15 hostOps0_8)).symm.trans (run_app _ _ σ)

variable (m : (ℓ : Loc nD τ sig) → Buf (Elt Ideal) ℓ) (c : Dev nD)

theorem stages : StableHlo.after (List.flatten [hostOps0, hostOps0_1, hostOps0_2, hostOps0_3, hostOps0_4, hostOps0_5, hostOps0_6, hostOps0_7, hostOps0_8]) σ
    = stE (stD (stC (stB (stA σ)))) := by
  simp only [List.flatten_cons, List.flatten_nil, List.append_nil, run_app]

theorem V_ta : (V m c main_v30 : Vec Ideal S3x260x128 .f32)
    = ta (m ((c : Thread nD τ).loc main_arg5)) (m ((c : Thread nD τ).loc main_arg6)) := by
  refine Eq.trans (congrFun (stages fun b => m (c, b)) (Proc.devRef .tc main_v30)) ?_
  change at_v30 (stE (stD (stC (stB (stA fun b => m (c, b)))))) = _
  rw [E_v30, D_v30, C_split, C2_v30, C1_v27, C1_v28, C1_v29, B_v7, B_v6, B_v3, B_v4, B_v10, B_v11, A_v7, A_v6, A_v3, A_v4, A_v2, A_v9, A_v8, A_cst_2]
  rfl

theorem V_tb : (V m c main_v53 : Vec Ideal S3x64x128 .f32)
    = tb (m ((c : Thread nD τ).loc main_arg7)) (m ((c : Thread nD τ).loc main_arg8)) := by
  refine Eq.trans (congrFun (stages fun b => m (c, b)) (Proc.devRef .tc main_v53)) ?_
  change at_v53 (stE (stD (stC (stB (stA fun b => m (c, b)))))) = _
  rw [E_split, E2_v53, E1_v50, E1_v51, E1_v52, D_v32, D_v33, D_v36, D_v37, C_v32, C_v33, C_v34, C_v35, C_cst_5, C_v2, B_v2, B_arg7, B_arg8, A_v2, A_arg7, A_arg8]
  rfl

end Cert.Tail6
end
-- ==== Proof.Tail6.lean ====
module

public import proofs.«01_k».proof.Proof.Blk6
public import proofs.«01_k».proof.Proof.Tv6

@[expose] public section

set_option maxRecDepth 16384

/-! The attention projection's kernel: its result, entry by entry. -/

noncomputable section
namespace Cert.Tail6

open Cert.Kernel6Ideal Cert.Kernel6Ideal.Gen Idealize.ShloMosaic Idealize.ShloMosaic.TcCoe Idealize.SL.Sem
open Cert.Row Cert.Row6

variable (m : (ℓ : Loc nD τ sig) → Buf (Elt Ideal) ℓ) (c : Dev nD)

/-- The normalized and modulated block a grid point holds. -/
theorem row62 (t : Fin cfg0.N) (r : Fin 640) (s : Fin 16640) (hs : (s : ℕ) = 640 * t.val + r)
    (v0 : Vec Ideal S640x1024 .f32) (v1 : Vec Ideal S1x1024 .f32) (v5 v7 v25 v27 v34 v36 v54 v56 : Vec Ideal S1x1x1024 .f32)
    (e0 : ∀ j, v0 (ix2 r j) = iblk m c 0 t (ix2 r j)) (e1 : ∀ j, v1 (ix2 0 j) = iblk m c 1 t (ix2 0 j))
    (e5 : ∀ j : Fin 1024, v5 (ix3 0 0 j) = iblk m c 2 t (ix3 0 1 (⟨1024 + j, by omega⟩ : Fin 6144)))
    (e7 : ∀ j : Fin 1024, v7 (ix3 0 0 j) = iblk m c 2 t (ix3 0 0 (⟨1024 + j, by omega⟩ : Fin 6144)))
    (e25 : ∀ j : Fin 1024, v25 (ix3 0 0 j) = iblk m c 2 t (ix3 0 1 (⟨j, by omega⟩ : Fin 6144)))
    (e27 : ∀ j : Fin 1024, v27 (ix3 0 0 j) = iblk m c 2 t (ix3 0 0 (⟨j, by omega⟩ : Fin 6144)))
    (e34 : ∀ j : Fin 1024, v34 (ix3 0 0 j) = iblk m c 2 t (ix3 0 1 (⟨1024 + j, by omega⟩ : Fin 6144)))
    (e36 : ∀ j : Fin 1024, v36 (ix3 0 0 j) = iblk m c 2 t (ix3 0 0 (⟨1024 + j, by omega⟩ : Fin 6144)))
    (e54 : ∀ j : Fin 1024, v54 (ix3 0 0 j) = iblk m c 2 t (ix3 0 1 (⟨j, by omega⟩ : Fin 6144)))
    (e56 : ∀ j : Fin 1024, v56 (ix3 0 0 j) = iblk m c 2 t (ix3 0 0 (⟨j, by omega⟩ : Fin 6144))) (j : Fin 1024) :
    k0_pay7 (F := Ideal) (k0_pay4 v1) (k0_pay5 (grid0.coords t) v0 v1 v5 v7 v25 v27) (Scalar.cmpi .sge (BitVec.ofNat 32 (grid0.coords t 0).val) 25#32)
        (k0_pay6 v0) v34 v36 v54 v56 (ix2 r j) = hk m c s j := by
  have l (n : Fin 6144) := blk2_lat m c t n
  have x (n : Fin 6144) := blk2_ctx m c t n
  simp only [l] at e7 e27 e36 e56
  simp only [x] at e5 e25 e34 e54
  rw [b62_at (grid0.coords t) v0 v1 v5 v7 v25 v27 v34 v36 v54 v56
    (fun j => X3 m c (ix2 3 ⟨1024 + j, by omega⟩)) (fun j => X2 m c (ix2 3 ⟨1024 + j, by omega⟩))
    (fun j => X3 m c (ix2 3 ⟨j, by omega⟩)) (fun j => X2 m c (ix2 3 ⟨j, by omega⟩)) e5 e7 e25 e27 e34 e36 e54 e56 r j]
  have e0' : (fun j => v0 (ix2 r j)) = fun j => X0 m c (ix2 s j) := by
    funext j
    rw [e0, blk0 m c t r j s hs]
  have e1' : (fun j => v1 (ix2 0 j)) = fun j => X1 m c (ix1 j) := by
    funext j
    rw [e1, blk1]
  unfold hk
  rw [e0', e1']
  simp only [md_sel m c t r s hs]
  have i1 (j : Fin 1024) : (⟨1024 + (j : ℕ), by omega⟩ : Fin 6144) = ⟨1024 * ((1 : Fin 6) : ℕ) + j, by omega⟩ := Fin.ext (by simp)
  have i0 (j : Fin 1024) : (⟨(j : ℕ), by omega⟩ : Fin 6144) = ⟨1024 * ((0 : Fin 6) : ℕ) + j, by omega⟩ := Fin.ext (by simp)
  simp only [i1, i0]
  rfl

theorem ld0 (A : Vec Ideal S640x1024 .f32) (h) (r : Fin 640) (j : Fin 1024) :
    View.ld A (Rect.unit (s := S640x1024) ![0, 0] S640x1024.size h) (ix2 r j) = A (ix2 r j) := by
  pointwise []

theorem ld1 (A : Vec Ideal S1x1024 .f32) (h) (j : Fin 1024) :
    View.ld A (Rect.unit (s := S1x1024) ![0, 0] S1x1024.size h) (ix2 0 j) = A (ix2 0 j) := by
  pointwise []

theorem ld2a (A : Vec Ideal S1x8x6144 .f32) (h) (j : Fin 1024) :
    View.ld A (Rect.unit (s := S1x8x6144) ![0, 1, 1024] S1x1x1024.size h) (ix3 0 0 j) = A (ix3 0 1 (⟨1024 + j, by omega⟩ : Fin 6144)) := by
  pointwise []

theorem ld2b (A : Vec Ideal S1x8x6144 .f32) (h) (j : Fin 1024) :
    View.ld A (Rect.unit (s := S1x8x6144) ![0, 0, 1024] S1x1x1024.size h) (ix3 0 0 j) = A (ix3 0 0 (⟨1024 + j, by omega⟩ : Fin 6144)) := by
  pointwise []

theorem ld2c (A : Vec Ideal S1x8x6144 .f32) (h) (j : Fin 1024) :
    View.ld A (Rect.unit (s := S1x8x6144) ![0, 1, 0] S1x1x1024.size h) (ix3 0 0 j) = A (ix3 0 1 (⟨j, by omega⟩ : Fin 6144)) := by
  pointwise []

theorem ld2d (A : Vec Ideal S1x8x6144 .f32) (h) (j : Fin 1024) :
    View.ld A (Rect.unit (s := S1x8x6144) ![0, 0, 0] S1x1x1024.size h) (ix3 0 0 j) = A (ix3 0 0 (⟨j, by omega⟩ : Fin 6144)) := by
  pointwise []

theorem ld3_0 (t : Fin cfg0.N) (A : Vec Ideal S1024x1536 .bf16) (hA : A = iblk m c 3 t) (h) (i : Fin 1024) (j : Fin 256) :
    View.ld A (Rect.unit (s := S1024x1536) ![0, 0] S1024x256.size h) (ix2 i j)
      = scaled (fun k q => X4 m c (ix2 k q)) i ⟨256 * (0 : Fin 6) + j, by omega⟩ := by
  subst hA
  have e : (⟨256 * ((0 : Fin 6) : ℕ) + j, by omega⟩ : Fin 1536) = ⟨j, by omega⟩ := Fin.ext (by simp)
  rw [e, ← blk3 m c t]
  pointwise []

theorem ld3_1 (t : Fin cfg0.N) (A : Vec Ideal S1024x1536 .bf16) (hA : A = iblk m c 3 t) (h) (i : Fin 1024) (j : Fin 256) :
    View.ld A (Rect.unit (s := S1024x1536) ![0, 256] S1024x256.size h) (ix2 i j)
      = scaled (fun k q => X4 m c (ix2 k q)) i ⟨256 * (1 : Fin 6) + j, by omega⟩ := by
  subst hA
  have e : (⟨256 * ((1 : Fin 6) : ℕ) + j, by omega⟩ : Fin 1536) = ⟨256 + j, by omega⟩ := Fin.ext (by simp)
  rw [e, ← blk3 m c t]
  pointwise []

theorem ld3_2 (t : Fin cfg0.N) (A : Vec Ideal S1024x1536 .bf16) (hA : A = iblk m c 3 t) (h) (i : Fin 1024) (j : Fin 256) :
    View.ld A (Rect.unit (s := S1024x1536) ![0, 512] S1024x256.size h) (ix2 i j)
      = scaled (fun k q => X4 m c (ix2 k q)) i ⟨256 * (2 : Fin 6) + j, by omega⟩ := by
  subst hA
  have e : (⟨256 * ((2 : Fin 6) : ℕ) + j, by omega⟩ : Fin 1536) = ⟨512 + j, by omega⟩ := Fin.ext (by simp)
  rw [e, ← blk3 m c t]
  pointwise []

theorem ld3_3 (t : Fin cfg0.N) (A : Vec Ideal S1024x1536 .bf16) (hA : A = iblk m c 3 t) (h) (i : Fin 1024) (j : Fin 256) :
    View.ld A (Rect.unit (s := S1024x1536) ![0, 768] S1024x256.size h) (ix2 i j)
      = scaled (fun k q => X4 m c (ix2 k q)) i ⟨256 * (3 : Fin 6) + j, by omega⟩ := by
  subst hA
  have e : (⟨256 * ((3 : Fin 6) : ℕ) + j, by omega⟩ : Fin 1536) = ⟨768 + j, by omega⟩ := Fin.ext (by simp)
  rw [e, ← blk3 m c t]
  pointwise []

theorem ld3_4 (t : Fin cfg0.N) (A : Vec Ideal S1024x1536 .bf16) (hA : A = iblk m c 3 t) (h) (i : Fin 1024) (j : Fin 256) :
    View.ld A (Rect.unit (s := S1024x1536) ![0, 1024] S1024x256.size h) (ix2 i j)
      = scaled (fun k q => X4 m c (ix2 k q)) i ⟨256 * (4 : Fin 6) + j, by omega⟩ := by
  subst hA
  have e : (⟨256 * ((4 : Fin 6) : ℕ) + j, by omega⟩ : Fin 1536) = ⟨1024 + j, by omega⟩ := Fin.ext (by simp)
  rw [e, ← blk3 m c t]
  pointwise []

theorem ld3_5 (t : Fin cfg0.N) (A : Vec Ideal S1024x1536 .bf16) (hA : A = iblk m c 3 t) (h) (i : Fin 1024) (j : Fin 256) :
    View.ld A (Rect.unit (s := S1024x1536) ![0, 1280] S1024x256.size h) (ix2 i j)
      = scaled (fun k q => X4 m c (ix2 k q)) i ⟨256 * (5 : Fin 6) + j, by omega⟩ := by
  subst hA
  have e : (⟨256 * ((5 : Fin 6) : ℕ) + j, by omega⟩ : Fin 1536) = ⟨1280 + j, by omega⟩ := Fin.ext (by simp)
  rw [e, ← blk3 m c t]
  pointwise []

/-- The block a grid point normalizes and modulates, from its three staged inputs. -/
def v62of (i : grid0.Coords) (w0 : Vec Ideal S640x1024 .f32) (w1 : Vec Ideal S1x1024 .f32) (w2 : Vec Ideal S1x8x6144 .f32) : FVec Ideal S640x1024 .bf16 :=
  k0_pay7 (F := Ideal) (k0_pay4 (View.ld w1 (Rect.unit (s := S1x1024) ![0, 0] S1x1024.size inb_S1x1024_S1x1024_0_0)))
    (k0_pay5 i (View.ld w0 (Rect.unit (s := S640x1024) ![0, 0] S640x1024.size inb_S640x1024_S640x1024_0_0))
      (View.ld w1 (Rect.unit (s := S1x1024) ![0, 0] S1x1024.size inb_S1x1024_S1x1024_0_0))
      (View.ld w2 (Rect.unit (s := S1x8x6144) ![0, 1, 1024] S1x1x1024.size inb_S1x8x6144_S1x1x1024_0_1_1024))
      (View.ld w2 (Rect.unit (s := S1x8x6144) ![0, 0, 1024] S1x1x1024.size inb_S1x8x6144_S1x1x1024_0_0_1024))
      (View.ld w2 (Rect.unit (s := S1x8x6144) ![0, 1, 0] S1x1x1024.size inb_S1x8x6144_S1x1x1024_0_1_0))
      (View.ld w2 (Rect.unit (s := S1x8x6144) ![0, 0, 0] S1x1x1024.size inb_S1x8x6144_S1x1x1024_0_0_0)))
    (Scalar.cmpi .sge (BitVec.ofNat 32 (i 0).val) 25#32) (k0_pay6 (View.ld w0 (Rect.unit (s := S640x1024) ![0, 0] S640x1024.size inb_S640x1024_S640x1024_0_0)))
    (View.ld w2 (Rect.unit (s := S1x8x6144) ![0, 1, 1024] S1x1x1024.size inb_S1x8x6144_S1x1x1024_0_1_1024))
    (View.ld w2 (Rect.unit (s := S1x8x6144) ![0, 0, 1024] S1x1x1024.size inb_S1x8x6144_S1x1x1024_0_0_1024))
    (View.ld w2 (Rect.unit (s := S1x8x6144) ![0, 1, 0] S1x1x1024.size inb_S1x8x6144_S1x1x1024_0_1_0))
    (View.ld w2 (Rect.unit (s := S1x8x6144) ![0, 0, 0] S1x1x1024.size inb_S1x8x6144_S1x1x1024_0_0_0))

theorem v62of_at (t : Fin cfg0.N) (r : Fin 640) (s : Fin 16640) (hs : (s : ℕ) = 640 * t.val + r)
    (w0 : Vec Ideal S640x1024 .f32) (w1 : Vec Ideal S1x1024 .f32) (w2 : Vec Ideal S1x8x6144 .f32)
    (h0 : w0 = iblk m c 0 t) (h1 : w1 = iblk m c 1 t) (h2 : w2 = iblk m c 2 t) (j : Fin 1024) :
    v62of (grid0.coords t) w0 w1 w2 (ix2 r j) = hk m c s j := by
  subst h0 h1 h2
  exact row62 m c t r s hs _ _ _ _ _ _ _ _ _ _ (fun j => ld0 _ _ _ _) (fun j => ld1 _ _ _) (fun j => ld2a _ _ _) (fun j => ld2b _ _ _)
    (fun j => ld2c _ _ _) (fun j => ld2d _ _ _) (fun j => ld2a _ _ _) (fun j => ld2b _ _ _) (fun j => ld2c _ _ _) (fun j => ld2d _ _ _) j

theorem hd (t : Fin cfg0.N) (g : Fin 10) : 10 * (grid0.coords t 0).val + g.val < 260 := by
  have ht : t.val < 26 := t.isLt
  have hg : (grid0.coords t 0).val = t.val := (idx t).2.2.2.2.2.2.2
  omega

theorem Ct_tab (t : Fin cfg0.N) (r : Fin 640) (s : Fin 16640) (hs : (s : ℕ) = 640 * t.val + r) (l : Fin 128)
    (X : Vec Ideal S3x260x128 .f32) (Y : Vec Ideal S3x64x128 .f32) (hX : X = iblk m c 4 t) (hY : Y = iblk m c 5 t) :
    ent (Scalar.muli (BitVec.ofNat 32 (grid0.coords t 0).val) 10#32)
      (fun g l => X (ix3 0 ⟨10 * (grid0.coords t 0).val + g, hd t g⟩ l)) (fun p l => Y (ix3 0 p l)) (gr r) (po r) l = Ct m c s l := by
  subst hX hY
  exact Ct_ent m c t r s hs l _ _ (hd t) (fun g l => blk4 m c (V_ta m c) t _ _ _) (fun p l => blk5 m c (V_tb m c) t _ _ _)

theorem At_tab (t : Fin cfg0.N) (r : Fin 640) (s : Fin 16640) (hs : (s : ℕ) = 640 * t.val + r) (l : Fin 128)
    (X : Vec Ideal S3x260x128 .f32) (Y : Vec Ideal S3x64x128 .f32) (hX : X = iblk m c 4 t) (hY : Y = iblk m c 5 t) :
    ent (Scalar.muli (BitVec.ofNat 32 (grid0.coords t 0).val) 10#32)
      (fun g l => X (ix3 1 ⟨10 * (grid0.coords t 0).val + g, hd t g⟩ l)) (fun p l => Y (ix3 1 p l)) (gr r) (po r) l = At m c s l := by
  subst hX hY
  exact At_ent m c t r s hs l _ _ (hd t) (fun g l => blk4 m c (V_ta m c) t _ _ _) (fun p l => blk5 m c (V_tb m c) t _ _ _)

theorem Bt_tab (t : Fin cfg0.N) (r : Fin 640) (s : Fin 16640) (hs : (s : ℕ) = 640 * t.val + r) (l : Fin 128)
    (X : Vec Ideal S3x260x128 .f32) (Y : Vec Ideal S3x64x128 .f32) (hX : X = iblk m c 4 t) (hY : Y = iblk m c 5 t) :
    ent (Scalar.muli (BitVec.ofNat 32 (grid0.coords t 0).val) 10#32)
      (fun g l => X (ix3 2 ⟨10 * (grid0.coords t 0).val + g, hd t g⟩ l)) (fun p l => Y (ix3 2 p l)) (gr r) (po r) l = Bt m c s l := by
  subst hX hY
  exact Bt_ent m c t r s hs l _ _ (hd t) (fun g l => blk4 m c (V_ta m c) t _ _ _) (fun p l => blk5 m c (V_tb m c) t _ _ _)

set_option maxHeartbeats 8000000 in
/-- The result array after the run. -/
theorem final : (dats m 0 c).arrAt 6 (cfgs 0).N = fun y : S16640x1536.Idx => outv m c (y 0) (y 1) := by
  refine (dats m 0 c).arrAt_eq_of_covers 6 _ (by decide +kernel) fun t _ y => ?_
  blk_simp
  rw [after0_6]
  unfold outsAt0
  frame_out
  have hj : ((((View.whole main_v65).slice (win0_6.rect t)).emb y 1 : Fin 1536) : ℕ) = (y 1 : Fin 1536) := by
    blk_simp [idx t]
    try omega
  have hs : ((((View.whole main_v65).slice (win0_6.rect t)).emb y 0 : Fin 16640) : ℕ) = 640 * t.val + (y 0 : Fin 640) := by
    blk_simp [idx t]
    try omega
  generalize ((View.whole main_v65).slice (win0_6.rect t)).emb y 1 = q at hj ⊢
  generalize ((View.whole main_v65).slice (win0_6.rect t)).emb y 0 = s at hs ⊢
  refine Eq.trans (b := outv m c s q) ?_ rfl
  canon_tiles x h
  all_goals
    have hx : x = ix2 (x 0) (x 1) := by funext a; fin_cases a <;> rfl
    rw [hx]
  · refine (s3_at _ _ _ _).trans ?_
    refine slab_v m c s (x 0) (x 1) 1 q _ _ ?_ ?_ ?_
    · intro j
      refine Eq.trans (congrFun (?_ : _ = v62of (grid0.coords t) (View.read (Elt Ideal) (ms0_0 t).view ((hs0_0 t).unread (iblk m c 0 t)))
        (View.read (Elt Ideal) (ms0_1 t).view ((hs0_1 t).unread (iblk m c 1 t)))
        (View.read (Elt Ideal) (ms0_2 t).view ((hs0_2 t).unread (iblk m c 2 t)))) _) (v62of_at m c t (x 0) s (by omega) _ _ _
          (Memref.IsWhole.read_unread _ _) (Memref.IsWhole.read_unread _ _) (Memref.IsWhole.read_unread _ _) j)
      rfl
    · exact fun i j => ld3_5 m c t _ (by first | with_reducible rfl | exact Memref.IsWhole.read_unread _ _) _ i j
    · change _ = 1280 + 128 * 1 + (x 1).val
      omega
  · refine (s2_at _ _ _ _).trans ?_
    refine slab_v m c s (x 0) (x 1) 0 q _ _ ?_ ?_ ?_
    · intro j
      refine Eq.trans (congrFun (?_ : _ = v62of (grid0.coords t) (View.read (Elt Ideal) (ms0_0 t).view ((hs0_0 t).unread (iblk m c 0 t)))
        (View.read (Elt Ideal) (ms0_1 t).view ((hs0_1 t).unread (iblk m c 1 t)))
        (View.read (Elt Ideal) (ms0_2 t).view ((hs0_2 t).unread (iblk m c 2 t)))) _) (v62of_at m c t (x 0) s (by omega) _ _ _
          (Memref.IsWhole.read_unread _ _) (Memref.IsWhole.read_unread _ _) (Memref.IsWhole.read_unread _ _) j)
      rfl
    · exact fun i j => ld3_5 m c t _ (by first | with_reducible rfl | exact Memref.IsWhole.read_unread _ _) _ i j
    · change _ = 1280 + 128 * 0 + (x 1).val
      omega
  · refine (s63_at _ _ _ _ _ _ _).trans ?_
    refine slab_k m c s (x 0) (x 1) 1 q _ _ _ _ _ ?_ ?_ ?_ ?_ ?_ ?_
    · intro j
      refine Eq.trans (congrFun (?_ : _ = v62of (grid0.coords t) (View.read (Elt Ideal) (ms0_0 t).view ((hs0_0 t).unread (iblk m c 0 t)))
        (View.read (Elt Ideal) (ms0_1 t).view ((hs0_1 t).unread (iblk m c 1 t)))
        (View.read (Elt Ideal) (ms0_2 t).view ((hs0_2 t).unread (iblk m c 2 t)))) _) (v62of_at m c t (x 0) s (by omega) _ _ _
          (Memref.IsWhole.read_unread _ _) (Memref.IsWhole.read_unread _ _) (Memref.IsWhole.read_unread _ _) j)
      rfl
    · exact fun i j => ld3_4 m c t _ (by first | with_reducible rfl | exact Memref.IsWhole.read_unread _ _) _ i j
    · exact (tab0_at (grid0.coords t) _ _ _ (x 0) (x 1)).trans (Ct_tab m c t (x 0) s (by omega) (x 1) _ _ (by first | with_reducible rfl | exact Memref.IsWhole.read_unread _ _) (by first | with_reducible rfl | exact Memref.IsWhole.read_unread _ _))
    · exact (tab1_at (grid0.coords t) _ _ _ (x 0) (x 1)).trans (At_tab m c t (x 0) s (by omega) (x 1) _ _ (by first | with_reducible rfl | exact Memref.IsWhole.read_unread _ _) (by first | with_reducible rfl | exact Memref.IsWhole.read_unread _ _))
    · refine (congrFun (p46_eq _ _ _ _ _ _ _ _ _ _ _ _) _).trans ?_
      exact (tab2_at (grid0.coords t) _ _ _ (x 0) (x 1)).trans (Bt_tab m c t (x 0) s (by omega) (x 1) _ _ (by first | with_reducible rfl | exact Memref.IsWhole.read_unread _ _) (by first | with_reducible rfl | exact Memref.IsWhole.read_unread _ _))
    · change _ = 1024 + 128 * 1 + (x 1).val
      omega
  · refine (s62_at _ _ _ _ _ _ _).trans ?_
    refine slab_k m c s (x 0) (x 1) 0 q _ _ _ _ _ ?_ ?_ ?_ ?_ ?_ ?_
    · intro j
      refine Eq.trans (congrFun (?_ : _ = v62of (grid0.coords t) (View.read (Elt Ideal) (ms0_0 t).view ((hs0_0 t).unread (iblk m c 0 t)))
        (View.read (Elt Ideal) (ms0_1 t).view ((hs0_1 t).unread (iblk m c 1 t)))
        (View.read (Elt Ideal) (ms0_2 t).view ((hs0_2 t).unread (iblk m c 2 t)))) _) (v62of_at m c t (x 0) s (by omega) _ _ _
          (Memref.IsWhole.read_unread _ _) (Memref.IsWhole.read_unread _ _) (Memref.IsWhole.read_unread _ _) j)
      rfl
    · exact fun i j => ld3_4 m c t _ (by first | with_reducible rfl | exact Memref.IsWhole.read_unread _ _) _ i j
    · exact (tab0_at (grid0.coords t) _ _ _ (x 0) (x 1)).trans (Ct_tab m c t (x 0) s (by omega) (x 1) _ _ (by first | with_reducible rfl | exact Memref.IsWhole.read_unread _ _) (by first | with_reducible rfl | exact Memref.IsWhole.read_unread _ _))
    · exact (tab1_at (grid0.coords t) _ _ _ (x 0) (x 1)).trans (At_tab m c t (x 0) s (by omega) (x 1) _ _ (by first | with_reducible rfl | exact Memref.IsWhole.read_unread _ _) (by first | with_reducible rfl | exact Memref.IsWhole.read_unread _ _))
    · refine (congrFun (p46_eq _ _ _ _ _ _ _ _ _ _ _ _) _).trans ?_
      exact (tab2_at (grid0.coords t) _ _ _ (x 0) (x 1)).trans (Bt_tab m c t (x 0) s (by omega) (x 1) _ _ (by first | with_reducible rfl | exact Memref.IsWhole.read_unread _ _) (by first | with_reducible rfl | exact Memref.IsWhole.read_unread _ _))
    · change _ = 1024 + 128 * 0 + (x 1).val
      omega
  · refine (s60_at _ _ _ _ _ _ _).trans ?_
    refine slab_q m c s (x 0) (x 1) 1 3 q _ _ _ _ _ ?_ ?_ ?_ ?_ ?_ ?_ (by decide)
    · intro j
      refine Eq.trans (congrFun (?_ : _ = v62of (grid0.coords t) (View.read (Elt Ideal) (ms0_0 t).view ((hs0_0 t).unread (iblk m c 0 t)))
        (View.read (Elt Ideal) (ms0_1 t).view ((hs0_1 t).unread (iblk m c 1 t)))
        (View.read (Elt Ideal) (ms0_2 t).view ((hs0_2 t).unread (iblk m c 2 t)))) _) (v62of_at m c t (x 0) s (by omega) _ _ _
          (Memref.IsWhole.read_unread _ _) (Memref.IsWhole.read_unread _ _) (Memref.IsWhole.read_unread _ _) j)
      rfl
    · exact fun i j => ld3_3 m c t _ (by first | with_reducible rfl | exact Memref.IsWhole.read_unread _ _) _ i j
    · exact (tab0_at (grid0.coords t) _ _ _ (x 0) (x 1)).trans (Ct_tab m c t (x 0) s (by omega) (x 1) _ _ (by first | with_reducible rfl | exact Memref.IsWhole.read_unread _ _) (by first | with_reducible rfl | exact Memref.IsWhole.read_unread _ _))
    · exact (tab1_at (grid0.coords t) _ _ _ (x 0) (x 1)).trans (At_tab m c t (x 0) s (by omega) (x 1) _ _ (by first | with_reducible rfl | exact Memref.IsWhole.read_unread _ _) (by first | with_reducible rfl | exact Memref.IsWhole.read_unread _ _))
    · refine (congrFun (p46_eq _ _ _ _ _ _ _ _ _ _ _ _) _).trans ?_
      exact (tab2_at (grid0.coords t) _ _ _ (x 0) (x 1)).trans (Bt_tab m c t (x 0) s (by omega) (x 1) _ _ (by first | with_reducible rfl | exact Memref.IsWhole.read_unread _ _) (by first | with_reducible rfl | exact Memref.IsWhole.read_unread _ _))
    · change _ = 256 * 3 + 128 * 1 + (x 1).val
      omega
  · refine (s58_at _ _ _ _ _ _ _).trans ?_
    refine slab_q m c s (x 0) (x 1) 0 3 q _ _ _ _ _ ?_ ?_ ?_ ?_ ?_ ?_ (by decide)
    · intro j
      refine Eq.trans (congrFun (?_ : _ = v62of (grid0.coords t) (View.read (Elt Ideal) (ms0_0 t).view ((hs0_0 t).unread (iblk m c 0 t)))
        (View.read (Elt Ideal) (ms0_1 t).view ((hs0_1 t).unread (iblk m c 1 t)))
        (View.read (Elt Ideal) (ms0_2 t).view ((hs0_2 t).unread (iblk m c 2 t)))) _) (v62of_at m c t (x 0) s (by omega) _ _ _
          (Memref.IsWhole.read_unread _ _) (Memref.IsWhole.read_unread _ _) (Memref.IsWhole.read_unread _ _) j)
      rfl
    · exact fun i j => ld3_3 m c t _ (by first | with_reducible rfl | exact Memref.IsWhole.read_unread _ _) _ i j
    · exact (tab0_at (grid0.coords t) _ _ _ (x 0) (x 1)).trans (Ct_tab m c t (x 0) s (by omega) (x 1) _ _ (by first | with_reducible rfl | exact Memref.IsWhole.read_unread _ _) (by first | with_reducible rfl | exact Memref.IsWhole.read_unread _ _))
    · exact (tab1_at (grid0.coords t) _ _ _ (x 0) (x 1)).trans (At_tab m c t (x 0) s (by omega) (x 1) _ _ (by first | with_reducible rfl | exact Memref.IsWhole.read_unread _ _) (by first | with_reducible rfl | exact Memref.IsWhole.read_unread _ _))
    · refine (congrFun (p46_eq _ _ _ _ _ _ _ _ _ _ _ _) _).trans ?_
      exact (tab2_at (grid0.coords t) _ _ _ (x 0) (x 1)).trans (Bt_tab m c t (x 0) s (by omega) (x 1) _ _ (by first | with_reducible rfl | exact Memref.IsWhole.read_unread _ _) (by first | with_reducible rfl | exact Memref.IsWhole.read_unread _ _))
    · change _ = 256 * 3 + 128 * 0 + (x 1).val
      omega
  · refine (s56_at _ _ _ _ _ _ _).trans ?_
    refine slab_q m c s (x 0) (x 1) 1 2 q _ _ _ _ _ ?_ ?_ ?_ ?_ ?_ ?_ (by decide)
    · intro j
      refine Eq.trans (congrFun (?_ : _ = v62of (grid0.coords t) (View.read (Elt Ideal) (ms0_0 t).view ((hs0_0 t).unread (iblk m c 0 t)))
        (View.read (Elt Ideal) (ms0_1 t).view ((hs0_1 t).unread (iblk m c 1 t)))
        (View.read (Elt Ideal) (ms0_2 t).view ((hs0_2 t).unread (iblk m c 2 t)))) _) (v62of_at m c t (x 0) s (by omega) _ _ _
          (Memref.IsWhole.read_unread _ _) (Memref.IsWhole.read_unread _ _) (Memref.IsWhole.read_unread _ _) j)
      rfl
    · exact fun i j => ld3_2 m c t _ (by first | with_reducible rfl | exact Memref.IsWhole.read_unread _ _) _ i j
    · exact (tab0_at (grid0.coords t) _ _ _ (x 0) (x 1)).trans (Ct_tab m c t (x 0) s (by omega) (x 1) _ _ (by first | with_reducible rfl | exact Memref.IsWhole.read_unread _ _) (by first | with_reducible rfl | exact Memref.IsWhole.read_unread _ _))
    · exact (tab1_at (grid0.coords t) _ _ _ (x 0) (x 1)).trans (At_tab m c t (x 0) s (by omega) (x 1) _ _ (by first | with_reducible rfl | exact Memref.IsWhole.read_unread _ _) (by first | with_reducible rfl | exact Memref.IsWhole.read_unread _ _))
    · refine (congrFun (p46_eq _ _ _ _ _ _ _ _ _ _ _ _) _).trans ?_
      exact (tab2_at (grid0.coords t) _ _ _ (x 0) (x 1)).trans (Bt_tab m c t (x 0) s (by omega) (x 1) _ _ (by first | with_reducible rfl | exact Memref.IsWhole.read_unread _ _) (by first | with_reducible rfl | exact Memref.IsWhole.read_unread _ _))
    · change _ = 256 * 2 + 128 * 1 + (x 1).val
      omega
  · refine (s55_at _ _ _ _ _ _ _).trans ?_
    refine slab_q m c s (x 0) (x 1) 0 2 q _ _ _ _ _ ?_ ?_ ?_ ?_ ?_ ?_ (by decide)
    · intro j
      refine Eq.trans (congrFun (?_ : _ = v62of (grid0.coords t) (View.read (Elt Ideal) (ms0_0 t).view ((hs0_0 t).unread (iblk m c 0 t)))
        (View.read (Elt Ideal) (ms0_1 t).view ((hs0_1 t).unread (iblk m c 1 t)))
        (View.read (Elt Ideal) (ms0_2 t).view ((hs0_2 t).unread (iblk m c 2 t)))) _) (v62of_at m c t (x 0) s (by omega) _ _ _
          (Memref.IsWhole.read_unread _ _) (Memref.IsWhole.read_unread _ _) (Memref.IsWhole.read_unread _ _) j)
      rfl
    · exact fun i j => ld3_2 m c t _ (by first | with_reducible rfl | exact Memref.IsWhole.read_unread _ _) _ i j
    · exact (tab0_at (grid0.coords t) _ _ _ (x 0) (x 1)).trans (Ct_tab m c t (x 0) s (by omega) (x 1) _ _ (by first | with_reducible rfl | exact Memref.IsWhole.read_unread _ _) (by first | with_reducible rfl | exact Memref.IsWhole.read_unread _ _))
    · exact (tab1_at (grid0.coords t) _ _ _ (x 0) (x 1)).trans (At_tab m c t (x 0) s (by omega) (x 1) _ _ (by first | with_reducible rfl | exact Memref.IsWhole.read_unread _ _) (by first | with_reducible rfl | exact Memref.IsWhole.read_unread _ _))
    · refine (congrFun (p46_eq _ _ _ _ _ _ _ _ _ _ _ _) _).trans ?_
      exact (tab2_at (grid0.coords t) _ _ _ (x 0) (x 1)).trans (Bt_tab m c t (x 0) s (by omega) (x 1) _ _ (by first | with_reducible rfl | exact Memref.IsWhole.read_unread _ _) (by first | with_reducible rfl | exact Memref.IsWhole.read_unread _ _))
    · change _ = 256 * 2 + 128 * 0 + (x 1).val
      omega
  · refine (s52_at _ _ _ _ _ _ _).trans ?_
    refine slab_q m c s (x 0) (x 1) 1 1 q _ _ _ _ _ ?_ ?_ ?_ ?_ ?_ ?_ (by decide)
    · intro j
      refine Eq.trans (congrFun (?_ : _ = v62of (grid0.coords t) (View.read (Elt Ideal) (ms0_0 t).view ((hs0_0 t).unread (iblk m c 0 t)))
        (View.read (Elt Ideal) (ms0_1 t).view ((hs0_1 t).unread (iblk m c 1 t)))
        (View.read (Elt Ideal) (ms0_2 t).view ((hs0_2 t).unread (iblk m c 2 t)))) _) (v62of_at m c t (x 0) s (by omega) _ _ _
          (Memref.IsWhole.read_unread _ _) (Memref.IsWhole.read_unread _ _) (Memref.IsWhole.read_unread _ _) j)
      rfl
    · exact fun i j => ld3_1 m c t _ (by first | with_reducible rfl | exact Memref.IsWhole.read_unread _ _) _ i j
    · exact (tab0_at (grid0.coords t) _ _ _ (x 0) (x 1)).trans (Ct_tab m c t (x 0) s (by omega) (x 1) _ _ (by first | with_reducible rfl | exact Memref.IsWhole.read_unread _ _) (by first | with_reducible rfl | exact Memref.IsWhole.read_unread _ _))
    · exact (tab1_at (grid0.coords t) _ _ _ (x 0) (x 1)).trans (At_tab m c t (x 0) s (by omega) (x 1) _ _ (by first | with_reducible rfl | exact Memref.IsWhole.read_unread _ _) (by first | with_reducible rfl | exact Memref.IsWhole.read_unread _ _))
    · refine (congrFun (p46_eq _ _ _ _ _ _ _ _ _ _ _ _) _).trans ?_
      exact (tab2_at (grid0.coords t) _ _ _ (x 0) (x 1)).trans (Bt_tab m c t (x 0) s (by omega) (x 1) _ _ (by first | with_reducible rfl | exact Memref.IsWhole.read_unread _ _) (by first | with_reducible rfl | exact Memref.IsWhole.read_unread _ _))
    · change _ = 256 * 1 + 128 * 1 + (x 1).val
      omega
  · refine (s51_at _ _ _ _ _ _ _).trans ?_
    refine slab_q m c s (x 0) (x 1) 0 1 q _ _ _ _ _ ?_ ?_ ?_ ?_ ?_ ?_ (by decide)
    · intro j
      refine Eq.trans (congrFun (?_ : _ = v62of (grid0.coords t) (View.read (Elt Ideal) (ms0_0 t).view ((hs0_0 t).unread (iblk m c 0 t)))
        (View.read (Elt Ideal) (ms0_1 t).view ((hs0_1 t).unread (iblk m c 1 t)))
        (View.read (Elt Ideal) (ms0_2 t).view ((hs0_2 t).unread (iblk m c 2 t)))) _) (v62of_at m c t (x 0) s (by omega) _ _ _
          (Memref.IsWhole.read_unread _ _) (Memref.IsWhole.read_unread _ _) (Memref.IsWhole.read_unread _ _) j)
      rfl
    · exact fun i j => ld3_1 m c t _ (by first | with_reducible rfl | exact Memref.IsWhole.read_unread _ _) _ i j
    · exact (tab0_at (grid0.coords t) _ _ _ (x 0) (x 1)).trans (Ct_tab m c t (x 0) s (by omega) (x 1) _ _ (by first | with_reducible rfl | exact Memref.IsWhole.read_unread _ _) (by first | with_reducible rfl | exact Memref.IsWhole.read_unread _ _))
    · exact (tab1_at (grid0.coords t) _ _ _ (x 0) (x 1)).trans (At_tab m c t (x 0) s (by omega) (x 1) _ _ (by first | with_reducible rfl | exact Memref.IsWhole.read_unread _ _) (by first | with_reducible rfl | exact Memref.IsWhole.read_unread _ _))
    · refine (congrFun (p46_eq _ _ _ _ _ _ _ _ _ _ _ _) _).trans ?_
      exact (tab2_at (grid0.coords t) _ _ _ (x 0) (x 1)).trans (Bt_tab m c t (x 0) s (by omega) (x 1) _ _ (by first | with_reducible rfl | exact Memref.IsWhole.read_unread _ _) (by first | with_reducible rfl | exact Memref.IsWhole.read_unread _ _))
    · change _ = 256 * 1 + 128 * 0 + (x 1).val
      omega
  · refine (s49_at _ _ _ _ _ _ _ _ _ _ _ _ _ _ _ _ _ _).trans ?_
    refine slab_q m c s (x 0) (x 1) 1 0 q _ _ _ _ _ ?_ ?_ ?_ ?_ ?_ ?_ (by decide)
    · intro j
      refine Eq.trans (congrFun (?_ : _ = v62of (grid0.coords t) (View.read (Elt Ideal) (ms0_0 t).view ((hs0_0 t).unread (iblk m c 0 t)))
        (View.read (Elt Ideal) (ms0_1 t).view ((hs0_1 t).unread (iblk m c 1 t)))
        (View.read (Elt Ideal) (ms0_2 t).view ((hs0_2 t).unread (iblk m c 2 t)))) _) (v62of_at m c t (x 0) s (by omega) _ _ _
          (Memref.IsWhole.read_unread _ _) (Memref.IsWhole.read_unread _ _) (Memref.IsWhole.read_unread _ _) j)
      rfl
    · exact fun i j => ld3_0 m c t _ (by first | with_reducible rfl | exact Memref.IsWhole.read_unread _ _) _ i j
    · exact (tab0_at (grid0.coords t) _ _ _ (x 0) (x 1)).trans (Ct_tab m c t (x 0) s (by omega) (x 1) _ _ (by first | with_reducible rfl | exact Memref.IsWhole.read_unread _ _) (by first | with_reducible rfl | exact Memref.IsWhole.read_unread _ _))
    · exact (tab1_at (grid0.coords t) _ _ _ (x 0) (x 1)).trans (At_tab m c t (x 0) s (by omega) (x 1) _ _ (by first | with_reducible rfl | exact Memref.IsWhole.read_unread _ _) (by first | with_reducible rfl | exact Memref.IsWhole.read_unread _ _))
    · refine (congrFun (p46_eq _ _ _ _ _ _ _ _ _ _ _ _) _).trans ?_
      exact (tab2_at (grid0.coords t) _ _ _ (x 0) (x 1)).trans (Bt_tab m c t (x 0) s (by omega) (x 1) _ _ (by first | with_reducible rfl | exact Memref.IsWhole.read_unread _ _) (by first | with_reducible rfl | exact Memref.IsWhole.read_unread _ _))
    · change _ = 256 * 0 + 128 * 1 + (x 1).val
      omega
  · refine (s48_at _ _ _ _ _ _ _ _ _ _ _ _ _ _ _ _ _ _).trans ?_
    refine slab_q m c s (x 0) (x 1) 0 0 q _ _ _ _ _ ?_ ?_ ?_ ?_ ?_ ?_ (by decide)
    · intro j
      refine Eq.trans (congrFun (?_ : _ = v62of (grid0.coords t) (View.read (Elt Ideal) (ms0_0 t).view ((hs0_0 t).unread (iblk m c 0 t)))
        (View.read (Elt Ideal) (ms0_1 t).view ((hs0_1 t).unread (iblk m c 1 t)))
        (View.read (Elt Ideal) (ms0_2 t).view ((hs0_2 t).unread (iblk m c 2 t)))) _) (v62of_at m c t (x 0) s (by omega) _ _ _
          (Memref.IsWhole.read_unread _ _) (Memref.IsWhole.read_unread _ _) (Memref.IsWhole.read_unread _ _) j)
      rfl
    · exact fun i j => ld3_0 m c t _ (by first | with_reducible rfl | exact Memref.IsWhole.read_unread _ _) _ i j
    · exact (tab0_at (grid0.coords t) _ _ _ (x 0) (x 1)).trans (Ct_tab m c t (x 0) s (by omega) (x 1) _ _ (by first | with_reducible rfl | exact Memref.IsWhole.read_unread _ _) (by first | with_reducible rfl | exact Memref.IsWhole.read_unread _ _))
    · exact (tab1_at (grid0.coords t) _ _ _ (x 0) (x 1)).trans (At_tab m c t (x 0) s (by omega) (x 1) _ _ (by first | with_reducible rfl | exact Memref.IsWhole.read_unread _ _) (by first | with_reducible rfl | exact Memref.IsWhole.read_unread _ _))
    · refine (congrFun (p46_eq _ _ _ _ _ _ _ _ _ _ _ _) _).trans ?_
      exact (tab2_at (grid0.coords t) _ _ _ (x 0) (x 1)).trans (Bt_tab m c t (x 0) s (by omega) (x 1) _ _ (by first | with_reducible rfl | exact Memref.IsWhole.read_unread _ _) (by first | with_reducible rfl | exact Memref.IsWhole.read_unread _ _))
    · change _ = 256 * 0 + 128 * 0 + (x 1).val
      omega

end Cert.Tail6
end
-- ==== Proof.Ref6.lean ====
module

public import proofs.«01_k».proof.Proof.Row6
public import proofs.«01_k».proof.Proof.Soft
public import proofs.«01_k».proof.Proof.Gen.Reference6Ideal.Read

@[expose] public section

set_option maxRecDepth 16384

/-! The sixth reference, row by row. -/

noncomputable section
namespace Cert.Ref6

open Cert.Reference6Ideal Cert.Reference6Ideal.Gen Cert.Reference6Ideal.Read Idealize.ShloMosaic Idealize.ShloMosaic.TcCoe
open Cert.Row Cert.Row6

variable (x0 : FVec Ideal S16640x1024 .f32) (x1 : FVec Ideal S1024 .f32) (x2 x3 : FVec Ideal S4x6144 .f32)
  (x4 : FVec Ideal S1024x1536 .f32) (x5 x6 : FVec Ideal S256x16 .f32) (x7 x8 : FVec Ideal S64x16 .f32)

/-- A row after norm and modulation. -/
abbrev hr (s : Fin 16640) : Fin 1024 → EReal :=
  hid (fun j => x0 (ix2 s j)) (fun j => x1 (ix1 j)) (sec 1 (mdr (fun n => x2 (ix2 3 n)) (fun n => x3 (ix2 3 n)) s))
    (sec 0 (mdr (fun n => x2 (ix2 3 n)) (fun n => x3 (ix2 3 n)) s))

/-- A row times the weights. -/
abbrev yr (s : Fin 16640) : Fin 1536 → EReal := proj (hr x0 x1 x2 x3 s) (fun k q => x4 (ix2 k q))

theorem v7 (s : Fin 16640) (j : Fin 1) : val_main_v7 (F := Ideal) x0 (ix2 s j) = rs (fun j => x0 (ix2 s j)) := by
  unfold rs
  pointwise [val_main_v7, val_main_v6, val_main_v5, val_main_v4, val_main_v3, val_main_v2, val_main_v1, val_main_v0, val_main_cst, val_main_cst_0, val_main_cst_1]

theorem v25 (s : Fin 16384) (j : Fin 1024) :
    val_main_v25 (F := Ideal) x0 x1 x2 (ix2 s j) = hr x0 x1 x2 x3 ⟨s, by omega⟩ j := by
  have e2 := v7 x0
  have hs : (s : ℕ) < 16384 := s.isLt
  unfold hr hid mdr
  rw [← e2 ⟨s, by omega⟩ 0]
  simp only [hs, if_true, sec]
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst_2]
  simp only [mul_assoc]

theorem v38 (s : Fin 256) (j : Fin 1024) :
    val_main_v38 (F := Ideal) x0 x1 x3 (ix2 s j) = hr x0 x1 x2 x3 ⟨16384 + s, by omega⟩ j := by
  have e2 := v7 x0
  have hs : ¬ 16384 + (s : ℕ) < 16384 := by omega
  unfold hr hid mdr
  rw [← e2 ⟨16384 + s, by omega⟩ 0]
  simp only [hs, if_false, sec]
  pointwise [val_main_v38, val_main_v37, val_main_v36, val_main_v35, val_main_v34, val_main_v33, val_main_v32, val_main_v31, val_main_v30, val_main_v29, val_main_v28, val_main_v27, val_main_v26, val_main_v12, val_main_v11, val_main_v10, val_main_v9, val_main_v8, val_main_cst_3]
  simp only [mul_assoc]

theorem v39 (s : Fin 16640) (j : Fin 1024) : val_main_v39 (F := Ideal) x0 x1 x2 x3 (ix2 s j) = hr x0 x1 x2 x3 s j := by
  have e1 := v25 x0 x1 x2 x3
  have e2 := v38 x0 x1 x2 x3
  by_cases hs : (s : ℕ) < 16384
  · exact Eq.trans (by pointwise [val_main_v39, hs]) (e1 ⟨s, hs⟩ j)
  · have e : (⟨16384 + ((s : ℕ) - 16384), by omega⟩ : Fin 16640) = s := Fin.ext (by simp only; omega)
    rw [← e, ← e2 ⟨(s : ℕ) - 16384, by omega⟩ j, e]
    pointwise [val_main_v39, hs]

theorem v40 (s : Fin 16640) (q : Fin 1536) : val_main_v40 (F := Ideal) x0 x1 x2 x3 x4 (ix2 s q) = yr x0 x1 x2 x3 x4 s q := by
  have e := v39 x0 x1 x2 x3
  unfold yr proj
  simp only [← e]
  pointwise [val_main_v40]

theorem v43 (s : Fin 16640) (h : Fin 20) (e : Fin 64) :
    val_main_v43 (F := Ideal) x0 x1 x2 x3 x4 (ix3 s h e) = yr x0 x1 x2 x3 x4 s ⟨64 * h + e, by omega⟩ := by
  have c : (⟨(h : ℕ) * 64 + e, by omega⟩ : Fin 1536) = ⟨64 * h + e, by omega⟩ := Fin.ext (by simp only; omega)
  rw [← v40, ← c]
  pointwise [val_main_v43, val_main_v41]

/-- The angles' cosines of a latent token. -/
theorem v53 (s : Fin 16384) (e : Fin 64) :
    val_main_v53 (F := Ideal) x5 x7 (ix2 s e) = ang (fun g f => x5 (ix2 g f)) (fun g f => x7 (ix2 g f)) s e := by
  unfold ang
  by_cases h : (e : ℕ) < 32
  · rw [if_pos h]
    by_cases h1 : (e : ℕ) < 16
    · have e1 : (e : ℕ) % 16 = e := by omega
      simp only [e1]
      pointwise [val_main_v53, val_main_v52, val_main_v51, val_main_v50, val_main_v49, val_main_v48, val_main_v47, val_main_v46, val_main_v45, h, h1]
    · have e1 : (e : ℕ) % 16 = e - 16 := by omega
      simp only [e1]
      pointwise [val_main_v53, val_main_v52, val_main_v51, val_main_v50, val_main_v49, val_main_v48, val_main_v47, val_main_v46, val_main_v45, h, h1]
  · rw [if_neg h]
    by_cases h1 : (e : ℕ) - 32 < 16
    · have e1 : (e : ℕ) % 16 = e - 32 := by omega
      simp only [e1]
      pointwise [val_main_v53, val_main_v52, val_main_v51, val_main_v50, val_main_v49, val_main_v48, val_main_v47, val_main_v46, val_main_v45, h, h1]
    · have e1 : (e : ℕ) % 16 = e - 32 - 16 := by omega
      simp only [e1]
      pointwise [val_main_v53, val_main_v52, val_main_v51, val_main_v50, val_main_v49, val_main_v48, val_main_v47, val_main_v46, val_main_v45, h, h1]

/-- The angles' sines of a latent token. -/
theorem v63 (s : Fin 16384) (e : Fin 64) :
    val_main_v63 (F := Ideal) x6 x8 (ix2 s e) = ang (fun g f => x6 (ix2 g f)) (fun g f => x8 (ix2 g f)) s e := by
  unfold ang
  by_cases h : (e : ℕ) < 32
  · rw [if_pos h]
    by_cases h1 : (e : ℕ) < 16
    · have e1 : (e : ℕ) % 16 = e := by omega
      simp only [e1]
      pointwise [val_main_v63, val_main_v62, val_main_v61, val_main_v60, val_main_v59, val_main_v58, val_main_v57, val_main_v56, val_main_v55, h, h1]
    · have e1 : (e : ℕ) % 16 = e - 16 := by omega
      simp only [e1]
      pointwise [val_main_v63, val_main_v62, val_main_v61, val_main_v60, val_main_v59, val_main_v58, val_main_v57, val_main_v56, val_main_v55, h, h1]
  · rw [if_neg h]
    by_cases h1 : (e : ℕ) - 32 < 16
    · have e1 : (e : ℕ) % 16 = e - 32 := by omega
      simp only [e1]
      pointwise [val_main_v63, val_main_v62, val_main_v61, val_main_v60, val_main_v59, val_main_v58, val_main_v57, val_main_v56, val_main_v55, h, h1]
    · have e1 : (e : ℕ) % 16 = e - 32 - 16 := by omega
      simp only [e1]
      pointwise [val_main_v63, val_main_v62, val_main_v61, val_main_v60, val_main_v59, val_main_v58, val_main_v57, val_main_v56, val_main_v55, h, h1]

/-- The head's halves, each with its two runs of 16 against each other. -/
theorem v75 (s : Fin 16384) (h : Fin 20) (e : Fin 64) :
    val_main_v75 (F := Ideal) x0 x1 x2 x3 x4 (ix3 s h e)
      = if h' : (e : ℕ) % 32 < 16 then -val_main_v44 (F := Ideal) x0 x1 x2 x3 x4 (ix3 s h ⟨e + 16, by omega⟩)
        else val_main_v44 (F := Ideal) x0 x1 x2 x3 x4 (ix3 s h ⟨e - 16, by omega⟩) := by
  by_cases h : (e : ℕ) < 32
  · by_cases h1 : (e : ℕ) < 16
    · have e1 : (e : ℕ) % 32 < 16 := by omega
      rw [dif_pos e1]
      have c : (⟨(e : ℕ) + 16, by omega⟩ : Fin 64) = ⟨16 + e, by omega⟩ := Fin.ext (by simp only; omega)
      rw [c]
      pointwise [val_main_v75, val_main_v74, val_main_v73, val_main_v72, val_main_v71, val_main_v70, val_main_v69, val_main_v68, val_main_v67, val_main_v66, val_main_v65, h, h1]
    · have e1 : ¬ (e : ℕ) % 32 < 16 := by omega
      rw [dif_neg e1]
      pointwise [val_main_v75, val_main_v74, val_main_v73, val_main_v72, val_main_v71, val_main_v70, val_main_v69, val_main_v68, val_main_v67, val_main_v66, val_main_v65, h, h1]
  · by_cases h1 : (e : ℕ) - 32 < 16
    · have e1 : (e : ℕ) % 32 < 16 := by omega
      rw [dif_pos e1]
      have c : (⟨(e : ℕ) + 16, by omega⟩ : Fin 64) = ⟨32 + (16 + (e - 32)), by omega⟩ := Fin.ext (by simp only; omega)
      rw [c]
      pointwise [val_main_v75, val_main_v74, val_main_v73, val_main_v72, val_main_v71, val_main_v70, val_main_v69, val_main_v68, val_main_v67, val_main_v66, val_main_v65, h, h1]
    · have e1 : ¬ (e : ℕ) % 32 < 16 := by omega
      rw [dif_neg e1]
      have c : (⟨(e : ℕ) - 16, by omega⟩ : Fin 64) = ⟨32 + (e - 32 - 16), by omega⟩ := Fin.ext (by simp only; omega)
      rw [c]
      pointwise [val_main_v75, val_main_v74, val_main_v73, val_main_v72, val_main_v71, val_main_v70, val_main_v69, val_main_v68, val_main_v67, val_main_v66, val_main_v65, h, h1]

/-- A latent token's heads rotated. -/
theorem v80 (s : Fin 16384) (h : Fin 20) (e : Fin 64) :
    val_main_v80 (F := Ideal) x0 x1 x2 x3 x4 x5 x6 x7 x8 (ix3 s h e)
      = rope (yr x0 x1 x2 x3 x4 ⟨s, by omega⟩) (ang (fun g f => x5 (ix2 g f)) (fun g f => x7 (ix2 g f)) s)
          (ang (fun g f => x6 (ix2 g f)) (fun g f => x8 (ix2 g f)) s) ⟨64 * h + e, by omega⟩ := by
  have e44 (e : Fin 64) : val_main_v44 (F := Ideal) x0 x1 x2 x3 x4 (ix3 s h e) = yr x0 x1 x2 x3 x4 ⟨s, by omega⟩ ⟨64 * h + e, by omega⟩ :=
    Eq.trans (by pointwise [val_main_v44]) (v43 x0 x1 x2 x3 x4 ⟨s, by omega⟩ h e)
  have e75 := v75 x0 x1 x2 x3 x4 s h e
  have c1 : (64 * (h : ℕ) + e) % 64 = e := by omega
  have c2 : (64 * (h : ℕ) + e) % 32 = (e : ℕ) % 32 := by omega
  have eA : val_main_v80 (F := Ideal) x0 x1 x2 x3 x4 x5 x6 x7 x8 (ix3 s h e)
      = val_main_v44 (F := Ideal) x0 x1 x2 x3 x4 (ix3 s h e) * val_main_v53 (F := Ideal) x5 x7 (ix2 s e)
        + val_main_v75 (F := Ideal) x0 x1 x2 x3 x4 (ix3 s h e) * val_main_v63 (F := Ideal) x6 x8 (ix2 s e) := by
    pointwise [val_main_v80, val_main_v79, val_main_v78, val_main_v77, val_main_v76, val_main_v64, val_main_v54]
  rw [eA, e75, v53, v63]
  unfold rope
  simp only [e44, c1, c2]
  by_cases h' : (e : ℕ) % 32 < 16
  · have c3 : (⟨64 * (h : ℕ) + (e + 16), by omega⟩ : Fin 1536) = ⟨64 * h + e + 16, by omega⟩ := Fin.ext (by simp only; omega)
    simp only [dif_pos h', c3]
  · have c3 : (⟨64 * (h : ℕ) + (e - 16), by omega⟩ : Fin 1536) = ⟨64 * h + e - 16, by omega⟩ := Fin.ext (by simp only; omega)
    simp only [dif_neg h', c3]

/-- Every token's heads: rotated for the latents. -/
abbrev tr (s : Fin 16640) : Fin 1536 → EReal :=
  turned s (yr x0 x1 x2 x3 x4 s) (ang (fun g f => x5 (ix2 g f)) (fun g f => x7 (ix2 g f)))
    (ang (fun g f => x6 (ix2 g f)) (fun g f => x8 (ix2 g f)))

theorem v82 (s : Fin 16640) (h : Fin 20) (e : Fin 64) :
    val_main_v82 (F := Ideal) x0 x1 x2 x3 x4 x5 x6 x7 x8 (ix3 s h e) = tr x0 x1 x2 x3 x4 x5 x6 x7 x8 s ⟨64 * h + e, by omega⟩ := by
  unfold tr turned
  by_cases hs : (s : ℕ) < 16384
  · rw [dif_pos hs]
    exact Eq.trans (by pointwise [val_main_v82, hs]) (v80 x0 x1 x2 x3 x4 x5 x6 x7 x8 ⟨s, hs⟩ h e)
  · have e' : (⟨16384 + ((s : ℕ) - 16384), by omega⟩ : Fin 16640) = s := Fin.ext (by simp only; omega)
    rw [dif_neg hs, ← v43]
    pointwise [val_main_v82, val_main_v81, hs, e']

theorem unit_l2e : Ideal.div 1 (Ideal.log (Ideal.ofBits FTy.f32 1073741824#32)) = Soft.l2e := by
  have h2 : Ideal.ofBits FTy.f32 1073741824#32 = ((2 : ℝ) : EReal) := by
    simp [Ideal.ofBits, Ideal.ieee, -Ideal.ofBits.eq_1]
    rw [← EReal.coe_mul]
    norm_num
  have hl : Ideal.log ((2 : ℝ) : EReal) = ((Real.log 2 : ℝ) : EReal) := by
    change (if (2 : ℝ) ≤ 0 then (⊥ : EReal) else ((Real.log 2 : ℝ) : EReal)) = _
    rw [if_neg (by norm_num)]
  rw [h2, hl, Ideal.div, if_neg (by exact_mod_cast (Real.log_pos one_lt_two).ne'), one_mul, ← EReal.coe_inv]
  first | done | rfl

theorem whole (s : Fin 16640) (q : Fin 1536) :
    val_main_v95 (F := Ideal) x0 x1 x2 x3 x4 x5 x6 x7 x8 (ix2 s q)
      = res6 s (yr x0 x1 x2 x3 x4 s) (ang (fun g f => x5 (ix2 g f)) (fun g f => x7 (ix2 g f)))
          (ang (fun g f => x6 (ix2 g f)) (fun g f => x8 (ix2 g f))) Soft.l2e q := by
  have e82 := v82 x0 x1 x2 x3 x4 x5 x6 x7 x8 s
  have e40 := v40 x0 x1 x2 x3 x4 s
  unfold res6
  by_cases h : (q : ℕ) < 1024
  · have e1 : (⟨64 * ((q : ℕ) / 64) + (q : ℕ) % 64, by omega⟩ : Fin 1536) = q := Fin.ext (by simp only; omega)
    have e := e82 ⟨(q : ℕ) / 64, by omega⟩ ⟨(q : ℕ) % 64, by omega⟩
    simp only [e1] at e
    rw [if_pos h]
    refine Eq.trans ?_ (congrArg (fun z => z * eighth * Soft.l2e) e)
    pointwise [val_main_v95, val_main_v94, val_main_v92, val_main_v91, val_main_v90, val_main_v89, val_main_v88, val_main_v87, val_main_v86, val_main_v85, val_main_v83, val_main_cst_4, val_main_cst_5, val_main_cst_6, h, id]
    rw [unit_l2e]
  by_cases h2 : (q : ℕ) - 1024 < 256
  · have e1 : (⟨64 * (16 + ((q : ℕ) - 1024) / 64) + ((q : ℕ) - 1024) % 64, by omega⟩ : Fin 1536) = q := Fin.ext (by simp only; omega)
    have e := e82 ⟨16 + ((q : ℕ) - 1024) / 64, by omega⟩ ⟨((q : ℕ) - 1024) % 64, by omega⟩
    simp only [e1] at e
    rw [if_neg h, if_pos (by omega)]
    refine Eq.trans ?_ e
    pointwise [val_main_v95, val_main_v94, val_main_v93, val_main_v84, h, h2]
  · have e1 : (⟨1280 + ((q : ℕ) - 1024 - 256), by omega⟩ : Fin 1536) = q := Fin.ext (by simp only; omega)
    rw [if_neg h, if_neg (by omega), ← e40]
    pointwise [val_main_v95, val_main_v94, val_main_v42, h, h2, e1]

end Cert.Ref6
-- ==== Proof.Meet6.lean ====
module

public import proofs.«01_k».proof.Proof.Blk6
public import proofs.«01_k».proof.Proof.Ref6

@[expose] public section

set_option maxRecDepth 16384

noncomputable section
namespace Cert.Equal6

open Idealize.ShloMosaic Idealize.ShloMosaic.TcCoe Idealize.SL.Sem
open Cert.Row Cert.Row6 Cert.Tail6

variable (m : (ℓ : Loc Cert.Kernel6Ideal.nD Cert.Kernel6Ideal.τ Cert.Kernel6Ideal.sig) → Buf (Elt Ideal) ℓ) (c : Dev Cert.Kernel6Ideal.nD)

/-- The two programs' entries agree. -/
theorem meet (s : Fin 16640) (q : Fin 1536) :
    res6 s (Cert.Ref6.yr (X0 m c) (X1 m c) (X2 m c) (X3 m c) (X4 m c) s) (ang (fun g f => X5 m c (ix2 g f)) (fun g f => X7 m c (ix2 g f)))
      (ang (fun g f => X6 m c (ix2 g f)) (fun g f => X8 m c (ix2 g f))) Soft.l2e q = outv m c s q := by
  have ey : Cert.Ref6.yr (X0 m c) (X1 m c) (X2 m c) (X3 m c) (X4 m c) s = proj (hk m c s) (fun k q => X4 m c (ix2 k q)) := rfl
  rw [ey]
  unfold outv yk res6 turned
  by_cases hs : (s : ℕ) < 16384
  · have hC : Ct m c s = fun l : Fin 128 => (ang (fun g f => X5 m c (ix2 g f)) (fun g f => X7 m c (ix2 g f)) ⟨s, hs⟩) ⟨(l : ℕ) % 64, by omega⟩ := by
      funext l
      unfold Ct
      rw [dif_pos hs]
    have hA : At m c s = tabA (ang (fun g f => X6 m c (ix2 g f)) (fun g f => X8 m c (ix2 g f)) ⟨s, hs⟩) := by
      funext l
      unfold At
      rw [dif_pos hs]
    have hB : Bt m c s = tabB (ang (fun g f => X6 m c (ix2 g f)) (fun g f => X8 m c (ix2 g f)) ⟨s, hs⟩) := by
      funext l
      unfold Bt
      rw [dif_pos hs]
    rw [hC, hA, hB, ker_lat]
    simp only [dif_pos hs]
  · have hC : Ct m c s = fun _ => 1 := by
      funext l
      unfold Ct
      rw [dif_neg hs]
    have hA : At m c s = fun _ => 0 := by
      funext l
      unfold At
      rw [dif_neg hs]
    have hB : Bt m c s = fun _ => 0 := by
      funext l
      unfold Bt
      rw [dif_neg hs]
    rw [hC, hA, hB, ker_ctx]
    simp only [dif_neg hs]
    by_cases h1 : (q : ℕ) < 1024
    · rw [if_pos h1, if_pos h1]
    · rw [if_neg h1, if_neg h1, ite_self]

end Cert.Equal6
end
-- ==== Proof.Equal6.lean ====
module

public import proofs.«01_k».proof.Defs
public import proofs.«01_k».proof.Proof.Tail6
public import proofs.«01_k».proof.Proof.Meet6
public import proofs.«01_k».proof.Proof.Gen.Kernel6Ideal.Value

@[expose] public section

set_option maxRecDepth 16384

noncomputable section
namespace Cert.Equal6

open Idealize.ShloMosaic Idealize.SL.Sem

/-- The sixth kernel and the sixth reference end with equal results. -/
theorem algebraic : Cert.algebraic_Kernel6Ideal_Reference6Ideal := by
  pair_intro
  · run_from Cert.Kernel6Ideal.Value.run_blocks m g
  · refine θ_run_mono (Cert.Reference6Ideal.Value.run m' g') ?_
    intro r hr c
    refine ⟨(hr c).1.trans ?_, (hr c).2⟩
    rw [Cert.Reference6Ideal.Read.val_main_v95_eq]
    refine Eq.trans ?_ (Cert.Tail6.final m c).symm
    obtain ⟨h0, h1, h2, h3, h4, h5, h6, h7, h8⟩ := hagree c
    rw [h0, h1, h2, h3, h4, h5, h6, h7, h8]
    funext y
    have hy : y = ix2 (y 0) (y 1) := by funext a; fin_cases a <;> rfl
    refine Eq.trans (congrArg _ hy) ?_
    exact (Cert.Ref6.whole _ _ _ _ _ _ _ _ _ (y 0) (y 1)).trans (meet m c (y 0) (y 1))

end Cert.Equal6
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.KernelIdeal.Value
public import proofs.«01_k».proof.Proof.Gen.Kernel2Ideal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Equal
public import proofs.«01_k».proof.Proof.Equal2
public import proofs.«01_k».proof.Proof.Equal3
public import proofs.«01_k».proof.Proof.Equal4
public import proofs.«01_k».proof.Proof.Lay5
public import proofs.«01_k».proof.Proof.Equal5
public import proofs.«01_k».proof.Proof.Equal6
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Equal.preFacts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2, sem_eq_zero_of_no_sems rfl r.2⟩) (Cert.ReferenceIdeal.Value.run m ρ),
  fun m ρ _ => (θ_run Cert.ReferenceIdeal.defs _ _).mono
    (fun r h => ⟨fun c => (h c).2, sem_eq_zero_of_no_sems rfl r.2⟩) (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2, sem_eq_zero_of_no_sems rfl r.2⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2, sem_eq_zero_of_no_sems rfl r.2⟩) (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono
    (fun r h => ⟨fun c => (h c).2, sem_eq_zero_of_no_sems rfl r.2⟩) (Cert.Reference4Ideal.Value.run m ρ),
  fun m ρ _ => Cert.Kernel5.Lay.frame m ρ,
  fun m ρ _ => Cert.Kernel5Ideal.Lay.frame m ρ,
  fun m ρ _ => (θ_run Cert.Reference5Ideal.defs _ _).mono
    (fun r h => ⟨fun c => (h c).2, sem_eq_zero_of_no_sems rfl r.2⟩) (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono
    (fun r h => ⟨fun c => (h c).2, sem_eq_zero_of_no_sems rfl r.2⟩) (Cert.Reference6Ideal.Value.run m ρ),
  ⟨IdealRules.named_const.statement Cert.KernelIdeal.κ "mask" .f32 0xF149F2CA#32 ⊥ rfl,
   IdealRules.named_const.statement Cert.KernelIdeal.κ "l2e" .f32 0x3FB8AA3B#32 (((Real.log 2)⁻¹ : ℝ) : EReal) rfl⟩,
  Cert.Equal.algebraic,
  trivial,
  Cert.Equal2.algebraic,
  trivial,
  Cert.Equal3.algebraic,
  trivial,
  Cert.Equal4.algebraic,
  trivial,
  Cert.Equal5.algebraic,
  IdealRules.named_const.statement Cert.Kernel6Ideal.κ "l2e" .f32 0x3FB8AA3B#32 (((Real.log 2)⁻¹ : ℝ) : EReal) rfl,
  Cert.Equal6.algebraic⟩

end Cert.Proof

end
